-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Zs (m : (ℓ : Loc Cert.Zs.nD Cert.Zs.τ Cert.Zs.sig) → Buf (Elt Bits) ℓ) : Prop :=
  True

def Pre_ZsIdeal (m : (ℓ : Loc Cert.ZsIdeal.nD Cert.ZsIdeal.τ Cert.ZsIdeal.sig) → Buf (Elt Ideal) ℓ) : Prop :=
  True

def Pre_ZsRefIdeal (m : (ℓ : Loc Cert.ZsRefIdeal.nD Cert.ZsRefIdeal.τ Cert.ZsRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite [hPre_finite : Cert.Pre_finite.Facts] (m : (ℓ : Loc Cert.SsdIdeal.nD Cert.SsdIdeal.τ Cert.SsdIdeal.sig) → Buf (Elt Ideal) ℓ) : Prop :=
  ∀ c : Dev Cert.SsdIdeal.nD,
    (Cert.Pre_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3))).1 = (fun _ => 1#1)
    ∧ (Cert.Pre_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3))).2 = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite [hPre_finite : Cert.Pre_finite.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3))).1 = (fun _ => 1#1)
    ∧ (Cert.Pre_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3))).2 = (fun _ => 1#1)

def Pre_U (m : (ℓ : Loc Cert.U.nD Cert.U.τ Cert.U.sig) → Buf (Elt Bits) ℓ) : Prop :=
  True

def Pre_UIdeal (m : (ℓ : Loc Cert.UIdeal.nD Cert.UIdeal.τ Cert.UIdeal.sig) → Buf (Elt Ideal) ℓ) : Prop :=
  True

def Pre_URefIdeal (m : (ℓ : Loc Cert.URefIdeal.nD Cert.URefIdeal.τ Cert.URefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtRefIdeal (m : (ℓ : Loc Cert.DtRefIdeal.nD Cert.DtRefIdeal.τ Cert.DtRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_route [hPre_finite_route : Cert.Pre_finite_route.Facts] (m : (ℓ : Loc Cert.RouteIdeal.nD Cert.RouteIdeal.τ Cert.RouteIdeal.sig) → Buf (Elt Ideal) ℓ) : Prop :=
  ∀ c : Dev Cert.RouteIdeal.nD,
    (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))).1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))).2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))).2.2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))).2.2.2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))).2.2.2.2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))).2.2.2.2.2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))).2.2.2.2.2.2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))).2.2.2.2.2.2.2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))).2.2.2.2.2.2.2.2.1 = (fun _ => 1#1)
    ∧ (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))).2.2.2.2.2.2.2.2.2 = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_route [hPre_finite_route : Cert.Pre_finite_route.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))).1 = (fun _ => 1#1)
    ∧ (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))).2.1 = (fun _ => 1#1)
    ∧ (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))).2.2.1 = (fun _ => 1#1)
    ∧ (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))).2.2.2.1 = (fun _ => 1#1)
    ∧ (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))).2.2.2.2.1 = (fun _ => 1#1)
    ∧ (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))).2.2.2.2.2.1 = (fun _ => 1#1)
    ∧ (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))).2.2.2.2.2.2.1 = (fun _ => 1#1)
    ∧ (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))).2.2.2.2.2.2.2.1 = (fun _ => 1#1)
    ∧ (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))).2.2.2.2.2.2.2.2.1 = (fun _ => 1#1)
    ∧ (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))).2.2.2.2.2.2.2.2.2 = (fun _ => 1#1)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Zs [hZs : Cert.Zs.Facts] : Prop :=
  ∀ (m : (ℓ : Loc Cert.Zs.nD Cert.Zs.τ Cert.Zs.sig) → Buf (Elt Bits) ℓ) (g : Dev Cert.Zs.nD → PrngReg), Pre_Zs m →
    θ_run (Cert.Zs.defs (F := Bits)) (onTc (τ := Cert.Zs.τ) (Cert.Zs.main (F := Bits))) ⟨m, fun _ => 0, g⟩ (fun r => (∀ c : Dev Cert.Zs.nD,
      r.2.mem ((c.tc : Thread Cert.Zs.nD Cert.Zs.τ).loc Cert.Zs.main_arg0) = m ((c.tc : Thread Cert.Zs.nD Cert.Zs.τ).loc Cert.Zs.main_arg0)
      ∧ r.2.mem ((c.tc : Thread Cert.Zs.nD Cert.Zs.τ).loc Cert.Zs.main_arg1) = m ((c.tc : Thread Cert.Zs.nD Cert.Zs.τ).loc Cert.Zs.main_arg1))
      ∧ r.2.sem = fun _ => 0)

def quiescent_ZsIdeal [hZsIdeal : Cert.ZsIdeal.Facts] : Prop :=
  ∀ (m : (ℓ : Loc Cert.ZsIdeal.nD Cert.ZsIdeal.τ Cert.ZsIdeal.sig) → Buf (Elt Ideal) ℓ) (g : Dev Cert.ZsIdeal.nD → PrngReg), Pre_ZsIdeal m →
    θ_run (Cert.ZsIdeal.defs (F := Ideal)) (onTc (τ := Cert.ZsIdeal.τ) (Cert.ZsIdeal.main (F := Ideal))) ⟨m, fun _ => 0, g⟩ (fun r => (∀ c : Dev Cert.ZsIdeal.nD,
      r.2.mem ((c.tc : Thread Cert.ZsIdeal.nD Cert.ZsIdeal.τ).loc Cert.ZsIdeal.main_arg0) = m ((c.tc : Thread Cert.ZsIdeal.nD Cert.ZsIdeal.τ).loc Cert.ZsIdeal.main_arg0)
      ∧ r.2.mem ((c.tc : Thread Cert.ZsIdeal.nD Cert.ZsIdeal.τ).loc Cert.ZsIdeal.main_arg1) = m ((c.tc : Thread Cert.ZsIdeal.nD Cert.ZsIdeal.τ).loc Cert.ZsIdeal.main_arg1))
      ∧ r.2.sem = fun _ => 0)

def quiescent_ZsRefIdeal [hZsRefIdeal : Cert.ZsRefIdeal.Facts] : Prop :=
  ∀ (m : (ℓ : Loc Cert.ZsRefIdeal.nD Cert.ZsRefIdeal.τ Cert.ZsRefIdeal.sig) → Buf (Elt Ideal) ℓ) (g : Dev Cert.ZsRefIdeal.nD → PrngReg), Pre_ZsRefIdeal m →
    θ_run (Cert.ZsRefIdeal.defs (F := Ideal)) (onTc (τ := Cert.ZsRefIdeal.τ) (Cert.ZsRefIdeal.main (F := Ideal))) ⟨m, fun _ => 0, g⟩ (fun r => (∀ c : Dev Cert.ZsRefIdeal.nD,
      r.2.mem ((c.tc : Thread Cert.ZsRefIdeal.nD Cert.ZsRefIdeal.τ).loc Cert.ZsRefIdeal.main_arg0) = m ((c.tc : Thread Cert.ZsRefIdeal.nD Cert.ZsRefIdeal.τ).loc Cert.ZsRefIdeal.main_arg0)
      ∧ r.2.mem ((c.tc : Thread Cert.ZsRefIdeal.nD Cert.ZsRefIdeal.τ).loc Cert.ZsRefIdeal.main_arg1) = m ((c.tc : Thread Cert.ZsRefIdeal.nD Cert.ZsRefIdeal.τ).loc Cert.ZsRefIdeal.main_arg1))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3))
      ∧ r.2.sem = fun _ => 0)

def quiescent_SsdIdeal_pre_finite [hSsdIdeal : Cert.SsdIdeal.Facts] [hPre_finite : Cert.Pre_finite.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3))
      ∧ r.2.sem = fun _ => 0)

def quiescent_SsdRefIdeal_pre_finite [hSsdRefIdeal : Cert.SsdRefIdeal.Facts] [hPre_finite : Cert.Pre_finite.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3))
      ∧ r.2.sem = fun _ => 0)

def quiescent_U [hU : Cert.U.Facts] : Prop :=
  ∀ (m : (ℓ : Loc Cert.U.nD Cert.U.τ Cert.U.sig) → Buf (Elt Bits) ℓ) (g : Dev Cert.U.nD → PrngReg), Pre_U m →
    θ_run (Cert.U.defs (F := Bits)) (onTc (τ := Cert.U.τ) (Cert.U.main (F := Bits))) ⟨m, fun _ => 0, g⟩ (fun r => (∀ c : Dev Cert.U.nD,
      r.2.mem ((c.tc : Thread Cert.U.nD Cert.U.τ).loc Cert.U.main_arg0) = m ((c.tc : Thread Cert.U.nD Cert.U.τ).loc Cert.U.main_arg0)
      ∧ r.2.mem ((c.tc : Thread Cert.U.nD Cert.U.τ).loc Cert.U.main_arg1) = m ((c.tc : Thread Cert.U.nD Cert.U.τ).loc Cert.U.main_arg1))
      ∧ r.2.sem = fun _ => 0)

def quiescent_UIdeal [hUIdeal : Cert.UIdeal.Facts] : Prop :=
  ∀ (m : (ℓ : Loc Cert.UIdeal.nD Cert.UIdeal.τ Cert.UIdeal.sig) → Buf (Elt Ideal) ℓ) (g : Dev Cert.UIdeal.nD → PrngReg), Pre_UIdeal m →
    θ_run (Cert.UIdeal.defs (F := Ideal)) (onTc (τ := Cert.UIdeal.τ) (Cert.UIdeal.main (F := Ideal))) ⟨m, fun _ => 0, g⟩ (fun r => (∀ c : Dev Cert.UIdeal.nD,
      r.2.mem ((c.tc : Thread Cert.UIdeal.nD Cert.UIdeal.τ).loc Cert.UIdeal.main_arg0) = m ((c.tc : Thread Cert.UIdeal.nD Cert.UIdeal.τ).loc Cert.UIdeal.main_arg0)
      ∧ r.2.mem ((c.tc : Thread Cert.UIdeal.nD Cert.UIdeal.τ).loc Cert.UIdeal.main_arg1) = m ((c.tc : Thread Cert.UIdeal.nD Cert.UIdeal.τ).loc Cert.UIdeal.main_arg1))
      ∧ r.2.sem = fun _ => 0)

def quiescent_URefIdeal [hURefIdeal : Cert.URefIdeal.Facts] : Prop :=
  ∀ (m : (ℓ : Loc Cert.URefIdeal.nD Cert.URefIdeal.τ Cert.URefIdeal.sig) → Buf (Elt Ideal) ℓ) (g : Dev Cert.URefIdeal.nD → PrngReg), Pre_URefIdeal m →
    θ_run (Cert.URefIdeal.defs (F := Ideal)) (onTc (τ := Cert.URefIdeal.τ) (Cert.URefIdeal.main (F := Ideal))) ⟨m, fun _ => 0, g⟩ (fun r => (∀ c : Dev Cert.URefIdeal.nD,
      r.2.mem ((c.tc : Thread Cert.URefIdeal.nD Cert.URefIdeal.τ).loc Cert.URefIdeal.main_arg0) = m ((c.tc : Thread Cert.URefIdeal.nD Cert.URefIdeal.τ).loc Cert.URefIdeal.main_arg0)
      ∧ r.2.mem ((c.tc : Thread Cert.URefIdeal.nD Cert.URefIdeal.τ).loc Cert.URefIdeal.main_arg1) = m ((c.tc : Thread Cert.URefIdeal.nD Cert.URefIdeal.τ).loc Cert.URefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1)
      ∧ r.2.mem ((c.tc : Thread Cert.Dt.nD Cert.Dt.τ).loc Cert.Dt.main_arg2) = m ((c.tc : Thread Cert.Dt.nD Cert.Dt.τ).loc Cert.Dt.main_arg2)
      ∧ r.2.mem ((c.tc : Thread Cert.Dt.nD Cert.Dt.τ).loc Cert.Dt.main_arg3) = m ((c.tc : Thread Cert.Dt.nD Cert.Dt.τ).loc Cert.Dt.main_arg3))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1)
      ∧ r.2.mem ((c.tc : Thread Cert.DtIdeal.nD Cert.DtIdeal.τ).loc Cert.DtIdeal.main_arg2) = m ((c.tc : Thread Cert.DtIdeal.nD Cert.DtIdeal.τ).loc Cert.DtIdeal.main_arg2)
      ∧ r.2.mem ((c.tc : Thread Cert.DtIdeal.nD Cert.DtIdeal.τ).loc Cert.DtIdeal.main_arg3) = m ((c.tc : Thread Cert.DtIdeal.nD Cert.DtIdeal.τ).loc Cert.DtIdeal.main_arg3))
      ∧ r.2.sem = fun _ => 0)

def quiescent_DtRefIdeal [hDtRefIdeal : Cert.DtRefIdeal.Facts] : Prop :=
  ∀ (m : (ℓ : Loc Cert.DtRefIdeal.nD Cert.DtRefIdeal.τ Cert.DtRefIdeal.sig) → Buf (Elt Ideal) ℓ) (g : Dev Cert.DtRefIdeal.nD → PrngReg), Pre_DtRefIdeal m →
    θ_run (Cert.DtRefIdeal.defs (F := Ideal)) (onTc (τ := Cert.DtRefIdeal.τ) (Cert.DtRefIdeal.main (F := Ideal))) ⟨m, fun _ => 0, g⟩ (fun r => (∀ c : Dev Cert.DtRefIdeal.nD,
      r.2.mem ((c.tc : Thread Cert.DtRefIdeal.nD Cert.DtRefIdeal.τ).loc Cert.DtRefIdeal.main_arg0) = m ((c.tc : Thread Cert.DtRefIdeal.nD Cert.DtRefIdeal.τ).loc Cert.DtRefIdeal.main_arg0)
      ∧ r.2.mem ((c.tc : Thread Cert.DtRefIdeal.nD Cert.DtRefIdeal.τ).loc Cert.DtRefIdeal.main_arg1) = m ((c.tc : Thread Cert.DtRefIdeal.nD Cert.DtRefIdeal.τ).loc Cert.DtRefIdeal.main_arg1)
      ∧ r.2.mem ((c.tc : Thread Cert.DtRefIdeal.nD Cert.DtRefIdeal.τ).loc Cert.DtRefIdeal.main_arg2) = m ((c.tc : Thread Cert.DtRefIdeal.nD Cert.DtRefIdeal.τ).loc Cert.DtRefIdeal.main_arg2)
      ∧ r.2.mem ((c.tc : Thread Cert.DtRefIdeal.nD Cert.DtRefIdeal.τ).loc Cert.DtRefIdeal.main_arg3) = m ((c.tc : Thread Cert.DtRefIdeal.nD Cert.DtRefIdeal.τ).loc Cert.DtRefIdeal.main_arg3))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6)
      ∧ r.2.mem ((c.tc : Thread Cert.Route.nD Cert.Route.τ).loc Cert.Route.main_arg7) = m ((c.tc : Thread Cert.Route.nD Cert.Route.τ).loc Cert.Route.main_arg7)
      ∧ r.2.mem ((c.tc : Thread Cert.Route.nD Cert.Route.τ).loc Cert.Route.main_arg8) = m ((c.tc : Thread Cert.Route.nD Cert.Route.τ).loc Cert.Route.main_arg8)
      ∧ r.2.mem ((c.tc : Thread Cert.Route.nD Cert.Route.τ).loc Cert.Route.main_arg9) = m ((c.tc : Thread Cert.Route.nD Cert.Route.τ).loc Cert.Route.main_arg9))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
      ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9))
      ∧ r.2.sem = fun _ => 0)

def quiescent_RouteIdeal_pre_finite_route [hRouteIdeal : Cert.RouteIdeal.Facts] [hPre_finite_route : Cert.Pre_finite_route.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_route m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
      ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7)
      ∧ r.2.mem ((c.tc : Thread Cert.RouteRefIdeal.nD Cert.RouteRefIdeal.τ).loc Cert.RouteRefIdeal.main_arg8) = m ((c.tc : Thread Cert.RouteRefIdeal.nD Cert.RouteRefIdeal.τ).loc Cert.RouteRefIdeal.main_arg8)
      ∧ r.2.mem ((c.tc : Thread Cert.RouteRefIdeal.nD Cert.RouteRefIdeal.τ).loc Cert.RouteRefIdeal.main_arg9) = m ((c.tc : Thread Cert.RouteRefIdeal.nD Cert.RouteRefIdeal.τ).loc Cert.RouteRefIdeal.main_arg9))
      ∧ r.2.sem = fun _ => 0)

def quiescent_RouteRefIdeal_pre_finite_route [hRouteRefIdeal : Cert.RouteRefIdeal.Facts] [hPre_finite_route : Cert.Pre_finite_route.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_route m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7)
      ∧ r.2.mem ((c.tc : Thread Cert.RouteRefIdeal.nD Cert.RouteRefIdeal.τ).loc Cert.RouteRefIdeal.main_arg8) = m ((c.tc : Thread Cert.RouteRefIdeal.nD Cert.RouteRefIdeal.τ).loc Cert.RouteRefIdeal.main_arg8)
      ∧ r.2.mem ((c.tc : Thread Cert.RouteRefIdeal.nD Cert.RouteRefIdeal.τ).loc Cert.RouteRefIdeal.main_arg9) = m ((c.tc : Thread Cert.RouteRefIdeal.nD Cert.RouteRefIdeal.τ).loc Cert.RouteRefIdeal.main_arg9))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v44) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v20) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Zs_ZsIdeal : Prop :=
  True

def algebraic_ZsIdeal_ZsRefIdeal [hZsIdeal : Cert.ZsIdeal.Facts] [hZsRefIdeal : Cert.ZsRefIdeal.Facts] : Prop :=
  ∀ (m : (ℓ : Loc Cert.ZsIdeal.nD Cert.ZsIdeal.τ Cert.ZsIdeal.sig) → Buf (Elt Ideal) ℓ) (g : Dev Cert.ZsIdeal.nD → PrngReg)
    (m' : (ℓ : Loc Cert.ZsRefIdeal.nD Cert.ZsRefIdeal.τ Cert.ZsRefIdeal.sig) → Buf (Elt Ideal) ℓ) (g' : Dev Cert.ZsRefIdeal.nD → PrngReg), Pre_ZsIdeal m →
    (∀ c : Dev Cert.ZsIdeal.nD,
      m' ((c.tc : Thread Cert.ZsRefIdeal.nD Cert.ZsRefIdeal.τ).loc Cert.ZsRefIdeal.main_arg0) = m ((c.tc : Thread Cert.ZsIdeal.nD Cert.ZsIdeal.τ).loc Cert.ZsIdeal.main_arg0)
      ∧ m' ((c.tc : Thread Cert.ZsRefIdeal.nD Cert.ZsRefIdeal.τ).loc Cert.ZsRefIdeal.main_arg1) = m ((c.tc : Thread Cert.ZsIdeal.nD Cert.ZsIdeal.τ).loc Cert.ZsIdeal.main_arg1)) →
    ∃ (v0 : (c : Dev Cert.ZsIdeal.nD) → Buf (Elt Ideal) ((c.tc : Thread Cert.ZsIdeal.nD Cert.ZsIdeal.τ).loc Cert.ZsIdeal.main_v2)),
      θ_run (Cert.ZsIdeal.defs (F := Ideal)) (onTc (τ := Cert.ZsIdeal.τ) (Cert.ZsIdeal.main (F := Ideal))) ⟨m, fun _ => 0, g⟩ (fun r => ∀ c : Dev Cert.ZsIdeal.nD,
          r.2.mem ((c.tc : Thread Cert.ZsIdeal.nD Cert.ZsIdeal.τ).loc Cert.ZsIdeal.main_v2) = v0 c
          ∧ r.2.mem ((c.tc : Thread Cert.ZsIdeal.nD Cert.ZsIdeal.τ).loc Cert.ZsIdeal.main_arg0) = m ((c.tc : Thread Cert.ZsIdeal.nD Cert.ZsIdeal.τ).loc Cert.ZsIdeal.main_arg0)
          ∧ r.2.mem ((c.tc : Thread Cert.ZsIdeal.nD Cert.ZsIdeal.τ).loc Cert.ZsIdeal.main_arg1) = m ((c.tc : Thread Cert.ZsIdeal.nD Cert.ZsIdeal.τ).loc Cert.ZsIdeal.main_arg1))
      ∧ θ_run (Cert.ZsRefIdeal.defs (F := Ideal)) (onTc (τ := Cert.ZsRefIdeal.τ) (Cert.ZsRefIdeal.main (F := Ideal))) ⟨m', fun _ => 0, g'⟩ (fun r => ∀ c : Dev Cert.ZsRefIdeal.nD,
          r.2.mem ((c.tc : Thread Cert.ZsRefIdeal.nD Cert.ZsRefIdeal.τ).loc Cert.ZsRefIdeal.main_v11) = v0 c
          ∧ r.2.mem ((c.tc : Thread Cert.ZsRefIdeal.nD Cert.ZsRefIdeal.τ).loc Cert.ZsRefIdeal.main_arg0) = m' ((c.tc : Thread Cert.ZsRefIdeal.nD Cert.ZsRefIdeal.τ).loc Cert.ZsRefIdeal.main_arg0)
          ∧ r.2.mem ((c.tc : Thread Cert.ZsRefIdeal.nD Cert.ZsRefIdeal.τ).loc Cert.ZsRefIdeal.main_arg1) = m' ((c.tc : Thread Cert.ZsRefIdeal.nD Cert.ZsRefIdeal.τ).loc Cert.ZsRefIdeal.main_arg1))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)) →
    ∃ (v0 : (c : Dev Cert.GatedIdeal.nD) → Buf (Elt Ideal) ((c.tc : Thread Cert.GatedIdeal.nD Cert.GatedIdeal.τ).loc Cert.GatedIdeal.main_v4)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v4) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v22) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v4)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v4) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v28) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Ssd_SsdIdeal : Prop :=
  IdealRules.named_const.Statement Cert.SsdIdeal.κ "mask" .f32 0xF149F2CA#32 ⊥

def algebraic_SsdIdeal_SsdRefIdeal_pre_finite [hSsdIdeal : Cert.SsdIdeal.Facts] [hSsdRefIdeal : Cert.SsdRefIdeal.Facts] [hPre_finite : Cert.Pre_finite.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)) →
    ∃ (v0 : (c : Dev Cert.SsdIdeal.nD) → Buf (Elt Ideal) ((c.tc : Thread Cert.SsdIdeal.nD Cert.SsdIdeal.τ).loc Cert.SsdIdeal.main_v13)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v13) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v67) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3))

def preserves_U_UIdeal : Prop :=
  True

def algebraic_UIdeal_URefIdeal [hUIdeal : Cert.UIdeal.Facts] [hURefIdeal : Cert.URefIdeal.Facts] : Prop :=
  ∀ (m : (ℓ : Loc Cert.UIdeal.nD Cert.UIdeal.τ Cert.UIdeal.sig) → Buf (Elt Ideal) ℓ) (g : Dev Cert.UIdeal.nD → PrngReg)
    (m' : (ℓ : Loc Cert.URefIdeal.nD Cert.URefIdeal.τ Cert.URefIdeal.sig) → Buf (Elt Ideal) ℓ) (g' : Dev Cert.URefIdeal.nD → PrngReg), Pre_UIdeal m →
    (∀ c : Dev Cert.UIdeal.nD,
      m' ((c.tc : Thread Cert.URefIdeal.nD Cert.URefIdeal.τ).loc Cert.URefIdeal.main_arg0) = m ((c.tc : Thread Cert.UIdeal.nD Cert.UIdeal.τ).loc Cert.UIdeal.main_arg0)
      ∧ m' ((c.tc : Thread Cert.URefIdeal.nD Cert.URefIdeal.τ).loc Cert.URefIdeal.main_arg1) = m ((c.tc : Thread Cert.UIdeal.nD Cert.UIdeal.τ).loc Cert.UIdeal.main_arg1)) →
    ∃ (v0 : (c : Dev Cert.UIdeal.nD) → Buf (Elt Ideal) ((c.tc : Thread Cert.UIdeal.nD Cert.UIdeal.τ).loc Cert.UIdeal.main_v1)),
      θ_run (Cert.UIdeal.defs (F := Ideal)) (onTc (τ := Cert.UIdeal.τ) (Cert.UIdeal.main (F := Ideal))) ⟨m, fun _ => 0, g⟩ (fun r => ∀ c : Dev Cert.UIdeal.nD,
          r.2.mem ((c.tc : Thread Cert.UIdeal.nD Cert.UIdeal.τ).loc Cert.UIdeal.main_v1) = v0 c
          ∧ r.2.mem ((c.tc : Thread Cert.UIdeal.nD Cert.UIdeal.τ).loc Cert.UIdeal.main_arg0) = m ((c.tc : Thread Cert.UIdeal.nD Cert.UIdeal.τ).loc Cert.UIdeal.main_arg0)
          ∧ r.2.mem ((c.tc : Thread Cert.UIdeal.nD Cert.UIdeal.τ).loc Cert.UIdeal.main_arg1) = m ((c.tc : Thread Cert.UIdeal.nD Cert.UIdeal.τ).loc Cert.UIdeal.main_arg1))
      ∧ θ_run (Cert.URefIdeal.defs (F := Ideal)) (onTc (τ := Cert.URefIdeal.τ) (Cert.URefIdeal.main (F := Ideal))) ⟨m', fun _ => 0, g'⟩ (fun r => ∀ c : Dev Cert.URefIdeal.nD,
          r.2.mem ((c.tc : Thread Cert.URefIdeal.nD Cert.URefIdeal.τ).loc Cert.URefIdeal.main_v12) = v0 c
          ∧ r.2.mem ((c.tc : Thread Cert.URefIdeal.nD Cert.URefIdeal.τ).loc Cert.URefIdeal.main_arg0) = m' ((c.tc : Thread Cert.URefIdeal.nD Cert.URefIdeal.τ).loc Cert.URefIdeal.main_arg0)
          ∧ r.2.mem ((c.tc : Thread Cert.URefIdeal.nD Cert.URefIdeal.τ).loc Cert.URefIdeal.main_arg1) = m' ((c.tc : Thread Cert.URefIdeal.nD Cert.URefIdeal.τ).loc Cert.URefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v23_0)) (v1 : (c : Dev Cert.MergeIdeal.nD) → Buf (Elt Ideal) ((c.tc : Thread Cert.MergeIdeal.nD Cert.MergeIdeal.τ).loc Cert.MergeIdeal.main_v23_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v23_0) = v0 c
          ∧ r.2.mem ((c.tc : Thread Cert.MergeIdeal.nD Cert.MergeIdeal.τ).loc Cert.MergeIdeal.main_v23_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v10) = v0 c
          ∧ r.2.mem ((c.tc : Thread Cert.MergeRefIdeal.nD Cert.MergeRefIdeal.τ).loc Cert.MergeRefIdeal.main_v25) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Dt_DtIdeal : Prop :=
  True

def algebraic_DtIdeal_DtRefIdeal [hDtIdeal : Cert.DtIdeal.Facts] [hDtRefIdeal : Cert.DtRefIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtRefIdeal.nD Cert.DtRefIdeal.τ Cert.DtRefIdeal.sig) → Buf (Elt Ideal) ℓ) (g' : Dev Cert.DtRefIdeal.nD → PrngReg), Pre_DtIdeal m →
    (∀ c : Dev Cert.DtIdeal.nD,
      m' ((c.tc : Thread Cert.DtRefIdeal.nD Cert.DtRefIdeal.τ).loc Cert.DtRefIdeal.main_arg0) = m ((c.tc : Thread Cert.DtIdeal.nD Cert.DtIdeal.τ).loc Cert.DtIdeal.main_arg0)
      ∧ m' ((c.tc : Thread Cert.DtRefIdeal.nD Cert.DtRefIdeal.τ).loc Cert.DtRefIdeal.main_arg1) = m ((c.tc : Thread Cert.DtIdeal.nD Cert.DtIdeal.τ).loc Cert.DtIdeal.main_arg1)
      ∧ m' ((c.tc : Thread Cert.DtRefIdeal.nD Cert.DtRefIdeal.τ).loc Cert.DtRefIdeal.main_arg2) = m ((c.tc : Thread Cert.DtIdeal.nD Cert.DtIdeal.τ).loc Cert.DtIdeal.main_arg2)
      ∧ m' ((c.tc : Thread Cert.DtRefIdeal.nD Cert.DtRefIdeal.τ).loc Cert.DtRefIdeal.main_arg3) = m ((c.tc : Thread Cert.DtIdeal.nD Cert.DtIdeal.τ).loc Cert.DtIdeal.main_arg3)) →
    ∃ (v0 : (c : Dev Cert.DtIdeal.nD) → Buf (Elt Ideal) ((c.tc : Thread Cert.DtIdeal.nD Cert.DtIdeal.τ).loc Cert.DtIdeal.main_v10_0)) (v1 : (c : Dev Cert.DtIdeal.nD) → Buf (Elt Ideal) ((c.tc : Thread Cert.DtIdeal.nD Cert.DtIdeal.τ).loc Cert.DtIdeal.main_v11)) (v2 : (c : Dev Cert.DtIdeal.nD) → Buf (Elt Ideal) ((c.tc : Thread Cert.DtIdeal.nD Cert.DtIdeal.τ).loc Cert.DtIdeal.main_v12)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v10_0) = v0 c
          ∧ r.2.mem ((c.tc : Thread Cert.DtIdeal.nD Cert.DtIdeal.τ).loc Cert.DtIdeal.main_v11) = v1 c
          ∧ r.2.mem ((c.tc : Thread Cert.DtIdeal.nD Cert.DtIdeal.τ).loc Cert.DtIdeal.main_v12) = v2 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1)
          ∧ r.2.mem ((c.tc : Thread Cert.DtIdeal.nD Cert.DtIdeal.τ).loc Cert.DtIdeal.main_arg2) = m ((c.tc : Thread Cert.DtIdeal.nD Cert.DtIdeal.τ).loc Cert.DtIdeal.main_arg2)
          ∧ r.2.mem ((c.tc : Thread Cert.DtIdeal.nD Cert.DtIdeal.τ).loc Cert.DtIdeal.main_arg3) = m ((c.tc : Thread Cert.DtIdeal.nD Cert.DtIdeal.τ).loc Cert.DtIdeal.main_arg3))
      ∧ θ_run (Cert.DtRefIdeal.defs (F := Ideal)) (onTc (τ := Cert.DtRefIdeal.τ) (Cert.DtRefIdeal.main (F := Ideal))) ⟨m', fun _ => 0, g'⟩ (fun r => ∀ c : Dev Cert.DtRefIdeal.nD,
          r.2.mem ((c.tc : Thread Cert.DtRefIdeal.nD Cert.DtRefIdeal.τ).loc Cert.DtRefIdeal.main_v27) = v0 c
          ∧ r.2.mem ((c.tc : Thread Cert.DtRefIdeal.nD Cert.DtRefIdeal.τ).loc Cert.DtRefIdeal.main_v28) = v1 c
          ∧ r.2.mem ((c.tc : Thread Cert.DtRefIdeal.nD Cert.DtRefIdeal.τ).loc Cert.DtRefIdeal.main_v30) = v2 c
          ∧ r.2.mem ((c.tc : Thread Cert.DtRefIdeal.nD Cert.DtRefIdeal.τ).loc Cert.DtRefIdeal.main_arg0) = m' ((c.tc : Thread Cert.DtRefIdeal.nD Cert.DtRefIdeal.τ).loc Cert.DtRefIdeal.main_arg0)
          ∧ r.2.mem ((c.tc : Thread Cert.DtRefIdeal.nD Cert.DtRefIdeal.τ).loc Cert.DtRefIdeal.main_arg1) = m' ((c.tc : Thread Cert.DtRefIdeal.nD Cert.DtRefIdeal.τ).loc Cert.DtRefIdeal.main_arg1)
          ∧ r.2.mem ((c.tc : Thread Cert.DtRefIdeal.nD Cert.DtRefIdeal.τ).loc Cert.DtRefIdeal.main_arg2) = m' ((c.tc : Thread Cert.DtRefIdeal.nD Cert.DtRefIdeal.τ).loc Cert.DtRefIdeal.main_arg2)
          ∧ r.2.mem ((c.tc : Thread Cert.DtRefIdeal.nD Cert.DtRefIdeal.τ).loc Cert.DtRefIdeal.main_arg3) = m' ((c.tc : Thread Cert.DtRefIdeal.nD Cert.DtRefIdeal.τ).loc Cert.DtRefIdeal.main_arg3))

def preserves_Route_RouteIdeal : Prop :=
  True

def algebraic_RouteIdeal_RouteRefIdeal_pre_finite_route [hRouteIdeal : Cert.RouteIdeal.Facts] [hRouteRefIdeal : Cert.RouteRefIdeal.Facts] [hPre_finite_route : Cert.Pre_finite_route.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite_route m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)
      ∧ m' ((c.tc : Thread Cert.RouteRefIdeal.nD Cert.RouteRefIdeal.τ).loc Cert.RouteRefIdeal.main_arg6) = m ((c.tc : Thread Cert.RouteIdeal.nD Cert.RouteIdeal.τ).loc Cert.RouteIdeal.main_arg6)
      ∧ m' ((c.tc : Thread Cert.RouteRefIdeal.nD Cert.RouteRefIdeal.τ).loc Cert.RouteRefIdeal.main_arg7) = m ((c.tc : Thread Cert.RouteIdeal.nD Cert.RouteIdeal.τ).loc Cert.RouteIdeal.main_arg7)
      ∧ m' ((c.tc : Thread Cert.RouteRefIdeal.nD Cert.RouteRefIdeal.τ).loc Cert.RouteRefIdeal.main_arg8) = m ((c.tc : Thread Cert.RouteIdeal.nD Cert.RouteIdeal.τ).loc Cert.RouteIdeal.main_arg8)
      ∧ m' ((c.tc : Thread Cert.RouteRefIdeal.nD Cert.RouteRefIdeal.τ).loc Cert.RouteRefIdeal.main_arg9) = m ((c.tc : Thread Cert.RouteIdeal.nD Cert.RouteIdeal.τ).loc Cert.RouteIdeal.main_arg9)) →
    ∃ (v0 : (c : Dev Cert.RouteIdeal.nD) → Buf (Elt Ideal) ((c.tc : Thread Cert.RouteIdeal.nD Cert.RouteIdeal.τ).loc Cert.RouteIdeal.main_v25)) (v1 : (c : Dev Cert.RouteIdeal.nD) → Buf (Elt Ideal) ((c.tc : Thread Cert.RouteIdeal.nD Cert.RouteIdeal.τ).loc Cert.RouteIdeal.main_v26)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v25) = v0 c
          ∧ r.2.mem ((c.tc : Thread Cert.RouteIdeal.nD Cert.RouteIdeal.τ).loc Cert.RouteIdeal.main_v26) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
          ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
          ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
          ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v72) = v0 c
          ∧ r.2.mem ((c.tc : Thread Cert.RouteRefIdeal.nD Cert.RouteRefIdeal.τ).loc Cert.RouteRefIdeal.main_v67) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5)
          ∧ r.2.mem ((c.tc : Thread Cert.RouteRefIdeal.nD Cert.RouteRefIdeal.τ).loc Cert.RouteRefIdeal.main_arg6) = m' ((c.tc : Thread Cert.RouteRefIdeal.nD Cert.RouteRefIdeal.τ).loc Cert.RouteRefIdeal.main_arg6)
          ∧ r.2.mem ((c.tc : Thread Cert.RouteRefIdeal.nD Cert.RouteRefIdeal.τ).loc Cert.RouteRefIdeal.main_arg7) = m' ((c.tc : Thread Cert.RouteRefIdeal.nD Cert.RouteRefIdeal.τ).loc Cert.RouteRefIdeal.main_arg7)
          ∧ r.2.mem ((c.tc : Thread Cert.RouteRefIdeal.nD Cert.RouteRefIdeal.τ).loc Cert.RouteRefIdeal.main_arg8) = m' ((c.tc : Thread Cert.RouteRefIdeal.nD Cert.RouteRefIdeal.τ).loc Cert.RouteRefIdeal.main_arg8)
          ∧ r.2.mem ((c.tc : Thread Cert.RouteRefIdeal.nD Cert.RouteRefIdeal.τ).loc Cert.RouteRefIdeal.main_arg9) = m' ((c.tc : Thread Cert.RouteRefIdeal.nD Cert.RouteRefIdeal.τ).loc Cert.RouteRefIdeal.main_arg9))

def Claim : Prop :=
  ∃ (hConv : Cert.Conv.Facts) (hConvIdeal : Cert.ConvIdeal.Facts) (hConvRefIdeal : Cert.ConvRefIdeal.Facts) (hGates : Cert.Gates.Facts) (hGatesIdeal : Cert.GatesIdeal.Facts) (hGatesRefIdeal : Cert.GatesRefIdeal.Facts) (hZs : Cert.Zs.Facts) (hZsIdeal : Cert.ZsIdeal.Facts) (hZsRefIdeal : Cert.ZsRefIdeal.Facts) (hGated : Cert.Gated.Facts) (hGatedIdeal : Cert.GatedIdeal.Facts) (hGatedRefIdeal : Cert.GatedRefIdeal.Facts) (hGlu : Cert.Glu.Facts) (hGluIdeal : Cert.GluIdeal.Facts) (hGluRefIdeal : Cert.GluRefIdeal.Facts) (hSsd : Cert.Ssd.Facts) (hSsdIdeal : Cert.SsdIdeal.Facts) (hSsdRefIdeal : Cert.SsdRefIdeal.Facts) (hU : Cert.U.Facts) (hUIdeal : Cert.UIdeal.Facts) (hURefIdeal : Cert.URefIdeal.Facts) (hMerge : Cert.Merge.Facts) (hMergeIdeal : Cert.MergeIdeal.Facts) (hMergeRefIdeal : Cert.MergeRefIdeal.Facts) (hDt : Cert.Dt.Facts) (hDtIdeal : Cert.DtIdeal.Facts) (hDtRefIdeal : Cert.DtRefIdeal.Facts) (hRoute : Cert.Route.Facts) (hRouteIdeal : Cert.RouteIdeal.Facts) (hRouteRefIdeal : Cert.RouteRefIdeal.Facts) (hPre_finite : Cert.Pre_finite.Facts) (hPre_finite_route : Cert.Pre_finite_route.Facts),
    quiescent_Conv (hConv := hConv)
    ∧ quiescent_ConvIdeal (hConvIdeal := hConvIdeal)
    ∧ quiescent_ConvRefIdeal (hConvRefIdeal := hConvRefIdeal)
    ∧ quiescent_Gates (hGates := hGates)
    ∧ quiescent_GatesIdeal (hGatesIdeal := hGatesIdeal)
    ∧ quiescent_GatesRefIdeal (hGatesRefIdeal := hGatesRefIdeal)
    ∧ quiescent_Zs (hZs := hZs)
    ∧ quiescent_ZsIdeal (hZsIdeal := hZsIdeal)
    ∧ quiescent_ZsRefIdeal (hZsRefIdeal := hZsRefIdeal)
    ∧ quiescent_Gated (hGated := hGated)
    ∧ quiescent_GatedIdeal (hGatedIdeal := hGatedIdeal)
    ∧ quiescent_GatedRefIdeal (hGatedRefIdeal := hGatedRefIdeal)
    ∧ quiescent_Glu (hGlu := hGlu)
    ∧ quiescent_GluIdeal (hGluIdeal := hGluIdeal)
    ∧ quiescent_GluRefIdeal (hGluRefIdeal := hGluRefIdeal)
    ∧ quiescent_Ssd (hSsd := hSsd)
    ∧ quiescent_SsdIdeal (hSsdIdeal := hSsdIdeal)
    ∧ quiescent_SsdIdeal_pre_finite (hSsdIdeal := hSsdIdeal) (hPre_finite := hPre_finite)
    ∧ quiescent_SsdRefIdeal (hSsdRefIdeal := hSsdRefIdeal)
    ∧ quiescent_SsdRefIdeal_pre_finite (hSsdRefIdeal := hSsdRefIdeal) (hPre_finite := hPre_finite)
    ∧ quiescent_U (hU := hU)
    ∧ quiescent_UIdeal (hUIdeal := hUIdeal)
    ∧ quiescent_URefIdeal (hURefIdeal := hURefIdeal)
    ∧ quiescent_Merge (hMerge := hMerge)
    ∧ quiescent_MergeIdeal (hMergeIdeal := hMergeIdeal)
    ∧ quiescent_MergeRefIdeal (hMergeRefIdeal := hMergeRefIdeal)
    ∧ quiescent_Dt (hDt := hDt)
    ∧ quiescent_DtIdeal (hDtIdeal := hDtIdeal)
    ∧ quiescent_DtRefIdeal (hDtRefIdeal := hDtRefIdeal)
    ∧ quiescent_Route (hRoute := hRoute)
    ∧ quiescent_RouteIdeal (hRouteIdeal := hRouteIdeal)
    ∧ quiescent_RouteIdeal_pre_finite_route (hRouteIdeal := hRouteIdeal) (hPre_finite_route := hPre_finite_route)
    ∧ quiescent_RouteRefIdeal (hRouteRefIdeal := hRouteRefIdeal)
    ∧ quiescent_RouteRefIdeal_pre_finite_route (hRouteRefIdeal := hRouteRefIdeal) (hPre_finite_route := hPre_finite_route)
    ∧ preserves_Conv_ConvIdeal
    ∧ algebraic_ConvIdeal_ConvRefIdeal (hConvIdeal := hConvIdeal) (hConvRefIdeal := hConvRefIdeal)
    ∧ preserves_Gates_GatesIdeal
    ∧ algebraic_GatesIdeal_GatesRefIdeal (hGatesIdeal := hGatesIdeal) (hGatesRefIdeal := hGatesRefIdeal)
    ∧ preserves_Zs_ZsIdeal
    ∧ algebraic_ZsIdeal_ZsRefIdeal (hZsIdeal := hZsIdeal) (hZsRefIdeal := hZsRefIdeal)
    ∧ preserves_Gated_GatedIdeal
    ∧ algebraic_GatedIdeal_GatedRefIdeal (hGatedIdeal := hGatedIdeal) (hGatedRefIdeal := hGatedRefIdeal)
    ∧ preserves_Glu_GluIdeal
    ∧ algebraic_GluIdeal_GluRefIdeal (hGluIdeal := hGluIdeal) (hGluRefIdeal := hGluRefIdeal)
    ∧ preserves_Ssd_SsdIdeal
    ∧ algebraic_SsdIdeal_SsdRefIdeal_pre_finite (hSsdIdeal := hSsdIdeal) (hSsdRefIdeal := hSsdRefIdeal) (hPre_finite := hPre_finite)
    ∧ preserves_U_UIdeal
    ∧ algebraic_UIdeal_URefIdeal (hUIdeal := hUIdeal) (hURefIdeal := hURefIdeal)
    ∧ preserves_Merge_MergeIdeal
    ∧ algebraic_MergeIdeal_MergeRefIdeal (hMergeIdeal := hMergeIdeal) (hMergeRefIdeal := hMergeRefIdeal)
    ∧ preserves_Dt_DtIdeal
    ∧ algebraic_DtIdeal_DtRefIdeal (hDtIdeal := hDtIdeal) (hDtRefIdeal := hDtRefIdeal)
    ∧ preserves_Route_RouteIdeal
    ∧ algebraic_RouteIdeal_RouteRefIdeal_pre_finite_route (hRouteIdeal := hRouteIdeal) (hRouteRefIdeal := hRouteRefIdeal) (hPre_finite_route := hPre_finite_route)
-- ==== Pre_finite.lean ====
abbrev S16384x4096 : Shape := ⟨2, ![16384, 4096]⟩
abbrev S16384x32 : Shape := ⟨2, ![16384, 32]⟩
abbrev S1x32 : Shape := ⟨2, ![1, 32]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  bcast_S_S16384x32 : S_.BroadcastsInDim S16384x32 (![] : Fin 0 → Fin S16384x32.rank)

variable [Facts]

def fn {F : FTy → Type} [FloatOps F] (main_arg0 : FVec F S16384x4096 .bf16) (main_arg1 : FVec F S16384x32 .f32) (main_arg2 : FVec F S1x32 .f32) (main_arg3 : FVec F S1x32 .f32) : IVec S16384x4096 1 × IVec S16384x32 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  (main_v3, main_v6)
-- ==== Pre_finite_route.lean ====
abbrev S16384x4096 : Shape := ⟨2, ![16384, 4096]⟩
abbrev S16384x2048 : Shape := ⟨2, ![16384, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  bcast_S_S16384x2048 : S_.BroadcastsInDim S16384x2048 (![] : Fin 0 → Fin S16384x2048.rank)
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S1x2048x4 : S_.BroadcastsInDim S1x2048x4 (![] : Fin 0 → Fin S1x2048x4.rank)
  bcast_S_S1x4 : S_.BroadcastsInDim S1x4 (![] : Fin 0 → Fin S1x4.rank)
  bcast_S_S1x2048x32 : S_.BroadcastsInDim S1x2048x32 (![] : Fin 0 → Fin S1x2048x32.rank)
  bcast_S_S1x32 : S_.BroadcastsInDim S1x32 (![] : Fin 0 → Fin S1x32.rank)

variable [Facts]

def fn_part1 {F : FTy → Type} [FloatOps F] (main_arg6 : FVec F S1x2048x4 .f32) (main_arg7 : FVec F S1x4 .f32) (main_arg8 : FVec F S1x2048x32 .f32) (main_arg9 : FVec F S1x32 .f32) (main_v3 : IVec S16384x4096 1) (main_v7 : IVec S16384x2048 1) (main_v11 : IVec S16384x2048 1) (main_v14 : IVec S16384x2048 1) (main_v17 : IVec S1x2048x2048 1) (main_v18 : FVec F S1x2048 .f32) : IVec S16384x4096 1 × IVec S16384x2048 1 × IVec S16384x2048 1 × IVec S16384x2048 1 × IVec S1x2048x2048 1 × IVec S1x2048 1 × IVec S1x2048x4 1 × IVec S1x4 1 × IVec S1x2048x32 1 × IVec S1x32 1 :=
  let main_cst_4 : FVec F S_ .f32 := constant S_ .f32 0x7F800000#32
  let main_v19 : FVec F S1x2048 .f32 := broadcastInDim S1x2048 ![] bcast_S_S1x2048 main_cst_4
  let main_v20 : IVec S1x2048 1 := cmpf .olt main_v18 main_v19
  let main_v21 : FVec F S1x2048x4 .f32 := Host.absf main_arg6
  let main_cst_5 : FVec F S_ .f32 := constant S_ .f32 0x7F800000#32
  let main_v22 : FVec F S1x2048x4 .f32 := broadcastInDim S1x2048x4 ![] bcast_S_S1x2048x4 main_cst_5
  let main_v23 : IVec S1x2048x4 1 := cmpf .olt main_v21 main_v22
  let main_v24 : FVec F S1x4 .f32 := Host.absf main_arg7
  let main_cst_6 : FVec F S_ .f32 := constant S_ .f32 0x7F800000#32
  let main_v25 : FVec F S1x4 .f32 := broadcastInDim S1x4 ![] bcast_S_S1x4 main_cst_6
  let main_v26 : IVec S1x4 1 := cmpf .olt main_v24 main_v25
  let main_v27 : FVec F S1x2048x32 .f32 := Host.absf main_arg8
  let main_cst_7 : FVec F S_ .f32 := constant S_ .f32 0x7F800000#32
  let main_v28 : FVec F S1x2048x32 .f32 := broadcastInDim S1x2048x32 ![] bcast_S_S1x2048x32 main_cst_7
  let main_v29 : IVec S1x2048x32 1 := cmpf .olt main_v27 main_v28
  let main_v30 : FVec F S1x32 .f32 := Host.absf main_arg9
  let main_cst_8 : FVec F S_ .f32 := constant S_ .f32 0x7F800000#32
  let main_v31 : FVec F S1x32 .f32 := broadcastInDim S1x32 ![] bcast_S_S1x32 main_cst_8
  let main_v32 : IVec S1x32 1 := cmpf .olt main_v30 main_v31
  (main_v3, main_v7, main_v11, main_v14, main_v17, main_v20, main_v23, main_v26, main_v29, main_v32)

def fn {F : FTy → Type} [FloatOps F] (main_arg0 : FVec F S16384x4096 .bf16) (main_arg1 : FVec F S16384x2048 .bf16) (main_arg2 : FVec F S16384x2048 .bf16) (main_arg3 : FVec F S16384x2048 .f32) (main_arg4 : FVec F S1x2048x2048 .f32) (main_arg5 : FVec F S1x2048 .f32) (main_arg6 : FVec F S1x2048x4 .f32) (main_arg7 : FVec F S1x4 .f32) (main_arg8 : FVec F S1x2048x32 .f32) (main_arg9 : FVec F S1x32 .f32) : IVec S16384x4096 1 × IVec S16384x2048 1 × IVec S16384x2048 1 × IVec S16384x2048 1 × IVec S1x2048x2048 1 × IVec S1x2048 1 × IVec S1x2048x4 1 × IVec S1x4 1 × IVec S1x2048x32 1 × IVec S1x32 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_v4 : FVec F S16384x2048 .f32 := (extf .f32 · bitsLt_bf16_f32) main_arg1
  let main_v5 : FVec F S16384x2048 .f32 := Host.absf main_v4
  let main_cst_0 : FVec F S_ .f32 := constant S_ .f32 0x7F800000#32
  let main_v6 : FVec F S16384x2048 .f32 := broadcastInDim S16384x2048 ![] bcast_S_S16384x2048 main_cst_0
  let main_v7 : IVec S16384x2048 1 := cmpf .olt main_v5 main_v6
  let main_v8 : FVec F S16384x2048 .f32 := (extf .f32 · bitsLt_bf16_f32) main_arg2
  let main_v9 : FVec F S16384x2048 .f32 := Host.absf main_v8
  let main_cst_1 : FVec F S_ .f32 := constant S_ .f32 0x7F800000#32
  let main_v10 : FVec F S16384x2048 .f32 := broadcastInDim S16384x2048 ![] bcast_S_S16384x2048 main_cst_1
  let main_v11 : IVec S16384x2048 1 := cmpf .olt main_v9 main_v10
  let main_v12 : FVec F S16384x2048 .f32 := Host.absf main_arg3
  let main_cst_2 : FVec F S_ .f32 := constant S_ .f32 0x7F800000#32
  let main_v13 : FVec F S16384x2048 .f32 := broadcastInDim S16384x2048 ![] bcast_S_S16384x2048 main_cst_2
  let main_v14 : IVec S16384x2048 1 := cmpf .olt main_v12 main_v13
  let main_v15 : FVec F S1x2048x2048 .f32 := Host.absf main_arg4
  let main_cst_3 : FVec F S_ .f32 := constant S_ .f32 0x7F800000#32
  let main_v16 : FVec F S1x2048x2048 .f32 := broadcastInDim S1x2048x2048 ![] bcast_S_S1x2048x2048 main_cst_3
  let main_v17 : IVec S1x2048x2048 1 := cmpf .olt main_v15 main_v16
  let main_v18 : FVec F S1x2048 .f32 := Host.absf main_arg5
  fn_part1 (F := F) main_arg6 main_arg7 main_arg8 main_arg9 main_v3 main_v7 main_v11 main_v14 main_v17 main_v18
-- ==== Conv.lean ====
abbrev S16384x2048 : Shape := ⟨2, ![16384, 2048]⟩
abbrev S1x2048x11296 : Shape := ⟨3, ![1, 2048, 11296]⟩
abbrev S1x4x4096 : Shape := ⟨3, ![1, 4, 4096]⟩
abbrev S1x4096 : Shape := ⟨2, ![1, 4096]⟩
abbrev S1x11296x2048 : Shape := ⟨3, ![1, 11296, 2048]⟩
abbrev S4x4096 : Shape := ⟨2, ![4, 4096]⟩
abbrev S4096 : Shape := ⟨1, ![4096]⟩
abbrev S16384x4096 : Shape := ⟨2, ![16384, 4096]⟩
abbrev S1024x2048 : Shape := ⟨2, ![1024, 2048]⟩
abbrev S1x1024x2048 : Shape := ⟨3, ![1, 1024, 2048]⟩
abbrev S4x1024 : Shape := ⟨2, ![4, 1024]⟩
abbrev S1x1024 : Shape := ⟨2, ![1, 1024]⟩
abbrev S1024x1024 : Shape := ⟨2, ![1024, 1024]⟩
abbrev S1032x1024 : Shape := ⟨2, ![1032, 1024]⟩
abbrev S2048x1024 : Shape := ⟨2, ![2048, 1024]⟩
abbrev S8x1024 : Shape := ⟨2, ![8, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S1x2048x11296, .f32⟩
  | .hbm, ⟨2, _⟩ => ⟨S1x4x4096, .f32⟩
  | .hbm, ⟨3, _⟩ => ⟨S1x4096, .f32⟩
  | .hbm, ⟨4, _⟩ => ⟨S1x11296x2048, .f32⟩
  | .hbm, ⟨5, _⟩ => ⟨S4x4096, .f32⟩
  | .hbm, ⟨6, _⟩ => ⟨S4096, .f32⟩
  | .hbm, ⟨7, _⟩ => ⟨S1x4096, .f32⟩
  | .hbm, ⟨8, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1032x1024, .f32⟩
  | .local _ .vmem, ⟨11, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c2048_i32 : BitVec 32 := 2048#32
  let c1024_i32 : BitVec 32 := 1024#32
  let arg0 : BitVec 32 := BitVec.ofNat 32 (i 0).val
  let v0 : BitVec 32 := Scalar.muli c1024_i32 arg0
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c2048_i32 : BitVec 32 := 2048#32
  let v1 : BitVec 32 := Scalar.addi c2048_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S16384x2048 : Shape := ⟨2, ![16384, 2048]⟩
abbrev S1x2048x11296 : Shape := ⟨3, ![1, 2048, 11296]⟩
abbrev S1x4x4096 : Shape := ⟨3, ![1, 4, 4096]⟩
abbrev S1x4096 : Shape := ⟨2, ![1, 4096]⟩
abbrev S1x16384x2048 : Shape := ⟨3, ![1, 16384, 2048]⟩
abbrev S2048x11296 : Shape := ⟨2, ![2048, 11296]⟩
abbrev S1x16384x11296 : Shape := ⟨3, ![1, 16384, 11296]⟩
abbrev S1x16384x4096 : Shape := ⟨3, ![1, 16384, 4096]⟩
abbrev S1x16384x32 : Shape := ⟨3, ![1, 16384, 32]⟩
abbrev S1x16384x1024 : Shape := ⟨3, ![1, 16384, 1024]⟩
abbrev S4x4096 : Shape := ⟨2, ![4, 4096]⟩
abbrev S4096 : Shape := ⟨1, ![4096]⟩
abbrev S_ : Shape := ⟨0, ![]⟩
abbrev S1x16387x4096 : Shape := ⟨3, ![1, 16387, 4096]⟩
abbrev S1x1x4096 : Shape := ⟨3, ![1, 1, 4096]⟩
abbrev S16384x4096 : Shape := ⟨2, ![16384, 4096]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11296, .f32⟩
  | .hbm, ⟨2, _⟩ => ⟨S1x4x4096, .f32⟩
  | .hbm, ⟨3, _⟩ => ⟨S1x4096, .f32⟩
  | .hbm, ⟨4, _⟩ => ⟨S16384x2048, .f32⟩
  | .hbm, ⟨5, _⟩ => ⟨S1x16384x2048, .f32⟩
  | .hbm, ⟨6, _⟩ => ⟨S2048x11296, .f32⟩
  | .hbm, ⟨7, _⟩ => ⟨S1x16384x11296, .f32⟩
  | .hbm, ⟨8, _⟩ => ⟨S1x16384x2048, .f32⟩
  | .hbm, ⟨9, _⟩ => ⟨S1x16384x4096, .f32⟩
  | .hbm, ⟨10, _⟩ => ⟨S1x16384x32, .f32⟩
  | .hbm, ⟨11, _⟩ => ⟨S1x16384x1024, .f32⟩
  | .hbm, ⟨12, _⟩ => ⟨S1x16384x4096, .f32⟩
  | .hbm, ⟨13, _⟩ => ⟨S4x4096, .f32⟩
  | .hbm, ⟨14, _⟩ => ⟨S4096, .f32⟩
  | .hbm, ⟨15, _⟩ => ⟨S_, .i32⟩
  | .hbm, ⟨16, _⟩ => ⟨S_, .f32⟩
  | .hbm, ⟨17, _⟩ => ⟨S1x16387x4096, .f32⟩
  | .hbm, ⟨18, _⟩ => ⟨S1x16384x4096, .f32⟩
  | .hbm, ⟨19, _⟩ => ⟨S1x4096, .f32⟩
  | .hbm, ⟨20, _⟩ => ⟨S4096, .f32⟩
  | .hbm, ⟨21, _⟩ => ⟨S1x1x4096, .f32⟩
  | .hbm, ⟨22, _⟩ => ⟨S1x16384x4096, .f32⟩
  | .hbm, ⟨23, _⟩ => ⟨S1x16384x4096, .f32⟩
  | .hbm, ⟨24, _⟩ => ⟨S1x1x4096, .f32⟩
  | .hbm, ⟨25, _⟩ => ⟨S1x16384x4096, .f32⟩
  | .hbm, ⟨26, _⟩ => ⟨S1x16384x4096, .f32⟩
  | .hbm, ⟨27, _⟩ => ⟨S1x16384x4096, .f32⟩
  | .hbm, ⟨28, _⟩ => ⟨S1x4096, .f32⟩
  | .hbm, ⟨29, _⟩ => ⟨S4096, .f32⟩
  | .hbm, ⟨30, _⟩ => ⟨S1x1x4096, .f32⟩
  | .hbm, ⟨31, _⟩ => ⟨S1x16384x4096, .f32⟩
  | .hbm, ⟨32, _⟩ => ⟨S1x16384x4096, .f32⟩
  | .hbm, ⟨33, _⟩ => ⟨S1x16384x4096, .f32⟩
  | .hbm, ⟨34, _⟩ => ⟨S1x16384x4096, .f32⟩
  | .hbm, ⟨35, _⟩ => ⟨S1x4096, .f32⟩
  | .hbm, ⟨36, _⟩ => ⟨S4096, .f32⟩
  | .hbm, ⟨37, _⟩ => ⟨S1x1x4096, .f32⟩
  | .hbm, ⟨38, _⟩ => ⟨S1x16384x4096, .f32⟩
  | .hbm, ⟨39, _⟩ => ⟨S1x16384x4096, .f32⟩
  | .hbm, ⟨40, _⟩ => ⟨S1x16384x4096, .f32⟩
  | .hbm, ⟨41, _⟩ => ⟨S1x16384x4096, .f32⟩
  | .hbm, ⟨42, _⟩ => ⟨S1x4096, .f32⟩
  | .hbm, ⟨43, _⟩ => ⟨S4096, .f32⟩
  | .hbm, ⟨44, _⟩ => ⟨S1x1x4096, .f32⟩
  | .hbm, ⟨45, _⟩ => ⟨S1x16384x4096, .f32⟩
  | .hbm, ⟨46, _⟩ => ⟨S1x16384x4096, .f32⟩
  | .hbm, ⟨47, _⟩ => ⟨S1x16384x4096, .f32⟩
  | .hbm, ⟨48, _⟩ => ⟨S1x16384x4096, .f32⟩
  | .hbm, ⟨49, _⟩ => ⟨S1x16384x4096, .f32⟩
  | .hbm, ⟨50, _⟩ => ⟨S_, .f32⟩
  | .hbm, ⟨51, _⟩ => ⟨S1x16384x4096, .f32⟩
  | .hbm, ⟨52, _⟩ => ⟨S1x16384x4096, .f32⟩
  | .hbm, ⟨53, _⟩ => ⟨S_, .f32⟩
  | .hbm, ⟨54, _⟩ => ⟨S1x16384x4096, .f32⟩
  | .hbm, ⟨55, _⟩ => ⟨S1x16384x4096, .f32⟩
  | .hbm, ⟨56, _⟩ => ⟨S1x16384x4096, .f32⟩
  | .hbm, ⟨57, _⟩ => ⟨S16384x4096, .f32⟩
  | .hbm, ⟨58, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Gates.lean ====
abbrev S16384x2048 : Shape := ⟨2, ![16384, 2048]⟩
abbrev S1x2048x11296 : Shape := ⟨3, ![1, 2048, 11296]⟩
abbrev S1x4096 : Shape := ⟨2, ![1, 4096]⟩
abbrev S1x11296x2048 : Shape := ⟨3, ![1, 11296, 2048]⟩
abbrev S4096 : Shape := ⟨1, ![4096]⟩
abbrev S16384x4096 : Shape := ⟨2, ![16384, 4096]⟩
abbrev S1024x2048 : Shape := ⟨2, ![1024, 2048]⟩
abbrev S1x1024x2048 : Shape := ⟨3, ![1, 1024, 2048]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S1x2048x11296, .f32⟩
  | .hbm, ⟨2, _⟩ => ⟨S1x4096, .f32⟩
  | .hbm, ⟨3, _⟩ => ⟨S1x11296x2048, .f32⟩
  | .hbm, ⟨4, _⟩ => ⟨S4096, .f32⟩
  | .hbm, ⟨5, _⟩ => ⟨S1x4096, .f32⟩
  | .hbm, ⟨6, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c7200_i32 : BitVec 32 := 7200#32
  let c1024_i32 : BitVec 32 := 1024#32
  let arg0 : BitVec 32 := BitVec.ofNat 32 (i 0).val
  let v0 : BitVec 32 := Scalar.muli c1024_i32 arg0
  let v1 : BitVec 32 := Scalar.addi c7200_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c7200_i32 : BitVec 32 := 7200#32
  let v1 : BitVec 32 := Scalar.addi c7200_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S16384x2048 : Shape := ⟨2, ![16384, 2048]⟩
abbrev S1x2048x11296 : Shape := ⟨3, ![1, 2048, 11296]⟩
abbrev S1x4096 : Shape := ⟨2, ![1, 4096]⟩
abbrev S1x16384x2048 : Shape := ⟨3, ![1, 16384, 2048]⟩
abbrev S2048x11296 : Shape := ⟨2, ![2048, 11296]⟩
abbrev S1x16384x11296 : Shape := ⟨3, ![1, 16384, 11296]⟩
abbrev S1x16384x4096 : Shape := ⟨3, ![1, 16384, 4096]⟩
abbrev S1x16384x32 : Shape := ⟨3, ![1, 16384, 32]⟩
abbrev S1x16384x1024 : Shape := ⟨3, ![1, 16384, 1024]⟩
abbrev S4096 : Shape := ⟨1, ![4096]⟩
abbrev S1x1x4096 : Shape := ⟨3, ![1, 1, 4096]⟩
abbrev S_ : Shape := ⟨0, ![]⟩
abbrev S16384x4096 : Shape := ⟨2, ![16384, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11296, .f32⟩
  | .hbm, ⟨2, _⟩ => ⟨S1x4096, .f32⟩
  | .hbm, ⟨3, _⟩ => ⟨S16384x2048, .f32⟩
  | .hbm, ⟨4, _⟩ => ⟨S1x16384x2048, .f32⟩
  | .hbm, ⟨5, _⟩ => ⟨S2048x11296, .f32⟩
  | .hbm, ⟨6, _⟩ => ⟨S1x16384x11296, .f32⟩
  | .hbm, ⟨7, _⟩ => ⟨S1x16384x2048, .f32⟩
  | .hbm, ⟨8, _⟩ => ⟨S1x16384x4096, .f32⟩
  | .hbm, ⟨9, _⟩ => ⟨S1x16384x32, .f32⟩
  | .hbm, ⟨10, _⟩ => ⟨S1x16384x1024, .f32⟩
  | .hbm, ⟨11, _⟩ => ⟨S1x16384x4096, .f32⟩
  | .hbm, ⟨12, _⟩ => ⟨S4096, .f32⟩
  | .hbm, ⟨13, _⟩ => ⟨S1x1x4096, .f32⟩
  | .hbm, ⟨14, _⟩ => ⟨S1x16384x4096, .f32⟩
  | .hbm, ⟨15, _⟩ => ⟨S1x16384x4096, .f32⟩
  | .hbm, ⟨16, _⟩ => ⟨S1x16384x4096, .f32⟩
  | .hbm, ⟨17, _⟩ => ⟨S1x16384x4096, .f32⟩
  | .hbm, ⟨18, _⟩ => ⟨S_, .f32⟩
  | .hbm, ⟨19, _⟩ => ⟨S1x16384x4096, .f32⟩
  | .hbm, ⟨20, _⟩ => ⟨S1x16384x4096, .f32⟩
  | .hbm, ⟨21, _⟩ => ⟨S_, .f32⟩
  | .hbm, ⟨22, _⟩ => ⟨S1x16384x4096, .f32⟩
  | .hbm, ⟨23, _⟩ => ⟨S1x16384x4096, .f32⟩
  | .hbm, ⟨24, _⟩ => ⟨S16384x4096, .f32⟩
  | .hbm, ⟨25, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Zs.lean ====
abbrev S16384x2048 : Shape := ⟨2, ![16384, 2048]⟩
abbrev S1x2048x11296 : Shape := ⟨3, ![1, 2048, 11296]⟩
abbrev S1x11296x2048 : Shape := ⟨3, ![1, 11296, 2048]⟩
abbrev S_ : Shape := ⟨0, ![]⟩
abbrev S1x2048 : Shape := ⟨2, ![1, 2048]⟩
abbrev S1024x2048 : Shape := ⟨2, ![1024, 2048]⟩
abbrev S1x1024x2048 : Shape := ⟨3, ![1, 1024, 2048]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S1x2048x11296, .f32⟩
  | .hbm, ⟨2, _⟩ => ⟨S1x11296x2048, .f32⟩
  | .hbm, ⟨3, _⟩ => ⟨S_, .f32⟩
  | .hbm, ⟨4, _⟩ => ⟨S1x2048, .f32⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c0_i32 : BitVec 32 := 0#32
  let c1024_i32 : BitVec 32 := 1024#32
  let arg0 : BitVec 32 := BitVec.ofNat 32 (i 0).val
  let v0 : BitVec 32 := Scalar.muli c1024_i32 arg0
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ZsRefIdeal.lean ====
abbrev S16384x2048 : Shape := ⟨2, ![16384, 2048]⟩
abbrev S1x2048x11296 : Shape := ⟨3, ![1, 2048, 11296]⟩
abbrev S1x16384x2048 : Shape := ⟨3, ![1, 16384, 2048]⟩
abbrev S2048x11296 : Shape := ⟨2, ![2048, 11296]⟩
abbrev S1x16384x11296 : Shape := ⟨3, ![1, 16384, 11296]⟩
abbrev S1x16384x4096 : Shape := ⟨3, ![1, 16384, 4096]⟩
abbrev S1x16384x32 : Shape := ⟨3, ![1, 16384, 32]⟩
abbrev S1x16384x1024 : Shape := ⟨3, ![1, 16384, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11296, .f32⟩
  | .hbm, ⟨2, _⟩ => ⟨S16384x2048, .f32⟩
  | .hbm, ⟨3, _⟩ => ⟨S1x16384x2048, .f32⟩
  | .hbm, ⟨4, _⟩ => ⟨S2048x11296, .f32⟩
  | .hbm, ⟨5, _⟩ => ⟨S1x16384x11296, .f32⟩
  | .hbm, ⟨6, _⟩ => ⟨S1x16384x2048, .f32⟩
  | .hbm, ⟨7, _⟩ => ⟨S1x16384x4096, .f32⟩
  | .hbm, ⟨8, _⟩ => ⟨S1x16384x32, .f32⟩
  | .hbm, ⟨9, _⟩ => ⟨S1x16384x1024, .f32⟩
  | .hbm, ⟨10, _⟩ => ⟨S1x16384x4096, .f32⟩
  | .hbm, ⟨11, _⟩ => ⟨S1x16384x2048, .f32⟩
  | .hbm, ⟨12, _⟩ => ⟨S1x16384x2048, .f32⟩
  | .hbm, ⟨13, _⟩ => ⟨S_, .f32⟩
  | .hbm, ⟨14, _⟩ => ⟨S1x16384x2048, .f32⟩
  | .hbm, ⟨15, _⟩ => ⟨S1x16384x2048, .f32⟩
  | .hbm, ⟨16, _⟩ => ⟨S_, .f32⟩
  | .hbm, ⟨17, _⟩ => ⟨S1x16384x2048, .f32⟩
  | .hbm, ⟨18, _⟩ => ⟨S1x16384x2048, .f32⟩
  | .hbm, ⟨19, _⟩ => ⟨S1x16384x2048, .f32⟩
  | .hbm, ⟨20, _⟩ => ⟨S16384x2048, .f32⟩
  | .hbm, ⟨21, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Gated.lean ====
abbrev S16384x2048 : Shape := ⟨2, ![16384, 2048]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048, .f32⟩
  | .hbm, ⟨3, _⟩ => ⟨S1x2048x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatedRefIdeal.lean ====
abbrev S16384x2048 : Shape := ⟨2, ![16384, 2048]⟩
abbrev S1x2048 : Shape := ⟨2, ![1, 2048]⟩
abbrev S1x2048x2048 : Shape := ⟨3, ![1, 2048, 2048]⟩
abbrev S1x16384x2048 : Shape := ⟨3, ![1, 16384, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x2048 : Shape := ⟨2, ![2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048, .f32⟩
  | .hbm, ⟨3, _⟩ => ⟨S1x2048x2048, .f32⟩
  | .hbm, ⟨4, _⟩ => ⟨S16384x2048, .f32⟩
  | .hbm, ⟨5, _⟩ => ⟨S1x16384x2048, .f32⟩
  | .hbm, ⟨6, _⟩ => ⟨S16384x2048, .f32⟩
  | .hbm, ⟨7, _⟩ => ⟨S1x16384x2048, .f32⟩
  | .hbm, ⟨8, _⟩ => ⟨S1x16384x2048, .f32⟩
  | .hbm, ⟨9, _⟩ => ⟨S2048, .f32⟩
  | .hbm, ⟨10, _⟩ => ⟨S1x16384x2048, .f32⟩
  | .hbm, ⟨11, _⟩ => ⟨S_, .f32⟩
  | .hbm, ⟨12, _⟩ => ⟨S1x16384, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S_, .f32⟩
  | .hbm, ⟨18, _⟩ => ⟨S1x16384x1, .f32⟩
  | .hbm, ⟨19, _⟩ => ⟨S1x16384x1, .f32⟩
  | .hbm, ⟨20, _⟩ => ⟨S1x16384x1, .f32⟩
  | .hbm, ⟨21, _⟩ => ⟨S1x16384x2048, .f32⟩
  | .hbm, ⟨22, _⟩ => ⟨S1x16384x2048, .f32⟩
  | .hbm, ⟨23, _⟩ => ⟨S1x1x2048, .f32⟩
  | .hbm, ⟨24, _⟩ => ⟨S1x16384x2048, .f32⟩
  | .hbm, ⟨25, _⟩ => ⟨S1x16384x2048, .f32⟩
  | .hbm, ⟨26, _⟩ => ⟨S2048x2048, .f32⟩
  | .hbm, ⟨27, _⟩ => ⟨S1x16384x2048, .f32⟩
  | .hbm, ⟨28, _⟩ => ⟨S16384x2048, .f32⟩
  | .hbm, ⟨29, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Glu.lean ====
abbrev S16x1024x1024 : Shape := ⟨3, ![16, 1024, 1024]⟩
abbrev S1x1024x1024 : Shape := ⟨3, ![1, 1024, 1024]⟩
abbrev S1x1024x2048 : Shape := ⟨3, ![1, 1024, 2048]⟩
abbrev S1024x1024 : Shape := ⟨2, ![1024, 1024]⟩
abbrev S1024x2048 : Shape := ⟨2, ![1024, 2048]⟩
abbrev S16384x2048 : Shape := ⟨2, ![16384, 2048]⟩
abbrev S16x32x1024 : Shape := ⟨3, ![16, 32, 1024]⟩
abbrev S512x2048 : Shape := ⟨2, ![512, 2048]⟩
abbrev S256x256 : Shape := ⟨2, ![256, 256]⟩
abbrev S1x16x1024 : Shape := ⟨3, ![1, 16, 1024]⟩
abbrev S16x1024 : Shape := ⟨2, ![16, 1024]⟩
abbrev S256x1024 : Shape := ⟨2, ![256, 1024]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16x1024x1024, .bf16⟩
  | .hbm, ⟨1, _⟩ => ⟨S1x1024x1024, .f32⟩
  | .hbm, ⟨2, _⟩ => ⟨S1x1024x2048, .f32⟩
  | .hbm, ⟨3, _⟩ => ⟨S1024x1024, .f32⟩
  | .hbm, ⟨4, _⟩ => ⟨S1024x1024, .bf16⟩
  | .hbm, ⟨5, _⟩ => ⟨S1024x2048, .f32⟩
  | .hbm, ⟨6, _⟩ => ⟨S1024x2048, .bf16⟩
  | .hbm, ⟨7, _⟩ => ⟨S16384x2048, .bf16⟩
  | .local _ .vmem, ⟨0, _⟩ => ⟨S16x32x1024, .bf16⟩
  | .local _ .vmem, ⟨1, _⟩ => ⟨S16x32x1024, .bf16⟩
  | .local _ .vmem, ⟨2, _⟩ => ⟨S1024x1024, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | _, _ => ⟨S16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluRefIdeal.lean ====
abbrev S16x1024x1024 : Shape := ⟨3, ![16, 1024, 1024]⟩
abbrev S1x1024x1024 : Shape := ⟨3, ![1, 1024, 1024]⟩
abbrev S1x1024x2048 : Shape := ⟨3, ![1, 1024, 2048]⟩
abbrev S1024x16x1024 : Shape := ⟨3, ![1024, 16, 1024]⟩
abbrev S1x16384x1024 : Shape := ⟨3, ![1, 16384, 1024]⟩
abbrev S_ : Shape := ⟨0, ![]⟩
abbrev S1024x1024 : Shape := ⟨2, ![1024, 1024]⟩
abbrev S1024x2048 : Shape := ⟨2, ![1024, 2048]⟩
abbrev S1x16384x2048 : Shape := ⟨3, ![1, 16384, 2048]⟩
abbrev S16384x2048 : Shape := ⟨2, ![16384, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S1x1024x1024, .f32⟩
  | .hbm, ⟨2, _⟩ => ⟨S1x1024x2048, .f32⟩
  | .hbm, ⟨3, _⟩ => ⟨S16x1024x1024, .f32⟩
  | .hbm, ⟨4, _⟩ => ⟨S1024x16x1024, .f32⟩
  | .hbm, ⟨5, _⟩ => ⟨S1x16384x1024, .f32⟩
  | .hbm, ⟨6, _⟩ => ⟨S1x16384x1024, .f32⟩
  | .hbm, ⟨7, _⟩ => ⟨S1x16384x1024, .f32⟩
  | .hbm, ⟨8, _⟩ => ⟨S_, .f32⟩
  | .hbm, ⟨9, _⟩ => ⟨S1x16384x1024, .f32⟩
  | .hbm, ⟨10, _⟩ => ⟨S1x16384x1024, .f32⟩
  | .hbm, ⟨11, _⟩ => ⟨S1x16384x1024, .f32⟩
  | .hbm, ⟨12, _⟩ => ⟨S_, .f32⟩
  | .hbm, ⟨13, _⟩ => ⟨S1x16384x1024, .f32⟩
  | .hbm, ⟨14, _⟩ => ⟨S1x16384x1024, .f32⟩
  | .hbm, ⟨15, _⟩ => ⟨S1x16384x1024, .f32⟩
  | .hbm, ⟨16, _⟩ => ⟨S_, .f32⟩
  | .hbm, ⟨17, _⟩ => ⟨S1x16384x1024, .f32⟩
  | .hbm, ⟨18, _⟩ => ⟨S1x16384x1024, .f32⟩
  | .hbm, ⟨19, _⟩ => ⟨S_, .f32⟩
  | .hbm, ⟨20, _⟩ => ⟨S1x16384x1024, .f32⟩
  | .hbm, ⟨21, _⟩ => ⟨S1x16384x1024, .f32⟩
  | .hbm, ⟨22, _⟩ => ⟨S1x16384x1024, .f32⟩
  | .hbm, ⟨23, _⟩ => ⟨S1024x1024, .f32⟩
  | .hbm, ⟨24, _⟩ => ⟨S1x16384x1024, .f32⟩
  | .hbm, ⟨25, _⟩ => ⟨S1x16384x1024, .f32⟩
  | .hbm, ⟨26, _⟩ => ⟨S1x16384x1024, .f32⟩
  | .hbm, ⟨27, _⟩ => ⟨S_, .f32⟩
  | .hbm, ⟨28, _⟩ => ⟨S1x16384x1024, .f32⟩
  | .hbm, ⟨29, _⟩ => ⟨S1x16384x1024, .f32⟩
  | .hbm, ⟨30, _⟩ => ⟨S_, .f32⟩
  | .hbm, ⟨31, _⟩ => ⟨S1x16384x1024, .f32⟩
  | .hbm, ⟨32, _⟩ => ⟨S1x16384x1024, .f32⟩
  | .hbm, ⟨33, _⟩ => ⟨S1x16384x1024, .f32⟩
  | .hbm, ⟨34, _⟩ => ⟨S1024x2048, .f32⟩
  | .hbm, ⟨35, _⟩ => ⟨S1x16384x2048, .f32⟩
  | .hbm, ⟨36, _⟩ => ⟨S16384x2048, .f32⟩
  | .hbm, ⟨37, _⟩ => ⟨S16384x2048, .bf16⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Ssd.lean ====
abbrev S16384x4096 : Shape := ⟨2, ![16384, 4096]⟩
abbrev S16384x32 : Shape := ⟨2, ![16384, 32]⟩
abbrev S1x32 : Shape := ⟨2, ![1, 32]⟩
abbrev S_ : Shape := ⟨0, ![]⟩
abbrev S16384x128 : Shape := ⟨2, ![16384, 128]⟩
abbrev S32x16384 : Shape := ⟨2, ![32, 16384]⟩
abbrev S32 : Shape := ⟨1, ![32]⟩
abbrev S1x128 : Shape := ⟨2, ![1, 128]⟩
abbrev S1 : Shape := ⟨1, ![1]⟩
abbrev S2 : Shape := ⟨1, ![2]⟩
abbrev S32x1 : Shape := ⟨2, ![32, 1]⟩
abbrev S32x64 : Shape := ⟨2, ![32, 64]⟩
abbrev S2048 : Shape := ⟨1, ![2048]⟩
abbrev S1x2048 : Shape := ⟨2, ![1, 2048]⟩
abbrev S16384x2048 : Shape := ⟨2, ![16384, 2048]⟩
abbrev S128x4096 : Shape := ⟨2, ![128, 4096]⟩
abbrev S128x128 : Shape := ⟨2, ![128, 128]⟩
abbrev S32x128 : Shape := ⟨2, ![32, 128]⟩
abbrev S128x2048 : Shape := ⟨2, ![128, 2048]⟩
abbrev S8x128x256 : Shape := ⟨3, ![8, 128, 256]⟩
abbrev S1x256 : Shape := ⟨2, ![1, 256]⟩
abbrev S128x1 : Shape := ⟨2, ![128, 1]⟩
abbrev S1x1 : Shape := ⟨2, ![1, 1]⟩
abbrev S128x256 : Shape := ⟨2, ![128, 256]⟩
abbrev S1x128x256 : Shape := ⟨3, ![1, 128, 256]⟩
abbrev S256x256 : Shape := ⟨2, ![256, 256]⟩
abbrev S256x128 : Shape := ⟨2, ![256, 128]⟩

abbrev nBuf : Space → Nat
  | .hbm => 23
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x32, .f32⟩
  | .hbm, ⟨2, _⟩ => ⟨S1x32, .f32⟩
  | .hbm, ⟨3, _⟩ => ⟨S1x32, .f32⟩
  | .hbm, ⟨4, _⟩ => ⟨S_, .i32⟩
  | .hbm, ⟨5, _⟩ => ⟨S_, .f32⟩
  | .hbm, ⟨6, _⟩ => ⟨S16384x128, .f32⟩
  | .hbm, ⟨7, _⟩ => ⟨S32x16384, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S1x128, .f32⟩
  | .hbm, ⟨18, _⟩ => ⟨S32x1, .f32⟩
  | .hbm, ⟨19, _⟩ => ⟨S32x64, .f32⟩
  | .hbm, ⟨20, _⟩ => ⟨S2048, .f32⟩
  | .hbm, ⟨21, _⟩ => ⟨S1x2048, .f32⟩
  | .hbm, ⟨22, _⟩ => ⟨S16384x2048, .bf16⟩
  | .local _ .vmem, ⟨0, _⟩ => ⟨S128x4096, .bf16⟩
  | .local _ .vmem, ⟨1, _⟩ => ⟨S128x4096, .bf16⟩
  | .local _ .vmem, ⟨2, _⟩ => ⟨S128x128, .f32⟩
  | .local _ .vmem, ⟨3, _⟩ => ⟨S128x128, .f32⟩
  | .local _ .vmem, ⟨4, _⟩ => ⟨S32x128, .f32⟩
  | .local _ .vmem, ⟨5, _⟩ => ⟨S32x128, .f32⟩
  | .local _ .vmem, ⟨6, _⟩ => ⟨S1x128, .f32⟩
  | .local _ .vmem, ⟨7, _⟩ => ⟨S32x1, .f32⟩
  | .local _ .vmem, ⟨8, _⟩ => ⟨S1x2048, .f32⟩
  | .local _ .vmem, ⟨9, _⟩ => ⟨S128x2048, .bf16⟩
  | .local _ .vmem, ⟨10, _⟩ => ⟨S128x2048, .bf16⟩
  | .local _ .vmem, ⟨11, _⟩ => ⟨S8x128x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SsdIdeal.lean ====
variable {F : FTy → Type} [FloatOps F] [Named F]
def κ : String → Option EReal := fun
  | "mask" => some ⊥
  | _ => none
-- ==== SsdRefIdeal.lean ====
abbrev S16384x4096 : Shape := ⟨2, ![16384, 4096]⟩
abbrev S16384x32 : Shape := ⟨2, ![16384, 32]⟩
abbrev S1x32 : Shape := ⟨2, ![1, 32]⟩
abbrev S16384x2048 : Shape := ⟨2, ![16384, 2048]⟩
abbrev S16384x32x64 : Shape := ⟨3, ![16384, 32, 64]⟩
abbrev S16384x1024 : Shape := ⟨2, ![16384, 1024]⟩
abbrev S256x64x8x128 : Shape := ⟨4, ![256, 64, 8, 128]⟩
abbrev S32 : Shape := ⟨1, ![32]⟩
abbrev S256x64x8x4 : Shape := ⟨4, ![256, 64, 8, 4]⟩
abbrev S8x4x256x64 : Shape := ⟨4, ![8, 4, 256, 64]⟩
abbrev S16384x32x1 : Shape := ⟨3, ![16384, 32, 1]⟩
abbrev S256x64x8x4x64 : Shape := ⟨5, ![256, 64, 8, 4, 64]⟩
abbrev S_ : Shape := ⟨0, ![]⟩
abbrev S64x64 : Shape := ⟨2, ![64, 64]⟩
abbrev S8x4x256x64x1 : Shape := ⟨5, ![8, 4, 256, 64, 1]⟩
abbrev S8x4x256x1x64 : Shape := ⟨5, ![8, 4, 256, 1, 64]⟩
abbrev S8x4x256x64x64 : Shape := ⟨5, ![8, 4, 256, 64, 64]⟩
abbrev S8x256x64x64 : Shape := ⟨4, ![8, 256, 64, 64]⟩
abbrev S8x1x256x64x64 : Shape := ⟨5, ![8, 1, 256, 64, 64]⟩
abbrev S256x8x4x64x64 : Shape := ⟨5, ![256, 8, 4, 64, 64]⟩
abbrev S8x4x256x1 : Shape := ⟨4, ![8, 4, 256, 1]⟩
abbrev S256x64x8x4x1 : Shape := ⟨5, ![256, 64, 8, 4, 1]⟩
abbrev S256x8x4x64x128 : Shape := ⟨5, ![256, 8, 4, 64, 128]⟩
abbrev S8x4x256 : Shape := ⟨3, ![8, 4, 256]⟩
abbrev S256x8x4 : Shape := ⟨3, ![256, 8, 4]⟩
abbrev S256x64x8x1x128 : Shape := ⟨5, ![256, 64, 8, 1, 128]⟩
abbrev S256x64x8x4x128 : Shape := ⟨5, ![256, 64, 8, 4, 128]⟩
abbrev S32x1 : Shape := ⟨2, ![32, 1]⟩
abbrev S1x32x1 : Shape := ⟨3, ![1, 32, 1]⟩
abbrev S8x4x64x128 : Shape := ⟨4, ![8, 4, 64, 128]⟩
abbrev S1x8x4x64x128 : Shape := ⟨5, ![1, 8, 4, 64, 128]⟩
abbrev S1x8x4 : Shape := ⟨3, ![1, 8, 4]⟩
abbrev S8x4 : Shape := ⟨2, ![8, 4]⟩
abbrev S1x64x8x4x128 : Shape := ⟨5, ![1, 64, 8, 4, 128]⟩
abbrev S64x8x4x128 : Shape := ⟨4, ![64, 8, 4, 128]⟩
abbrev S1x64x8x4x64 : Shape := ⟨5, ![1, 64, 8, 4, 64]⟩
abbrev S64x8x4x64 : Shape := ⟨4, ![64, 8, 4, 64]⟩
abbrev S8x4x64x64 : Shape := ⟨4, ![8, 4, 64, 64]⟩
abbrev S8x4x1x1 : Shape := ⟨4, ![8, 4, 1, 1]⟩

abbrev nBuf : Space → Nat
  | .hbm => 139
  | .vmem => 0
  | .smem => 0
  | _ => 0

abbrev hbmTy0_0 (i : Nat) : BufTy := match i % 128 with
  | 0 => ⟨S16384x4096, .bf16⟩
  | 1 => ⟨S16384x32, .f32⟩
  | 2 => ⟨S1x32, .f32⟩
  | 3 => ⟨S1x32, .f32⟩
  | 4 => ⟨S16384x4096, .f32⟩
  | 5 => ⟨S16384x2048, .f32⟩
  | 6 => ⟨S16384x32x64, .f32⟩
  | 7 => ⟨S16384x1024, .f32⟩
  | 8 => ⟨S256x64x8x128, .f32⟩
  | 9 => ⟨S16384x1024, .f32⟩
  | 10 => ⟨S256x64x8x128, .f32⟩
  | 11 => ⟨S32, .f32⟩
  | 12 => ⟨S32, .f32⟩
  | 13 => ⟨S32, .f32⟩
  | 14 => ⟨S1x32, .f32⟩
  | 15 => ⟨S16384x32, .f32⟩
  | 16 => ⟨S16384x32, .f32⟩
  | 17 => ⟨S256x64x8x4, .f32⟩
  | 18 => ⟨S8x4x256x64, .f32⟩
  | 19 => ⟨S16384x32x1, .f32⟩
  | 20 => ⟨S16384x32x64, .f32⟩
  | 21 => ⟨S16384x32x64, .f32⟩
  | 22 => ⟨S256x64x8x4x64, .f32⟩
  | 23 => ⟨S_, .f32⟩
  | 24 => ⟨S_, .f32⟩
  | 25 => ⟨S8x4x256x64, .f32⟩
  | 26 => ⟨S_, .i1⟩
  | 27 => ⟨S64x64, .i1⟩
  | 28 => ⟨S64x64, .i32⟩
  | 29 => ⟨S_, .i32⟩
  | 30 => ⟨S64x64, .i32⟩
  | 31 => ⟨S64x64, .i32⟩
  | 32 => ⟨S64x64, .i32⟩
  | 33 => ⟨S64x64, .i1⟩
  | 34 => ⟨S_, .i1⟩
  | 35 => ⟨S64x64, .i1⟩
  | 36 => ⟨S64x64, .i1⟩
  | 37 => ⟨S8x4x256x64x1, .f32⟩
  | 38 => ⟨S8x4x256x1x64, .f32⟩
  | 39 => ⟨S8x4x256x64x64, .f32⟩
  | 40 => ⟨S8x4x256x64x64, .f32⟩
  | 41 => ⟨S8x4x256x64x64, .f32⟩
  | 42 => ⟨S_, .f32⟩
  | 43 => ⟨S_, .f32⟩
  | 44 => ⟨S8x4x256x64x64, .i1⟩
  | 45 => ⟨S8x4x256x64x64, .f32⟩
  | 46 => ⟨S8x4x256x64x64, .f32⟩
  | 47 => ⟨S8x4x256x64x64, .f32⟩
  | 48 => ⟨S_, .f32⟩
  | 49 => ⟨S_, .f32⟩
  | 50 => ⟨S8x4x256x64x64, .i1⟩
  | 51 => ⟨S8x4x256x64x64, .f32⟩
  | 52 => ⟨S8x4x256x64x64, .f32⟩
  | 53 => ⟨S8x256x64x64, .f32⟩
  | 54 => ⟨S8x1x256x64x64, .f32⟩
  | 55 => ⟨S8x4x256x64x64, .f32⟩
  | 56 => ⟨S8x4x256x64x64, .f32⟩
  | 57 => ⟨S256x8x4x64x64, .f32⟩
  | 58 => ⟨S256x64x8x4x64, .f32⟩
  | 59 => ⟨S8x4x256x1, .f32⟩
  | 60 => ⟨S8x4x256x64, .f32⟩
  | 61 => ⟨S8x4x256x64, .f32⟩
  | 62 => ⟨S8x4x256x64, .f32⟩
  | 63 => ⟨S256x64x8x4, .f32⟩
  | 64 => ⟨S256x64x8x4x1, .f32⟩
  | 65 => ⟨S256x64x8x4x64, .f32⟩
  | 66 => ⟨S256x64x8x4x64, .f32⟩
  | 67 => ⟨S256x8x4x64x128, .f32⟩
  | 68 => ⟨S8x4x256x1, .f32⟩
  | 69 => ⟨S8x4x256, .f32⟩
  | 70 => ⟨S8x4x256, .f32⟩
  | 71 => ⟨S256x8x4, .f32⟩
  | 72 => ⟨S256x64x8x1x128, .f32⟩
  | 73 => ⟨S8x4x256x64, .f32⟩
  | 74 => ⟨S256x64x8x4, .f32⟩
  | 75 => ⟨S256x64x8x4x1, .f32⟩
  | 76 => ⟨S256x64x8x4x128, .f32⟩
  | 77 => ⟨S256x64x8x4x128, .f32⟩
  | 78 => ⟨S256x64x8x4x128, .f32⟩
  | 79 => ⟨S32, .f32⟩
  | 80 => ⟨S32x1, .f32⟩
  | 81 => ⟨S1x32x1, .f32⟩
  | 82 => ⟨S16384x32x64, .f32⟩
  | 83 => ⟨S16384x32x64, .f32⟩
  | 84 => ⟨S256x64x8x4x64, .f32⟩
  | 85 => ⟨S256x64x8x4x64, .f32⟩
  | 86 => ⟨S_, .f32⟩
  | 87 => ⟨S8x4x64x128, .f32⟩
  | 88 => ⟨S_, .f32⟩
  | 89 => ⟨S256x64x8x4x64, .f32⟩
  | 90 => ⟨S_, .i32⟩
  | 91 => ⟨S256x8x4x64x128, .f32⟩
  | 92 => ⟨S256x8x4, .f32⟩
  | 93 => ⟨S256x64x8x4x128, .f32⟩
  | 94 => ⟨S256x64x8x4x64, .f32⟩
  | 95 => ⟨S_, .i32⟩
  | 96 => ⟨S8x4x64x128, .f32⟩
  | 97 => ⟨S256x64x8x4x64, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S1x8x4x64x128, .f32⟩
  | 105 => ⟨S8x4x64x128, .f32⟩
  | 106 => ⟨S_, .i32⟩
  | 107 => ⟨S_, .i32⟩
  | 108 => ⟨S1x8x4, .f32⟩
  | 109 => ⟨S8x4, .f32⟩
  | 110 => ⟨S_, .i32⟩
  | 111 => ⟨S_, .i32⟩
  | 112 => ⟨S_, .i32⟩
  | 113 => ⟨S_, .i32⟩
  | 114 => ⟨S1x64x8x4x128, .f32⟩
  | 115 => ⟨S64x8x4x128, .f32⟩
  | 116 => ⟨S_, .i32⟩
  | 117 => ⟨S_, .i32⟩
  | 118 => ⟨S_, .i32⟩
  | 119 => ⟨S_, .i32⟩
  | 120 => ⟨S1x64x8x4x64, .f32⟩
  | 121 => ⟨S64x8x4x64, .f32⟩
  | 122 => ⟨S8x4x64x64, .f32⟩
  | 123 => ⟨S64x8x4x64, .f32⟩
  | 124 => ⟨S64x8x4x64, .f32⟩
  | 125 => ⟨S8x4x1x1, .f32⟩
  | 126 => ⟨S8x4x64x128, .f32⟩
  | 127 => ⟨S8x4x64x128, .f32⟩
  | _ => ⟨S16384x4096, .bf16⟩

abbrev hbmTy0_1 (i : Nat) : BufTy := match i % 128 with
  | 0 => ⟨S8x4x64x128, .f32⟩
  | 1 => ⟨S1x64x8x4x64, .f32⟩
  | 2 => ⟨S_, .i32⟩
  | 3 => ⟨S_, .i32⟩
  | 4 => ⟨S_, .i32⟩
  | 5 => ⟨S_, .i32⟩
  | 6 => ⟨S256x64x8x4x64, .f32⟩
  | 7 => ⟨S_, .i32⟩
  | 8 => ⟨S_, .i32⟩
  | 9 => ⟨S16384x2048, .f32⟩
  | 10 => ⟨S16384x2048, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_call0_cst : Ref sig .tc := ⟨.hbm, 23, rfl⟩
abbrev main_call0_call0_v0 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_0 : Ref sig .tc := ⟨.hbm, 34, rfl⟩
abbrev main_call1_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v27 : Ref sig .tc := ⟨.hbm, 46, rfl⟩
abbrev main_v28 : Ref sig .tc := ⟨.hbm, 47, rfl⟩
abbrev main_cst_0 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_1 : Ref sig .tc := ⟨.hbm, 86, rfl⟩
abbrev main_v63 : Ref sig .tc := ⟨.hbm, 87, rfl⟩
abbrev main_cst_2 : Ref sig .tc := ⟨.hbm, 88, rfl⟩
abbrev main_v64 : Ref sig .tc := ⟨.hbm, 89, rfl⟩
abbrev main_c_3 : Ref sig .tc := ⟨.hbm, 90, rfl⟩
abbrev main_v65_0 : Ref sig .tc := ⟨.hbm, 91, rfl⟩
abbrev main_v65_1 : Ref sig .tc := ⟨.hbm, 92, rfl⟩
abbrev main_v65_2 : Ref sig .tc := ⟨.hbm, 93, rfl⟩
abbrev main_v65_3 : Ref sig .tc := ⟨.hbm, 94, rfl⟩
abbrev main_v65_4 : Ref sig .tc := ⟨.hbm, 95, rfl⟩
abbrev main_v65_5 : Ref sig .tc := ⟨.hbm, 96, rfl⟩
abbrev main_v65_6 : Ref sig .tc := ⟨.hbm, 97, rfl⟩
abbrev main_while0c_c_10 : Ref sig .tc := ⟨.hbm, 98, rfl⟩
abbrev main_while0c_v68 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_c_1 : Ref sig .tc := ⟨.hbm, 102, rfl⟩
abbrev main_while0b_call4_c_2 : Ref sig .tc := ⟨.hbm, 103, rfl⟩
abbrev main_while0b_call4_v0 : Ref sig .tc := ⟨.hbm, 104, rfl⟩
abbrev main_while0b_v68 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_v0 : Ref sig .tc := ⟨.hbm, 108, rfl⟩
abbrev main_while0b_v69 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_call6_v0 : Ref sig .tc := ⟨.hbm, 114, rfl⟩
abbrev main_while0b_v70 : Ref sig .tc := ⟨.hbm, 115, rfl⟩
abbrev main_while0b_call7_c : Ref sig .tc := ⟨.hbm, 116, rfl⟩
abbrev main_while0b_call7_c_0 : Ref sig .tc := ⟨.hbm, 117, rfl⟩
abbrev main_while0b_call7_c_1 : Ref sig .tc := ⟨.hbm, 118, rfl⟩
abbrev main_while0b_call7_c_2 : Ref sig .tc := ⟨.hbm, 119, rfl⟩
abbrev main_while0b_call7_v0 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_call8_v0 : Ref sig .tc := ⟨.hbm, 129, rfl⟩
abbrev main_while0b_call8_c : Ref sig .tc := ⟨.hbm, 130, rfl⟩
abbrev main_while0b_call8_c_0 : Ref sig .tc := ⟨.hbm, 131, rfl⟩
abbrev main_while0b_call8_c_1 : Ref sig .tc := ⟨.hbm, 132, rfl⟩
abbrev main_while0b_call8_c_2 : Ref sig .tc := ⟨.hbm, 133, rfl⟩
abbrev main_while0b_v79 : Ref sig .tc := ⟨.hbm, 134, rfl⟩
abbrev main_while0b_c_10 : Ref sig .tc := ⟨.hbm, 135, rfl⟩
abbrev main_while0b_v80 : Ref sig .tc := ⟨.hbm, 136, rfl⟩
abbrev main_v66 : Ref sig .tc := ⟨.hbm, 137, rfl⟩
abbrev main_v67 : Ref sig .tc := ⟨.hbm, 138, rfl⟩

abbrev nD : Nat := 1
abbrev τ : Topo := Topo.v7x

variable {F : FTy → Type} [FloatOps F]

abbrev main_while0_count : Scf.Loop 32 := ⟨0#32, 256#32, 1#32⟩
-- ==== U.lean ====
abbrev S16384x2048 : Shape := ⟨2, ![16384, 2048]⟩
abbrev S1x2048x11296 : Shape := ⟨3, ![1, 2048, 11296]⟩
abbrev S1x11296x2048 : Shape := ⟨3, ![1, 11296, 2048]⟩
abbrev S16x1024x1024 : Shape := ⟨3, ![16, 1024, 1024]⟩
abbrev S512x2048 : Shape := ⟨2, ![512, 2048]⟩
abbrev S1x1024x2048 : Shape := ⟨3, ![1, 1024, 2048]⟩
abbrev S16x32x1024 : Shape := ⟨3, ![16, 32, 1024]⟩
abbrev S2048x1024 : Shape := ⟨2, ![2048, 1024]⟩
abbrev S1024x2048 : Shape := ⟨2, ![1024, 2048]⟩
abbrev S512x1024 : Shape := ⟨2, ![512, 1024]⟩
abbrev S256x256 : Shape := ⟨2, ![256, 256]⟩
abbrev S256x1024 : Shape := ⟨2, ![256, 1024]⟩
abbrev S16x1024 : Shape := ⟨2, ![16, 1024]⟩
abbrev S1x16x1024 : Shape := ⟨3, ![1, 16, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x11296, .f32⟩
  | .hbm, ⟨2, _⟩ => ⟨S1x11296x2048, .f32⟩
  | .hbm, ⟨3, _⟩ => ⟨S16x1024x1024, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .f32⟩
  | .local _ .vmem, ⟨3, _⟩ => ⟨S16x32x1024, .bf16⟩
  | .local _ .vmem, ⟨4, _⟩ => ⟨S16x32x1024, .bf16⟩
  | .local _ .vmem, ⟨5, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 : BitVec 32 :=
  let c6176_i32 : BitVec 32 := 6176#32
  c6176_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c6176_i32 : BitVec 32 := 6176#32
  let v0 : BitVec 32 := c6176_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== URefIdeal.lean ====
abbrev S16384x2048 : Shape := ⟨2, ![16384, 2048]⟩
abbrev S1x2048x11296 : Shape := ⟨3, ![1, 2048, 11296]⟩
abbrev S1x16384x2048 : Shape := ⟨3, ![1, 16384, 2048]⟩
abbrev S2048x11296 : Shape := ⟨2, ![2048, 11296]⟩
abbrev S1x16384x11296 : Shape := ⟨3, ![1, 16384, 11296]⟩
abbrev S1x16384x4096 : Shape := ⟨3, ![1, 16384, 4096]⟩
abbrev S1x16384x32 : Shape := ⟨3, ![1, 16384, 32]⟩
abbrev S1x16384x1024 : Shape := ⟨3, ![1, 16384, 1024]⟩
abbrev S16384x1024 : Shape := ⟨2, ![16384, 1024]⟩
abbrev S1024x16x1024 : Shape := ⟨3, ![1024, 16, 1024]⟩
abbrev S16x1024x1024 : Shape := ⟨3, ![16, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11296, .f32⟩
  | .hbm, ⟨2, _⟩ => ⟨S16384x2048, .f32⟩
  | .hbm, ⟨3, _⟩ => ⟨S1x16384x2048, .f32⟩
  | .hbm, ⟨4, _⟩ => ⟨S2048x11296, .f32⟩
  | .hbm, ⟨5, _⟩ => ⟨S1x16384x11296, .f32⟩
  | .hbm, ⟨6, _⟩ => ⟨S1x16384x2048, .f32⟩
  | .hbm, ⟨7, _⟩ => ⟨S1x16384x4096, .f32⟩
  | .hbm, ⟨8, _⟩ => ⟨S1x16384x32, .f32⟩
  | .hbm, ⟨9, _⟩ => ⟨S1x16384x1024, .f32⟩
  | .hbm, ⟨10, _⟩ => ⟨S1x16384x4096, .f32⟩
  | .hbm, ⟨11, _⟩ => ⟨S16384x1024, .f32⟩
  | .hbm, ⟨12, _⟩ => ⟨S16384x1024, .bf16⟩
  | .hbm, ⟨13, _⟩ => ⟨S1024x16x1024, .bf16⟩
  | .hbm, ⟨14, _⟩ => ⟨S16x1024x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Merge.lean ====
abbrev S16384x4096 : Shape := ⟨2, ![16384, 4096]⟩
abbrev S16384x2048 : Shape := ⟨2, ![16384, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S_ : Shape := ⟨0, ![]⟩
abbrev S2048x128 : Shape := ⟨2, ![2048, 128]⟩
abbrev S2048x4 : Shape := ⟨2, ![2048, 4]⟩
abbrev S1 : Shape := ⟨1, ![1]⟩
abbrev S2048x32 : Shape := ⟨2, ![2048, 32]⟩
abbrev S1x128 : Shape := ⟨2, ![1, 128]⟩
abbrev S4 : Shape := ⟨1, ![4]⟩
abbrev S2 : Shape := ⟨1, ![2]⟩
abbrev S32 : Shape := ⟨1, ![32]⟩
abbrev S2048x2048 : Shape := ⟨2, ![2048, 2048]⟩
abbrev S2048 : Shape := ⟨1, ![2048]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 44
  | .vmem => 20
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S1x2048x2048, .f32⟩
  | .hbm, ⟨5, _⟩ => ⟨S1x2048, .f32⟩
  | .hbm, ⟨6, _⟩ => ⟨S1x2048x4, .f32⟩
  | .hbm, ⟨7, _⟩ => ⟨S1x4, .f32⟩
  | .hbm, ⟨8, _⟩ => ⟨S1x2048x32, .f32⟩
  | .hbm, ⟨9, _⟩ => ⟨S1x32, .f32⟩
  | .hbm, ⟨10, _⟩ => ⟨S_, .f32⟩
  | .hbm, ⟨11, _⟩ => ⟨S2048x128, .f32⟩
  | .hbm, ⟨12, _⟩ => ⟨S2048x4, .f32⟩
  | .hbm, ⟨13, _⟩ => ⟨S_, .i32⟩
  | .hbm, ⟨14, _⟩ => ⟨S1, .i32⟩
  | .hbm, ⟨15, _⟩ => ⟨S2048x128, .f32⟩
  | .hbm, ⟨16, _⟩ => ⟨S2048x32, .f32⟩
  | .hbm, ⟨17, _⟩ => ⟨S_, .i32⟩
  | .hbm, ⟨18, _⟩ => ⟨S1, .i32⟩
  | .hbm, ⟨19, _⟩ => ⟨S2048x128, .f32⟩
  | .hbm, ⟨20, _⟩ => ⟨S_, .f32⟩
  | .hbm, ⟨21, _⟩ => ⟨S1x128, .f32⟩
  | .hbm, ⟨22, _⟩ => ⟨S4, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S32, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S2048x2048, .f32⟩
  | .hbm, ⟨37, _⟩ => ⟨S2048x2048, .bf16⟩
  | .hbm, ⟨38, _⟩ => ⟨S2048, .f32⟩
  | .hbm, ⟨39, _⟩ => ⟨S2048x128, .bf16⟩
  | .hbm, ⟨40, _⟩ => ⟨S1x2048, .f32⟩
  | .hbm, ⟨41, _⟩ => ⟨S16384x2048, .f32⟩
  | .hbm, ⟨42, _⟩ => ⟨S16384x2048, .bf16⟩
  | .hbm, ⟨43, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S1x2048, .f32⟩
  | .local _ .vmem, ⟨12, _⟩ => ⟨S2048x128, .bf16⟩
  | .local _ .vmem, ⟨13, _⟩ => ⟨S1x128, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S512x128, .f32⟩
  | .local _ .vmem, ⟨19, _⟩ => ⟨S512x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16384x4096 : Shape := ⟨2, ![16384, 4096]⟩
abbrev S16384x2048 : Shape := ⟨2, ![16384, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S1x2048x2048, .f32⟩
  | .hbm, ⟨5, _⟩ => ⟨S1x2048, .f32⟩
  | .hbm, ⟨6, _⟩ => ⟨S1x2048x4, .f32⟩
  | .hbm, ⟨7, _⟩ => ⟨S1x4, .f32⟩
  | .hbm, ⟨8, _⟩ => ⟨S1x2048x32, .f32⟩
  | .hbm, ⟨9, _⟩ => ⟨S1x32, .f32⟩
  | .hbm, ⟨10, _⟩ => ⟨S16384x4096, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x2048, .f32⟩
  | .hbm, ⟨19, _⟩ => ⟨S16384x2048, .f32⟩
  | .hbm, ⟨20, _⟩ => ⟨S16384x2048, .f32⟩
  | .hbm, ⟨21, _⟩ => ⟨S2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Dt.lean ====
abbrev S1x16384x2048 : Shape := ⟨3, ![1, 16384, 2048]⟩
abbrev S1x2048 : Shape := ⟨2, ![1, 2048]⟩
abbrev S1x2048x11296 : Shape := ⟨3, ![1, 2048, 11296]⟩
abbrev S1x32 : Shape := ⟨2, ![1, 32]⟩
abbrev S1x11296x2048 : Shape := ⟨3, ![1, 11296, 2048]⟩
abbrev S_ : Shape := ⟨0, ![]⟩
abbrev S1x128 : Shape := ⟨2, ![1, 128]⟩
abbrev S32 : Shape := ⟨1, ![32]⟩
abbrev S1 : Shape := ⟨1, ![1]⟩
abbrev S2 : Shape := ⟨1, ![2]⟩
abbrev S16384x2048 : Shape := ⟨2, ![16384, 2048]⟩
abbrev S2048 : Shape := ⟨1, ![2048]⟩
abbrev S16384x128 : Shape := ⟨2, ![16384, 128]⟩
abbrev S128x16384 : Shape := ⟨2, ![128, 16384]⟩
abbrev S512x2048 : Shape := ⟨2, ![512, 2048]⟩
abbrev S1x128x2048 : Shape := ⟨3, ![1, 128, 2048]⟩
abbrev S512x128 : Shape := ⟨2, ![512, 128]⟩
abbrev S128x512 : Shape := ⟨2, ![128, 512]⟩
abbrev S2048x128 : Shape := ⟨2, ![2048, 128]⟩
abbrev S128x2048 : Shape := ⟨2, ![128, 2048]⟩
abbrev S512 : Shape := ⟨1, ![512]⟩
abbrev S512x1 : Shape := ⟨2, ![512, 1]⟩
abbrev S16384x32 : Shape := ⟨2, ![16384, 32]⟩
abbrev S32x16384 : Shape := ⟨2, ![32, 16384]⟩

abbrev nBuf : Space → Nat
  | .hbm => 22
  | .vmem => 12
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x11296, .f32⟩
  | .hbm, ⟨3, _⟩ => ⟨S1x32, .f32⟩
  | .hbm, ⟨4, _⟩ => ⟨S1x11296x2048, .f32⟩
  | .hbm, ⟨5, _⟩ => ⟨S_, .f32⟩
  | .hbm, ⟨6, _⟩ => ⟨S1x128, .f32⟩
  | .hbm, ⟨7, _⟩ => ⟨S32, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S16384x2048, .f32⟩
  | .hbm, ⟨15, _⟩ => ⟨S2048, .f32⟩
  | .hbm, ⟨16, _⟩ => ⟨S1x2048, .f32⟩
  | .hbm, ⟨17, _⟩ => ⟨S16384x2048, .bf16⟩
  | .hbm, ⟨18, _⟩ => ⟨S16384x128, .f32⟩
  | .hbm, ⟨19, _⟩ => ⟨S128x16384, .f32⟩
  | .hbm, ⟨20, _⟩ => ⟨S16384x32, .f32⟩
  | .hbm, ⟨21, _⟩ => ⟨S32x16384, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x128x2048, .f32⟩
  | .local _ .vmem, ⟨4, _⟩ => ⟨S1x128, .f32⟩
  | .local _ .vmem, ⟨5, _⟩ => ⟨S512x2048, .bf16⟩
  | .local _ .vmem, ⟨6, _⟩ => ⟨S512x2048, .bf16⟩
  | .local _ .vmem, ⟨7, _⟩ => ⟨S512x128, .f32⟩
  | .local _ .vmem, ⟨8, _⟩ => ⟨S512x128, .f32⟩
  | .local _ .vmem, ⟨9, _⟩ => ⟨S128x512, .f32⟩
  | .local _ .vmem, ⟨10, _⟩ => ⟨S128x512, .f32⟩
  | .local _ .vmem, ⟨11, _⟩ => ⟨S2048x128, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def k0_mult1 : BitVec 32 :=
  let c6144_i32 : BitVec 32 := 6144#32
  c6144_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c6144_i32 : BitVec 32 := 6144#32
  let v0 : BitVec 32 := c6144_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DtRefIdeal.lean ====
abbrev S1x16384x2048 : Shape := ⟨3, ![1, 16384, 2048]⟩
abbrev S1x2048 : Shape := ⟨2, ![1, 2048]⟩
abbrev S1x2048x11296 : Shape := ⟨3, ![1, 2048, 11296]⟩
abbrev S1x32 : Shape := ⟨2, ![1, 32]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x11296 : Shape := ⟨2, ![2048, 11296]⟩
abbrev S1x16384x11296 : Shape := ⟨3, ![1, 16384, 11296]⟩
abbrev S1x16384x4096 : Shape := ⟨3, ![1, 16384, 4096]⟩
abbrev S1x16384x32 : Shape := ⟨3, ![1, 16384, 32]⟩
abbrev S1x16384x1024 : Shape := ⟨3, ![1, 16384, 1024]⟩
abbrev S32 : Shape := ⟨1, ![32]⟩
abbrev S1x1x32 : Shape := ⟨3, ![1, 1, 32]⟩
abbrev S16384x2048 : Shape := ⟨2, ![16384, 2048]⟩
abbrev S16384x32 : Shape := ⟨2, ![16384, 32]⟩
abbrev S32x16384 : Shape := ⟨2, ![32, 16384]⟩

abbrev nBuf : Space → Nat
  | .hbm => 51
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x11296, .f32⟩
  | .hbm, ⟨3, _⟩ => ⟨S1x32, .f32⟩
  | .hbm, ⟨4, _⟩ => ⟨S2048, .f32⟩
  | .hbm, ⟨5, _⟩ => ⟨S1x16384x2048, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x2048, .f32⟩
  | .hbm, ⟨17, _⟩ => ⟨S1x16384x2048, .f32⟩
  | .hbm, ⟨18, _⟩ => ⟨S1x1x2048, .f32⟩
  | .hbm, ⟨19, _⟩ => ⟨S1x16384x2048, .f32⟩
  | .hbm, ⟨20, _⟩ => ⟨S1x16384x2048, .f32⟩
  | .hbm, ⟨21, _⟩ => ⟨S2048x11296, .f32⟩
  | .hbm, ⟨22, _⟩ => ⟨S1x16384x11296, .f32⟩
  | .hbm, ⟨23, _⟩ => ⟨S1x16384x2048, .f32⟩
  | .hbm, ⟨24, _⟩ => ⟨S1x16384x4096, .f32⟩
  | .hbm, ⟨25, _⟩ => ⟨S1x16384x32, .f32⟩
  | .hbm, ⟨26, _⟩ => ⟨S1x16384x1024, .f32⟩
  | .hbm, ⟨27, _⟩ => ⟨S1x16384x4096, .f32⟩
  | .hbm, ⟨28, _⟩ => ⟨S32, .f32⟩
  | .hbm, ⟨29, _⟩ => ⟨S1x1x32, .f32⟩
  | .hbm, ⟨30, _⟩ => ⟨S1x16384x32, .f32⟩
  | .hbm, ⟨31, _⟩ => ⟨S1x16384x32, .f32⟩
  | .hbm, ⟨32, _⟩ => ⟨S_, .f32⟩
  | .hbm, ⟨33, _⟩ => ⟨S1x16384x32, .f32⟩
  | .hbm, ⟨34, _⟩ => ⟨S1x16384x32, .f32⟩
  | .hbm, ⟨35, _⟩ => ⟨S1x16384x32, .f32⟩
  | .hbm, ⟨36, _⟩ => ⟨S1x16384x32, .f32⟩
  | .hbm, ⟨37, _⟩ => ⟨S1x16384x32, .i1⟩
  | .hbm, ⟨38, _⟩ => ⟨S1x16384x32, .f32⟩
  | .hbm, ⟨39, _⟩ => ⟨S1x16384x32, .f32⟩
  | .hbm, ⟨40, _⟩ => ⟨S1x16384x32, .f32⟩
  | .hbm, ⟨41, _⟩ => ⟨S1x16384x32, .f32⟩
  | .hbm, ⟨42, _⟩ => ⟨S1x16384x32, .f32⟩
  | .hbm, ⟨43, _⟩ => ⟨S1x16384x32, .f32⟩
  | .hbm, ⟨44, _⟩ => ⟨S1x16384x32, .f32⟩
  | .hbm, ⟨45, _⟩ => ⟨S1x16384x32, .f32⟩
  | .hbm, ⟨46, _⟩ => ⟨S16384x2048, .f32⟩
  | .hbm, ⟨47, _⟩ => ⟨S16384x2048, .bf16⟩
  | .hbm, ⟨48, _⟩ => ⟨S16384x32, .f32⟩
  | .hbm, ⟨49, _⟩ => ⟨S16384x32, .f32⟩
  | .hbm, ⟨50, _⟩ => ⟨S32x16384, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Route.lean ====
abbrev S16384x4096 : Shape := ⟨2, ![16384, 4096]⟩
abbrev S16384x2048 : Shape := ⟨2, ![16384, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S_ : Shape := ⟨0, ![]⟩
abbrev S2048x128 : Shape := ⟨2, ![2048, 128]⟩
abbrev S2048x4 : Shape := ⟨2, ![2048, 4]⟩
abbrev S1 : Shape := ⟨1, ![1]⟩
abbrev S2048x32 : Shape := ⟨2, ![2048, 32]⟩
abbrev S1x128 : Shape := ⟨2, ![1, 128]⟩
abbrev S4 : Shape := ⟨1, ![4]⟩
abbrev S2 : Shape := ⟨1, ![2]⟩
abbrev S32 : Shape := ⟨1, ![32]⟩
abbrev S2048x2048 : Shape := ⟨2, ![2048, 2048]⟩
abbrev S2048 : Shape := ⟨1, ![2048]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S16384x2 : Shape := ⟨2, ![16384, 2]⟩

abbrev nBuf : Space → Nat
  | .hbm => 47
  | .vmem => 20
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S1x2048x2048, .f32⟩
  | .hbm, ⟨5, _⟩ => ⟨S1x2048, .f32⟩
  | .hbm, ⟨6, _⟩ => ⟨S1x2048x4, .f32⟩
  | .hbm, ⟨7, _⟩ => ⟨S1x4, .f32⟩
  | .hbm, ⟨8, _⟩ => ⟨S1x2048x32, .f32⟩
  | .hbm, ⟨9, _⟩ => ⟨S1x32, .f32⟩
  | .hbm, ⟨10, _⟩ => ⟨S_, .f32⟩
  | .hbm, ⟨11, _⟩ => ⟨S2048x128, .f32⟩
  | .hbm, ⟨12, _⟩ => ⟨S2048x4, .f32⟩
  | .hbm, ⟨13, _⟩ => ⟨S_, .i32⟩
  | .hbm, ⟨14, _⟩ => ⟨S1, .i32⟩
  | .hbm, ⟨15, _⟩ => ⟨S2048x128, .f32⟩
  | .hbm, ⟨16, _⟩ => ⟨S2048x32, .f32⟩
  | .hbm, ⟨17, _⟩ => ⟨S_, .i32⟩
  | .hbm, ⟨18, _⟩ => ⟨S1, .i32⟩
  | .hbm, ⟨19, _⟩ => ⟨S2048x128, .f32⟩
  | .hbm, ⟨20, _⟩ => ⟨S_, .f32⟩
  | .hbm, ⟨21, _⟩ => ⟨S1x128, .f32⟩
  | .hbm, ⟨22, _⟩ => ⟨S4, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S32, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S2048x2048, .f32⟩
  | .hbm, ⟨37, _⟩ => ⟨S2048x2048, .bf16⟩
  | .hbm, ⟨38, _⟩ => ⟨S2048, .f32⟩
  | .hbm, ⟨39, _⟩ => ⟨S2048x128, .bf16⟩
  | .hbm, ⟨40, _⟩ => ⟨S1x2048, .f32⟩
  | .hbm, ⟨41, _⟩ => ⟨S16384x2048, .f32⟩
  | .hbm, ⟨42, _⟩ => ⟨S16384x2048, .bf16⟩
  | .hbm, ⟨43, _⟩ => ⟨S16384x128, .f32⟩
  | .hbm, ⟨44, _⟩ => ⟨S16384x2, .f32⟩
  | .hbm, ⟨45, _⟩ => ⟨S16384x2, .i32⟩
  | .hbm, ⟨46, _⟩ => ⟨S16384x2, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S1x2048, .f32⟩
  | .local _ .vmem, ⟨12, _⟩ => ⟨S2048x128, .bf16⟩
  | .local _ .vmem, ⟨13, _⟩ => ⟨S1x128, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S512x128, .f32⟩
  | .local _ .vmem, ⟨19, _⟩ => ⟨S512x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RouteRefIdeal.lean ====
abbrev S16384x4096 : Shape := ⟨2, ![16384, 4096]⟩
abbrev S16384x2048 : Shape := ⟨2, ![16384, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x4 : Shape := ⟨2, ![2048, 4]⟩
abbrev S16384x4 : Shape := ⟨2, ![16384, 4]⟩
abbrev S4 : Shape := ⟨1, ![4]⟩
abbrev S16384x1x1 : Shape := ⟨3, ![16384, 1, 1]⟩
abbrev S1 : Shape := ⟨1, ![1]⟩
abbrev S1x1x1 : Shape := ⟨3, ![1, 1, 1]⟩
abbrev S2048x32 : Shape := ⟨2, ![2048, 32]⟩
abbrev S16384x32 : Shape := ⟨2, ![16384, 32]⟩
abbrev S32 : Shape := ⟨1, ![32]⟩
abbrev S16384x4x8 : Shape := ⟨3, ![16384, 4, 8]⟩
abbrev S16384x1x8 : Shape := ⟨3, ![16384, 1, 8]⟩
abbrev S16384x8 : Shape := ⟨2, ![16384, 8]⟩
abbrev S16384x2 : Shape := ⟨2, ![16384, 2]⟩

abbrev nBuf : Space → Nat
  | .hbm => 139
  | .vmem => 0
  | .smem => 0
  | _ => 0

abbrev hbmTy0_0 (i : Nat) : BufTy := match i % 128 with
  | 0 => ⟨S16384x4096, .bf16⟩
  | 1 => ⟨S16384x2048, .bf16⟩
  | 2 => ⟨S16384x2048, .bf16⟩
  | 3 => ⟨S16384x2048, .f32⟩
  | 4 => ⟨S1x2048x2048, .f32⟩
  | 5 => ⟨S1x2048, .f32⟩
  | 6 => ⟨S1x2048x4, .f32⟩
  | 7 => ⟨S1x4, .f32⟩
  | 8 => ⟨S1x2048x32, .f32⟩
  | 9 => ⟨S1x32, .f32⟩
  | 10 => ⟨S16384x4096, .f32⟩
  | 11 => ⟨S16384x2048, .f32⟩
  | 12 => ⟨S16384x2048, .f32⟩
  | 13 => ⟨S16384x2048, .f32⟩
  | 14 => ⟨S16384x2048, .f32⟩
  | 15 => ⟨S16384x2048, .f32⟩
  | 16 => ⟨S16384x2048, .f32⟩
  | 17 => ⟨S16384x2048, .f32⟩
  | 18 => ⟨S2048x2048, .f32⟩
  | 19 => ⟨S16384x2048, .f32⟩
  | 20 => ⟨S16384x2048, .f32⟩
  | 21 => ⟨S2048, .f32⟩
  | 22 => ⟨S16384x2048, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x1, .f32⟩
  | 33 => ⟨S16384x2048, .f32⟩
  | 34 => ⟨S16384x2048, .f32⟩
  | 35 => ⟨S1x2048, .f32⟩
  | 36 => ⟨S16384x2048, .f32⟩
  | 37 => ⟨S16384x2048, .f32⟩
  | 38 => ⟨S2048x4, .f32⟩
  | 39 => ⟨S16384x4, .f32⟩
  | 40 => ⟨S4, .f32⟩
  | 41 => ⟨S1x4, .f32⟩
  | 42 => ⟨S16384x4, .f32⟩
  | 43 => ⟨S16384x4, .f32⟩
  | 44 => ⟨S_, .f32⟩
  | 45 => ⟨S16384, .f32⟩
  | 46 => ⟨S_, .f32⟩
  | 47 => ⟨S16384, .f32⟩
  | 48 => ⟨S16384, .f32⟩
  | 49 => ⟨S16384x1, .f32⟩
  | 50 => ⟨S16384x4, .f32⟩
  | 51 => ⟨S16384x4, .f32⟩
  | 52 => ⟨S16384x4, .f32⟩
  | 53 => ⟨S_, .f32⟩
  | 54 => ⟨S16384, .f32⟩
  | 55 => ⟨S16384x1, .f32⟩
  | 56 => ⟨S16384x4, .f32⟩
  | 57 => ⟨S16384x4, .f32⟩
  | 58 => ⟨S16384x1, .f32⟩
  | 59 => ⟨S16384x1, .i32⟩
  | 60 => ⟨S16384, .i32⟩
  | 61 => ⟨S16384x1, .i32⟩
  | 62 => ⟨S_, .i32⟩
  | 63 => ⟨S16384x1, .i32⟩
  | 64 => ⟨S16384x1, .i1⟩
  | 65 => ⟨S_, .i32⟩
  | 66 => ⟨S16384x1, .i32⟩
  | 67 => ⟨S16384x1, .i32⟩
  | 68 => ⟨S16384x1, .i32⟩
  | 69 => ⟨S16384x1x1, .i32⟩
  | 70 => ⟨S1, .i32⟩
  | 71 => ⟨S_, .i32⟩
  | 72 => ⟨S16384x1x1, .i32⟩
  | 73 => ⟨S16384x1x1, .i1⟩
  | 74 => ⟨S1x1x1, .i32⟩
  | 75 => ⟨S16384x1x1, .i32⟩
  | 76 => ⟨S16384x1x1, .i1⟩
  | 77 => ⟨S16384x1x1, .i1⟩
  | 78 => ⟨S_, .i1⟩
  | 79 => ⟨S16384x1, .i1⟩
  | 80 => ⟨S16384x1, .f32⟩
  | 81 => ⟨S_, .f32⟩
  | 82 => ⟨S16384x1, .f32⟩
  | 83 => ⟨S16384x1, .f32⟩
  | 84 => ⟨S2048x32, .f32⟩
  | 85 => ⟨S16384x32, .f32⟩
  | 86 => ⟨S32, .f32⟩
  | 87 => ⟨S1x32, .f32⟩
  | 88 => ⟨S16384x32, .f32⟩
  | 89 => ⟨S16384x32, .f32⟩
  | 90 => ⟨S16384x4x8, .f32⟩
  | 91 => ⟨S16384x1x1, .i32⟩
  | 92 => ⟨S_, .i32⟩
  | 93 => ⟨S16384x1x1, .i32⟩
  | 94 => ⟨S16384x1x1, .i1⟩
  | 95 => ⟨S_, .i32⟩
  | 96 => ⟨S16384x1x1, .i32⟩
  | 97 => ⟨S16384x1x1, .i32⟩
  | 98 => ⟨S16384x1x1, .i32⟩
  | 99 => ⟨S1, .i32⟩
  | 100 => ⟨S_, .i32⟩
  | 101 => ⟨S16384x1x1, .i32⟩
  | 102 => ⟨S16384x1x1, .i1⟩
  | 103 => ⟨S1x1x1, .i32⟩
  | 104 => ⟨S16384x1x1, .i32⟩
  | 105 => ⟨S16384x1x1, .i1⟩
  | 106 => ⟨S16384x1x1, .i1⟩
  | 107 => ⟨S_, .i1⟩
  | 108 => ⟨S16384x1, .i1⟩
  | 109 => ⟨S16384x1x8, .f32⟩
  | 110 => ⟨S16384x1x8, .i1⟩
  | 111 => ⟨S_, .f32⟩
  | 112 => ⟨S16384x1x8, .f32⟩
  | 113 => ⟨S16384x1x8, .f32⟩
  | 114 => ⟨S16384x8, .f32⟩
  | 115 => ⟨S16384x2, .f32⟩
  | 116 => ⟨S16384x2, .i32⟩
  | 117 => ⟨S_, .f32⟩
  | 118 => ⟨S16384, .f32⟩
  | 119 => ⟨S_, .f32⟩
  | 120 => ⟨S16384, .f32⟩
  | 121 => ⟨S16384, .f32⟩
  | 122 => ⟨S16384x1, .f32⟩
  | 123 => ⟨S16384x2, .f32⟩
  | 124 => ⟨S16384x2, .f32⟩
  | 125 => ⟨S16384x2, .f32⟩
  | 126 => ⟨S_, .f32⟩
  | 127 => ⟨S16384, .f32⟩
  | _ => ⟨S16384x4096, .bf16⟩

abbrev hbmTy0_1 (i : Nat) : BufTy := match i % 128 with
  | 0 => ⟨S16384x1, .f32⟩
  | 1 => ⟨S16384x2, .f32⟩
  | 2 => ⟨S16384x2, .f32⟩
  | 3 => ⟨S16384x2, .f32⟩
  | 4 => ⟨S16384x2, .f32⟩
  | 5 => ⟨S16384x1, .i32⟩
  | 6 => ⟨S_, .i32⟩
  | 7 => ⟨S16384x1, .i32⟩
  | 8 => ⟨S16384x1, .i32⟩
  | 9 => ⟨S16384x2, .i32⟩
  | 10 => ⟨S16384x2, .i32⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_values : Ref sig .tc := ⟨.hbm, 58, rfl⟩
abbrev main_indices : Ref sig .tc := ⟨.hbm, 59, rfl⟩
abbrev main_v42 : Ref sig .tc := ⟨.hbm, 60, rfl⟩
abbrev main_v43 : Ref sig .tc := ⟨.hbm, 61, rfl⟩
abbrev main_call0_c : Ref sig .tc := ⟨.hbm, 62, rfl⟩
abbrev main_call0_v0 : Ref sig .tc := ⟨.hbm, 63, rfl⟩
abbrev main_call0_v1 : Ref sig .tc := ⟨.hbm, 64, rfl⟩
abbrev main_call0_c_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_c_1 : Ref sig .tc := ⟨.hbm, 70, rfl⟩
abbrev main_call0_c_2 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_c_3 : Ref sig .tc := ⟨.hbm, 78, rfl⟩
abbrev main_call0_v12 : Ref sig .tc := ⟨.hbm, 79, rfl⟩
abbrev main_call0_v13 : Ref sig .tc := ⟨.hbm, 80, rfl⟩
abbrev main_call0_cst : Ref sig .tc := ⟨.hbm, 81, rfl⟩
abbrev main_call0_v14 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_call1_c : Ref sig .tc := ⟨.hbm, 92, rfl⟩
abbrev main_call1_v0 : Ref sig .tc := ⟨.hbm, 93, rfl⟩
abbrev main_call1_v1 : Ref sig .tc := ⟨.hbm, 94, rfl⟩
abbrev main_call1_c_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_c_1 : Ref sig .tc := ⟨.hbm, 99, rfl⟩
abbrev main_call1_c_2 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_call1_c_3 : Ref sig .tc := ⟨.hbm, 107, rfl⟩
abbrev main_call1_v11 : Ref sig .tc := ⟨.hbm, 108, rfl⟩
abbrev main_call1_v12 : Ref sig .tc := ⟨.hbm, 109, rfl⟩
abbrev main_call1_v13 : Ref sig .tc := ⟨.hbm, 110, rfl⟩
abbrev main_call1_cst : Ref sig .tc := ⟨.hbm, 111, rfl⟩
abbrev main_call1_v14 : Ref sig .tc := ⟨.hbm, 112, rfl⟩
abbrev main_v53 : Ref sig .tc := ⟨.hbm, 113, rfl⟩
abbrev main_v54 : Ref sig .tc := ⟨.hbm, 114, rfl⟩
abbrev main_values_5 : Ref sig .tc := ⟨.hbm, 115, rfl⟩
abbrev main_indices_6 : Ref sig .tc := ⟨.hbm, 116, rfl⟩
abbrev main_cst_7 : Ref sig .tc := ⟨.hbm, 117, rfl⟩
abbrev main_v55 : Ref sig .tc := ⟨.hbm, 118, rfl⟩
abbrev main_cst_8 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_cst_9 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_c : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩

abbrev nD : Nat := 1
abbrev τ : Topo := Topo.v7x

variable {F : FTy → Type} [FloatOps F]
-- ==== Proof.Projection.lean ====
/- The input projection of the layer at one entry, and the operations the projection kernels are made of read at one
   entry over extended reals. Shared by the kernels that read a block of columns of the projection. -/
module

public import Idealize.ShloMosaic.Lib.Pointwise
public import Idealize.ShloMosaic.Lib.WritesUnit

@[expose] public section

set_option maxRecDepth 16384

noncomputable section

namespace Cert.Own
open Idealize.ShloMosaic
open scoped BigOperators

/-- Entry (row, column) of `h · w`, the layer's combined input projection. -/
def proj (h : Vec Ideal ⟨2, ![16384, 2048]⟩ .bf16) (w : Vec Ideal ⟨3, ![1, 2048, 11296]⟩ .f32) (r : Fin 16384) (q : Fin 11296) : EReal :=
  ∑ k : Fin 2048, (h (ix2 r k) : EReal) * (w (ix3 (0 : Fin 1) k q) : EReal)

theorem off2 : (![0, 0] : Fin 2 → Nat) = fun _ => 0 := funext fun a => by fin_cases a <;> rfl
theorem off3 : (![0, 0, 0] : Fin 3 → Nat) = fun _ => 0 := funext fun a => by fin_cases a <;> rfl

section
variable {sig : RefSig} {F : FTy → Type} [FloatOps F]
/-- A whole load of a whole buffer reads its contents (rank 2). -/
theorem whole2 {s : Fin 2 → ℕ} {e : EltTy} {sp : Space} (a : Memref sig .tc sp ⟨2, s⟩ e) (ha : a.IsWhole) (x : Vec F ⟨2, s⟩ e)
    (inb : ∀ b, (![0, 0] : Fin 2 → Nat) b + s b ≤ s b) :
    View.readAt (Elt F) a.view (Rect.unit (s := ⟨2, s⟩) ![0, 0] s inb).toLoadRect (ha.unread x) = x := by
  rw [View.readAt_eq_ld, ha.read_unread]
  exact View.ld_unit_zero (S := ⟨2, s⟩) off2 inb x

/-- The same at rank 3. -/
theorem whole3 {s : Fin 3 → ℕ} {e : EltTy} {sp : Space} (a : Memref sig .tc sp ⟨3, s⟩ e) (ha : a.IsWhole) (x : Vec F ⟨3, s⟩ e)
    (inb : ∀ b, (![0, 0, 0] : Fin 3 → Nat) b + s b ≤ s b) :
    View.readAt (Elt F) a.view (Rect.unit (s := ⟨3, s⟩) ![0, 0, 0] s inb).toLoadRect (ha.unread x) = x := by
  rw [View.readAt_eq_ld, ha.read_unread]
  exact View.ld_unit_zero (S := ⟨3, s⟩) off3 inb x
end

end Cert.Own
-- ==== Proof.ConvBody.lean ====
/- What one grid point of the projection-and-convolution kernel leaves: the output block, the row buffer that carries the
   last rows of the tile to the next point, and the resident weight block, each as a plain function of the blocks it reads. -/
module

public import proofs.«01_k».proof.Proof.Gen.ConvIdeal.Value
public import Idealize.ShloMosaic.Lib.WritesUnit
public import proofs.«01_k».proof.Proof.Projection

@[expose] public section

set_option maxRecDepth 16384

noncomputable section

namespace Cert.ConvIdeal.Own
open Cert.ConvIdeal Cert.ConvIdeal.Gen Idealize.ShloMosaic Idealize.ShloMosaic.TcCoe Cert.Own

variable {F : FTy → Type} [FloatOps F]

/-- The row buffer: eight rows carried over from the tile before, then the tile's 1024 rows. -/
def extOf (hd : Vec F S8x1024 .f32) (p : Vec F S1024x1024 .f32) : Vec F S1032x1024 .f32 := fun y =>
  if h : (y (0 : Fin 2)).val < 8 then hd (ix2 ⟨(y (0 : Fin 2)).val, h⟩ (y (1 : Fin 2)))
  else p (ix2 ⟨(y (0 : Fin 2)).val - 8, by have : (y (0 : Fin 2)).val < 1032 := (y (0 : Fin 2)).isLt; omega⟩ (y (1 : Fin 2)))

/-- The first eight rows of a row buffer. -/
def topOf (e : Vec F S1032x1024 .f32) : Vec F S8x1024 .f32 := fun y =>
  e (ix2 ⟨(y (0 : Fin 2)).val, by have : (y (0 : Fin 2)).val < 8 := (y (0 : Fin 2)).isLt; omega⟩ (y (1 : Fin 2)))

/-- The output block: the four taps over the row buffer, the bias, and the activation. -/
def outOf (x0 : Vec F S1024x2048 .bf16) (W : Vec F S2048x1024 .bf16) (x2 : Vec F S4x1024 .f32) (x3 : Vec F S1x1024 .f32)
    (e : Vec F S1032x1024 .f32) : Vec F S1024x1024 .bf16 :=
  k0_pay1 (k0_pay7 x0 W x3 (View.ld x2 (Rect.unit ![3, 0] S1x1024.size inb_S4x1024_S1x1024_3_0))
      (View.ld x2 (Rect.unit ![0, 0] S1x1024.size inb_S4x1024_S1x1024_0_0))
      (View.ld e (Rect.unit ![5, 0] S1024x1024.size inb_S1032x1024_S1024x1024_5_0))
      (View.ld x2 (Rect.unit ![1, 0] S1x1024.size inb_S4x1024_S1x1024_1_0))
      (View.ld e (Rect.unit ![6, 0] S1024x1024.size inb_S1032x1024_S1024x1024_6_0)))
    (View.ld x2 (Rect.unit ![2, 0] S1x1024.size inb_S4x1024_S1x1024_2_0))
    (View.ld e (Rect.unit ![7, 0] S1024x1024.size inb_S1032x1024_S1024x1024_7_0))

section
variable {sp : Space} (v : View sig .tc sp S1032x1024 .f32) (f : v.ty.Contents (Elt F))

/-- Storing the tile at row 8 leaves the eight rows above it as they were. -/
theorem read_tile (p : Vec F S1024x1024 .f32) :
    v.read (Elt F) (v.writes (Elt F) f [⟨Rect.unit ![8, 0] S1024x1024.size inb_S1032x1024_S1024x1024_8_0, p⟩])
      = extOf (topOf (v.read (Elt F) f)) p := by
  funext y
  unfold extOf
  split
  · rename_i h
    rw [View.read_writes_cons_rows_of_not_mem (W := 1024) v f _ _ _ y rfl rfl (Or.inl h)]
    unfold topOf
    rw [View.writes_nil]
    exact congrArg _ (eq_ix2 y)
  · rename_i h
    exact View.read_writes_cons_rows_of_mem v f _ _ _ y (ix2 (⟨(y (0 : Fin 2)).val - 8, by have : (y (0 : Fin 2)).val < 1032 := (y (0 : Fin 2)).isLt; omega⟩ : Fin 1024) (y (1 : Fin 2))) rfl
      (by show (y (0 : Fin 2)).val = 8 + ((y (0 : Fin 2)).val - 8); omega) rfl

/-- Storing eight rows at the top replaces the top rows. -/
theorem read_top (hd : Vec F S8x1024 .f32) (L : List (View.Piece (Elt F) S1032x1024 .f32)) (hd' : Vec F S8x1024 .f32)
    (p : Vec F S1024x1024 .f32) (hL : v.read (Elt F) (v.writes (Elt F) f L) = extOf hd' p) :
    v.read (Elt F) (v.writes (Elt F) f (⟨Rect.unit ![0, 0] S8x1024.size inb_S1032x1024_S8x1024_0_0, hd⟩ :: L)) = extOf hd p := by
  funext y
  unfold extOf
  split
  · rename_i h
    exact View.read_writes_cons_rows_of_mem v f _ _ _ y (ix2 (⟨(y (0 : Fin 2)).val, h⟩ : Fin 8) (y (1 : Fin 2))) rfl (by show _ = 0 + (y (0 : Fin 2)).val; omega) rfl
  · rename_i h
    rw [View.read_writes_cons_rows_of_not_mem (W := 8) v f _ _ _ y rfl rfl (Or.inr (by omega)), hL]
    unfold extOf
    rw [dif_neg h]

/-- The top rows stored first and the tile after: both are read back. -/
theorem read_top_tile (hd : Vec F S8x1024 .f32) (p : Vec F S1024x1024 .f32) :
    v.read (Elt F) (v.writes (Elt F) f [⟨Rect.unit ![8, 0] S1024x1024.size inb_S1032x1024_S1024x1024_8_0, p⟩,
      ⟨Rect.unit ![0, 0] S8x1024.size inb_S1032x1024_S8x1024_0_0, hd⟩]) = extOf hd p := by
  funext y
  unfold extOf
  split
  · rename_i h
    rw [View.read_writes_cons_rows_of_not_mem (W := 1024) v f _ _ _ y rfl rfl (Or.inl h)]
    exact View.read_writes_cons_rows_of_mem v f _ _ _ y (ix2 (⟨(y (0 : Fin 2)).val, h⟩ : Fin 8) (y (1 : Fin 2))) rfl (by show _ = 0 + (y (0 : Fin 2)).val; omega) rfl
  · rename_i h
    exact View.read_writes_cons_rows_of_mem v f _ _ _ y (ix2 (⟨(y (0 : Fin 2)).val - 8, by have : (y (0 : Fin 2)).val < 1032 := (y (0 : Fin 2)).isLt; omega⟩ : Fin 1024) (y (1 : Fin 2))) rfl
      (by show (y (0 : Fin 2)).val = 8 + ((y (0 : Fin 2)).val - 8); omega) rfl
end

section
variable (c : Dev nD) (i : grid0.Coords) (a2 : Memref sig .tc .vmem S1024x2048 .bf16) (h2 : a2.IsWhole)
  (a3 : Memref sig .tc .vmem S1x1024x2048 .f32) (h3 : a3.IsWhole) (a4 : Memref sig .tc .vmem S4x1024 .f32) (h4 : a4.IsWhole)
  (a5 : Memref sig .tc .vmem S1x1024 .f32) (h5 : a5.IsWhole) (a6 : Memref sig .tc .vmem S1024x1024 .bf16) (h6 : a6.IsWhole)
  (a7 : Memref sig .tc .vmem S1032x1024 .f32) (h7 : a7.IsWhole) (a8 : Memref sig .tc .vmem S2048x1024 .bf16) (h8 : a8.IsWhole)
  (x0 : Vec F S1024x2048 .bf16) (x1 : Vec F S1x1024x2048 .f32) (x2 : Vec F S4x1024 .f32) (x3 : Vec F S1x1024 .f32)
  (xs0 : Vec F S1032x1024 .f32) (xs1 : Vec F S2048x1024 .bf16)

/-- First row tile: the output block, over zero rows above the tile. -/
theorem out_A (hc0 : cond0_0 i) (hc1 : cond0_1 i) :
    out0_A_4 c i a2 h2 a3 h3 a4 h4 a5 h5 a6 h6 a7 h7 a8 h8 hc0 hc1 x0 x1 x2 x3
      = outOf x0 (k0_pay4 x1) x2 x3 (extOf k0_pay3 (k0_pay6 x0 (k0_pay4 x1))) := by
  unfold out0_A_4
  rw [View.read_writes_eq_canon _ _ _ (cover0_A_4 c i a2 h2 a3 h3 a4 h4 a5 h5 a6 h6 a7 h7 a8 h8 hc0 hc1 x0 x1 x2 x3)]
  unfold kernelRun0_A
  dsimp only
  sl_unfold_words
  rw [View.canon_unit_zero off2]
  rw [whole2, whole2, whole3, View.readCov_unit_zero (S := S2048x1024) _ off2]
  simp only [View.readAt_eq_ld, h4.read_unread]
  change outOf x0 (k0_pay4 x1) x2 x3 (a7.view.read (Elt F) (a7.view.writes (Elt F) a7.view.junk
    [⟨Rect.unit ![8, 0] S1024x1024.size inb_S1032x1024_S1024x1024_8_0, k0_pay6 x0 (k0_pay4 x1)⟩,
      ⟨Rect.unit ![0, 0] S8x1024.size inb_S1032x1024_S8x1024_0_0, k0_pay3⟩])) = _
  rw [read_top_tile]

/-- First row tile: the row buffer is left with the tile and its own last eight rows on top. -/
theorem sout_A (hc0 : cond0_0 i) (hc1 : cond0_1 i) :
    sout0_A_0 c i a2 h2 a3 h3 a4 h4 a5 h5 a6 h6 a7 h7 a8 h8 hc0 hc1 x0 x1 x2 x3
      = extOf (k0_pay2 (k0_pay5 x0 (k0_pay4 x1))) (k0_pay6 x0 (k0_pay4 x1)) := by
  unfold sout0_A_0 kernelRun0_A
  dsimp only
  sl_unfold_words
  refine (read_top _ _ _ _ _ _ (read_top_tile _ _ _ _)).trans ?_
  rw [whole2, whole3, View.readCov_unit_zero (S := S2048x1024) _ off2]

/-- First row tile: the weight block is stored transposed. -/
theorem wout_A (hc0 : cond0_0 i) (hc1 : cond0_1 i) :
    sout0_A_1 c i a2 h2 a3 h3 a4 h4 a5 h5 a6 h6 a7 h7 a8 h8 hc0 hc1 x0 x1 x2 x3 = k0_pay4 x1 := by
  unfold sout0_A_1
  rw [View.read_writes_eq_canon _ _ _ (scover0_A_1 c i a2 h2 a3 h3 a4 h4 a5 h5 a6 h6 a7 h7 a8 h8 hc0 hc1 x0 x1 x2 x3)]
  unfold kernelRun0_A
  dsimp only
  sl_unfold_words
  rw [View.canon_unit_zero off2, whole3]

/-- A later row tile: the output block, over the rows carried from the tile before. -/
theorem out_B (hc0 : ¬cond0_0 i) (hc1 : ¬cond0_1 i) :
    out0_B_4 c i a2 h2 a3 h3 a4 h4 a5 h5 a6 h6 a7 h7 a8 h8 hc0 hc1 x0 x1 x2 x3 xs0 xs1
      = outOf x0 xs1 x2 x3 (extOf (topOf xs0) (k0_pay6 x0 xs1)) := by
  unfold out0_B_4
  rw [View.read_writes_eq_canon _ _ _ (cover0_B_4 c i a2 h2 a3 h3 a4 h4 a5 h5 a6 h6 a7 h7 a8 h8 hc0 hc1 x0 x1 x2 x3 xs0 xs1)]
  unfold kernelRun0_B
  dsimp only
  sl_unfold_words
  rw [View.canon_unit_zero off2]
  rw [whole2, whole2, whole2]
  simp only [View.readAt_eq_ld, h4.read_unread]
  change outOf x0 xs1 x2 x3 (a7.view.read (Elt F) (a7.view.writes (Elt F) (h7.unread xs0)
    [⟨Rect.unit ![8, 0] S1024x1024.size inb_S1032x1024_S1024x1024_8_0, k0_pay6 x0 xs1⟩])) = _
  rw [read_tile, h7.read_unread]

/-- A later row tile: the row buffer is left as at the first. -/
theorem sout_B (hc0 : ¬cond0_0 i) (hc1 : ¬cond0_1 i) :
    sout0_B_0 c i a2 h2 a3 h3 a4 h4 a5 h5 a6 h6 a7 h7 a8 h8 hc0 hc1 x0 x1 x2 x3 xs0 xs1
      = extOf (k0_pay2 (k0_pay5 x0 xs1)) (k0_pay6 x0 xs1) := by
  unfold sout0_B_0 kernelRun0_B
  dsimp only
  sl_unfold_words
  refine (read_top _ _ _ _ _ _ (read_tile _ _ _)).trans ?_
  rw [whole2, whole2]

end

end Cert.ConvIdeal.Own
-- ==== Proof.ConvReference.lean ====
/- The reference's projection and causal convolution, read at one entry. -/
module

public import proofs.«01_k».proof.Proof.Projection
public import proofs.«01_k».proof.Proof.Gen.ConvRefIdeal.Run

@[expose] public section

set_option maxRecDepth 100000

noncomputable section

namespace Cert.ConvRefIdeal.Own
open Cert.ConvRefIdeal Cert.ConvRefIdeal.Gen Idealize.ShloMosaic

/-- The projection of the row `d` before `r`, zero before the first row. -/
def tap (x : Vec Ideal ⟨2, ![16384, 2048]⟩ .bf16) (w : Vec Ideal ⟨3, ![1, 2048, 11296]⟩ .f32) (d : ℕ) (r : Fin 16384) (q : Fin 4096) : EReal :=
  if h : d ≤ r.val then Cert.Own.proj x w ⟨r.val - d, by omega⟩ (⟨2048 + q.val, by omega⟩ : Fin 11296) else 0

/-- The convolved value at one entry: the bias and the four taps. -/
def convAt (h : Vec Ideal ⟨2, ![16384, 2048]⟩ .bf16) (w : Vec Ideal ⟨3, ![1, 2048, 11296]⟩ .f32) (cw : Vec Ideal ⟨3, ![1, 4, 4096]⟩ .f32)
    (cb : Vec Ideal ⟨2, ![1, 4096]⟩ .f32) (r : Fin 16384) (q : Fin 4096) : EReal :=
  cb (ix2 0 q) + tap h w 3 r q * cw (ix3 0 0 q) + tap h w 2 r q * cw (ix3 0 1 q) + tap h w 1 r q * cw (ix3 0 2 q) + tap h w 0 r q * cw (ix3 0 3 q)

/-- The reference's projection at one entry. -/
theorem ref_proj (h : FVec Ideal S16384x2048 .bf16) (w : FVec Ideal S1x2048x11296 .f32) (r : Fin 16384) (q : Fin 11296) :
    Host.dotGeneral dot_S1x16384x2048_S2048x11296_S1x16384x11296_2_0_01_1_n_n none
      (broadcastInDim S1x16384x2048 ![1, 2] bcast_S16384x2048_S1x16384x2048_1_2 (extf .f32 h bitsLt_bf16_f32))
      (shapeCast S2048x11296 w shapeCasts_S1x2048x11296_S2048x11296) (ix3 0 r q) = Cert.Own.proj h w r q := by
  unfold Cert.Own.proj
  pointwise

/-- The rows padded with three zero rows in front. -/
theorem ref_pad (P : FVec Ideal S1x16384x11296 .f32) (d : ℕ) (hd : d ≤ 3) (r : Fin 16384) (q : Fin 4096) :
    pad S1x16387x4096 ![0, 3, 0] ![0, 0, 0] ![0, 0, 0] (extractStridedSlice S1x16384x4096 ![0, 0, 2048] P slices_S1x16384x11296_S1x16384x4096_0_0_2048) (sitofp .f32 (constantI S_ 32 0#32)) pads_S1x16384x4096_S1x16387x4096_000_300_000 h_S_ (ix3 0 (⟨3 - d + r.val, by omega⟩ : Fin 16387) q)
    = if h : d ≤ r.val then P (ix3 0 (⟨r.val - d, by omega⟩ : Fin 16384) (⟨2048 + q.val, by omega⟩ : Fin 11296)) else 0 := by
  pointwise
  by_cases h : d ≤ r.val
  · rw [dif_pos h, dif_pos (by omega)]
    congr 2
    apply Fin.ext
    show 3 - d + r.val - 3 = r.val - d
    omega
  · rw [dif_neg h, dif_neg (by omega)]
    show (((0#32 : BitVec 32).toInt : ℝ) : EReal) = 0
    simp

/-- The reference's convolution over its padded rows, at one entry. -/
theorem ref_sum (Q : FVec Ideal S1x16387x4096 .f32) (w : FVec Ideal S1x4x4096 .f32) (b : FVec Ideal S1x4096 .f32) (r : Fin 16384) (q : Fin 4096) :
    (addf (addf (addf (addf (broadcastInDim S1x16384x4096 ![0, 1, 2] bcast_S1x1x4096_S1x16384x4096_0_1_2 (broadcastInDim S1x1x4096 ![2] bcast_S4096_S1x1x4096_2 (shapeCast S4096 b shapeCasts_S1x4096_S4096))) (mulf (extractStridedSlice S1x16384x4096 ![0, 0, 0] Q slices_S1x16387x4096_S1x16384x4096_0_0_0) (broadcastInDim S1x16384x4096 ![0, 1, 2] bcast_S1x1x4096_S1x16384x4096_0_1_2 (broadcastInDim S1x1x4096 ![2] bcast_S4096_S1x1x4096_2 (shapeCast S4096 (extractStridedSlice S1x4096 ![0, 0] (shapeCast S4x4096 w shapeCasts_S1x4x4096_S4x4096) slices_S4x4096_S1x4096_0_0) shapeCasts_S1x4096_S4096))))) (mulf (extractStridedSlice S1x16384x4096 ![0, 1, 0] Q slices_S1x16387x4096_S1x16384x4096_0_1_0) (broadcastInDim S1x16384x4096 ![0, 1, 2] bcast_S1x1x4096_S1x16384x4096_0_1_2 (broadcastInDim S1x1x4096 ![2] bcast_S4096_S1x1x4096_2 (shapeCast S4096 (extractStridedSlice S1x4096 ![1, 0] (shapeCast S4x4096 w shapeCasts_S1x4x4096_S4x4096) slices_S4x4096_S1x4096_1_0) shapeCasts_S1x4096_S4096))))) (mulf (extractStridedSlice S1x16384x4096 ![0, 2, 0] Q slices_S1x16387x4096_S1x16384x4096_0_2_0) (broadcastInDim S1x16384x4096 ![0, 1, 2] bcast_S1x1x4096_S1x16384x4096_0_1_2 (broadcastInDim S1x1x4096 ![2] bcast_S4096_S1x1x4096_2 (shapeCast S4096 (extractStridedSlice S1x4096 ![2, 0] (shapeCast S4x4096 w shapeCasts_S1x4x4096_S4x4096) slices_S4x4096_S1x4096_2_0) shapeCasts_S1x4096_S4096))))) (mulf (extractStridedSlice S1x16384x4096 ![0, 3, 0] Q slices_S1x16387x4096_S1x16384x4096_0_3_0) (broadcastInDim S1x16384x4096 ![0, 1, 2] bcast_S1x1x4096_S1x16384x4096_0_1_2 (broadcastInDim S1x1x4096 ![2] bcast_S4096_S1x1x4096_2 (shapeCast S4096 (extractStridedSlice S1x4096 ![3, 0] (shapeCast S4x4096 w shapeCasts_S1x4x4096_S4x4096) slices_S4x4096_S1x4096_3_0) shapeCasts_S1x4096_S4096))))) (ix3 0 r q)
    = b (ix2 0 q) + Q (ix3 0 (⟨3 - 3 + r.val, by omega⟩ : Fin 16387) q) * w (ix3 0 0 q) + Q (ix3 0 (⟨3 - 2 + r.val, by omega⟩ : Fin 16387) q) * w (ix3 0 1 q)
      + Q (ix3 0 (⟨3 - 1 + r.val, by omega⟩ : Fin 16387) q) * w (ix3 0 2 q) + Q (ix3 0 (⟨3 - 0 + r.val, by omega⟩ : Fin 16387) q) * w (ix3 0 3 q) := by
  pointwise

/-- One padded row of the reference's projection. -/
theorem ref_tap (h : FVec Ideal S16384x2048 .bf16) (w : FVec Ideal S1x2048x11296 .f32) (d : ℕ) (hd : d ≤ 3) (r : Fin 16384) (q : Fin 4096) :
    pad S1x16387x4096 ![0, 3, 0] ![0, 0, 0] ![0, 0, 0] (extractStridedSlice S1x16384x4096 ![0, 0, 2048] (Host.dotGeneral dot_S1x16384x2048_S2048x11296_S1x16384x11296_2_0_01_1_n_n none (broadcastInDim S1x16384x2048 ![1, 2] bcast_S16384x2048_S1x16384x2048_1_2 (extf .f32 h bitsLt_bf16_f32)) (shapeCast S2048x11296 w shapeCasts_S1x2048x11296_S2048x11296)) slices_S1x16384x11296_S1x16384x4096_0_0_2048) (sitofp .f32 (constantI S_ 32 0#32)) pads_S1x16384x4096_S1x16387x4096_000_300_000 h_S_ (ix3 0 (⟨3 - d + r.val, by omega⟩ : Fin 16387) q)
    = tap h w d r q := by
  rw [ref_pad _ d hd]
  unfold tap
  split
  · exact ref_proj h w _ _
  · rfl

/-- The reference's convolution at one entry. -/
theorem ref_conv (h : FVec Ideal S16384x2048 .bf16) (w : FVec Ideal S1x2048x11296 .f32) (cw : FVec Ideal S1x4x4096 .f32) (cb : FVec Ideal S1x4096 .f32)
    (r : Fin 16384) (q : Fin 4096) :
    (addf (addf (addf (addf (broadcastInDim S1x16384x4096 ![0, 1, 2] bcast_S1x1x4096_S1x16384x4096_0_1_2 (broadcastInDim S1x1x4096 ![2] bcast_S4096_S1x1x4096_2 (shapeCast S4096 cb shapeCasts_S1x4096_S4096))) (mulf (extractStridedSlice S1x16384x4096 ![0, 0, 0] (pad S1x16387x4096 ![0, 3, 0] ![0, 0, 0] ![0, 0, 0] (extractStridedSlice S1x16384x4096 ![0, 0, 2048] (Host.dotGeneral dot_S1x16384x2048_S2048x11296_S1x16384x11296_2_0_01_1_n_n none (broadcastInDim S1x16384x2048 ![1, 2] bcast_S16384x2048_S1x16384x2048_1_2 (extf .f32 h bitsLt_bf16_f32)) (shapeCast S2048x11296 w shapeCasts_S1x2048x11296_S2048x11296)) slices_S1x16384x11296_S1x16384x4096_0_0_2048) (sitofp .f32 (constantI S_ 32 0#32)) pads_S1x16384x4096_S1x16387x4096_000_300_000 h_S_) slices_S1x16387x4096_S1x16384x4096_0_0_0) (broadcastInDim S1x16384x4096 ![0, 1, 2] bcast_S1x1x4096_S1x16384x4096_0_1_2 (broadcastInDim S1x1x4096 ![2] bcast_S4096_S1x1x4096_2 (shapeCast S4096 (extractStridedSlice S1x4096 ![0, 0] (shapeCast S4x4096 cw shapeCasts_S1x4x4096_S4x4096) slices_S4x4096_S1x4096_0_0) shapeCasts_S1x4096_S4096))))) (mulf (extractStridedSlice S1x16384x4096 ![0, 1, 0] (pad S1x16387x4096 ![0, 3, 0] ![0, 0, 0] ![0, 0, 0] (extractStridedSlice S1x16384x4096 ![0, 0, 2048] (Host.dotGeneral dot_S1x16384x2048_S2048x11296_S1x16384x11296_2_0_01_1_n_n none (broadcastInDim S1x16384x2048 ![1, 2] bcast_S16384x2048_S1x16384x2048_1_2 (extf .f32 h bitsLt_bf16_f32)) (shapeCast S2048x11296 w shapeCasts_S1x2048x11296_S2048x11296)) slices_S1x16384x11296_S1x16384x4096_0_0_2048) (sitofp .f32 (constantI S_ 32 0#32)) pads_S1x16384x4096_S1x16387x4096_000_300_000 h_S_) slices_S1x16387x4096_S1x16384x4096_0_1_0) (broadcastInDim S1x16384x4096 ![0, 1, 2] bcast_S1x1x4096_S1x16384x4096_0_1_2 (broadcastInDim S1x1x4096 ![2] bcast_S4096_S1x1x4096_2 (shapeCast S4096 (extractStridedSlice S1x4096 ![1, 0] (shapeCast S4x4096 cw shapeCasts_S1x4x4096_S4x4096) slices_S4x4096_S1x4096_1_0) shapeCasts_S1x4096_S4096))))) (mulf (extractStridedSlice S1x16384x4096 ![0, 2, 0] (pad S1x16387x4096 ![0, 3, 0] ![0, 0, 0] ![0, 0, 0] (extractStridedSlice S1x16384x4096 ![0, 0, 2048] (Host.dotGeneral dot_S1x16384x2048_S2048x11296_S1x16384x11296_2_0_01_1_n_n none (broadcastInDim S1x16384x2048 ![1, 2] bcast_S16384x2048_S1x16384x2048_1_2 (extf .f32 h bitsLt_bf16_f32)) (shapeCast S2048x11296 w shapeCasts_S1x2048x11296_S2048x11296)) slices_S1x16384x11296_S1x16384x4096_0_0_2048) (sitofp .f32 (constantI S_ 32 0#32)) pads_S1x16384x4096_S1x16387x4096_000_300_000 h_S_) slices_S1x16387x4096_S1x16384x4096_0_2_0) (broadcastInDim S1x16384x4096 ![0, 1, 2] bcast_S1x1x4096_S1x16384x4096_0_1_2 (broadcastInDim S1x1x4096 ![2] bcast_S4096_S1x1x4096_2 (shapeCast S4096 (extractStridedSlice S1x4096 ![2, 0] (shapeCast S4x4096 cw shapeCasts_S1x4x4096_S4x4096) slices_S4x4096_S1x4096_2_0) shapeCasts_S1x4096_S4096))))) (mulf (extractStridedSlice S1x16384x4096 ![0, 3, 0] (pad S1x16387x4096 ![0, 3, 0] ![0, 0, 0] ![0, 0, 0] (extractStridedSlice S1x16384x4096 ![0, 0, 2048] (Host.dotGeneral dot_S1x16384x2048_S2048x11296_S1x16384x11296_2_0_01_1_n_n none (broadcastInDim S1x16384x2048 ![1, 2] bcast_S16384x2048_S1x16384x2048_1_2 (extf .f32 h bitsLt_bf16_f32)) (shapeCast S2048x11296 w shapeCasts_S1x2048x11296_S2048x11296)) slices_S1x16384x11296_S1x16384x4096_0_0_2048) (sitofp .f32 (constantI S_ 32 0#32)) pads_S1x16384x4096_S1x16387x4096_000_300_000 h_S_) slices_S1x16387x4096_S1x16384x4096_0_3_0) (broadcastInDim S1x16384x4096 ![0, 1, 2] bcast_S1x1x4096_S1x16384x4096_0_1_2 (broadcastInDim S1x1x4096 ![2] bcast_S4096_S1x1x4096_2 (shapeCast S4096 (extractStridedSlice S1x4096 ![3, 0] (shapeCast S4x4096 cw shapeCasts_S1x4x4096_S4x4096) slices_S4x4096_S1x4096_3_0) shapeCasts_S1x4096_S4096))))) (ix3 0 r q)
    = convAt h w cw cb r q := by
  rw [ref_sum, ref_tap h w 3 (by omega), ref_tap h w 2 (by omega), ref_tap h w 1 (by omega), ref_tap h w 0 (by omega)]
  rfl

/-- The reference's activation at one entry. -/
theorem ref_act (S : FVec Ideal S1x16384x4096 .f32) (r : Fin 16384) (q : Fin 4096) :
    truncf .bf16 (shapeCast S16384x4096 (mulf S (Host.divf (broadcastInDim S1x16384x4096 ![] bcast_S_S1x16384x4096 (constant S_ .f32 0x3F800000#32)) (addf (broadcastInDim S1x16384x4096 ![] bcast_S_S1x16384x4096 (constant S_ .f32 0x3F800000#32)) (Host.exp (Host.negf S))))) shapeCasts_S1x16384x4096_S16384x4096) bitsLt_bf16_f32 (ix2 r q)
    = S (ix3 0 r q) * Ideal.div 1 (1 + Ideal.exp (-(S (ix3 0 r q)))) := by
  pointwise

end Cert.ConvRefIdeal.Own
-- ==== Proof.ConvCarried.lean ====
/- The projection and causal convolution: what the kernel leaves at each entry of the result, from the blocks each grid
   point reads, the weight block that stays resident and the rows carried from one row tile to the next. -/
module

public import proofs.«01_k».proof.Proof.ConvBody
public import proofs.«01_k».proof.Proof.ConvReference

@[expose] public section

set_option maxRecDepth 100000

noncomputable section

namespace Cert.ConvIdeal.Own
open Cert.ConvIdeal Cert.ConvIdeal.Gen Idealize.ShloMosaic Idealize.ShloMosaic.TcCoe

variable {F : FTy → Type} [FloatOps F]

section
variable (m : (ℓ : Loc nD τ sig) → Buf (Elt F) ℓ) (c : Dev nD)

/-- Row tile `t % 16` of the input rows. -/
theorem rows_idx : ∀ t : Fin cfg0.N, win0_0.index t 0 = t.val % 16 ∧ win0_0.index t 1 = 0 :=
  (by decide +kernel : ∀ t : Fin grid0.N, _)

/-- The rows a point reads. -/
theorem rows_at (t : Fin cfg0.N) (a : Fin 1024) (k : Fin 2048) :
    iblk m c 0 t (ix2 a k) = m ((c : Thread nD τ).loc main_arg0) (ix2 (⟨1024 * (t.val % 16) + a.val, by omega⟩ : Fin 16384) k) := by
  unfold iblk
  rw [View.read_apply]
  show V m c main_arg0 _ = _
  rw [V_main_arg0]
  congr 1
  funext b
  apply Fin.ext
  obtain ⟨e0, e1⟩ := rows_idx t
  match b with
  | ⟨0, _⟩ => show win0_0.index t 0 * 1024 + 1 * a.val = _; rw [e0]; show _ = 1024 * (t.val % 16) + a.val; omega
  | ⟨1, _⟩ => show win0_0.index t 1 * 2048 + 1 * k.val = k.val; rw [e1]; omega

theorem V_wt : V m c main_v0 = transpose S1x11296x2048 [0, 2, 1] (m ((c : Thread nD τ).loc main_arg1)) transposes_S1x2048x11296_S1x11296x2048_0_2_1 := by
  unfold V
  after_results <;> rfl

theorem V_taps : V m c main_v1 = shapeCast S4x4096 (m ((c : Thread nD τ).loc main_arg2)) shapeCasts_S1x4x4096_S4x4096 := by
  unfold V
  after_results <;> rfl

theorem V_bias : V m c main_v3 = shapeCast S1x4096 (shapeCast S4096 (m ((c : Thread nD τ).loc main_arg3)) shapeCasts_S1x4096_S4096) shapeCasts_S4096_S1x4096 := by
  unfold V
  after_results <;> rfl

/-- The weight rows a point reads start at row `2048 + 1024 (t / 16)` of the transposed weight. -/
theorem wt_idx : ∀ t : Fin cfg0.N, win0_1.index t 0 = 0 ∧ win0_1.index t 1 = 2048 + 1024 * (t.val / 16) ∧ win0_1.index t 2 = 0 :=
  (by decide +kernel : ∀ t : Fin grid0.N, _)

theorem lt_N (t : Fin cfg0.N) : t.val < 64 := lt_of_lt_of_eq t.isLt N_0

/-- The weight block a point reads. -/
theorem wt_at (t : Fin cfg0.N) (b : Fin 1024) (k : Fin 2048) :
    iblk m c 1 t (ix3 0 b k) = m ((c : Thread nD τ).loc main_arg1)
      (ix3 0 k (⟨2048 + 1024 * (t.val / 16) + b.val, by have := lt_N t; omega⟩ : Fin 11296)) := by
  unfold iblk
  rw [View.read_apply]
  show V m c main_v0 _ = _
  rw [V_wt]
  obtain ⟨e0, e1, e2⟩ := wt_idx t
  rw [show ((cfg0.win 1).blk t).view.emb (ix3 0 b k) = ix3 (0 : Fin 1) (⟨2048 + 1024 * (t.val / 16) + b.val, by have := lt_N t; omega⟩ : Fin 11296) k from ?_]
  · pointwise
  funext d
  apply Fin.ext
  match d with
  | ⟨0, _⟩ => show win0_1.index t 0 + 1 * 0 = 0; rw [e0]
  | ⟨1, _⟩ => show win0_1.index t 1 + 1 * b.val = 2048 + 1024 * (t.val / 16) + b.val; rw [e1]; omega
  | ⟨2, _⟩ => show win0_1.index t 2 + 1 * k.val = k.val; rw [e2]; omega

theorem taps_cast (X : Vec F S1x4x4096 .f32) (k : Fin 4) (q : Fin 4096) :
    shapeCast S4x4096 X shapeCasts_S1x4x4096_S4x4096 (ix2 k q) = X (ix3 0 k q) := by
  pointwise

theorem taps_idx : ∀ t : Fin cfg0.N, win0_2.index t 0 = 0 ∧ win0_2.index t 1 = t.val / 16 :=
  (by decide +kernel : ∀ t : Fin grid0.N, _)

/-- The tap weights a point reads. -/
theorem taps_at (t : Fin cfg0.N) (k : Fin 4) (b : Fin 1024) :
    iblk m c 2 t (ix2 k b) = m ((c : Thread nD τ).loc main_arg2)
      (ix3 0 k (⟨1024 * (t.val / 16) + b.val, by have := lt_N t; omega⟩ : Fin 4096)) := by
  unfold iblk
  rw [View.read_apply]
  show V m c main_v1 _ = _
  rw [V_taps]
  obtain ⟨e0, e1⟩ := taps_idx t
  rw [show ((cfg0.win 2).blk t).view.emb (ix2 k b) = ix2 k (⟨1024 * (t.val / 16) + b.val, by have := lt_N t; omega⟩ : Fin 4096) from ?_]
  · exact taps_cast _ k _
  funext d
  apply Fin.ext
  match d with
  | ⟨0, _⟩ => show win0_2.index t 0 * 4 + 1 * k.val = k.val; rw [e0]; omega
  | ⟨1, _⟩ => show win0_2.index t 1 * 1024 + 1 * b.val = 1024 * (t.val / 16) + b.val; rw [e1]; omega

theorem bias_idx : ∀ t : Fin cfg0.N, win0_3.index t 0 = 0 ∧ win0_3.index t 1 = t.val / 16 :=
  (by decide +kernel : ∀ t : Fin grid0.N, _)

theorem bias_at (t : Fin cfg0.N) (b : Fin 1024) :
    iblk m c 3 t (ix2 0 b) = m ((c : Thread nD τ).loc main_arg3)
      (ix2 0 (⟨1024 * (t.val / 16) + b.val, by have := lt_N t; omega⟩ : Fin 4096)) := by
  unfold iblk
  rw [View.read_apply]
  show V m c main_v3 _ = _
  rw [V_bias]
  obtain ⟨e0, e1⟩ := bias_idx t
  rw [show ((cfg0.win 3).blk t).view.emb (ix2 0 b) = ix2 (0 : Fin 1) (⟨1024 * (t.val / 16) + b.val, by have := lt_N t; omega⟩ : Fin 4096) from ?_]
  · pointwise
  funext d
  apply Fin.ext
  match d with
  | ⟨0, _⟩ => show win0_3.index t 0 * 1 + 1 * 0 = 0; rw [e0]
  | ⟨1, _⟩ => show win0_3.index t 1 * 1024 + 1 * b.val = 1024 * (t.val / 16) + b.val; rw [e1]; omega

/-- The weight rows a point reads depend on its column tile only. -/
theorem wt_same (t t' : Fin cfg0.N) (h : t.val / 16 = t'.val / 16) : iblk m c 1 t = iblk m c 1 t' := by
  funext y
  obtain ⟨i0, i1, i2, rfl⟩ : ∃ (i0 : Fin 1) (i1 : Fin 1024) (i2 : Fin 2048), y = ix3 i0 i1 i2 := ⟨y 0, y 1, y 2, eq_ix3 y⟩
  obtain rfl : i0 = 0 := Subsingleton.elim _ _
  rw [wt_at, wt_at]
  simp only [h]

/-- The row buffer after a point: the tile's rows, with its last eight rows on top. -/
def rowsAfter (t : Fin cfg0.N) : Vec F S1032x1024 .f32 :=
  extOf (k0_pay2 (k0_pay5 (iblk m c 0 t) (k0_pay4 (iblk m c 1 t)))) (k0_pay6 (iblk m c 0 t) (k0_pay4 (iblk m c 1 t)))

/-- What each point leaves for the next: the row buffer and the resident weight block. -/
theorem carried (n : ℕ) (hn : n < cfg0.N) :
    (outsAt0 m c n hn).2.1 = rowsAfter m c ⟨n, hn⟩ ∧ (outsAt0 m c n hn).2.2 = k0_pay4 (iblk m c 1 ⟨n, hn⟩) := by
  have first : ∀ t : Fin cfg0.N, t.val % 16 = 0 →
      (outsAt0 m c t.val t.isLt).2.1 = rowsAfter m c t ∧ (outsAt0 m c t.val t.isLt).2.2 = k0_pay4 (iblk m c 1 t) := by
    intro t h
    have e := sout_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h) ((hcond0_1 t).mpr h)
    have e' := wout_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h) ((hcond0_1 t).mpr h)
    rw [outsAt0_A m c t h h]
    dsimp only
    exact ⟨e, e'⟩
  have later : ∀ t : Fin cfg0.N, ∀ h : ¬t.val % 16 = 0,
      (outsAt0 m c (t.val - 1) (Nat.lt_of_le_of_lt (Nat.sub_le _ _) t.isLt)).2.2 = k0_pay4 (iblk m c 1 t) →
      (outsAt0 m c t.val t.isLt).2.1 = rowsAfter m c t ∧ (outsAt0 m c t.val t.isLt).2.2 = k0_pay4 (iblk m c 1 t) := by
    intro t h hw
    have e := sout_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
      (fun h' => h ((hcond0_0 t).mp h')) (fun h' => h ((hcond0_1 t).mp h'))
    rw [outsAt0_B m c t h h]
    dsimp only
    refine ⟨e.trans ?_, hw⟩
    rw [hw]
    rfl
  induction n with
  | zero => exact first ⟨0, hn⟩ (Nat.zero_mod _)
  | succ n ih =>
    by_cases h : (n + 1) % 16 = 0
    · exact first ⟨n + 1, hn⟩ h
    · refine later ⟨n + 1, hn⟩ h ((ih (Nat.lt_of_succ_lt hn)).2.trans ?_)
      exact congrArg k0_pay4 (wt_same m c _ _ (by show n / 16 = (n + 1) / 16; omega))

/-- The eight rows above a point's tile: zero at the first row tile, the last eight rows of the tile before otherwise. -/
def headAt (t : Fin cfg0.N) : Vec F S8x1024 .f32 :=
  if t.val % 16 = 0 then k0_pay3
  else k0_pay2 (k0_pay5 (iblk m c 0 ⟨t.val - 1, Nat.lt_of_le_of_lt (Nat.sub_le _ _) t.isLt⟩) (k0_pay4 (iblk m c 1 ⟨t.val - 1, Nat.lt_of_le_of_lt (Nat.sub_le _ _) t.isLt⟩)))

theorem top_ext (hd : Vec F S8x1024 .f32) (p : Vec F S1024x1024 .f32) : topOf (extOf hd p) = hd := by
  funext y
  have h : (y (0 : Fin 2)).val < 8 := (y (0 : Fin 2)).isLt
  unfold topOf extOf
  exact (dif_pos h).trans (congrArg hd (eq_ix2 y).symm)

/-- The output block of each point. -/
theorem point (t : Fin cfg0.N) : (outsAt0 m c t.val t.isLt).1
    = outOf (iblk m c 0 t) (k0_pay4 (iblk m c 1 t)) (iblk m c 2 t) (iblk m c 3 t) (extOf (headAt m c t) (k0_pay6 (iblk m c 0 t) (k0_pay4 (iblk m c 1 t)))) := by
  unfold headAt
  by_cases h : t.val % 16 = 0
  · have e := out_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h) ((hcond0_1 t).mpr h)
    rw [outsAt0_A m c t h h, if_pos h]
    dsimp only
    exact e
  · have e := out_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
      (fun h' => h ((hcond0_0 t).mp h')) (fun h' => h ((hcond0_1 t).mp h'))
    rw [outsAt0_B m c t h h, if_neg h]
    dsimp only
    refine e.trans ?_
    obtain ⟨e1, e2⟩ := carried m c (t.val - 1) (Nat.lt_of_le_of_lt (Nat.sub_le _ _) t.isLt)
    rw [e1, e2]
    unfold rowsAfter
    rw [top_ext, wt_same m c ⟨t.val - 1, _⟩ t (by show (t.val - 1) / 16 = t.val / 16; omega)]
end

/-- One entry of a projected tile. -/
theorem proj_at (x0 : Vec Ideal S1024x2048 .bf16) (x1 : Vec Ideal S1x1024x2048 .f32) (a b : Fin 1024) :
    k0_pay6 x0 (k0_pay4 x1) (ix2 a b) = ∑ k : Fin 2048, x0 (ix2 a k) * x1 (ix3 0 b k) := by
  unfold_payloads
  pointwise

/-- One entry of a tile's last eight rows. -/
theorem last_at (x0 : Vec Ideal S1024x2048 .bf16) (x1 : Vec Ideal S1x1024x2048 .f32) (a : Fin 8) (b : Fin 1024) :
    k0_pay2 (k0_pay5 x0 (k0_pay4 x1)) (ix2 a b) = ∑ k : Fin 2048, x0 (ix2 (⟨1016 + a.val, by omega⟩ : Fin 1024) k) * x1 (ix3 0 b k) := by
  unfold_payloads
  pointwise

theorem zero_at (a : Fin 8) (b : Fin 1024) : k0_pay3 (F := Ideal) (ix2 a b) = 0 := by
  unfold_payloads
  pointwise

/-- One entry of an output block, from the row buffer. -/
theorem body_at (x0 : Vec Ideal S1024x2048 .bf16) (x1 : Vec Ideal S1x1024x2048 .f32) (x2 : Vec Ideal S4x1024 .f32) (x3 : Vec Ideal S1x1024 .f32)
    (e : Vec Ideal S1032x1024 .f32) (a b : Fin 1024) (s : EReal)
    (hs : s = x3 (ix2 0 b) + x2 (ix2 3 b) * (∑ k : Fin 2048, x0 (ix2 a k) * x1 (ix3 0 b k)) + x2 (ix2 0 b) * e (ix2 (⟨5 + a.val, by omega⟩ : Fin 1032) b)
      + x2 (ix2 1 b) * e (ix2 (⟨6 + a.val, by omega⟩ : Fin 1032) b) + x2 (ix2 2 b) * e (ix2 (⟨7 + a.val, by omega⟩ : Fin 1032) b)) :
    outOf x0 (k0_pay4 x1) x2 x3 e (ix2 a b) = s * Ideal.div 1 (1 + Ideal.exp (-s)) := by
  unfold outOf
  unfold_payloads
  pointwise
  rw [zero_sub, hs]

end Cert.ConvIdeal.Own
-- ==== Proof.ConvValue.lean ====
/- The projection and causal convolution: the kernel's result is the reference's. -/
module

public import proofs.«01_k».proof.Proof.ConvCarried
public import proofs.«01_k».proof.Defs
public import Idealize.ShloMosaic.Adequacy
public import Idealize.ShloMosaic.Init

@[expose] public section

set_option maxRecDepth 100000

noncomputable section

namespace Cert.ConvIdeal.Own
open Cert.ConvIdeal Cert.ConvIdeal.Gen Cert.ConvRefIdeal.Own Idealize.ShloMosaic Idealize.ShloMosaic.TcCoe

variable (m : (ℓ : Loc nD τ sig) → Buf (Elt Ideal) ℓ) (c : Dev nD)

/-- The rows and the weight rows a point reads. -/
abbrev rowsOf (t : Fin cfg0.N) : Vec Ideal S1024x2048 .bf16 := iblk m c 0 t
abbrev wtOf (t : Fin cfg0.N) : Vec Ideal S1x1024x2048 .f32 := iblk m c 1 t

/-- A row of a projected tile is a row of the projection. -/
theorem tile_row (t : Fin cfg0.N) (a : Fin 1024) (b : Fin 1024) (r : Fin 16384) (q : Fin 4096) (hr : 1024 * (t.val % 16) + a.val = r.val)
    (hq : 1024 * (t.val / 16) + b.val = q.val) :
    ∑ k : Fin 2048, rowsOf m c t (ix2 a k) * wtOf m c t (ix3 0 b k)
      = Cert.Own.proj (m ((c : Thread nD τ).loc main_arg0)) (m ((c : Thread nD τ).loc main_arg1)) r (⟨2048 + q.val, by omega⟩ : Fin 11296) := by
  unfold Cert.Own.proj
  refine Finset.sum_congr rfl fun k _ => ?_
  unfold rowsOf wtOf
  rw [rows_at, wt_at]
  congr 3
  · exact Fin.ext hr
  · exact Fin.ext (by show 2048 + 1024 * (t.val / 16) + b.val = 2048 + q.val; omega)

/-- The row buffer read `d` rows before a row of the tile holds the projection of the row `d` before. -/
theorem ext_at (t : Fin cfg0.N) (d : ℕ) (h0 : 0 < d) (hd : d ≤ 3) (a b : Fin 1024) (r : Fin 16384) (q : Fin 4096)
    (hr : 1024 * (t.val % 16) + a.val = r.val) (hq : 1024 * (t.val / 16) + b.val = q.val) :
    extOf (headAt m c t) (k0_pay6 (iblk m c 0 t) (k0_pay4 (iblk m c 1 t))) (ix2 (⟨8 - d + a.val, by omega⟩ : Fin 1032) b)
      = tap (m ((c : Thread nD τ).loc main_arg0)) (m ((c : Thread nD τ).loc main_arg1)) d r q := by
  unfold tap
  by_cases h : 8 - d + a.val < 8
  · refine (dif_pos h).trans ?_
    show headAt m c t (ix2 (⟨8 - d + a.val, h⟩ : Fin 8) b) = _
    unfold headAt
    by_cases h' : t.val % 16 = 0
    · rw [if_pos h', zero_at, dif_neg (by omega)]
    · rw [if_neg h', last_at, dif_pos (by omega)]
      refine tile_row m c ⟨t.val - 1, _⟩ (⟨1016 + (8 - d + a.val), by omega⟩ : Fin 1024) b ⟨r.val - d, by omega⟩ q ?_ ?_
      · show 1024 * ((t.val - 1) % 16) + (1016 + (8 - d + a.val)) = r.val - d
        omega
      · show 1024 * ((t.val - 1) / 16) + b.val = q.val
        omega
  · refine (dif_neg h).trans ?_
    show k0_pay6 (iblk m c 0 t) (k0_pay4 (iblk m c 1 t)) (ix2 (⟨8 - d + a.val - 8, by omega⟩ : Fin 1024) b) = _
    rw [proj_at, dif_pos (by omega)]
    refine tile_row m c t (⟨8 - d + a.val - 8, by omega⟩ : Fin 1024) b ⟨r.val - d, by omega⟩ q ?_ hq
    show 1024 * (t.val % 16) + (8 - d + a.val - 8) = r.val - d
    omega

/-- The kernel's result at one entry. -/
theorem result_at (r : Fin 16384) (q : Fin 4096) (s : EReal)
    (hs : s = convAt (m ((c : Thread nD τ).loc main_arg0)) (m ((c : Thread nD τ).loc main_arg1)) (m ((c : Thread nD τ).loc main_arg2)) (m ((c : Thread nD τ).loc main_arg3)) r q) :
    Value.G4 m c (ix2 r q) = s * Ideal.div 1 (1 + Ideal.exp (-s)) := by
  unfold Value.G4
  have hlt : Value.pt4Of (ix2 r q) < cfg0.N := lt_of_lt_of_eq (show 1 * (r.val / 1024 - 0) + 16 * (q.val / 1024 - 0) < 64 by omega) N_0.symm
  rw [dif_pos hlt, ← Value.outsAt0_sweep m c _ hlt]
  refine (congrFun (point m c ⟨_, hlt⟩) _).trans ?_
  rw [show Value.loc4Of (ix2 r q) = ix2 (⟨r.val % 1024, Nat.mod_lt _ (by decide)⟩ : Fin 1024) (⟨q.val % 1024, Nat.mod_lt _ (by decide)⟩ : Fin 1024) from by
    funext d; match d with | ⟨0, _⟩ => rfl | ⟨1, _⟩ => rfl]
  have e0 : Value.pt4Of (ix2 r q) % 16 = r.val / 1024 := by show (1 * (r.val / 1024 - 0) + 16 * (q.val / 1024 - 0)) % 16 = _; omega
  have e1 : Value.pt4Of (ix2 r q) / 16 = q.val / 1024 := by show (1 * (r.val / 1024 - 0) + 16 * (q.val / 1024 - 0)) / 16 = _; omega
  have hr : 1024 * (Value.pt4Of (ix2 r q) % 16) + r.val % 1024 = r.val := by rw [e0]; omega
  have hq : 1024 * (Value.pt4Of (ix2 r q) / 16) + q.val % 1024 = q.val := by rw [e1]; omega
  generalize Value.pt4Of (ix2 r q) = p at *
  refine body_at _ _ _ _ _ _ _ s ?_
  have t0 := tile_row m c ⟨p, hlt⟩ (⟨r.val % 1024, Nat.mod_lt _ (by decide)⟩ : Fin 1024) (⟨q.val % 1024, Nat.mod_lt _ (by decide)⟩ : Fin 1024) r q hr hq
  have t3 := ext_at m c ⟨p, hlt⟩ 3 (by omega) (by omega) (⟨r.val % 1024, Nat.mod_lt _ (by decide)⟩ : Fin 1024) (⟨q.val % 1024, Nat.mod_lt _ (by decide)⟩ : Fin 1024) r q hr hq
  have t2 := ext_at m c ⟨p, hlt⟩ 2 (by omega) (by omega) (⟨r.val % 1024, Nat.mod_lt _ (by decide)⟩ : Fin 1024) (⟨q.val % 1024, Nat.mod_lt _ (by decide)⟩ : Fin 1024) r q hr hq
  have t1 := ext_at m c ⟨p, hlt⟩ 1 (by omega) (by omega) (⟨r.val % 1024, Nat.mod_lt _ (by decide)⟩ : Fin 1024) (⟨q.val % 1024, Nat.mod_lt _ (by decide)⟩ : Fin 1024) r q hr hq
  rw [t0]
  rw [t1, t2, t3, bias_at, taps_at, taps_at, taps_at, taps_at, hs]
  have hq' : ∀ h, (⟨1024 * (p / 16) + q.val % 1024, h⟩ : Fin 4096) = q := fun _ => Fin.ext hq
  rw [hq']
  unfold convAt
  have z0 : tap (m ((c : Thread nD τ).loc main_arg0)) (m ((c : Thread nD τ).loc main_arg1)) 0 r q
      = Cert.Own.proj (m ((c : Thread nD τ).loc main_arg0)) (m ((c : Thread nD τ).loc main_arg1)) r (⟨2048 + q.val, by omega⟩ : Fin 11296) := dif_pos (Nat.zero_le _)
  rw [z0]
  generalize tap (m ((c : Thread nD τ).loc main_arg0)) (m ((c : Thread nD τ).loc main_arg1)) 1 r q = u1
  generalize tap (m ((c : Thread nD τ).loc main_arg0)) (m ((c : Thread nD τ).loc main_arg1)) 2 r q = u2
  generalize tap (m ((c : Thread nD τ).loc main_arg0)) (m ((c : Thread nD τ).loc main_arg1)) 3 r q = u3
  generalize Cert.Own.proj (m ((c : Thread nD τ).loc main_arg0)) (m ((c : Thread nD τ).loc main_arg1)) r (⟨2048 + q.val, by omega⟩ : Fin 11296) = u0
  rw [mul_comm u0, mul_comm u1, mul_comm u2, mul_comm u3]
  abel

open Idealize.SL.Sem in
/-- The kernel's result is the reference's. -/
theorem algebraic : Cert.algebraic_ConvIdeal_ConvRefIdeal := by
  intro m ρ m' ρ' _ hagree
  refine ⟨_, Cert.ConvIdeal.Value.run (F := Ideal) m ρ, ?_⟩
  refine (θ_run Cert.ConvRefIdeal.defs _ _).mono (fun _ h c => ⟨?_, (h c).2⟩) (Cert.ConvRefIdeal.Value.run (F := Ideal) m' ρ')
  rw [(h c).1]
  unfold Cert.ConvRefIdeal.Value.res_main_v44
  obtain ⟨e0, e1, e2, e3⟩ := hagree c
  rw [e0, e1, e2, e3]
  funext j
  rw [eq_ix2 (n0 := 16384) (n1 := 4096) j]
  obtain ⟨r, hr⟩ : ∃ r : Fin 16384, r = j 0 := ⟨_, rfl⟩
  obtain ⟨q, hq⟩ : ∃ q : Fin 4096, q = j 1 := ⟨_, rfl⟩
  rw [← hr, ← hq]
  refine (ref_act _ r q).trans ?_
  refine Eq.trans ?_ (result_at m c r q _ rfl).symm
  exact congrArg (fun s : EReal => s * Ideal.div 1 (1 + Ideal.exp (-s))) (ref_conv (m ((c : Thread nD τ).loc main_arg0)) (m ((c : Thread nD τ).loc main_arg1)) (m ((c : Thread nD τ).loc main_arg2)) (m ((c : Thread nD τ).loc main_arg3)) r q)
end Cert.ConvIdeal.Own
-- ==== Proof.GatesValue.lean ====
/- The gate projection: what the kernel leaves at each entry of the result, from the blocks each grid point reads and the
   weight block that stays resident while the row tile changes. -/
module

public import proofs.«01_k».proof.Proof.Projection
public import proofs.«01_k».proof.Proof.Gen.GatesIdeal.Value
public import Idealize.ShloMosaic.Lib.WritesUnit
public import proofs.«01_k».proof.Defs
public import Idealize.ShloMosaic.Adequacy
public import Idealize.ShloMosaic.Init

public import proofs.«01_k».proof.Proof.Gen.GatesRefIdeal.Run

@[expose] public section

set_option maxRecDepth 100000

noncomputable section

namespace Cert.GatesIdeal.Own
open Cert.GatesIdeal Cert.GatesIdeal.Gen Idealize.ShloMosaic Idealize.ShloMosaic.TcCoe

variable {F : FTy → Type} [FloatOps F]

section
variable (c : Dev nD) (i : grid0.Coords) (a2 : Memref sig .tc .vmem S1024x2048 .bf16) (h2 : a2.IsWhole)
  (a3 : Memref sig .tc .vmem S1x1024x2048 .f32) (h3 : a3.IsWhole) (a4 : Memref sig .tc .vmem S1x1024 .f32) (h4 : a4.IsWhole)
  (a5 : Memref sig .tc .vmem S1024x1024 .bf16) (h5 : a5.IsWhole) (a6 : Memref sig .tc .vmem S2048x1024 .bf16) (h6 : a6.IsWhole)
  (x0 : Vec F S1024x2048 .bf16) (x1 : Vec F S1x1024x2048 .f32) (x2 : Vec F S1x1024 .f32) (xs : Vec F S2048x1024 .bf16)

/-- At the first row tile the output block is computed from the weight block just stored. -/
theorem out_A (hc : cond0_0 i) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero Cert.Own.off2]
  rw [Cert.Own.whole2, Cert.Own.whole2, Cert.Own.whole3, View.readCov_unit_zero (S := S2048x1024) _ Cert.Own.off2]

/-- At the first row tile the weight block is stored transposed. -/
theorem scr_A (hc : cond0_0 i) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero Cert.Own.off2, Cert.Own.whole3]

/-- At a later row tile the output block is computed from the resident weight block. -/
theorem out_B (hc : ¬cond0_0 i) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero Cert.Own.off2]
  rw [Cert.Own.whole2, Cert.Own.whole2, Cert.Own.whole2]
end

section
variable (m : (ℓ : Loc nD τ sig) → Buf (Elt F) ℓ) (c : Dev nD)

/-- Row tile `t % 16` of the input rows. -/
theorem rows_idx : ∀ t : Fin cfg0.N, win0_0.index t 0 = t.val % 16 ∧ win0_0.index t 1 = 0 :=
  (by decide +kernel : ∀ t : Fin grid0.N, _)

/-- The rows a point reads. -/
theorem rows_at (t : Fin cfg0.N) (a : Fin 1024) (k : Fin 2048) :
    iblk m c 0 t (ix2 a k) = m ((c : Thread nD τ).loc main_arg0) (ix2 (⟨1024 * (t.val % 16) + a.val, by omega⟩ : Fin 16384) k) := by
  unfold iblk
  rw [View.read_apply]
  show V m c main_arg0 _ = _
  rw [V_main_arg0]
  congr 1
  funext b
  apply Fin.ext
  obtain ⟨e0, e1⟩ := rows_idx t
  match b with
  | ⟨0, _⟩ => show win0_0.index t 0 * 1024 + 1 * a.val = _; rw [e0]; show _ = 1024 * (t.val % 16) + a.val; omega
  | ⟨1, _⟩ => show win0_0.index t 1 * 2048 + 1 * k.val = k.val; rw [e1]; omega

theorem V_wt : V m c main_v0 = transpose S1x11296x2048 [0, 2, 1] (m ((c : Thread nD τ).loc main_arg1)) transposes_S1x2048x11296_S1x11296x2048_0_2_1 := by
  unfold V
  after_results <;> rfl

theorem V_bias : V m c main_v2 = shapeCast S1x4096 (shapeCast S4096 (m ((c : Thread nD τ).loc main_arg2)) shapeCasts_S1x4096_S4096) shapeCasts_S4096_S1x4096 := by
  unfold V
  after_results <;> rfl

/-- The weight rows a point reads start at row `7200 + 1024 (t / 16)` of the transposed weight. -/
theorem wt_idx : ∀ t : Fin cfg0.N, win0_1.index t 0 = 0 ∧ win0_1.index t 1 = 7200 + 1024 * (t.val / 16) ∧ win0_1.index t 2 = 0 :=
  (by decide +kernel : ∀ t : Fin grid0.N, _)

theorem lt_N (t : Fin cfg0.N) : t.val < 64 := lt_of_lt_of_eq t.isLt N_0

/-- The weight block a point reads. -/
theorem wt_at (t : Fin cfg0.N) (b : Fin 1024) (k : Fin 2048) :
    iblk m c 1 t (ix3 0 b k) = m ((c : Thread nD τ).loc main_arg1)
      (ix3 0 k (⟨7200 + 1024 * (t.val / 16) + b.val, by have := lt_N t; omega⟩ : Fin 11296)) := by
  unfold iblk
  rw [View.read_apply]
  show V m c main_v0 _ = _
  rw [V_wt]
  obtain ⟨e0, e1, e2⟩ := wt_idx t
  rw [show ((cfg0.win 1).blk t).view.emb (ix3 0 b k) = ix3 (0 : Fin 1) (⟨7200 + 1024 * (t.val / 16) + b.val, by have := lt_N t; omega⟩ : Fin 11296) k from ?_]
  · pointwise
  funext d
  apply Fin.ext
  match d with
  | ⟨0, _⟩ => show win0_1.index t 0 + 1 * 0 = 0; rw [e0]
  | ⟨1, _⟩ => show win0_1.index t 1 + 1 * b.val = 7200 + 1024 * (t.val / 16) + b.val; rw [e1]; omega
  | ⟨2, _⟩ => show win0_1.index t 2 + 1 * k.val = k.val; rw [e2]; omega

theorem bias_idx : ∀ t : Fin cfg0.N, win0_2.index t 0 = 0 ∧ win0_2.index t 1 = t.val / 16 :=
  (by decide +kernel : ∀ t : Fin grid0.N, _)

theorem bias_at (t : Fin cfg0.N) (b : Fin 1024) :
    iblk m c 2 t (ix2 0 b) = m ((c : Thread nD τ).loc main_arg2)
      (ix2 0 (⟨1024 * (t.val / 16) + b.val, by have := lt_N t; omega⟩ : Fin 4096)) := by
  unfold iblk
  rw [View.read_apply]
  show V m c main_v2 _ = _
  rw [V_bias]
  obtain ⟨e0, e1⟩ := bias_idx t
  rw [show ((cfg0.win 2).blk t).view.emb (ix2 0 b) = ix2 (0 : Fin 1) (⟨1024 * (t.val / 16) + b.val, by have := lt_N t; omega⟩ : Fin 4096) from ?_]
  · pointwise
  funext d
  apply Fin.ext
  match d with
  | ⟨0, _⟩ => show win0_2.index t 0 * 1 + 1 * 0 = 0; rw [e0]
  | ⟨1, _⟩ => show win0_2.index t 1 * 1024 + 1 * b.val = 1024 * (t.val / 16) + b.val; rw [e1]; omega

/-- The weight rows a point reads depend on its column tile only. -/
theorem wt_same (t t' : Fin cfg0.N) (h : t.val / 16 = t'.val / 16) : iblk m c 1 t = iblk m c 1 t' := by
  funext y
  obtain ⟨i0, i1, i2, rfl⟩ : ∃ (i0 : Fin 1) (i1 : Fin 1024) (i2 : Fin 2048), y = ix3 i0 i1 i2 := ⟨y 0, y 1, y 2, eq_ix3 y⟩
  obtain rfl : i0 = 0 := Subsingleton.elim _ _
  rw [wt_at, wt_at]
  simp only [h]

/-- The resident weight block after each point is the one its column tile reads. -/
theorem resident (n : ℕ) (hn : n < cfg0.N) : (outsAt0 m c n hn).2 = k0_pay1 (iblk m c 1 ⟨n, hn⟩) := by
  have first : ∀ t : Fin cfg0.N, t.val % 16 = 0 → (outsAt0 m c t.val t.isLt).2 = k0_pay1 (iblk m c 1 t) := by
    intro t h
    have e := scr_A (F := F) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h)
    rw [outsAt0_A m c t h]
    dsimp only
    exact e
  induction n with
  | zero => exact first ⟨0, hn⟩ (Nat.zero_mod _)
  | succ n ih =>
    by_cases h : (n + 1) % 16 = 0
    · exact first ⟨n + 1, hn⟩ h
    · rw [outsAt0_B m c ⟨n + 1, hn⟩ h]
      dsimp only
      refine (ih (Nat.lt_of_succ_lt hn)).trans ?_
      exact congrArg k0_pay1 (wt_same m c _ _ (by show n / 16 = (n + 1) / 16; omega))

/-- The output block of each point, from the rows, the weight rows and the bias it reads. -/
theorem point (t : Fin cfg0.N) : (outsAt0 m c t.val t.isLt).1
    = k0_pay2 (iblk m c 0 t) (k0_pay1 (iblk m c 1 t)) (iblk m c 2 t) := by
  by_cases h : t.val % 16 = 0
  · have e := out_A (F := F) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h)
    rw [outsAt0_A m c t h]
    dsimp only
    exact e
  · have e := out_B (F := F) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (outsAt0 m c (t.val - 1) (Nat.lt_of_le_of_lt (Nat.sub_le _ _) t.isLt)).2 (fun h' => h ((hcond0_0 t).mp h'))
    rw [outsAt0_B m c t h]
    dsimp only
    refine e.trans ?_
    rw [resident]
    rw [wt_same m c ⟨t.val - 1, _⟩ t (by show (t.val - 1) / 16 = t.val / 16; omega)]
end

/-- The reference's projection at one entry. -/
theorem ref_proj (h : FVec Ideal S16384x2048 .bf16) (w : FVec Ideal S1x2048x11296 .f32) (r : Fin 16384) (q : Fin 11296) :
    Host.dotGeneral Cert.GatesRefIdeal.dot_S1x16384x2048_S2048x11296_S1x16384x11296_2_0_01_1_n_n none
      (broadcastInDim Cert.GatesRefIdeal.S1x16384x2048 ![1, 2] Cert.GatesRefIdeal.Gen.bcast_S16384x2048_S1x16384x2048_1_2 (extf .f32 h Cert.GatesRefIdeal.Gen.bitsLt_bf16_f32))
      (shapeCast Cert.GatesRefIdeal.S2048x11296 w Cert.GatesRefIdeal.Gen.shapeCasts_S1x2048x11296_S2048x11296) (ix3 0 r q) = Cert.Own.proj h w r q := by
  unfold Cert.Own.proj
  pointwise

/-- The gate at one entry: the sigmoid of the projection plus the bias. -/
def gateAt (h : Vec Ideal S16384x2048 .bf16) (w : Vec Ideal S1x2048x11296 .f32) (b : Vec Ideal S1x4096 .f32) (r : Fin 16384) (q : Fin 4096) : EReal :=
  Ideal.div 1 (1 + Ideal.exp (-(Cert.Own.proj h w r (⟨7200 + q.val, by omega⟩ : Fin 11296) + b (ix2 0 q))))

/-- One entry of an output block. -/
theorem body_at (x0 : Vec Ideal S1024x2048 .bf16) (x1 : Vec Ideal S1x1024x2048 .f32) (x2 : Vec Ideal S1x1024 .f32) (a b : Fin 1024) :
    k0_pay2 x0 (k0_pay1 x1) x2 (ix2 a b) = Ideal.div 1 (1 + Ideal.exp (-(∑ k : Fin 2048, x0 (ix2 a k) * x1 (ix3 0 b k) + x2 (ix2 0 b)))) := by
  unfold_payloads
  pointwise
  rw [zero_sub]

variable (m : (ℓ : Loc nD τ sig) → Buf (Elt Ideal) ℓ) (c : Dev nD)

/-- The kernel's result at one entry. -/
theorem result_at (r : Fin 16384) (q : Fin 4096) : Value.G3 m c (ix2 r q)
    = gateAt (m ((c : Thread nD τ).loc main_arg0)) (m ((c : Thread nD τ).loc main_arg1)) (m ((c : Thread nD τ).loc main_arg2)) r q := by
  unfold Value.G3
  have hlt : Value.pt3Of (ix2 r q) < cfg0.N := lt_of_lt_of_eq (show 1 * (r.val / 1024 - 0) + 16 * (q.val / 1024 - 0) < 64 by omega) N_0.symm
  rw [dif_pos hlt, ← Value.outsAt0_sweep m c _ hlt]
  refine (congrFun (point m c ⟨_, hlt⟩) _).trans ?_
  rw [show Value.loc3Of (ix2 r q) = ix2 (⟨r.val % 1024, Nat.mod_lt _ (by decide)⟩ : Fin 1024) (⟨q.val % 1024, Nat.mod_lt _ (by decide)⟩ : Fin 1024) from by
    funext d; match d with | ⟨0, _⟩ => rfl | ⟨1, _⟩ => rfl]
  rw [body_at]
  unfold gateAt Cert.Own.proj
  have e0 : Value.pt3Of (ix2 r q) % 16 = r.val / 1024 := by show (1 * (r.val / 1024 - 0) + 16 * (q.val / 1024 - 0)) % 16 = _; omega
  have e1 : Value.pt3Of (ix2 r q) / 16 = q.val / 1024 := by show (1 * (r.val / 1024 - 0) + 16 * (q.val / 1024 - 0)) / 16 = _; omega
  simp only [rows_at, wt_at, bias_at, e0, e1]
  simp only [show ∀ h, (⟨1024 * (r.val / 1024) + r.val % 1024, h⟩ : Fin 16384) = r from fun _ => Fin.ext (Nat.div_add_mod _ _),
    show ∀ h, (⟨1024 * (q.val / 1024) + q.val % 1024, h⟩ : Fin 4096) = q from fun _ => Fin.ext (Nat.div_add_mod _ _),
    show ∀ h, (⟨7200 + 1024 * (q.val / 1024) + q.val % 1024, h⟩ : Fin 11296) = ⟨7200 + q.val, by omega⟩ from fun _ => Fin.ext (by show 7200 + 1024 * (q.val / 1024) + q.val % 1024 = 7200 + q.val; omega)]

/-- The reference's gate at one entry, from its projection. -/
theorem ref_gate (P : FVec Ideal GatesRefIdeal.S1x16384x11296 .f32) (b : FVec Ideal S1x4096 .f32) (r : Fin 16384) (q : Fin 4096) :
  truncf FTy.bf16
      (shapeCast GatesRefIdeal.S16384x4096
        (Host.divf
          (broadcastInDim GatesRefIdeal.S1x16384x4096 ![] GatesRefIdeal.Gen.bcast_S_S1x16384x4096
            (constant GatesRefIdeal.S_ FTy.f32 1065353216#32))
          (addf
            (broadcastInDim GatesRefIdeal.S1x16384x4096 ![] GatesRefIdeal.Gen.bcast_S_S1x16384x4096
              (constant GatesRefIdeal.S_ FTy.f32 1065353216#32))
            (Host.exp
              (Host.negf
                (addf
                  (extractStridedSlice GatesRefIdeal.S1x16384x4096 ![0, 0, 7200] P
                    GatesRefIdeal.Gen.slices_S1x16384x11296_S1x16384x4096_0_0_7200)
                  (broadcastInDim GatesRefIdeal.S1x16384x4096 ![0, 1, 2]
                    GatesRefIdeal.Gen.bcast_S1x1x4096_S1x16384x4096_0_1_2
                    (broadcastInDim GatesRefIdeal.S1x1x4096 ![2] GatesRefIdeal.Gen.bcast_S4096_S1x1x4096_2
                      (shapeCast GatesRefIdeal.S4096 b
                        GatesRefIdeal.Gen.shapeCasts_S1x4096_S4096))))))))
        GatesRefIdeal.Gen.shapeCasts_S1x16384x4096_S16384x4096)
      GatesRefIdeal.Gen.bitsLt_bf16_f32 (ix2 r q) =
    Ideal.div 1 (1 + Ideal.exp (-(P (ix3 0 r (⟨7200 + q.val, by omega⟩ : Fin 11296)) + b (ix2 0 q)))) := by
  pointwise

open Idealize.SL.Sem in
/-- The kernel's result is the reference's. -/
theorem algebraic : Cert.algebraic_GatesIdeal_GatesRefIdeal := by
  intro m ρ m' ρ' _ hagree
  refine ⟨_, Cert.GatesIdeal.Value.run (F := Ideal) m ρ, ?_⟩
  refine (θ_run Cert.GatesRefIdeal.defs _ _).mono (fun _ h c => ⟨?_, (h c).2⟩) (Cert.GatesRefIdeal.Value.run (F := Ideal) m' ρ')
  rw [(h c).1]
  obtain ⟨e0, e1, e2⟩ := hagree c
  rw [e0, e1, e2]
  funext j
  rw [eq_ix2 (n0 := 16384) (n1 := 4096) j]
  refine Eq.trans ?_ (result_at m c (j 0) (j 1)).symm
  obtain ⟨r, hr⟩ : ∃ r : Fin 16384, r = j 0 := ⟨_, rfl⟩
  obtain ⟨q, hq⟩ : ∃ q : Fin 4096, q = j 1 := ⟨_, rfl⟩
  rw [← hr, ← hq]
  unfold gateAt
  rw [← ref_proj]
  generalize Host.dotGeneral (F := Ideal) (φ₁ := .f32) (φ₂ := .f32) Cert.GatesRefIdeal.dot_S1x16384x2048_S2048x11296_S1x16384x11296_2_0_01_1_n_n none _ _ = P
  exact ref_gate P _ r q
end Cert.GatesIdeal.Own
-- ==== Proof.ZsValue.lean ====
/- The gating projection `z`: what the kernel leaves at each entry of the result, from the blocks each grid point reads and the
   weight block that stays resident while the row tile changes. -/
module

public import proofs.«01_k».proof.Proof.Projection
public import proofs.«01_k».proof.Proof.Gen.ZsIdeal.Value
public import Idealize.ShloMosaic.Lib.WritesUnit
public import proofs.«01_k».proof.Defs
public import Idealize.ShloMosaic.Adequacy
public import Idealize.ShloMosaic.Init

public import proofs.«01_k».proof.Proof.Gen.ZsRefIdeal.Run

@[expose] public section

set_option maxRecDepth 100000

noncomputable section

namespace Cert.ZsIdeal.Own
open Cert.ZsIdeal Cert.ZsIdeal.Gen Idealize.ShloMosaic Idealize.ShloMosaic.TcCoe

variable {F : FTy → Type} [FloatOps F]

section
variable (c : Dev nD) (i : grid0.Coords) (a2 : Memref sig .tc .vmem S1024x2048 .bf16) (h2 : a2.IsWhole)
  (a3 : Memref sig .tc .vmem S1x1024x2048 .f32) (h3 : a3.IsWhole) (a4 : Memref sig .tc .vmem S1x1024 .f32) (h4 : a4.IsWhole)
  (a5 : Memref sig .tc .vmem S1024x1024 .bf16) (h5 : a5.IsWhole) (a6 : Memref sig .tc .vmem S2048x1024 .bf16) (h6 : a6.IsWhole)
  (x0 : Vec F S1024x2048 .bf16) (x1 : Vec F S1x1024x2048 .f32) (x2 : Vec F S1x1024 .f32) (xs : Vec F S2048x1024 .bf16)

/-- At the first row tile the output block is computed from the weight block just stored. -/
theorem out_A (hc : cond0_0 i) :
    out0_A_3 c i a2 h2 a3 h3 a4 h4 a5 h5 a6 h6 hc x0 x1 x2 = k0_pay2 x0 (k0_pay1 x1) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero Cert.Own.off2]
  rw [Cert.Own.whole2, Cert.Own.whole3, View.readCov_unit_zero (S := S2048x1024) _ Cert.Own.off2]

/-- At the first row tile the weight block is stored transposed. -/
theorem scr_A (hc : cond0_0 i) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero Cert.Own.off2, Cert.Own.whole3]

/-- At a later row tile the output block is computed from the resident weight block. -/
theorem out_B (hc : ¬cond0_0 i) :
    out0_B_3 c i a2 h2 a3 h3 a4 h4 a5 h5 a6 h6 hc x0 x1 x2 xs = k0_pay2 x0 xs := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero Cert.Own.off2]
  rw [Cert.Own.whole2, Cert.Own.whole2]
end

section
variable (m : (ℓ : Loc nD τ sig) → Buf (Elt F) ℓ) (c : Dev nD)

/-- Row tile `t % 16` of the input rows. -/
theorem rows_idx : ∀ t : Fin cfg0.N, win0_0.index t 0 = t.val % 16 ∧ win0_0.index t 1 = 0 :=
  (by decide +kernel : ∀ t : Fin grid0.N, _)

/-- The rows a point reads. -/
theorem rows_at (t : Fin cfg0.N) (a : Fin 1024) (k : Fin 2048) :
    iblk m c 0 t (ix2 a k) = m ((c : Thread nD τ).loc main_arg0) (ix2 (⟨1024 * (t.val % 16) + a.val, by omega⟩ : Fin 16384) k) := by
  unfold iblk
  rw [View.read_apply]
  show V m c main_arg0 _ = _
  rw [V_main_arg0]
  congr 1
  funext b
  apply Fin.ext
  obtain ⟨e0, e1⟩ := rows_idx t
  match b with
  | ⟨0, _⟩ => show win0_0.index t 0 * 1024 + 1 * a.val = _; rw [e0]; show _ = 1024 * (t.val % 16) + a.val; omega
  | ⟨1, _⟩ => show win0_0.index t 1 * 2048 + 1 * k.val = k.val; rw [e1]; omega

theorem V_wt : V m c main_v0 = transpose S1x11296x2048 [0, 2, 1] (m ((c : Thread nD τ).loc main_arg1)) transposes_S1x2048x11296_S1x11296x2048_0_2_1 := by
  unfold V
  after_results <;> rfl

/-- The weight rows a point reads start at row `1024 (t / 16)` of the transposed weight. -/
theorem wt_idx : ∀ t : Fin cfg0.N, win0_1.index t 0 = 0 ∧ win0_1.index t 1 = 1024 * (t.val / 16) ∧ win0_1.index t 2 = 0 :=
  (by decide +kernel : ∀ t : Fin grid0.N, _)

theorem lt_N (t : Fin cfg0.N) : t.val < 32 := lt_of_lt_of_eq t.isLt N_0

/-- The weight block a point reads. -/
theorem wt_at (t : Fin cfg0.N) (b : Fin 1024) (k : Fin 2048) :
    iblk m c 1 t (ix3 0 b k) = m ((c : Thread nD τ).loc main_arg1)
      (ix3 0 k (⟨1024 * (t.val / 16) + b.val, by have := lt_N t; omega⟩ : Fin 11296)) := by
  unfold iblk
  rw [View.read_apply]
  show V m c main_v0 _ = _
  rw [V_wt]
  obtain ⟨e0, e1, e2⟩ := wt_idx t
  rw [show ((cfg0.win 1).blk t).view.emb (ix3 0 b k) = ix3 (0 : Fin 1) (⟨1024 * (t.val / 16) + b.val, by have := lt_N t; omega⟩ : Fin 11296) k from ?_]
  · pointwise
  funext d
  apply Fin.ext
  match d with
  | ⟨0, _⟩ => show win0_1.index t 0 + 1 * 0 = 0; rw [e0]
  | ⟨1, _⟩ => show win0_1.index t 1 + 1 * b.val = 1024 * (t.val / 16) + b.val; rw [e1]; omega
  | ⟨2, _⟩ => show win0_1.index t 2 + 1 * k.val = k.val; rw [e2]; omega

/-- The weight rows a point reads depend on its column tile only. -/
theorem wt_same (t t' : Fin cfg0.N) (h : t.val / 16 = t'.val / 16) : iblk m c 1 t = iblk m c 1 t' := by
  funext y
  obtain ⟨i0, i1, i2, rfl⟩ : ∃ (i0 : Fin 1) (i1 : Fin 1024) (i2 : Fin 2048), y = ix3 i0 i1 i2 := ⟨y 0, y 1, y 2, eq_ix3 y⟩
  obtain rfl : i0 = 0 := Subsingleton.elim _ _
  rw [wt_at, wt_at]
  simp only [h]

/-- The resident weight block after each point is the one its column tile reads. -/
theorem resident (n : ℕ) (hn : n < cfg0.N) : (outsAt0 m c n hn).2 = k0_pay1 (iblk m c 1 ⟨n, hn⟩) := by
  have first : ∀ t : Fin cfg0.N, t.val % 16 = 0 → (outsAt0 m c t.val t.isLt).2 = k0_pay1 (iblk m c 1 t) := by
    intro t h
    have e := scr_A (F := F) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h)
    rw [outsAt0_A m c t h]
    dsimp only
    exact e
  induction n with
  | zero => exact first ⟨0, hn⟩ (Nat.zero_mod _)
  | succ n ih =>
    by_cases h : (n + 1) % 16 = 0
    · exact first ⟨n + 1, hn⟩ h
    · rw [outsAt0_B m c ⟨n + 1, hn⟩ h]
      dsimp only
      refine (ih (Nat.lt_of_succ_lt hn)).trans ?_
      exact congrArg k0_pay1 (wt_same m c _ _ (by show n / 16 = (n + 1) / 16; omega))

/-- The output block of each point, from the rows, the weight rows and the bias it reads. -/
theorem point (t : Fin cfg0.N) : (outsAt0 m c t.val t.isLt).1
    = k0_pay2 (iblk m c 0 t) (k0_pay1 (iblk m c 1 t)) := by
  by_cases h : t.val % 16 = 0
  · have e := out_A (F := F) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h)
    rw [outsAt0_A m c t h]
    dsimp only
    exact e
  · have e := out_B (F := F) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (outsAt0 m c (t.val - 1) (Nat.lt_of_le_of_lt (Nat.sub_le _ _) t.isLt)).2 (fun h' => h ((hcond0_0 t).mp h'))
    rw [outsAt0_B m c t h]
    dsimp only
    refine e.trans ?_
    rw [resident]
    rw [wt_same m c ⟨t.val - 1, _⟩ t (by show (t.val - 1) / 16 = t.val / 16; omega)]
end

/-- The reference's projection at one entry. -/
theorem ref_proj (h : FVec Ideal S16384x2048 .bf16) (w : FVec Ideal S1x2048x11296 .f32) (r : Fin 16384) (q : Fin 11296) :
    Host.dotGeneral Cert.ZsRefIdeal.dot_S1x16384x2048_S2048x11296_S1x16384x11296_2_0_01_1_n_n none
      (broadcastInDim Cert.ZsRefIdeal.S1x16384x2048 ![1, 2] Cert.ZsRefIdeal.Gen.bcast_S16384x2048_S1x16384x2048_1_2 (extf .f32 h Cert.ZsRefIdeal.Gen.bitsLt_bf16_f32))
      (shapeCast Cert.ZsRefIdeal.S2048x11296 w Cert.ZsRefIdeal.Gen.shapeCasts_S1x2048x11296_S2048x11296) (ix3 0 r q) = Cert.Own.proj h w r q := by
  unfold Cert.Own.proj
  pointwise

/-- The gating factor at one entry: the projection times its sigmoid. -/
def gateAt (h : Vec Ideal S16384x2048 .bf16) (w : Vec Ideal S1x2048x11296 .f32) (r : Fin 16384) (q : Fin 2048) : EReal :=
  Cert.Own.proj h w r (⟨q.val, by omega⟩ : Fin 11296) * Ideal.div 1 (1 + Ideal.exp (-(Cert.Own.proj h w r (⟨q.val, by omega⟩ : Fin 11296))))

/-- One entry of an output block. -/
theorem body_at (x0 : Vec Ideal S1024x2048 .bf16) (x1 : Vec Ideal S1x1024x2048 .f32) (a b : Fin 1024) :
    k0_pay2 x0 (k0_pay1 x1) (ix2 a b) = (∑ k : Fin 2048, x0 (ix2 a k) * x1 (ix3 0 b k)) * Ideal.div 1 (1 + Ideal.exp (-(∑ k : Fin 2048, x0 (ix2 a k) * x1 (ix3 0 b k)))) := by
  unfold_payloads
  pointwise
  rw [zero_sub]

variable (m : (ℓ : Loc nD τ sig) → Buf (Elt Ideal) ℓ) (c : Dev nD)

/-- The kernel's result at one entry. -/
theorem result_at (r : Fin 16384) (q : Fin 2048) : Value.G3 m c (ix2 r q)
    = gateAt (m ((c : Thread nD τ).loc main_arg0)) (m ((c : Thread nD τ).loc main_arg1)) r q := by
  unfold Value.G3
  have hlt : Value.pt3Of (ix2 r q) < cfg0.N := lt_of_lt_of_eq (show 1 * (r.val / 1024 - 0) + 16 * (q.val / 1024 - 0) < 32 by omega) N_0.symm
  rw [dif_pos hlt, ← Value.outsAt0_sweep m c _ hlt]
  refine (congrFun (point m c ⟨_, hlt⟩) _).trans ?_
  rw [show Value.loc3Of (ix2 r q) = ix2 (⟨r.val % 1024, Nat.mod_lt _ (by decide)⟩ : Fin 1024) (⟨q.val % 1024, Nat.mod_lt _ (by decide)⟩ : Fin 1024) from by
    funext d; match d with | ⟨0, _⟩ => rfl | ⟨1, _⟩ => rfl]
  rw [body_at]
  unfold gateAt Cert.Own.proj
  have e0 : Value.pt3Of (ix2 r q) % 16 = r.val / 1024 := by show (1 * (r.val / 1024 - 0) + 16 * (q.val / 1024 - 0)) % 16 = _; omega
  have e1 : Value.pt3Of (ix2 r q) / 16 = q.val / 1024 := by show (1 * (r.val / 1024 - 0) + 16 * (q.val / 1024 - 0)) / 16 = _; omega
  simp only [rows_at, wt_at, e0, e1]
  simp only [show ∀ h, (⟨1024 * (r.val / 1024) + r.val % 1024, h⟩ : Fin 16384) = r from fun _ => Fin.ext (Nat.div_add_mod _ _),
    show ∀ h, (⟨1024 * (q.val / 1024) + q.val % 1024, h⟩ : Fin 11296) = ⟨q.val, by omega⟩ from fun _ => Fin.ext (by show 1024 * (q.val / 1024) + q.val % 1024 = q.val; omega)]

/-- The reference's gating factor at one entry, from its projection. -/
theorem ref_gate (P : FVec Ideal ZsRefIdeal.S1x16384x11296 .f32) (r : Fin 16384) (q : Fin 2048) :
    truncf .bf16 (shapeCast ZsRefIdeal.S16384x2048 (mulf (extractStridedSlice ZsRefIdeal.S1x16384x2048 ![0, 0, 0] P ZsRefIdeal.Gen.slices_S1x16384x11296_S1x16384x2048_0_0_0)
      (Host.divf (broadcastInDim ZsRefIdeal.S1x16384x2048 ![] ZsRefIdeal.Gen.bcast_S_S1x16384x2048 (constant ZsRefIdeal.S_ .f32 0x3F800000#32))
        (addf (broadcastInDim ZsRefIdeal.S1x16384x2048 ![] ZsRefIdeal.Gen.bcast_S_S1x16384x2048 (constant ZsRefIdeal.S_ .f32 0x3F800000#32))
          (Host.exp (Host.negf (extractStridedSlice ZsRefIdeal.S1x16384x2048 ![0, 0, 0] P ZsRefIdeal.Gen.slices_S1x16384x11296_S1x16384x2048_0_0_0))))))
      ZsRefIdeal.Gen.shapeCasts_S1x16384x2048_S16384x2048) ZsRefIdeal.Gen.bitsLt_bf16_f32 (ix2 r q)
    = P (ix3 0 r (⟨q.val, by omega⟩ : Fin 11296)) * Ideal.div 1 (1 + Ideal.exp (-(P (ix3 0 r (⟨q.val, by omega⟩ : Fin 11296))))) := by
  pointwise

open Idealize.SL.Sem in
/-- The kernel's result is the reference's. -/
theorem algebraic : Cert.algebraic_ZsIdeal_ZsRefIdeal := by
  intro m ρ m' ρ' _ hagree
  refine ⟨_, Cert.ZsIdeal.Value.run (F := Ideal) m ρ, ?_⟩
  refine (θ_run Cert.ZsRefIdeal.defs _ _).mono (fun _ h c => ⟨?_, (h c).2⟩) (Cert.ZsRefIdeal.Value.run (F := Ideal) m' ρ')
  rw [(h c).1]
  obtain ⟨e0, e1⟩ := hagree c
  rw [e0, e1]
  funext j
  rw [eq_ix2 (n0 := 16384) (n1 := 2048) j]
  refine Eq.trans ?_ (result_at m c (j 0) (j 1)).symm
  obtain ⟨r, hr⟩ : ∃ r : Fin 16384, r = j 0 := ⟨_, rfl⟩
  obtain ⟨q, hq⟩ : ∃ q : Fin 2048, q = j 1 := ⟨_, rfl⟩
  rw [← hr, ← hq]
  unfold gateAt
  rw [← ref_proj]
  generalize Host.dotGeneral (F := Ideal) (φ₁ := .f32) (φ₂ := .f32) Cert.ZsRefIdeal.dot_S1x16384x2048_S2048x11296_S1x16384x11296_2_0_01_1_n_n none _ _ = P
  exact ref_gate P r q
end Cert.ZsIdeal.Own
-- ==== Proof.GatedValue.lean ====
/- The gated normalisation and its projection: what the kernel leaves at each entry of the result. -/
module

public import proofs.«01_k».proof.Proof.Projection
public import proofs.«01_k».proof.Proof.Gen.GatedIdeal.Value
public import Idealize.ShloMosaic.Lib.WritesUnit
public import proofs.«01_k».proof.Defs
public import Idealize.ShloMosaic.Adequacy
public import Idealize.ShloMosaic.Init
public import proofs.«01_k».proof.Proof.Gen.GatedRefIdeal.Run

@[expose] public section

set_option maxRecDepth 100000

noncomputable section

namespace Cert.GatedIdeal.Own
open Cert.GatedIdeal Cert.GatedIdeal.Gen Idealize.ShloMosaic Idealize.ShloMosaic.TcCoe

section
variable {F : FTy → Type} [FloatOps F]
variable (m : (ℓ : Loc nD τ sig) → Buf (Elt F) ℓ) (c : Dev nD)

/-- What a point leaves in its output block. -/
theorem out_eq (x0 x1 : Vec F S512x2048 .bf16) (x2 : Vec F S1x2048 .f32) (x3 : Vec F S2048x2048 .bf16) :
    out0_4 x0 x1 x2 x3 = k0_pay1 x0 x1 x2 x3 := by
  unfold out0_4
  rw [View.canon_unit_zero Cert.Own.off2]
  rw [View.ld_unit_zero Cert.Own.off2, View.ld_unit_zero Cert.Own.off2, View.ld_unit_zero Cert.Own.off2, View.ld_unit_zero Cert.Own.off2]

theorem lt_N (t : Fin cfg0.N) : t.val < 32 := lt_of_lt_of_eq t.isLt N_0

/-- Point `t` works on row tile `t`, whole rows. -/
theorem idx_all : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) ∧ (win0_4.index t 0 = t.val ∧ win0_4.index t 1 = 0) :=
  (by decide +kernel : ∀ t : Fin grid0.N, _)

theorem y_at (t : Fin cfg0.N) (a : Fin 512) (k : Fin 2048) :
    iblk m c 0 t (ix2 a k) = m ((c : Thread nD τ).loc main_arg0) (ix2 (⟨512 * t.val + a.val, by have := lt_N t; omega⟩ : Fin 16384) k) := by
  unfold iblk
  rw [View.read_apply]
  show V m c main_arg0 _ = _
  rw [V_main_arg0]
  congr 1
  funext b
  apply Fin.ext
  obtain ⟨⟨e0, e1⟩, -⟩ := idx_all t
  match b with
  | ⟨0, _⟩ => show win0_0.index t 0 * 512 + 1 * a.val = 512 * t.val + a.val; rw [e0]; omega
  | ⟨1, _⟩ => show win0_0.index t 1 * 2048 + 1 * k.val = k.val; rw [e1]; omega

theorem z_at (t : Fin cfg0.N) (a : Fin 512) (k : Fin 2048) :
    iblk m c 1 t (ix2 a k) = m ((c : Thread nD τ).loc main_arg1) (ix2 (⟨512 * t.val + a.val, by have := lt_N t; omega⟩ : Fin 16384) k) := by
  unfold iblk
  rw [View.read_apply]
  show V m c main_arg1 _ = _
  rw [V_main_arg1]
  congr 1
  funext b
  apply Fin.ext
  obtain ⟨-, ⟨e0, e1⟩, -⟩ := idx_all t
  match b with
  | ⟨0, _⟩ => show win0_1.index t 0 * 512 + 1 * a.val = 512 * t.val + a.val; rw [e0]; omega
  | ⟨1, _⟩ => show win0_1.index t 1 * 2048 + 1 * k.val = k.val; rw [e1]; omega

theorem V_norm : V m c main_v3 = shapeCast S1x2048 (shapeCast S2048 (m ((c : Thread nD τ).loc main_arg2)) shapeCasts_S1x2048_S2048) shapeCasts_S2048_S1x2048 := by
  unfold V
  after_results <;> rfl

theorem V_w : V m c main_v2 = truncf .bf16 (shapeCast S2048x2048 (m ((c : Thread nD τ).loc main_arg3)) shapeCasts_S1x2048x2048_S2048x2048) bitsLt_bf16_f32 := by
  unfold V
  after_results <;> rfl
end

section
variable (m : (ℓ : Loc nD τ sig) → Buf (Elt Ideal) ℓ) (c : Dev nD)
theorem norm_at (t : Fin cfg0.N) (k : Fin 2048) :
    iblk m c 2 t (ix2 0 k) = m ((c : Thread nD τ).loc main_arg2) (ix2 0 k) := by
  unfold iblk
  rw [View.read_apply]
  show V m c main_v3 _ = _
  rw [V_norm]
  obtain ⟨-, -, ⟨e0, e1⟩, -⟩ := idx_all t
  rw [show ((cfg0.win 2).blk t).view.emb (ix2 0 k) = ix2 (0 : Fin 1) k from ?_]
  · pointwise
  funext d
  apply Fin.ext
  match d with
  | ⟨0, _⟩ => show win0_2.index t 0 * 1 + 1 * 0 = 0; rw [e0]
  | ⟨1, _⟩ => show win0_2.index t 1 * 2048 + 1 * k.val = k.val; rw [e1]; omega

theorem w_cast (w : FVec Ideal S1x2048x2048 .f32) (k q : Fin 2048) :
    truncf .bf16 (shapeCast S2048x2048 w shapeCasts_S1x2048x2048_S2048x2048) bitsLt_bf16_f32 (ix2 k q) = w (ix3 0 k q) := by
  pointwise

theorem w_at (t : Fin cfg0.N) (k q : Fin 2048) :
    iblk m c 3 t (ix2 k q) = m ((c : Thread nD τ).loc main_arg3) (ix3 0 k q) := by
  unfold iblk
  rw [View.read_apply]
  show V m c main_v2 _ = _
  rw [V_w]
  obtain ⟨-, -, -, ⟨e0, e1⟩, -⟩ := idx_all t
  rw [show ((cfg0.win 3).blk t).view.emb (ix2 k q) = ix2 k q from ?_]
  · exact w_cast _ k q
  funext d
  apply Fin.ext
  match d with
  | ⟨0, _⟩ => show win0_3.index t 0 * 2048 + 1 * k.val = k.val; rw [e0]; omega
  | ⟨1, _⟩ => show win0_3.index t 1 * 2048 + 1 * q.val = q.val; rw [e1]; omega
end

/-- One entry of the normalised row `v`, weighted. -/
def normAt (v w : Fin 2048 → EReal) (k : Fin 2048) : EReal :=
  v k * Ideal.rsqrt (Ideal.div (∑ j : Fin 2048, v j * v j) (Ideal.ofBits .f32 0x45000000#32) + Ideal.ofBits .f32 0x358637BD#32) * w k

/-- The projected entry. -/
def gatedAt (y z : Vec Ideal S16384x2048 .bf16) (nw : Vec Ideal S1x2048 .f32) (w : Vec Ideal S1x2048x2048 .f32) (r : Fin 16384) (q : Fin 2048) : EReal :=
  ∑ k : Fin 2048, normAt (fun k => (y (ix2 r k) : EReal) * (z (ix2 r k) : EReal)) (fun k => nw (ix2 0 k)) k * (w (ix3 0 k q) : EReal)

/-- One entry of an output block. -/
theorem body_at (x0 x1 : Vec Ideal S512x2048 .bf16) (x2 : Vec Ideal S1x2048 .f32) (x3 : Vec Ideal S2048x2048 .bf16) (a : Fin 512) (q : Fin 2048) :
    k0_pay1 x0 x1 x2 x3 (ix2 a q) = ∑ k : Fin 2048, normAt (fun k => (x0 (ix2 a k) : EReal) * (x1 (ix2 a k) : EReal)) (fun k => x2 (ix2 0 k)) k * (x3 (ix2 k q) : EReal) := by
  unfold_payloads
  unfold normAt
  pointwise

section
variable (m : (ℓ : Loc nD τ sig) → Buf (Elt Ideal) ℓ) (c : Dev nD)

/-- The kernel's result at one entry. -/
theorem result_at (r : Fin 16384) (q : Fin 2048) : (dats m 0 c).arrAt 4 cfg0.N (ix2 r q)
    = gatedAt (m ((c : Thread nD τ).loc main_arg0)) (m ((c : Thread nD τ).loc main_arg1)) (m ((c : Thread nD τ).loc main_arg2)) (m ((c : Thread nD τ).loc main_arg3)) r q := by
  have hN : r.val / 512 < cfg0.N := lt_of_lt_of_eq (show r.val / 512 < 32 by omega) N_0.symm
  obtain ⟨t, ht⟩ : ∃ t : Fin cfg0.N, t.val = r.val / 512 := ⟨⟨_, hN⟩, rfl⟩
  obtain ⟨a, ha⟩ : ∃ a : Fin 512, a.val = r.val % 512 := ⟨⟨_, Nat.mod_lt _ (by decide)⟩, rfl⟩
  have hr : ∀ h, (⟨512 * t.val + a.val, h⟩ : Fin 16384) = r := fun _ => Fin.ext (by show 512 * t.val + a.val = r.val; omega)
  have hf : (cfg0.win 4).flush t = true := flush0_4 t
  have e := (dats m 0 c).arrAt_emb_eq_flushed 4 Value.disjoint4 t hf (ix2 a q)
  rw [show ((cfg0.win 4).blk t).view.emb (ix2 a q) = ix2 r q from by
    funext d
    apply Fin.ext
    obtain ⟨-, -, -, -, ⟨e0, e1⟩⟩ := idx_all t
    match d with
    | ⟨0, _⟩ => show win0_4.index t 0 * 512 + 1 * a.val = r.val; rw [e0]; omega
    | ⟨1, _⟩ => show win0_4.index t 1 * 2048 + 1 * q.val = q.val; rw [e1]; omega] at e
  refine e.trans ?_
  rw [Value.flushed4, out_eq]
  refine (body_at (iblk m c 0 t) (iblk m c 1 t) (iblk m c 2 t) (iblk m c 3 t) a q).trans ?_
  unfold gatedAt
  simp only [y_at, z_at, norm_at, w_at, hr]
end

/-- The reference at one entry, from the gated rows. -/
theorem ref_at (y z : FVec Ideal S16384x2048 .bf16) (nw : FVec Ideal S1x2048 .f32) (w : FVec Ideal S1x2048x2048 .f32) (r : Fin 16384) (q : Fin 2048) :
    (truncf .bf16 (shapeCast GatedRefIdeal.S16384x2048 (Host.dotGeneral GatedRefIdeal.dot_S1x16384x2048_S2048x2048_S1x16384x2048_2_0_01_1_n_n none (mulf (mulf (mulf (broadcastInDim GatedRefIdeal.S1x16384x2048 ![1, 2] GatedRefIdeal.Gen.bcast_S16384x2048_S1x16384x2048_1_2 (extf .f32 y GatedRefIdeal.Gen.bitsLt_bf16_f32)) (broadcastInDim GatedRefIdeal.S1x16384x2048 ![1, 2] GatedRefIdeal.Gen.bcast_S16384x2048_S1x16384x2048_1_2 (extf .f32 z GatedRefIdeal.Gen.bitsLt_bf16_f32))) (broadcastInDim GatedRefIdeal.S1x16384x2048 ![0, 1, 2] GatedRefIdeal.Gen.bcast_S1x16384x1_S1x16384x2048_0_1_2 (Host.rsqrt (addf (Host.divf (broadcastInDim GatedRefIdeal.S1x16384x1 ![0, 1] GatedRefIdeal.Gen.bcast_S1x16384_S1x16384x1_0_1 (Host.reduceAdd (mulf (mulf (broadcastInDim GatedRefIdeal.S1x16384x2048 ![1, 2] GatedRefIdeal.Gen.bcast_S16384x2048_S1x16384x2048_1_2 (extf .f32 y GatedRefIdeal.Gen.bitsLt_bf16_f32)) (broadcastInDim GatedRefIdeal.S1x16384x2048 ![1, 2] GatedRefIdeal.Gen.bcast_S16384x2048_S1x16384x2048_1_2 (extf .f32 z GatedRefIdeal.Gen.bitsLt_bf16_f32))) (mulf (broadcastInDim GatedRefIdeal.S1x16384x2048 ![1, 2] GatedRefIdeal.Gen.bcast_S16384x2048_S1x16384x2048_1_2 (extf .f32 y GatedRefIdeal.Gen.bitsLt_bf16_f32)) (broadcastInDim GatedRefIdeal.S1x16384x2048 ![1, 2] GatedRefIdeal.Gen.bcast_S16384x2048_S1x16384x2048_1_2 (extf .f32 z GatedRefIdeal.Gen.bitsLt_bf16_f32)))) (constant GatedRefIdeal.S_ .f32 0x00000000#32) GatedRefIdeal.Gen.reducesTo_S1x16384x2048_S1x16384_d2 GatedRefIdeal.Gen.h_S_)) (broadcastInDim GatedRefIdeal.S1x16384x1 ![] GatedRefIdeal.Gen.bcast_S_S1x16384x1 (constant GatedRefIdeal.S_ .f32 0x45000000#32))) (broadcastInDim GatedRefIdeal.S1x16384x1 ![] GatedRefIdeal.Gen.bcast_S_S1x16384x1 (constant GatedRefIdeal.S_ .f32 0x358637BD#32)))))) (broadcastInDim GatedRefIdeal.S1x16384x2048 ![0, 1, 2] GatedRefIdeal.Gen.bcast_S1x1x2048_S1x16384x2048_0_1_2 (broadcastInDim GatedRefIdeal.S1x1x2048 ![2] GatedRefIdeal.Gen.bcast_S2048_S1x1x2048_2 (shapeCast GatedRefIdeal.S2048 nw GatedRefIdeal.Gen.shapeCasts_S1x2048_S2048)))) (shapeCast GatedRefIdeal.S2048x2048 w GatedRefIdeal.Gen.shapeCasts_S1x2048x2048_S2048x2048)) GatedRefIdeal.Gen.shapeCasts_S1x16384x2048_S16384x2048) GatedRefIdeal.Gen.bitsLt_bf16_f32) (ix2 r q) = gatedAt y z nw w r q := by
  unfold gatedAt normAt
  pointwise

open Idealize.SL.Sem in
/-- The kernel's result is the reference's. -/
theorem algebraic : Cert.algebraic_GatedIdeal_GatedRefIdeal := by
  intro m ρ m' ρ' _ hagree
  refine ⟨_, Cert.GatedIdeal.Value.run_blocks (F := Ideal) m ρ, ?_⟩
  refine (θ_run Cert.GatedRefIdeal.defs _ _).mono (fun _ h c => ⟨?_, (h c).2⟩) (Cert.GatedRefIdeal.Value.run (F := Ideal) m' ρ')
  rw [(h c).1]
  obtain ⟨e0, e1, e2, e3⟩ := hagree c
  rw [e0, e1, e2, e3]
  funext j
  rw [eq_ix2 (n0 := 16384) (n1 := 2048) j]
  exact (ref_at _ _ _ _ (j 0) (j 1)).trans (result_at m c (j 0) (j 1)).symm
end Cert.GatedIdeal.Own
-- ==== Proof.StepMajor.lean ====
/- The permutation between token order and step-major order as the kernels compute it: a product with a 0/1 matrix
   that swaps the two base-16 digits of a row number. -/
module

public import proofs.«01_k».proof.Proof.Projection
public import Idealize.ShloMosaic.Lib.Pointwise

@[expose] public section

set_option maxRecDepth 100000

noncomputable section

namespace Cert.Own
open Idealize.ShloMosaic
open scoped BigOperators

/-- The two base-16 digits of a number below 256, swapped. -/
def swap (o : Fin 256) : Fin 256 := ⟨o.val % 16 * 16 + o.val / 16, by omega⟩

/-- The kernels' bit arithmetic swaps the digits. -/
theorem swap_bits : ∀ o : Fin 256, IntOp.ori (IntOp.shli ArithUnit.vector (IntOp.andi (BitVec.ofNat 32 o.val) 15#32) 4#32)
    (IntOp.shrsi ArithUnit.vector (BitVec.ofNat 32 o.val) 4#32) = BitVec.ofNat 32 (swap o).val := by decide +kernel

/-- One entry of the 0/1 matrix. -/
theorem swap_select (o k : Fin 256) :
    Scalar.select (IntOp.cmpi CmpIPredicate.eq (BitVec.ofNat 32 k.val)
        (IntOp.ori (IntOp.shli ArithUnit.vector (IntOp.andi (BitVec.ofNat 32 o.val) 15#32) 4#32)
          (IntOp.shrsi ArithUnit.vector (BitVec.ofNat 32 o.val) 4#32))) (1 : EReal) 0 = if k = swap o then 1 else 0 := by
  rw [swap_bits]
  have hk := k.isLt
  have hs := (swap o).isLt
  by_cases e : k = swap o
  · rw [if_pos e, e]
    simp [IntOp.cmpi, Scalar.select]
  · rw [if_neg e]
    have : ¬ BitVec.ofNat 32 k.val = BitVec.ofNat 32 (swap o).val := by
      intro e'
      have := congrArg BitVec.toNat e'
      simp only [BitVec.toNat_ofNat] at this
      exact e (Fin.ext (by omega))
    simp [IntOp.cmpi, Scalar.select, beq_eq_false_iff_ne.mpr this]

/-- A row of the 0/1 matrix times a column takes one entry of the column. -/
theorem swap_sum (o : Fin 256) (x : Fin 256 → EReal) : ∑ k : Fin 256, (if k = swap o then (1 : EReal) else 0) * x k = x (swap o) := by
  simp only [ite_mul, one_mul, zero_mul, Finset.sum_ite_eq', Finset.mem_univ, if_true]

end Cert.Own
-- ==== Proof.GluValue.lean ====
/- The gated unit of the second branch: rows taken out of step-major order, the activation, the gate and the projection: what the kernel leaves at each entry of the result. -/
module

public import proofs.«01_k».proof.Proof.StepMajor
public import proofs.«01_k».proof.Proof.Gen.GluIdeal.Value
public import Idealize.ShloMosaic.Lib.WritesUnit
public import proofs.«01_k».proof.Defs
public import Idealize.ShloMosaic.Adequacy
public import Idealize.ShloMosaic.Init
public import proofs.«01_k».proof.Proof.Gen.GluRefIdeal.Run

@[expose] public section

set_option maxRecDepth 100000

noncomputable section

namespace Cert.GluIdeal.Own
open Cert.GluIdeal Cert.GluIdeal.Gen Idealize.ShloMosaic Idealize.ShloMosaic.TcCoe

/-- The 0/1 matrix at one entry. -/
theorem perm_at (o k : Fin 256) : (k0_pay3 (F := Ideal)) (ix2 o k) = if k = Cert.Own.swap o then (1 : EReal) else 0 := by
  unfold k0_pay3
  pointwise
  exact Cert.Own.swap_select o k

/-- A product of two blocks at one entry. -/
theorem dot_at (p : FVec Ideal S256x256 .bf16) (x : FVec Ideal S256x1024 .bf16) (o : Fin 256) (q : Fin 1024) :
    matmul dot_S256x256_S256x1024_S256x1024_1_0_0_1_n_n none p x (constant S256x1024 .f32 0x00000000#32) (ix2 o q)
      = ∑ k : Fin 256, (p (ix2 o k) : EReal) * (x (ix2 k q) : EReal) := by
  pointwise

/-- The product with the 0/1 matrix swaps the digits of the row number. -/
theorem perm_dot (x : FVec Ideal S256x1024 .bf16) (o : Fin 256) (q : Fin 1024) :
    matmul dot_S256x256_S256x1024_S256x1024_1_0_0_1_n_n none (k0_pay3 (F := Ideal)) x (constant S256x1024 .f32 0x00000000#32) (ix2 o q)
      = x (ix2 (Cert.Own.swap o) q) := by
  rw [dot_at]
  simp only [perm_at]
  exact Cert.Own.swap_sum o fun k => x (ix2 k q)

/-- Sixteen 16-row pieces stacked, at one entry. -/
theorem stack_at (f : Fin 16 → FVec Ideal S16x1024 .bf16) (p : Fin 256) (q : Fin 1024) :
    concatenate S256x1024 0 [⟨S16x1024, f 0⟩, ⟨S16x1024, f 1⟩, ⟨S16x1024, f 2⟩, ⟨S16x1024, f 3⟩, ⟨S16x1024, f 4⟩, ⟨S16x1024, f 5⟩, ⟨S16x1024, f 6⟩, ⟨S16x1024, f 7⟩, ⟨S16x1024, f 8⟩, ⟨S16x1024, f 9⟩, ⟨S16x1024, f 10⟩, ⟨S16x1024, f 11⟩, ⟨S16x1024, f 12⟩, ⟨S16x1024, f 13⟩, ⟨S16x1024, f 14⟩, ⟨S16x1024, f 15⟩] concatenates_S16x1024_S16x1024_S16x1024_S16x1024_S16x1024_S16x1024_S16x1024_S16x1024_S16x1024_S16x1024_S16x1024_S16x1024_S16x1024_S16x1024_S16x1024_S16x1024_S256x1024_d0 (ix2 p q)
      = f (⟨p.val / 16, by omega⟩ : Fin 16) (ix2 (⟨p.val % 16, by omega⟩ : Fin 16) q) :=
  concatenate_ofFn_apply (t := S256x1024) (s₁ := S16x1024) 0 f concatenates_S16x1024_S16x1024_S16x1024_S16x1024_S16x1024_S16x1024_S16x1024_S16x1024_S16x1024_S16x1024_S16x1024_S16x1024_S16x1024_S16x1024_S16x1024_S16x1024_S256x1024_d0 rfl 16 rfl (ix2 p q) (⟨p.val / 16, by omega⟩ : Fin 16) rfl
    (ix2 (⟨p.val % 16, by omega⟩ : Fin 16) q) rfl (fun b hb => by
      match b with
      | ⟨0, _⟩ => exact absurd rfl hb
      | ⟨1, _⟩ => rfl)

theorem piece_at (x : FVec Ideal S1x16x1024 .bf16) (j : Fin 16) (q : Fin 1024) :
    shapeCast S16x1024 x shapeCasts_S1x16x1024_S16x1024 (ix2 j q) = x (ix3 0 j q) := by
  pointwise

section
variable (x : Fin 16 → Vec Ideal S1x16x1024 .bf16)

/-- The first half's sixteen pieces, back in token order: row `o` comes from piece `o % 16`, row `o / 16`. -/
theorem lo_at (o : Fin 256) (q : Fin 1024) :
    k0_pay12 (k0_pay3 (F := Ideal)) (k0_pay4 (x 0)) (k0_pay5 (x 1)) (k0_pay6 (x 2)) (k0_pay7 (x 3)) (k0_pay8 (x 4)) (k0_pay9 (x 5)) (k0_pay10 (x 6)) (k0_pay11 (x 7)) (x 8) (x 9) (x 10) (x 11) (x 12) (x 13) (x 14) (x 15) (ix2 o q)
      = x (⟨o.val % 16, by omega⟩ : Fin 16) (ix3 0 (⟨o.val / 16, by omega⟩ : Fin 16) q) := by
  refine (perm_dot _ o q).trans ?_
  refine (stack_at (fun n => shapeCast S16x1024 (x n) shapeCasts_S1x16x1024_S16x1024) (Cert.Own.swap o) q).trans ?_
  refine (piece_at _ _ q).trans ?_
  have e0 : (⟨(Cert.Own.swap o).val / 16, by omega⟩ : Fin 16) = ⟨o.val % 16, by omega⟩ := Fin.ext (by show (o.val % 16 * 16 + o.val / 16) / 16 = o.val % 16; omega)
  have e1 : (⟨(Cert.Own.swap o).val % 16, by omega⟩ : Fin 16) = ⟨o.val / 16, by omega⟩ := Fin.ext (by show (o.val % 16 * 16 + o.val / 16) % 16 = o.val / 16; omega)
  rw [e0, e1]

/-- The second half's the same. -/
theorem hi_at (o : Fin 256) (q : Fin 1024) :
    matmul dot_S256x256_S256x1024_S256x1024_1_0_0_1_n_n none (k0_pay3 (F := Ideal)) (k0_pay1 (k0_pay13 (x 0)) (k0_pay14 (x 1)) (k0_pay15 (x 2)) (k0_pay16 (x 3)) (k0_pay17 (x 4)) (k0_pay18 (x 5)) (k0_pay19 (x 6)) (k0_pay20 (x 7)) (k0_pay21 (x 8)) (k0_pay22 (x 9)) (k0_pay23 (x 10)) (k0_pay24 (x 11)) (k0_pay25 (x 12)) (k0_pay26 (x 13)) (k0_pay27 (x 14)) (x 15)) (constant S256x1024 .f32 0x00000000#32) (ix2 o q)
      = x (⟨o.val % 16, by omega⟩ : Fin 16) (ix3 0 (⟨o.val / 16, by omega⟩ : Fin 16) q) := by
  refine (perm_dot _ o q).trans ?_
  refine (stack_at (fun n => shapeCast S16x1024 (x n) shapeCasts_S1x16x1024_S16x1024) (Cert.Own.swap o) q).trans ?_
  refine (piece_at _ _ q).trans ?_
  have e0 : (⟨(Cert.Own.swap o).val / 16, by omega⟩ : Fin 16) = ⟨o.val % 16, by omega⟩ := Fin.ext (by show (o.val % 16 * 16 + o.val / 16) / 16 = o.val % 16; omega)
  have e1 : (⟨(Cert.Own.swap o).val % 16, by omega⟩ : Fin 16) = ⟨o.val / 16, by omega⟩ := Fin.ext (by show (o.val % 16 * 16 + o.val / 16) % 16 = o.val / 16; omega)
  rw [e0, e1]
end

/-- The activation. -/
def gelu (y : EReal) : EReal :=
  Ideal.ofBits .f32 0x3F000000#32 * y * (1 + Ideal.tanh (Ideal.ofBits .f32 0x3F4C422A#32 * (y + Ideal.ofBits .f32 0x3D372713#32 * (y * y * y))))

theorem gelu_eq (y : EReal) : gelu y = y * (Ideal.ofBits .f32 0x3F000000#32 * (1 + Ideal.tanh (Ideal.ofBits .f32 0x3F4C422A#32 * (y + Ideal.ofBits .f32 0x3D372713#32 * (y * y * y))))) := by
  unfold gelu
  rw [mul_comm (Ideal.ofBits .f32 0x3F000000#32) y, mul_assoc]

/-- The activated row times its gate, projected to column `q`. -/
def unitAt (y : Fin 1024 → EReal) (wg : Fin 1024 → Fin 1024 → EReal) (wu : Fin 1024 → EReal) : EReal :=
  ∑ k : Fin 1024, gelu (y k) * Ideal.div 1 (1 + Ideal.exp (-(∑ j : Fin 1024, gelu (y j) * wg j k))) * wu k

/-- The block computed from its rows in token order. -/
theorem pay2_at (p : FVec Ideal S256x256 .bf16) (v47 : FVec Ideal S256x1024 .f32) (v80 : FVec Ideal S256x1024 .bf16) (wg : Vec Ideal S1024x1024 .bf16) (wu : Vec Ideal S1024x2048 .bf16)
    (Y : FVec Ideal S512x1024 .f32) (hY : concatenate S512x1024 0 [⟨S256x1024, v47⟩, ⟨S256x1024, matmul dot_S256x256_S256x1024_S256x1024_1_0_0_1_n_n none p v80 (constant S256x1024 .f32 0x00000000#32)⟩] concatenates_S256x1024_S256x1024_S512x1024_d0 = Y)
    (a : Fin 512) (q : Fin 2048) :
    k0_pay2 p v47 v80 wg wu (ix2 a q) = unitAt (fun k => Y (ix2 a k)) (fun j k => wg (ix2 j k)) (fun k => wu (ix2 k q)) := by
  unfold k0_pay2
  rw [hY]
  unfold unitAt gelu
  pointwise
  simp only [zero_sub]

/-- Two halves stacked, at one entry. -/
theorem halves_at (A B : FVec Ideal S256x1024 .f32) (a : Fin 512) (k : Fin 1024) :
    concatenate S512x1024 0 [⟨S256x1024, A⟩, ⟨S256x1024, B⟩] concatenates_S256x1024_S256x1024_S512x1024_d0 (ix2 a k)
      = if h : a.val < 256 then A (ix2 ⟨a.val, h⟩ k) else B (ix2 ⟨a.val - 256, by omega⟩ k) := by
  pointwise

/-- A load of sixteen rows of one step. -/
theorem load_at (x0 : Vec Ideal S16x32x1024 .bf16) (n o : ℕ) (hn : n < 16) (ho : o ≤ 16) (inb : ∀ b, (![n, o, 0] : Fin 3 → ℕ) b + S1x16x1024.size b ≤ S16x32x1024.size b) (j : Fin 16) (k : Fin 1024) :
    View.ld x0 (Rect.unit (s := S16x32x1024) ![n, o, 0] S1x16x1024.size inb) (ix3 0 j k) = x0 (ix3 (⟨n, hn⟩ : Fin 16) (⟨o + j.val, by omega⟩ : Fin 32) k) := by
  show x0 _ = _
  congr 1
  funext d
  apply Fin.ext
  match d with
  | ⟨0, _⟩ => show n + 1 * 0 = n; omega
  | ⟨1, _⟩ => show o + 1 * j.val = o + j.val; omega
  | ⟨2, _⟩ => show 0 + 1 * k.val = k.val; omega

theorem inb_piece (n : Fin 16) (o : ℕ) (ho : o ≤ 16) : ∀ b, (![n.val, o, 0] : Fin 3 → ℕ) b + S1x16x1024.size b ≤ S16x32x1024.size b := by
  intro b
  match b with
  | ⟨0, _⟩ => show n.val + 1 ≤ 16; omega
  | ⟨1, _⟩ => show o + 16 ≤ 32; omega
  | ⟨2, _⟩ => show 0 + 1024 ≤ 1024; omega

/-- The sixteen rows from `o` of each step. -/
def pieces (x0 : Vec Ideal S16x32x1024 .bf16) (o : ℕ) (ho : o ≤ 16) (n : Fin 16) : Vec Ideal S1x16x1024 .bf16 :=
  View.ld x0 (Rect.unit (s := S16x32x1024) ![n.val, o, 0] S1x16x1024.size (inb_piece n o ho))

/-- One entry of an output block. -/
theorem out_at (x0 : Vec Ideal S16x32x1024 .bf16) (x1 : Vec Ideal S1024x1024 .bf16) (x2 : Vec Ideal S1024x2048 .bf16) (a : Fin 512) (q : Fin 2048) :
    out0_3 x0 x1 x2 (ix2 a q) = unitAt (fun k => x0 (ix3 (⟨a.val % 16, by omega⟩ : Fin 16) (⟨a.val / 16, by omega⟩ : Fin 32) k)) (fun j k => x1 (ix2 j k)) (fun k => x2 (ix2 k q)) := by
  unfold out0_3 k0_pay28
  rw [View.canon_unit_zero Cert.Own.off2]
  rw [View.ld_unit_zero Cert.Own.off2, View.ld_unit_zero Cert.Own.off2]
  refine (pay2_at _ _ _ x1 x2 _ rfl a q).trans ?_
  congr 1
  funext k
  refine (halves_at _ _ a k).trans ?_
  split
  · rename_i h
    refine (lo_at (pieces x0 0 (by omega)) ⟨a.val, h⟩ k).trans ?_
    refine (load_at x0 _ _ (by omega) (by omega) _ _ k).trans ?_
    congr 1
    funext d
    apply Fin.ext
    match d with
    | ⟨0, _⟩ => rfl
    | ⟨1, _⟩ => show 0 + a.val / 16 = a.val / 16; omega
    | ⟨2, _⟩ => rfl
  · rename_i h
    refine (hi_at (pieces x0 16 (by omega)) ⟨a.val - 256, by omega⟩ k).trans ?_
    refine (load_at x0 _ _ (by omega) (by omega) _ _ k).trans ?_
    congr 1
    funext d
    apply Fin.ext
    match d with
    | ⟨0, _⟩ => show (a.val - 256) % 16 = a.val % 16; omega
    | ⟨1, _⟩ => show 16 + (a.val - 256) / 16 = a.val / 16; omega
    | ⟨2, _⟩ => rfl

section
variable (m : (ℓ : Loc nD τ sig) → Buf (Elt Ideal) ℓ) (c : Dev nD)

theorem lt_N (t : Fin cfg0.N) : t.val < 32 := lt_of_lt_of_eq t.isLt N_0

/-- Point `t` reads rows `32 t` on of every step and writes row tile `t`. -/
theorem idx_all : ∀ t : Fin cfg0.N, (win0_0.index t 0 = 0 ∧ win0_0.index t 1 = t.val ∧ win0_0.index t 2 = 0) ∧ (win0_1.index t 0 = 0 ∧ win0_1.index t 1 = 0)
    ∧ (win0_2.index t 0 = 0 ∧ win0_2.index t 1 = 0) ∧ (win0_3.index t 0 = t.val ∧ win0_3.index t 1 = 0) :=
  (by decide +kernel : ∀ t : Fin grid0.N, _)

theorem y_at (t : Fin cfg0.N) (s : Fin 16) (j : Fin 32) (k : Fin 1024) :
    iblk m c 0 t (ix3 s j k) = m ((c : Thread nD τ).loc main_arg0) (ix3 s (⟨32 * t.val + j.val, by have := lt_N t; omega⟩ : Fin 1024) k) := by
  unfold iblk
  rw [View.read_apply]
  show V m c main_arg0 _ = _
  rw [V_main_arg0]
  congr 1
  funext b
  apply Fin.ext
  obtain ⟨⟨e0, e1, e2⟩, -⟩ := idx_all t
  match b with
  | ⟨0, _⟩ => show win0_0.index t 0 * 16 + 1 * s.val = s.val; rw [e0]; omega
  | ⟨1, _⟩ => show win0_0.index t 1 * 32 + 1 * j.val = 32 * t.val + j.val; rw [e1]; omega
  | ⟨2, _⟩ => show win0_0.index t 2 * 1024 + 1 * k.val = k.val; rw [e2]; omega

theorem V_wg : V m c main_v1 = truncf (F := Ideal) .bf16 (shapeCast S1024x1024 (m ((c : Thread nD τ).loc main_arg1)) shapeCasts_S1x1024x1024_S1024x1024) bitsLt_bf16_f32 := by
  unfold V
  after_results <;> rfl

theorem V_wu : V m c main_v3 = truncf (F := Ideal) .bf16 (shapeCast S1024x2048 (m ((c : Thread nD τ).loc main_arg2)) shapeCasts_S1x1024x2048_S1024x2048) bitsLt_bf16_f32 := by
  unfold V
  after_results <;> rfl

theorem wg_cast (w : FVec Ideal S1x1024x1024 .f32) (j k : Fin 1024) :
    truncf .bf16 (shapeCast S1024x1024 w shapeCasts_S1x1024x1024_S1024x1024) bitsLt_bf16_f32 (ix2 j k) = w (ix3 0 j k) := by
  pointwise

theorem wu_cast (w : FVec Ideal S1x1024x2048 .f32) (k : Fin 1024) (q : Fin 2048) :
    truncf .bf16 (shapeCast S1024x2048 w shapeCasts_S1x1024x2048_S1024x2048) bitsLt_bf16_f32 (ix2 k q) = w (ix3 0 k q) := by
  pointwise

theorem wg_at (t : Fin cfg0.N) (j k : Fin 1024) : iblk m c 1 t (ix2 j k) = m ((c : Thread nD τ).loc main_arg1) (ix3 0 j k) := by
  unfold iblk
  rw [View.read_apply]
  show V m c main_v1 _ = _
  rw [V_wg]
  obtain ⟨-, ⟨e0, e1⟩, -⟩ := idx_all t
  rw [show ((cfg0.win 1).blk t).view.emb (ix2 j k) = ix2 j k from ?_]
  · exact wg_cast _ j k
  funext d
  apply Fin.ext
  match d with
  | ⟨0, _⟩ => show win0_1.index t 0 * 1024 + 1 * j.val = j.val; rw [e0]; omega
  | ⟨1, _⟩ => show win0_1.index t 1 * 1024 + 1 * k.val = k.val; rw [e1]; omega

theorem wu_at (t : Fin cfg0.N) (k : Fin 1024) (q : Fin 2048) : iblk m c 2 t (ix2 k q) = m ((c : Thread nD τ).loc main_arg2) (ix3 0 k q) := by
  unfold iblk
  rw [View.read_apply]
  show V m c main_v3 _ = _
  rw [V_wu]
  obtain ⟨-, -, ⟨e0, e1⟩, -⟩ := idx_all t
  rw [show ((cfg0.win 2).blk t).view.emb (ix2 k q) = ix2 k q from ?_]
  · exact wu_cast _ k q
  funext d
  apply Fin.ext
  match d with
  | ⟨0, _⟩ => show win0_2.index t 0 * 1024 + 1 * k.val = k.val; rw [e0]; omega
  | ⟨1, _⟩ => show win0_2.index t 1 * 2048 + 1 * q.val = q.val; rw [e1]; omega

/-- The result at one entry: token `r` is step `r % 16` of chunk `r / 16`. -/
def gluAt (y : Vec Ideal S16x1024x1024 .bf16) (wg : Vec Ideal S1x1024x1024 .f32) (wu : Vec Ideal S1x1024x2048 .f32) (r : Fin 16384) (q : Fin 2048) : EReal :=
  unitAt (fun k => y (ix3 (⟨r.val % 16, by omega⟩ : Fin 16) (⟨r.val / 16, by omega⟩ : Fin 1024) k)) (fun j k => wg (ix3 0 j k)) (fun k => wu (ix3 0 k q))

/-- The kernel's result at one entry. -/
theorem result_at (r : Fin 16384) (q : Fin 2048) : (dats m 0 c).arrAt 3 cfg0.N (ix2 r q)
    = gluAt (m ((c : Thread nD τ).loc main_arg0)) (m ((c : Thread nD τ).loc main_arg1)) (m ((c : Thread nD τ).loc main_arg2)) r q := by
  have hN : r.val / 512 < cfg0.N := lt_of_lt_of_eq (show r.val / 512 < 32 by omega) N_0.symm
  obtain ⟨t, ht⟩ : ∃ t : Fin cfg0.N, t.val = r.val / 512 := ⟨⟨_, hN⟩, rfl⟩
  obtain ⟨a, ha⟩ : ∃ a : Fin 512, a.val = r.val % 512 := ⟨⟨_, Nat.mod_lt _ (by decide)⟩, rfl⟩
  have e := (dats m 0 c).arrAt_emb_eq_flushed 3 Value.disjoint3 t (flush0_3 t) (ix2 a q)
  rw [show ((cfg0.win 3).blk t).view.emb (ix2 a q) = ix2 r q from by
    funext d
    apply Fin.ext
    obtain ⟨-, -, -, ⟨e0, e1⟩⟩ := idx_all t
    match d with
    | ⟨0, _⟩ => show win0_3.index t 0 * 512 + 1 * a.val = r.val; rw [e0]; omega
    | ⟨1, _⟩ => show win0_3.index t 1 * 2048 + 1 * q.val = q.val; rw [e1]; omega] at e
  refine e.trans ?_
  rw [Value.flushed3]
  have b := out_at (iblk m c 0 t) (iblk m c 1 t) (iblk m c 2 t) a q
  generalize out0_3 (iblk m c 0 t) (iblk m c 1 t) (iblk m c 2 t) = B at b ⊢
  refine Eq.trans (show _ = B (ix2 a q) from rfl) ?_
  rw [b]
  unfold gluAt
  simp only [y_at, wg_at, wu_at]
  have h0 : (⟨a.val % 16, by omega⟩ : Fin 16) = ⟨r.val % 16, by omega⟩ := Fin.ext (by show a.val % 16 = r.val % 16; omega)
  have h1 : ∀ h, (⟨32 * t.val + a.val / 16, h⟩ : Fin 1024) = ⟨r.val / 16, by omega⟩ := fun _ => Fin.ext (by show 32 * t.val + a.val / 16 = r.val / 16; omega)
  simp only [h0, h1]
end

theorem ref_rows (y : FVec Ideal S16x1024x1024 .bf16) (r : Fin 16384) (k : Fin 1024) :
    (shapeCast GluRefIdeal.S1x16384x1024 (transpose GluRefIdeal.S1024x16x1024 [1, 0, 2] (extf .f32 y GluRefIdeal.Gen.bitsLt_bf16_f32) GluRefIdeal.Gen.transposes_S16x1024x1024_S1024x16x1024_1_0_2) GluRefIdeal.Gen.shapeCasts_S1024x16x1024_S1x16384x1024) (ix3 0 r k) = y (ix3 (⟨r.val % 16, by omega⟩ : Fin 16) (⟨r.val / 16, by omega⟩ : Fin 1024) k) := by
  pointwise

/-- The reference at one entry, from its rows in token order. -/
theorem ref_at (Y : FVec Ideal GluRefIdeal.S1x16384x1024 .f32) (wg : FVec Ideal S1x1024x1024 .f32) (wu : FVec Ideal S1x1024x2048 .f32) (r : Fin 16384) (q : Fin 2048) :
    (truncf .bf16 (shapeCast GluRefIdeal.S16384x2048 (Host.dotGeneral GluRefIdeal.dot_S1x16384x1024_S1024x2048_S1x16384x2048_2_0_01_1_n_n none (mulf (mulf Y (mulf (broadcastInDim GluRefIdeal.S1x16384x1024 ![] GluRefIdeal.Gen.bcast_S_S1x16384x1024 (constant GluRefIdeal.S_ .f32 0x3F000000#32)) (addf (broadcastInDim GluRefIdeal.S1x16384x1024 ![] GluRefIdeal.Gen.bcast_S_S1x16384x1024 (constant GluRefIdeal.S_ .f32 0x3F800000#32)) (Host.tanh (mulf (broadcastInDim GluRefIdeal.S1x16384x1024 ![] GluRefIdeal.Gen.bcast_S_S1x16384x1024 (constant GluRefIdeal.S_ .f32 0x3F4C422A#32)) (addf Y (mulf (broadcastInDim GluRefIdeal.S1x16384x1024 ![] GluRefIdeal.Gen.bcast_S_S1x16384x1024 (constant GluRefIdeal.S_ .f32 0x3D372713#32)) (mulf (mulf Y Y) Y)))))))) (Host.divf (broadcastInDim GluRefIdeal.S1x16384x1024 ![] GluRefIdeal.Gen.bcast_S_S1x16384x1024 (constant GluRefIdeal.S_ .f32 0x3F800000#32)) (addf (broadcastInDim GluRefIdeal.S1x16384x1024 ![] GluRefIdeal.Gen.bcast_S_S1x16384x1024 (constant GluRefIdeal.S_ .f32 0x3F800000#32)) (Host.exp (Host.negf (Host.dotGeneral GluRefIdeal.dot_S1x16384x1024_S1024x1024_S1x16384x1024_2_0_01_1_n_n none (mulf Y (mulf (broadcastInDim GluRefIdeal.S1x16384x1024 ![] GluRefIdeal.Gen.bcast_S_S1x16384x1024 (constant GluRefIdeal.S_ .f32 0x3F000000#32)) (addf (broadcastInDim GluRefIdeal.S1x16384x1024 ![] GluRefIdeal.Gen.bcast_S_S1x16384x1024 (constant GluRefIdeal.S_ .f32 0x3F800000#32)) (Host.tanh (mulf (broadcastInDim GluRefIdeal.S1x16384x1024 ![] GluRefIdeal.Gen.bcast_S_S1x16384x1024 (constant GluRefIdeal.S_ .f32 0x3F4C422A#32)) (addf Y (mulf (broadcastInDim GluRefIdeal.S1x16384x1024 ![] GluRefIdeal.Gen.bcast_S_S1x16384x1024 (constant GluRefIdeal.S_ .f32 0x3D372713#32)) (mulf (mulf Y Y) Y)))))))) (shapeCast GluRefIdeal.S1024x1024 wg GluRefIdeal.Gen.shapeCasts_S1x1024x1024_S1024x1024))))))) (shapeCast GluRefIdeal.S1024x2048 wu GluRefIdeal.Gen.shapeCasts_S1x1024x2048_S1024x2048)) GluRefIdeal.Gen.shapeCasts_S1x16384x2048_S16384x2048) GluRefIdeal.Gen.bitsLt_bf16_f32) (ix2 r q)
      = unitAt (fun k => Y (ix3 0 r k)) (fun j k => wg (ix3 0 j k)) (fun k => wu (ix3 0 k q)) := by
  unfold unitAt
  simp only [gelu_eq]
  pointwise

open Idealize.SL.Sem in
/-- The kernel's result is the reference's. -/
theorem algebraic : Cert.algebraic_GluIdeal_GluRefIdeal := by
  intro m ρ m' ρ' _ hagree
  refine ⟨_, Cert.GluIdeal.Value.run_blocks (F := Ideal) m ρ, ?_⟩
  refine (θ_run Cert.GluRefIdeal.defs _ _).mono (fun _ h c => ⟨?_, (h c).2⟩) (Cert.GluRefIdeal.Value.run (F := Ideal) m' ρ')
  rw [(h c).1]
  obtain ⟨e0, e1, e2⟩ := hagree c
  rw [e0, e1, e2]
  funext j
  rw [eq_ix2 (n0 := 16384) (n1 := 2048) j]
  obtain ⟨r, hr⟩ : ∃ r : Fin 16384, r = j 0 := ⟨_, rfl⟩
  obtain ⟨q, hq⟩ : ∃ q : Fin 2048, q = j 1 := ⟨_, rfl⟩
  rw [← hr, ← hq]
  refine Eq.trans ?_ (result_at m c r q).symm
  refine (ref_at _ _ _ r q).trans ?_
  unfold gluAt
  congr 1
  funext k
  exact ref_rows _ r k
end Cert.GluIdeal.Own
-- ==== Proof.SsdBody.lean ====
/- What one chunk of the state-space kernel computes, in the kernel's own operations but written once for all its groups
   and heads: the running sums, each head's operands, and the output and state blocks of one group. -/
module

public import proofs.«01_k».proof.Proof.Gen.SsdIdeal.Value
public import Idealize.ShloMosaic.Lib.WritesUnit
public import Idealize.ShloMosaic.Lib.Pipeline.ValueKit.Tiles
public import proofs.«01_k».proof.Proof.Projection

@[expose] public section

set_option maxRecDepth 100000

noncomputable section

namespace Cert.SsdIdeal.Own
open Cert.SsdIdeal Cert.SsdIdeal.Gen Idealize.ShloMosaic Idealize.ShloMosaic.TcCoe Cert.Own

variable {F : FTy → Type} [FloatOps F] [Named F]

theorem colSlice : ∀ h : Fin 32, S128x128.Slices ![0, h.val] S128x1 := by decide
theorem rowSlice : ∀ h : Fin 32, S32x128.Slices ![h.val, 0] S1x128 := by decide

/-- One doubling step of the running sum down the rows: each row adds the row `n` above it, if there is one. -/
def stepDown (n : BitVec 32) (v : FVec F S128x128 .f32) : FVec F S128x128 .f32 :=
  addf v (select (cmpi .sge (iota .tc S128x128 32 [0] iota_S128x128_d0_w32) (broadcast S128x128 n))
    (dynamicRotate 0 n none v rotates_S128x128_d0) (broadcast S128x128 (Scalar.ofBits .f32 0x00000000#32)))

/-- One doubling step of the running sum along the lanes. -/
def stepAlong (n : BitVec 32) (v : FVec F S32x128 .f32) : FVec F S32x128 .f32 :=
  addf v (select (cmpi .sge (iota .tc S32x128 32 [1] iota_S32x128_d1_w32) (broadcast S32x128 n))
    (dynamicRotate 1 n none v rotates_S32x128_d1) (broadcast S32x128 (Scalar.ofBits .f32 0x00000000#32)))

/-- The step sizes times the decay rates, tokens down the rows. -/
def rateDown (d : Vec F S128x128 .f32) (al : Vec F S1x128 .f32) : FVec F S128x128 .f32 :=
  mulf (shapeCast S128x128 d shapeCasts_S128x128_S128x128)
    (broadcastTo S128x128 (subf (broadcast S1x128 (Scalar.ofBits .f32 0x00000000#32))
      (exp (shapeCast S1x128 al shapeCasts_S1x128_S1x128))) broadcasts_S1x128_S128x128)

/-- The step sizes, tokens along the lanes. -/
def steps (d : Vec F S32x128 .f32) : FVec F S32x128 .f32 := shapeCast S32x128 d shapeCasts_S32x128_S32x128

/-- The step sizes times the decay rates, tokens along the lanes. -/
def rateAlong (d : Vec F S32x128 .f32) (al : Vec F S32x1 .f32) : FVec F S32x128 .f32 :=
  mulf (steps d) (broadcastTo S32x128 (subf (broadcast S32x1 (Scalar.ofBits .f32 0x00000000#32))
    (exp (shapeCast S32x1 al shapeCasts_S32x1_S32x1))) broadcasts_S32x1_S32x128)

/-- The running sums down the rows. -/
def sumDown (v : FVec F S128x128 .f32) : FVec F S128x128 .f32 :=
  stepDown 64#32 (stepDown 32#32 (stepDown 16#32 (stepDown 8#32 (stepDown 4#32 (stepDown 2#32 (stepDown 1#32 v))))))

/-- The running sums along the lanes. -/
def sumAlong (v : FVec F S32x128 .f32) : FVec F S32x128 .f32 :=
  stepAlong 64#32 (stepAlong 32#32 (stepAlong 16#32 (stepAlong 8#32 (stepAlong 4#32 (stepAlong 2#32 (stepAlong 1#32 v))))))

/-- The causal mask. -/
def causal : IVec S128x128 1 :=
  cmpi .sge (iota .tc S128x128 32 [0] iota_S128x128_d0_w32) (iota .tc S128x128 32 [1] iota_S128x128_d1_w32)

/-- The head, within its group, that a lane belongs to. -/
def laneHead : IVec S1x256 32 := k0_pay15 (iota .tc S1x256 32 [1] iota_S1x256_d1_w32) 64#32 k0_pay13 k0_pay14 0#32

/-- A head's column of the sums, over all lanes. -/
def colOf (v : FVec F S128x128 .f32) (h : Fin 32) : FVec F S128x128 .f32 :=
  broadcastTo S128x128 (shapeCast S128x1 (extractStridedSlice S128x1 ![0, h.val] v (colSlice h)) shapeCasts_S128x1_S128x1)
    broadcasts_S128x1_S128x128

/-- A head's row. -/
def rowOf (v : FVec F S32x128 .f32) (h : Fin 32) : FVec F S1x128 .f32 := extractStridedSlice S1x128 ![h.val, 0] v (rowSlice h)

/-- A head's last sum. -/
def lastOf (v : FVec F S32x128 .f32) (h : Fin 32) : FVec F S1x1 .f32 :=
  extractStridedSlice S1x1 ![0, 127] (rowOf v h) slices_S1x128_o0_127_S1x1

/-- A head's left operand: its masked and decayed products inside the chunk beside its decayed output rows. -/
def leftOf (csc : FVec F S128x128 .f32) (csr dt : FVec F S32x128 .f32) (cb cf : FVec F S128x128 .f32) (h : Fin 32) :
    FVec F S128x256 .bf16 :=
  truncf .bf16 (concatenate S128x256 1
    [⟨S128x128, mulf (mulf cb (exp (select causal (subf (colOf csc h) (broadcastTo S128x128 (rowOf csr h) broadcasts_S1x128_S128x128))
      (broadcast S128x128 (Named.named κ "mask" 0xF149F2CA#32)))))
      (broadcastTo S128x128 (rowOf dt h) broadcasts_S1x128_S128x128)⟩,
     ⟨S128x128, mulf cf (exp (colOf csc h))⟩] concatenates_S128x128_S128x128_S128x256_d1) bitsLt_bf16_f32

/-- A head's operand of the new state: its input rows, transposed and decayed to the end of the chunk. -/
def inOf (csr dt : FVec F S32x128 .f32) (bt : FVec F S128x128 .f32) (h : Fin 32) : FVec F S128x128 .bf16 :=
  truncf .bf16 (mulf bt (broadcastTo S128x128 (mulf (rowOf dt h) (exp (subf (broadcastTo S1x128 (lastOf csr h) broadcasts_S1x1_S1x128)
    (rowOf csr h)))) broadcasts_S1x128_S128x128)) bitsLt_bf16_f32

/-- One head's whole-chunk decay laid over its lanes. -/
def decayOver (csr : FVec F S32x128 .f32) (h : Fin 32) (n : BitVec 32) (v : FVec F S1x256 .f32) : FVec F S1x256 .f32 :=
  select (cmpi .eq laneHead (broadcast S1x256 n))
    (broadcastTo S1x256 (shapeCast S1x1 (exp (lastOf csr h)) shapeCasts_S1x1_S1x1) broadcasts_S1x1_S1x256) v

/-- Head `r` of group `g`. -/
def headOf (g : Fin 8) (r : Fin 4) : Fin 32 := ⟨4 * g.val + r.val, by omega⟩

/-- The whole-chunk decays of a group's four heads, over their lanes. -/
def decayOf (csr : FVec F S32x128 .f32) (g : Fin 8) : FVec F S1x256 .f32 :=
  decayOver csr (headOf g 3) 3#32 (decayOver csr (headOf g 2) 2#32 (decayOver csr (headOf g 1) 1#32 (decayOver csr (headOf g 0) 0#32
    (broadcast S1x256 (Scalar.ofBits .f32 0x00000000#32)))))

/-- The rows of a stacked product that belong to each lane's head. -/
def pickHead (lanes : IVec S1x128 32) (n : BitVec 32) (v : FVec F S256x128 .f32) : FVec F S128x128 .f32 :=
  select (broadcastTo S128x128 (shapeCast S1x128 (cmpi .eq lanes (broadcast S1x128 n)) shapeCasts_S1x128_S1x128)
      broadcasts_S1x128_S128x128)
    (extractStridedSlice S128x128 ![128, 0] v slices_S256x128_o128_0_S128x128)
    (extractStridedSlice S128x128 ![0, 0] v slices_S256x128_o0_0_S128x128)

def lanes0 : IVec S1x128 32 := extractStridedSlice S1x128 ![0, 0] laneHead slices_S1x256_o0_0_S1x128
def lanes1 : IVec S1x128 32 := extractStridedSlice S1x128 ![0, 128] laneHead slices_S1x256_o0_128_S1x128

/-- Two heads' outputs stacked. -/
def outPair (l0 l1 : FVec F S128x256 .bf16) (w : FVec F S256x128 .bf16) : FVec F S256x128 .f32 :=
  matmul dot_S256x256_S256x128_S256x128_1_0_0_1_n_n none
    (concatenate S256x256 0 [⟨S128x256, l0⟩, ⟨S128x256, l1⟩] concatenates_S128x256_S128x256_S256x256_d0) w
    (constant S256x128 .f32 0x00000000#32)

/-- Two heads' states stacked. -/
def inPair (l0 l1 : FVec F S128x128 .bf16) (w : FVec F S128x128 .bf16) : FVec F S256x128 .f32 :=
  matmul dot_S256x128_S128x128_S256x128_1_0_0_1_n_n none
    (concatenate S256x128 0 [⟨S128x128, l0⟩, ⟨S128x128, l1⟩] concatenates_S128x128_S128x128_S256x128_d0) w
    (constant S256x128 .f32 0x00000000#32)

def stateIn (s : Vec F S1x128x256 .f32) : FVec F S128x256 .f32 := shapeCast S128x256 s shapeCasts_S1x128x256_S128x256

/-- The right operand of the output: the inputs above the state. -/
def rightOf (x : Vec F S128x256 .bf16) (s : Vec F S1x128x256 .f32) : FVec F S256x256 .bf16 :=
  concatenate S256x256 0 [⟨S128x256, x⟩, ⟨S128x256, truncf .bf16 (stateIn s) bitsLt_bf16_f32⟩] concatenates_S128x256_S128x256_S256x256_d0

/-- Row-by-row products of two blocks. -/
def rowDots (a b : FVec F S128x128 .bf16) : FVec F S128x128 .f32 :=
  matmul dot_S128x128_S128x128_S128x128_1_1_0_0_n_n none a b (constant S128x128 .f32 0x00000000#32)

/-- The output block of a group. -/
def outOf (csc : FVec F S128x128 .f32) (csr dt : FVec F S32x128 .f32) (b cc : Vec F S128x128 .bf16) (x : Vec F S128x256 .bf16)
    (s : Vec F S1x128x256 .f32) (k : Vec F S1x256 .f32) (g : Fin 8) : FVec F S128x256 .bf16 :=
  truncf .bf16 (addf (concatenate S128x256 1
    [⟨S128x128, pickHead lanes0 1#32 (outPair (leftOf csc csr dt (rowDots cc b) (extf .f32 cc bitsLt_bf16_f32) (headOf g 0))
        (leftOf csc csr dt (rowDots cc b) (extf .f32 cc bitsLt_bf16_f32) (headOf g 1))
        (extractStridedSlice S256x128 ![0, 0] (rightOf x s) slices_S256x256_o0_0_S256x128))⟩,
     ⟨S128x128, pickHead lanes1 3#32 (outPair (leftOf csc csr dt (rowDots cc b) (extf .f32 cc bitsLt_bf16_f32) (headOf g 2))
        (leftOf csc csr dt (rowDots cc b) (extf .f32 cc bitsLt_bf16_f32) (headOf g 3))
        (extractStridedSlice S256x128 ![0, 128] (rightOf x s) slices_S256x256_o0_128_S256x128))⟩]
      concatenates_S128x128_S128x128_S128x256_d1)
    (mulf (extf .f32 x bitsLt_bf16_f32) (broadcastTo S128x256 (shapeCast S1x256 k shapeCasts_S1x256_S1x256) broadcasts_S1x256_S128x256)))
    bitsLt_bf16_f32

/-- The state block of a group after the chunk. -/
def nextOf (csr dt : FVec F S32x128 .f32) (b : Vec F S128x128 .bf16) (x : Vec F S128x256 .bf16)
    (s : Vec F S1x128x256 .f32) (g : Fin 8) : FVec F S1x128x256 .f32 :=
  shapeCast S1x128x256 (addf (mulf (stateIn s) (broadcastTo S128x256 (decayOf csr g) broadcasts_S1x256_S128x256))
    (concatenate S128x256 1
    [⟨S128x128, pickHead lanes0 1#32 (inPair (inOf csr dt (rowDots k0_pay16 b) (headOf g 0)) (inOf csr dt (rowDots k0_pay16 b) (headOf g 1))
        (extractStridedSlice S128x128 ![0, 0] x slices_S128x256_o0_0_S128x128))⟩,
     ⟨S128x128, pickHead lanes1 3#32 (inPair (inOf csr dt (rowDots k0_pay16 b) (headOf g 2)) (inOf csr dt (rowDots k0_pay16 b) (headOf g 3))
        (extractStridedSlice S128x128 ![0, 128] x slices_S128x256_o0_128_S128x128))⟩]
      concatenates_S128x128_S128x128_S128x256_d1)) shapeCasts_S128x256_S1x128x256

theorem inbB (g : Fin 8) : ∀ a : Fin 2, ![0, 2048 + 128 * g.val] a + ![128, 128] a ≤ S128x4096.size a := by revert g; decide
theorem inbC (g : Fin 8) : ∀ a : Fin 2, ![0, 3072 + 128 * g.val] a + ![128, 128] a ≤ S128x4096.size a := by revert g; decide
theorem inbX (g : Fin 8) : ∀ a : Fin 2, ![0, 256 * g.val] a + ![128, 256] a ≤ S128x4096.size a := by revert g; decide
theorem inbK (g : Fin 8) : ∀ a : Fin 2, ![0, 256 * g.val] a + ![1, 256] a ≤ S1x2048.size a := by revert g; decide
theorem inbO (g : Fin 8) : ∀ a : Fin 2, ![0, 256 * g.val] a + ![128, 256] a ≤ S128x2048.size a := by revert g; decide
theorem inbS (g : Fin 8) : ∀ a : Fin 3, ![g.val, 0, 0] a + ![1, 128, 256] a ≤ S8x128x256.size a := by revert g; decide

def ldB (x : Vec F S128x4096 .bf16) (g : Fin 8) : Vec F S128x128 .bf16 := View.ld x (Rect.unit ![0, 2048 + 128 * g.val] ![128, 128] (inbB g))
def ldC (x : Vec F S128x4096 .bf16) (g : Fin 8) : Vec F S128x128 .bf16 := View.ld x (Rect.unit ![0, 3072 + 128 * g.val] ![128, 128] (inbC g))
def ldX (x : Vec F S128x4096 .bf16) (g : Fin 8) : Vec F S128x256 .bf16 := View.ld x (Rect.unit ![0, 256 * g.val] ![128, 256] (inbX g))
def ldK (x : Vec F S1x2048 .f32) (g : Fin 8) : Vec F S1x256 .f32 := View.ld x (Rect.unit ![0, 256 * g.val] ![1, 256] (inbK g))
def ldS (x : Vec F S8x128x256 .f32) (g : Fin 8) : Vec F S1x128x256 .f32 := View.ld x (Rect.unit ![g.val, 0, 0] ![1, 128, 256] (inbS g))

/-- The output block of a group, from the whole blocks and the group's state. -/
def outG (x0 : Vec F S128x4096 .bf16) (x1 : Vec F S128x128 .f32) (x2 : Vec F S32x128 .f32) (x3 : Vec F S1x128 .f32)
    (x4 : Vec F S32x1 .f32) (x5 : Vec F S1x2048 .f32) (s : Vec F S1x128x256 .f32) (g : Fin 8) : FVec F S128x256 .bf16 :=
  outOf (sumDown (rateDown x1 x3)) (sumAlong (rateAlong x2 x4)) (steps x2) (ldB x0 g) (ldC x0 g) (ldX x0 g) s (ldK x5 g) g

/-- The state block of a group after the chunk, from the whole blocks and the group's state. -/
def nextG (x0 : Vec F S128x4096 .bf16) (x2 : Vec F S32x128 .f32) (x4 : Vec F S32x1 .f32) (s : Vec F S1x128x256 .f32) (g : Fin 8) :
    FVec F S1x128x256 .f32 :=
  nextOf (sumAlong (rateAlong x2 x4)) (steps x2) (ldB x0 g) (ldX x0 g) s g

def outPiece (P : FVec F S128x256 .bf16) (g : Fin 8) : View.Piece (Elt F) S128x2048 .bf16 :=
  ⟨Rect.unit ![0, 256 * g.val] ![128, 256] (inbO g), P⟩
def nextPiece (P : FVec F S1x128x256 .f32) (g : Fin 8) : View.Piece (Elt F) S8x128x256 .f32 :=
  ⟨Rect.unit ![g.val, 0, 0] ![1, 128, 256] (inbS g), P⟩

/-- The output rows of a chunk: lane `j` belongs to group `j / 256`. -/
def outB (x0 : Vec F S128x4096 .bf16) (x1 : Vec F S128x128 .f32) (x2 : Vec F S32x128 .f32) (x3 : Vec F S1x128 .f32)
    (x4 : Vec F S32x1 .f32) (x5 : Vec F S1x2048 .f32) (xs : Vec F S8x128x256 .f32) : Vec F S128x2048 .bf16 := fun y =>
  outG x0 x1 x2 x3 x4 x5 (ldS xs ⟨(y (1 : Fin 2)).val / 256, by have : (y (1 : Fin 2)).val < 2048 := (y (1 : Fin 2)).isLt; omega⟩)
    ⟨(y (1 : Fin 2)).val / 256, by have : (y (1 : Fin 2)).val < 2048 := (y (1 : Fin 2)).isLt; omega⟩
    (ix2 (y (0 : Fin 2)) (⟨(y (1 : Fin 2)).val % 256, Nat.mod_lt _ (by norm_num)⟩ : Fin 256))

/-- The state after a chunk. -/
def nextB (x0 : Vec F S128x4096 .bf16) (x2 : Vec F S32x128 .f32) (x4 : Vec F S32x1 .f32) (xs : Vec F S8x128x256 .f32) :
    Vec F S8x128x256 .f32 := fun y =>
  nextG x0 x2 x4 (ldS xs (y (0 : Fin 3))) (y (0 : Fin 3)) (ix3 (0 : Fin 1) (y (1 : Fin 3)) (y (2 : Fin 3)))

/-- Eight output blocks side by side. -/
theorem canon_out (P : Fin 8 → FVec F S128x256 .bf16) :
    View.canon [outPiece (P 7) 7, outPiece (P 6) 6, outPiece (P 5) 5, outPiece (P 4) 4, outPiece (P 3) 3, outPiece (P 2) 2,
      outPiece (P 1) 1, outPiece (P 0) 0]
      = fun y => P ⟨(y (1 : Fin 2)).val / 256, by have : (y (1 : Fin 2)).val < 2048 := (y (1 : Fin 2)).isLt; omega⟩
        (ix2 (y (0 : Fin 2)) (⟨(y (1 : Fin 2)).val % 256, Nat.mod_lt _ (by norm_num)⟩ : Fin 256)) := by
  funext y
  have hy1 : (y (1 : Fin 2)).val < 2048 := (y (1 : Fin 2)).isLt
  have key : ∀ g : Fin 8, ∀ x, (outPiece (P g) g).1.idx x = y → (outPiece (P g) g).2 x
      = P ⟨(y (1 : Fin 2)).val / 256, by omega⟩ (ix2 (y (0 : Fin 2)) (⟨(y (1 : Fin 2)).val % 256, Nat.mod_lt _ (by norm_num)⟩ : Fin 256)) := by
    intro g x hx
    have hx1 : (x (1 : Fin 2)).val < 256 := (x (1 : Fin 2)).isLt
    have e0 : (y (0 : Fin 2)).val = 0 + 1 * (x (0 : Fin 2)).val := by rw [← hx]; rfl
    have e1 : (y (1 : Fin 2)).val = 256 * g.val + 1 * (x (1 : Fin 2)).val := by rw [← hx]; rfl
    have eg : (⟨(y (1 : Fin 2)).val / 256, by omega⟩ : Fin 8) = g := Fin.ext (by show (y (1 : Fin 2)).val / 256 = g.val; omega)
    rw [eg]
    show P g x = _
    refine congrArg (P g) (funext fun a => Fin.ext ?_)
    fin_cases a
    · show (x (0 : Fin 2)).val = (y (0 : Fin 2)).val; omega
    · show (x (1 : Fin 2)).val = (y (1 : Fin 2)).val % 256; omega
  have hL : ∀ g : Fin 8, outPiece (P g) g ∈ [outPiece (P 7) 7, outPiece (P 6) 6, outPiece (P 5) 5, outPiece (P 4) 4, outPiece (P 3) 3,
      outPiece (P 2) 2, outPiece (P 1) 1, outPiece (P 0) 0] := by
    intro g; fin_cases g <;> simp
  refine View.canon_eq_of_allAt _ y _ ⟨_, hL ⟨(y (1 : Fin 2)).val / 256, by omega⟩, ?_⟩ ?_
  · refine (Rect.mem_set_unit (inb := inbO ⟨(y (1 : Fin 2)).val / 256, by omega⟩)).mpr fun a => ?_
    fin_cases a
    · exact ⟨Nat.zero_le _, (y (0 : Fin 2)).isLt⟩
    · show 256 * ((y (1 : Fin 2)).val / 256) ≤ (y (1 : Fin 2)).val ∧ (y (1 : Fin 2)).val < 256 * ((y (1 : Fin 2)).val / 256) + 256
      omega
  · intro p hp
    simp only [List.mem_cons, List.not_mem_nil, or_false] at hp
    rcases hp with rfl | rfl | rfl | rfl | rfl | rfl | rfl | rfl <;> exact key _

/-- A state block stored for a group is read back at that group, whatever lies under it elsewhere. -/
theorem canon_next_cons (P : FVec F S1x128x256 .f32) (g : Fin 8) (L : List (View.Piece (Elt F) S8x128x256 .f32)) (y : S8x128x256.Idx) :
    View.canon (nextPiece P g :: L) y
      = if (y (0 : Fin 3)).val = g.val then P (ix3 (0 : Fin 1) (y (1 : Fin 3)) (y (2 : Fin 3))) else View.canon L y := by
  split
  · rename_i h
    have : y = (nextPiece P g).1.emb (ix3 (0 : Fin 1) (y (1 : Fin 3)) (y (2 : Fin 3))) := by
      funext a
      refine Fin.ext ?_
      fin_cases a
      · show (y (0 : Fin 3)).val = g.val + 1 * 0
        omega
      · show (y (1 : Fin 3)).val = 0 + 1 * (y (1 : Fin 3)).val; omega
      · show (y (2 : Fin 3)).val = 0 + 1 * (y (2 : Fin 3)).val; omega
    conv_lhs => rw [this]
    exact View.canon_cons_emb _ _ _ _
  · rename_i h
    refine View.canon_cons_of_not_mem _ _ fun hm => h ?_
    have := (Rect.mem_set_unit (inb := inbS g)).mp hm (0 : Fin 3)
    have h1 : g.val ≤ (y (0 : Fin 3)).val := this.1
    have h2 : (y (0 : Fin 3)).val < g.val + 1 := this.2
    omega

/-- Eight state blocks, one for each group: under them nothing is left to see. -/
theorem canon_next (P : Fin 8 → FVec F S1x128x256 .f32) (L : List (View.Piece (Elt F) S8x128x256 .f32)) (y : S8x128x256.Idx) :
    View.canon (nextPiece (P 7) 7 :: nextPiece (P 6) 6 :: nextPiece (P 5) 5 :: nextPiece (P 4) 4 :: nextPiece (P 3) 3
      :: nextPiece (P 2) 2 :: nextPiece (P 1) 1 :: nextPiece (P 0) 0 :: L) y
      = P (y (0 : Fin 3)) (ix3 (0 : Fin 1) (y (1 : Fin 3)) (y (2 : Fin 3))) := by
  simp only [canon_next_cons]
  generalize hg : (y (0 : Fin 3) : Fin 8) = g
  fin_cases g <;> rfl

section
variable (c : Dev nD) (i : grid0.Coords) (a1 : Memref sig .tc .vmem S128x4096 .bf16) (h1 : a1.IsWhole)
  (a2 : Memref sig .tc .vmem S128x128 .f32) (h2 : a2.IsWhole) (a3 : Memref sig .tc .vmem S32x128 .f32) (h3 : a3.IsWhole)
  (a4 : Memref sig .tc .vmem S1x128 .f32) (h4 : a4.IsWhole) (a5 : Memref sig .tc .vmem S32x1 .f32) (h5 : a5.IsWhole)
  (a6 : Memref sig .tc .vmem S1x2048 .f32) (h6 : a6.IsWhole) (a7 : Memref sig .tc .vmem S128x2048 .bf16) (h7 : a7.IsWhole)
  (a8 : Memref sig .tc .vmem S8x128x256 .f32) (h8 : a8.IsWhole)
  (x0 : Vec F S128x4096 .bf16) (x1 : Vec F S128x128 .f32) (x2 : Vec F S32x128 .f32) (x3 : Vec F S1x128 .f32)
  (x4 : Vec F S32x1 .f32) (x5 : Vec F S1x2048 .f32) (xs : Vec F S8x128x256 .f32)

/-- The state blocks that a later chunk leaves. -/
theorem next_pieces (hc : ¬cond0_0 i) :
    (kernelRun0_B c i a1 h1 a2 h2 a3 h3 a4 h4 a5 h5 a6 h6 a7 h7 a8 h8 hc x0 x1 x2 x3 x4 x5 xs).2.1
      = (let X0 := a1.view.read (Elt F) (h1.unread x0)
         let X2 := View.ld (a3.view.read (Elt F) (h3.unread x2)) (Rect.unit ![0, 0] ![32, 128] inb_S32x128_S32x128_0_0)
         let X4 := View.ld (a5.view.read (Elt F) (h5.unread x4)) (Rect.unit ![0, 0] ![32, 1] inb_S32x1_S32x1_0_0)
         let XS := a8.view.read (Elt F) (h8.unread xs)
         [nextPiece (nextG X0 X2 X4 (ldS XS 7) 7) 7, nextPiece (nextG X0 X2 X4 (ldS XS 6) 6) 6, nextPiece (nextG X0 X2 X4 (ldS XS 5) 5) 5,
          nextPiece (nextG X0 X2 X4 (ldS XS 4) 4) 4, nextPiece (nextG X0 X2 X4 (ldS XS 3) 3) 3, nextPiece (nextG X0 X2 X4 (ldS XS 2) 2) 2,
          nextPiece (nextG X0 X2 X4 (ldS XS 1) 1) 1, nextPiece (nextG X0 X2 X4 (ldS XS 0) 0) 0]) := by
  unfold kernelRun0_B
  dsimp only
  refine congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))) <;> rfl

/-- The output blocks that a later chunk leaves. -/
theorem out_pieces (hc : ¬cond0_0 i) :
    (kernelRun0_B c i a1 h1 a2 h2 a3 h3 a4 h4 a5 h5 a6 h6 a7 h7 a8 h8 hc x0 x1 x2 x3 x4 x5 xs).1
      = (let X0 := a1.view.read (Elt F) (h1.unread x0)
         let X1 := View.ld (a2.view.read (Elt F) (h2.unread x1)) (Rect.unit ![0, 0] ![128, 128] inb_S128x128_S128x128_0_0)
         let X2 := View.ld (a3.view.read (Elt F) (h3.unread x2)) (Rect.unit ![0, 0] ![32, 128] inb_S32x128_S32x128_0_0)
         let X3 := View.ld (a4.view.read (Elt F) (h4.unread x3)) (Rect.unit ![0, 0] ![1, 128] inb_S1x128_S1x128_0_0)
         let X4 := View.ld (a5.view.read (Elt F) (h5.unread x4)) (Rect.unit ![0, 0] ![32, 1] inb_S32x1_S32x1_0_0)
         let X5 := a6.view.read (Elt F) (h6.unread x5)
         let XS := a8.view.read (Elt F) (h8.unread xs)
         [outPiece (outG X0 X1 X2 X3 X4 X5 (ldS XS 7) 7) 7, outPiece (outG X0 X1 X2 X3 X4 X5 (ldS XS 6) 6) 6,
          outPiece (outG X0 X1 X2 X3 X4 X5 (ldS XS 5) 5) 5, outPiece (outG X0 X1 X2 X3 X4 X5 (ldS XS 4) 4) 4,
          outPiece (outG X0 X1 X2 X3 X4 X5 (ldS XS 3) 3) 3, outPiece (outG X0 X1 X2 X3 X4 X5 (ldS XS 2) 2) 2,
          outPiece (outG X0 X1 X2 X3 X4 X5 (ldS XS 1) 1) 1, outPiece (outG X0 X1 X2 X3 X4 X5 (ldS XS 0) 0) 0]) := by
  unfold kernelRun0_B
  dsimp only
  refine congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))) <;> rfl

/-- A group's state as read back from the blocks stored so far. -/
def backOf (v : View sig .tc .vmem S8x128x256 .f32) (L : List (View.Piece (Elt F) S8x128x256 .f32)) (g : Fin 8) : Vec F S1x128x256 .f32 :=
  v.readCov L (Rect.unit (s := S8x128x256) ![g.val, 0, 0] ![1, 128, 256] (inbS g)).toLoadRect

/-- The first chunk, group by group: one more state block on top of the blocks stored so far. -/
def addGroup (v : View sig .tc .vmem S8x128x256 .f32) (X0 : Vec F S128x4096 .bf16) (X2 : Vec F S32x128 .f32) (X4 : Vec F S32x1 .f32)
    (L : List (View.Piece (Elt F) S8x128x256 .f32)) (g : Fin 8) : List (View.Piece (Elt F) S8x128x256 .f32) :=
  nextPiece (nextG X0 X2 X4 (backOf v L g) g) g :: L

/-- The state blocks stored in the first chunk before each group: the stored blocks that the run names, one by one. -/
theorem stored_chain :
    let A := addGroup a8.view (a1.view.read (Elt F) (h1.unread x0))
      (View.ld (a3.view.read (Elt F) (h3.unread x2)) (Rect.unit ![0, 0] ![32, 128] inb_S32x128_S32x128_0_0))
      (View.ld (a5.view.read (Elt F) (h5.unread x4)) (Rect.unit ![0, 0] ![32, 1] inb_S32x1_S32x1_0_0))
    kernelRun0_A.sl.HS0_2 c a1 h1 a3 h3 a5 h5 a8 x0 x2 x4 = A kernelRun0_A.sl.HS0_1 0
      ∧ kernelRun0_A.sl.HS0_3 c a1 h1 a3 h3 a5 h5 a8 x0 x2 x4 = A (kernelRun0_A.sl.HS0_2 c a1 h1 a3 h3 a5 h5 a8 x0 x2 x4) 1
      ∧ kernelRun0_A.sl.HS0_4 c a1 h1 a3 h3 a5 h5 a8 x0 x2 x4 = A (kernelRun0_A.sl.HS0_3 c a1 h1 a3 h3 a5 h5 a8 x0 x2 x4) 2
      ∧ kernelRun0_A.sl.HS0_5 c a1 h1 a3 h3 a5 h5 a8 x0 x2 x4 = A (kernelRun0_A.sl.HS0_4 c a1 h1 a3 h3 a5 h5 a8 x0 x2 x4) 3
      ∧ kernelRun0_A.sl.HS0_6 c a1 h1 a3 h3 a5 h5 a8 x0 x2 x4 = A (kernelRun0_A.sl.HS0_5 c a1 h1 a3 h3 a5 h5 a8 x0 x2 x4) 4
      ∧ kernelRun0_A.sl.HS0_7 c a1 h1 a3 h3 a5 h5 a8 x0 x2 x4 = A (kernelRun0_A.sl.HS0_6 c a1 h1 a3 h3 a5 h5 a8 x0 x2 x4) 5
      ∧ kernelRun0_A.sl.HS0_8 c a1 h1 a3 h3 a5 h5 a8 x0 x2 x4 = A (kernelRun0_A.sl.HS0_7 c a1 h1 a3 h3 a5 h5 a8 x0 x2 x4) 6 := by
  refine ⟨congrArg₂ List.cons ?_ rfl, congrArg₂ List.cons ?_ rfl, congrArg₂ List.cons ?_ rfl, congrArg₂ List.cons ?_ rfl,
    congrArg₂ List.cons ?_ rfl, congrArg₂ List.cons ?_ rfl, congrArg₂ List.cons ?_ rfl⟩ <;> rfl

/-- The output blocks that the first chunk leaves. -/
theorem out_pieces_first (hc : cond0_0 i) :
    (kernelRun0_A c i a1 h1 a2 h2 a3 h3 a4 h4 a5 h5 a6 h6 a7 h7 a8 h8 hc x0 x1 x2 x3 x4 x5).1
      = (let X0 := a1.view.read (Elt F) (h1.unread x0)
         let X1 := View.ld (a2.view.read (Elt F) (h2.unread x1)) (Rect.unit ![0, 0] ![128, 128] inb_S128x128_S128x128_0_0)
         let X2 := View.ld (a3.view.read (Elt F) (h3.unread x2)) (Rect.unit ![0, 0] ![32, 128] inb_S32x128_S32x128_0_0)
         let X3 := View.ld (a4.view.read (Elt F) (h4.unread x3)) (Rect.unit ![0, 0] ![1, 128] inb_S1x128_S1x128_0_0)
         let X4 := View.ld (a5.view.read (Elt F) (h5.unread x4)) (Rect.unit ![0, 0] ![32, 1] inb_S32x1_S32x1_0_0)
         let X5 := a6.view.read (Elt F) (h6.unread x5)
         let O := fun L (g : Fin 8) => outPiece (outG X0 X1 X2 X3 X4 X5 (backOf a8.view L g) g) g
         [O (kernelRun0_A.sl.HS0_8 c a1 h1 a3 h3 a5 h5 a8 x0 x2 x4) 7, O (kernelRun0_A.sl.HS0_7 c a1 h1 a3 h3 a5 h5 a8 x0 x2 x4) 6,
          O (kernelRun0_A.sl.HS0_6 c a1 h1 a3 h3 a5 h5 a8 x0 x2 x4) 5, O (kernelRun0_A.sl.HS0_5 c a1 h1 a3 h3 a5 h5 a8 x0 x2 x4) 4,
          O (kernelRun0_A.sl.HS0_4 c a1 h1 a3 h3 a5 h5 a8 x0 x2 x4) 3, O (kernelRun0_A.sl.HS0_3 c a1 h1 a3 h3 a5 h5 a8 x0 x2 x4) 2,
          O (kernelRun0_A.sl.HS0_2 c a1 h1 a3 h3 a5 h5 a8 x0 x2 x4) 1, O kernelRun0_A.sl.HS0_1 0]) := by
  unfold kernelRun0_A
  dsimp only
  refine congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))) <;> rfl

/-- The state blocks that the first chunk leaves. -/
theorem next_pieces_first (hc : cond0_0 i) :
    (kernelRun0_A c i a1 h1 a2 h2 a3 h3 a4 h4 a5 h5 a6 h6 a7 h7 a8 h8 hc x0 x1 x2 x3 x4 x5).2.1
      = addGroup a8.view (a1.view.read (Elt F) (h1.unread x0))
          (View.ld (a3.view.read (Elt F) (h3.unread x2)) (Rect.unit ![0, 0] ![32, 128] inb_S32x128_S32x128_0_0))
          (View.ld (a5.view.read (Elt F) (h5.unread x4)) (Rect.unit ![0, 0] ![32, 1] inb_S32x1_S32x1_0_0))
          (kernelRun0_A.sl.HS0_8 c a1 h1 a3 h3 a5 h5 a8 x0 x2 x4) 7 := by
  unfold kernelRun0_A
  dsimp only
  refine congrArg₂ List.cons ?_ rfl
  rfl

/-- The output rows that a later chunk leaves. -/
theorem out_later (hc : ¬cond0_0 i) :
    out0_B_6 c i a1 h1 a2 h2 a3 h3 a4 h4 a5 h5 a6 h6 a7 h7 a8 h8 hc x0 x1 x2 x3 x4 x5 xs = outB x0 x1 x2 x3 x4 x5 xs := by
  unfold out0_B_6
  rw [View.read_writes_eq_canon _ _ _ (cover0_B_6 c i a1 h1 a2 h2 a3 h3 a4 h4 a5 h5 a6 h6 a7 h7 a8 h8 hc x0 x1 x2 x3 x4 x5 xs), out_pieces]
  dsimp only
  rw [h1.read_unread, h2.read_unread, h3.read_unread, h4.read_unread, h5.read_unread, h6.read_unread, h8.read_unread]
  rw [View.ld_unit_zero (S := S128x128) off2, View.ld_unit_zero (S := S32x128) off2, View.ld_unit_zero (S := S1x128) off2,
    View.ld_unit_zero (S := S32x1) off2]
  exact canon_out fun g => outG x0 x1 x2 x3 x4 x5 (ldS xs g) g

/-- The state that a later chunk leaves. -/
theorem next_later (hc : ¬cond0_0 i) :
    sout0_B_0 c i a1 h1 a2 h2 a3 h3 a4 h4 a5 h5 a6 h6 a7 h7 a8 h8 hc x0 x1 x2 x3 x4 x5 xs = nextB x0 x2 x4 xs := by
  unfold sout0_B_0
  rw [View.read_writes_eq_canon _ _ _ (scover0_B_0 c i a1 h1 a2 h2 a3 h3 a4 h4 a5 h5 a6 h6 a7 h7 a8 h8 hc x0 x1 x2 x3 x4 x5 xs), next_pieces]
  dsimp only
  rw [h1.read_unread, h3.read_unread, h5.read_unread, h8.read_unread]
  rw [View.ld_unit_zero (S := S32x128) off2, View.ld_unit_zero (S := S32x1) off2]
  funext y
  exact canon_next (fun g => nextG x0 x2 x4 (ldS xs g) g) [] y

/-- No state yet. -/
def noState : Vec F S8x128x256 .f32 := fun _ => Scalar.ofBits .f32 0x00000000#32

theorem back_zero (v : View sig .tc .vmem S8x128x256 .f32) (g : Fin 8) :
    backOf v (kernelRun0_A.sl.HS0_1 (F := F)) g = ldS noState g := by
  unfold backOf
  rw [View.readCov_eq_canon']
  funext j
  unfold kernelRun0_A.sl.HS0_1
  rw [View.canon_unit_zero off3]
  rfl

theorem back_skip (v : View sig .tc .vmem S8x128x256 .f32) (P : FVec F S1x128x256 .f32) (g' g : Fin 8) (hg : g ≠ g')
    (L : List (View.Piece (Elt F) S8x128x256 .f32)) : backOf v (nextPiece P g' :: L) g = backOf v L g := by
  unfold backOf
  rw [View.readCov_eq_canon', View.readCov_eq_canon']
  funext j
  rw [canon_next_cons, if_neg]
  intro h
  have e : g.val + 1 * (j (0 : Fin 3)).val = g'.val := h
  have hj : (j (0 : Fin 3)).val < 1 := (j (0 : Fin 3)).isLt
  exact hg (Fin.ext (by omega))

/-- A group not yet stored still reads as no state after one more group is stored. -/
theorem back_add (v : View sig .tc .vmem S8x128x256 .f32) (X0 : Vec F S128x4096 .bf16) (X2 : Vec F S32x128 .f32) (X4 : Vec F S32x1 .f32)
    (L L' : List (View.Piece (Elt F) S8x128x256 .f32)) (k : Fin 8) (e : L' = addGroup v X0 X2 X4 L k)
    (H : ∀ g : Fin 8, k.val ≤ g.val → backOf v L g = ldS noState g) :
    L' = nextPiece (nextG X0 X2 X4 (ldS noState k) k) k :: L ∧ ∀ g : Fin 8, k.val + 1 ≤ g.val → backOf v L' g = ldS noState g := by
  subst e
  unfold addGroup
  refine ⟨by rw [H k le_rfl], fun g hg => ?_⟩
  rw [back_skip _ _ _ _ (by rintro rfl; omega), H g (by omega)]

/-- The stored blocks of the first chunk, each from no state; and the groups that are still to come read as no state. -/
theorem stored_from_none :
    let N := fun k : Fin 8 => nextPiece (nextG (a1.view.read (Elt F) (h1.unread x0))
      (View.ld (a3.view.read (Elt F) (h3.unread x2)) (Rect.unit ![0, 0] ![32, 128] inb_S32x128_S32x128_0_0))
      (View.ld (a5.view.read (Elt F) (h5.unread x4)) (Rect.unit ![0, 0] ![32, 1] inb_S32x1_S32x1_0_0)) (ldS noState k) k) k
    (backOf a8.view (kernelRun0_A.sl.HS0_1 (F := F)) 0 = ldS noState 0
      ∧ backOf a8.view (kernelRun0_A.sl.HS0_2 c a1 h1 a3 h3 a5 h5 a8 x0 x2 x4) 1 = ldS noState 1
      ∧ backOf a8.view (kernelRun0_A.sl.HS0_3 c a1 h1 a3 h3 a5 h5 a8 x0 x2 x4) 2 = ldS noState 2
      ∧ backOf a8.view (kernelRun0_A.sl.HS0_4 c a1 h1 a3 h3 a5 h5 a8 x0 x2 x4) 3 = ldS noState 3
      ∧ backOf a8.view (kernelRun0_A.sl.HS0_5 c a1 h1 a3 h3 a5 h5 a8 x0 x2 x4) 4 = ldS noState 4
      ∧ backOf a8.view (kernelRun0_A.sl.HS0_6 c a1 h1 a3 h3 a5 h5 a8 x0 x2 x4) 5 = ldS noState 5
      ∧ backOf a8.view (kernelRun0_A.sl.HS0_7 c a1 h1 a3 h3 a5 h5 a8 x0 x2 x4) 6 = ldS noState 6
      ∧ backOf a8.view (kernelRun0_A.sl.HS0_8 c a1 h1 a3 h3 a5 h5 a8 x0 x2 x4) 7 = ldS noState 7)
    ∧ kernelRun0_A.sl.HS0_8 c a1 h1 a3 h3 a5 h5 a8 x0 x2 x4
      = N 6 :: N 5 :: N 4 :: N 3 :: N 2 :: N 1 :: N 0 :: kernelRun0_A.sl.HS0_1 := by
  obtain ⟨e2, e3, e4, e5, e6, e7, e8⟩ := stored_chain c a1 h1 a3 h3 a5 h5 a8 x0 x2 x4
  have H1 : ∀ g : Fin 8, (0 : Fin 8).val ≤ g.val → backOf a8.view (kernelRun0_A.sl.HS0_1 (F := F)) g = ldS noState g :=
    fun g _ => back_zero a8.view g
  obtain ⟨s2, H2⟩ := back_add _ _ _ _ _ _ _ e2 H1
  obtain ⟨s3, H3⟩ := back_add _ _ _ _ _ _ _ e3 H2
  obtain ⟨s4, H4⟩ := back_add _ _ _ _ _ _ _ e4 H3
  obtain ⟨s5, H5⟩ := back_add _ _ _ _ _ _ _ e5 H4
  obtain ⟨s6, H6⟩ := back_add _ _ _ _ _ _ _ e6 H5
  obtain ⟨s7, H7⟩ := back_add _ _ _ _ _ _ _ e7 H6
  obtain ⟨s8, H8⟩ := back_add _ _ _ _ _ _ _ e8 H7
  exact ⟨⟨H1 0 le_rfl, H2 1 le_rfl, H3 2 le_rfl, H4 3 le_rfl, H5 4 le_rfl, H6 5 le_rfl, H7 6 le_rfl, H8 7 le_rfl⟩,
    by rw [s8, s7, s6, s5, s4, s3, s2]⟩

/-- The output rows that the first chunk leaves. -/
theorem out_first (hc : cond0_0 i) :
    out0_A_6 c i a1 h1 a2 h2 a3 h3 a4 h4 a5 h5 a6 h6 a7 h7 a8 h8 hc x0 x1 x2 x3 x4 x5 = outB x0 x1 x2 x3 x4 x5 noState := by
  unfold out0_A_6
  rw [View.read_writes_eq_canon _ _ _ (cover0_A_6 c i a1 h1 a2 h2 a3 h3 a4 h4 a5 h5 a6 h6 a7 h7 a8 h8 hc x0 x1 x2 x3 x4 x5), out_pieces_first]
  dsimp only
  obtain ⟨⟨b0, b1, b2, b3, b4, b5, b6, b7⟩, -⟩ := stored_from_none c a1 h1 a3 h3 a5 h5 a8 x0 x2 x4
  rw [b0, b1, b2, b3, b4, b5, b6, b7]
  rw [h1.read_unread, h2.read_unread, h3.read_unread, h4.read_unread, h5.read_unread, h6.read_unread]
  rw [View.ld_unit_zero (S := S128x128) off2, View.ld_unit_zero (S := S32x128) off2, View.ld_unit_zero (S := S1x128) off2,
    View.ld_unit_zero (S := S32x1) off2]
  exact canon_out fun g => outG x0 x1 x2 x3 x4 x5 (ldS noState g) g

/-- The state that the first chunk leaves. -/
theorem next_first (hc : cond0_0 i) :
    sout0_A_0 c i a1 h1 a2 h2 a3 h3 a4 h4 a5 h5 a6 h6 a7 h7 a8 h8 hc x0 x1 x2 x3 x4 x5 = nextB x0 x2 x4 noState := by
  unfold sout0_A_0
  rw [View.read_writes_eq_canon _ _ _ (scover0_A_0 c i a1 h1 a2 h2 a3 h3 a4 h4 a5 h5 a6 h6 a7 h7 a8 h8 hc x0 x1 x2 x3 x4 x5),
    next_pieces_first c i a1 h1 a2 h2 a3 h3 a4 h4 a5 h5 a6 h6 a7 h7 a8 h8 x0 x1 x2 x3 x4 x5 hc]
  unfold addGroup
  obtain ⟨⟨-, -, -, -, -, -, -, b7⟩, e⟩ := stored_from_none c a1 h1 a3 h3 a5 h5 a8 x0 x2 x4
  dsimp only at e
  rw [b7, e]
  rw [h1.read_unread, h3.read_unread, h5.read_unread]
  rw [View.ld_unit_zero (S := S32x128) off2, View.ld_unit_zero (S := S32x1) off2]
  funext y
  exact canon_next (fun g => nextG x0 x2 x4 (ldS noState g) g) _ y

end
end Cert.SsdIdeal.Own
-- ==== Proof.SsdChunks.lean ====
/- The state-space scan by chunks, over functions of token, lane and head: one chunk's output, the state it leaves, and
   the state before each chunk, for a cut of the tokens into `N` chunks of `L`. The kernel is shown to be this at one cut
   and the reference at another. -/
module

public import Idealize.ShloMosaic.Lib.Pointwise

@[expose] public section

noncomputable section

namespace Cert.Own.Chunks
open Idealize.ShloMosaic

/-- `N` chunks of `L` tokens are all the tokens. -/
class Cut (N L : ℕ) : Prop where
  whole : N * L = 16384

instance : Cut 128 128 := ⟨rfl⟩
instance : Cut 256 64 := ⟨rfl⟩

variable {N L : ℕ} [Cut N L]

theorem inside (c : Fin N) (l : Fin L) : L * c.val + l.val < 16384 := by
  have h : L * (c.val + 1) ≤ L * N := Nat.mul_le_mul_left L c.isLt
  rw [Nat.mul_comm L N, Cut.whole (N := N) (L := L)] at h
  have := l.isLt
  rw [Nat.mul_add] at h
  omega

/-- The sum of the values up to position `l`. -/
def upto {L : ℕ} (f : Fin L → EReal) (l : Fin L) : EReal := ∑ k : Fin L, if k.val ≤ l.val then f k else 0

/-- Token `l` of chunk `c`. -/
def tok (c : Fin N) (l : Fin L) : Fin 16384 := ⟨L * c.val + l.val, inside c l⟩

/-- The head and the group a lane belongs to. -/
def head (q : Fin 2048) : Fin 32 := ⟨q.val / 64, by omega⟩
def group (q : Fin 2048) : Fin 8 := ⟨q.val / 256, by omega⟩

/-- The chunk with a given number, and the last token of a chunk. -/
def chunk (N : ℕ) [NeZero N] (k : ℕ) : Fin N := ⟨k % N, Nat.mod_lt _ (NeZero.pos N)⟩
def last (L : ℕ) [NeZero L] : Fin L := ⟨L - 1, Nat.sub_lt (NeZero.pos L) Nat.one_pos⟩

variable (X : Fin 16384 → Fin 4096 → EReal) (D : Fin 16384 → Fin 32 → EReal) (A K : Fin 32 → EReal)

/-- The input, the input-to-state and the state-to-output coefficients of a token. -/
def xOf (c : Fin N) (s : Fin L) (q : Fin 2048) : EReal := X (tok c s) ⟨q.val, by omega⟩
def bOf (c : Fin N) (g : Fin 8) (s : Fin L) (n : Fin 128) : EReal := X (tok c s) ⟨2048 + 128 * g.val + n.val, by omega⟩
def cOf (c : Fin N) (g : Fin 8) (s : Fin L) (n : Fin 128) : EReal := X (tok c s) ⟨3072 + 128 * g.val + n.val, by omega⟩

/-- The logarithm of a head's decay from the start of the chunk through token `l`. -/
def cum (c : Fin N) (h : Fin 32) (l : Fin L) : EReal := upto (fun k => D (tok c k) h * -Ideal.exp (A h)) l

/-- The state after a chunk, from the state before it. -/
def after (L : ℕ) [Cut N L] [NeZero L] (c : Fin N) (S : Fin 2048 → Fin 128 → EReal) (q : Fin 2048) (n : Fin 128) : EReal :=
  S q n * Ideal.exp (cum D A c (head q) (last L))
    + ∑ s : Fin L, bOf X c (group q) s n * (D (tok c s) (head q) * Ideal.exp (cum D A c (head q) (last L) - cum D A c (head q) s)) * xOf X c s q

/-- The output of a chunk, from the state before it: its own tokens, the state, and the skip. -/
def output (c : Fin N) (S : Fin 2048 → Fin 128 → EReal) (l : Fin L) (q : Fin 2048) : EReal :=
  (∑ s : Fin L, (∑ n : Fin 128, cOf X c (group q) l n * bOf X c (group q) s n)
        * (if s.val ≤ l.val then Ideal.exp (cum D A c (head q) l - cum D A c (head q) s) else 0) * D (tok c s) (head q) * xOf X c s q
      + ∑ n : Fin 128, cOf X c (group q) l n * Ideal.exp (cum D A c (head q) l) * S q n)
    + xOf X c l q * K (head q)

/-- The state before chunk `k`. -/
def before (N L : ℕ) [Cut N L] [NeZero N] [NeZero L] : ℕ → Fin 2048 → Fin 128 → EReal
  | 0 => fun _ _ => 0
  | k + 1 => after X D A L (chunk N k) (before N L k)

end Cert.Own.Chunks
-- ==== Proof.SsdEntry.lean ====
/- The state-space kernel's blocks at one entry over extended reals. -/
module

public import proofs.«01_k».proof.Proof.SsdBody
public import proofs.«01_k».proof.Proof.SsdChunks
public import Idealize.ShloMosaic.Lib.Pointwise

@[expose] public section

set_option maxRecDepth 100000

noncomputable section

namespace Cert.SsdIdeal.Own
open Cert.Own.Chunks (upto)
open Cert.SsdIdeal Cert.SsdIdeal.Gen Idealize.ShloMosaic Idealize.ShloMosaic.TcCoe Cert.Own
open scoped BigOperators

theorem reach_sel : ∀ n l : Fin 128, ∀ a b : EReal,
    Scalar.select (IntOp.cmpi CmpIPredicate.sge (BitVec.ofNat 32 l.val) (BitVec.ofNat 32 n.val)) a b = if n.val ≤ l.val then a else b := by
  have h : ∀ n l : Fin 128, IntOp.cmpi CmpIPredicate.sge (BitVec.ofNat 32 l.val) (BitVec.ofNat 32 n.val) = if n.val ≤ l.val then 1#1 else 0#1 := by
    decide +kernel
  intro n l a b
  rw [h]
  split <;> rfl

theorem stepDown_at (n : Fin 128) (v : FVec Ideal S128x128 .f32) (l h : Fin 128) :
    stepDown (BitVec.ofNat 32 n.val) v (ix2 l h) = v (ix2 l h) + if hn : n.val ≤ l.val then v (ix2 (⟨l.val - n.val, by omega⟩ : Fin 128) h) else 0 := by
  unfold stepDown
  pointwise
  rw [reach_sel]
  congr 1
  split
  · congr 2
    refine Fin.ext ?_
    show (l.val + 128 - (BitVec.ofNat 32 n.val).toNat % 128) % 128 = l.val - n.val
    rw [BitVec.toNat_ofNat]
    omega
  · rfl

theorem stepAlong_at (n : Fin 128) (v : FVec Ideal S32x128 .f32) (h : Fin 32) (l : Fin 128) :
    stepAlong (BitVec.ofNat 32 n.val) v (ix2 h l) = v (ix2 h l) + if hn : n.val ≤ l.val then v (ix2 h (⟨l.val - n.val, by omega⟩ : Fin 128)) else 0 := by
  unfold stepAlong
  pointwise
  rw [reach_sel]
  congr 1
  split
  · congr 2
    refine Fin.ext ?_
    show (l.val + 128 - (BitVec.ofNat 32 n.val).toNat % 128) % 128 = l.val - n.val
    rw [BitVec.toNat_ofNat]
    omega
  · rfl

/-- The sum of the last `m` values up to position `l`. -/
def window (f : Fin 128 → EReal) (m : ℕ) (l : Fin 128) : EReal :=
  ∑ j ∈ Finset.range m, if h : j ≤ l.val then f ⟨l.val - j, by omega⟩ else 0

/-- A doubling step doubles the window. -/
theorem window_step (f : Fin 128 → EReal) (m : Fin 128) (l : Fin 128) :
    window f m.val l + (if hn : m.val ≤ l.val then window f m.val ⟨l.val - m.val, by omega⟩ else 0) = window f (2 * m.val) l := by
  unfold window
  rw [two_mul, Finset.sum_range_add]
  congr 1
  split
  · rename_i hn
    refine Finset.sum_congr rfl fun j _ => ?_
    by_cases hj : j ≤ l.val - m.val
    · rw [dif_pos hj, dif_pos (by omega)]
      exact congrArg f (Fin.ext (by show l.val - m.val - j = l.val - (m.val + j); omega))
    · rw [dif_neg hj, dif_neg (by omega)]
  · rename_i hn
    refine (Finset.sum_eq_zero fun j _ => dif_neg (by omega)).symm

theorem window_one (f : Fin 128 → EReal) (l : Fin 128) : window f 1 l = f l := by
  unfold window
  rw [Finset.sum_range_one, dif_pos (Nat.zero_le _)]
  exact congrArg f (Fin.ext (Nat.sub_zero _))

theorem window_all (f : Fin 128 → EReal) (l : Fin 128) : window f 128 l = upto f l := by
  have hl := l.isLt
  unfold window upto
  rw [Finset.sum_fin_eq_sum_range]
  rw [← Finset.sum_subset (s₁ := Finset.range (l.val + 1)) (fun j hj => by simp only [Finset.mem_range] at *; omega)
    (fun j _ hj => by rw [Finset.mem_range] at hj; exact dif_neg (by omega))]
  rw [← Finset.sum_subset (s₁ := Finset.range (l.val + 1)) (s₂ := Finset.range 128) (fun j hj => by simp only [Finset.mem_range] at *; omega)
    (fun j _ hj => by rw [Finset.mem_range] at hj; split; · exact if_neg (by show ¬ (j ≤ l.val); omega)
                      · rfl)]
  rw [← Finset.sum_range_reflect]
  refine Finset.sum_congr rfl fun j hj => ?_
  rw [Finset.mem_range] at hj
  rw [dif_pos (by omega), dif_pos (by omega)]
  refine Eq.trans ?_ (if_pos (by show j ≤ l.val; omega)).symm
  exact congrArg f (Fin.ext (by show l.val - (l.val + 1 - 1 - j) = j; omega))

theorem sumDown_at (v : FVec Ideal S128x128 .f32) (l h : Fin 128) : sumDown v (ix2 l h) = upto (fun k => v (ix2 k h)) l := by
  have st : ∀ (n : Fin 128) (w : FVec Ideal S128x128 .f32), (∀ l, w (ix2 l h) = window (fun k => v (ix2 k h)) n.val l) →
      ∀ l, stepDown (BitVec.ofNat 32 n.val) w (ix2 l h) = window (fun k => v (ix2 k h)) (2 * n.val) l := by
    intro n w hw l
    rw [stepDown_at, ← window_step, hw]
    congr 1
    split
    · rw [hw]
    · rfl
  rw [← window_all]
  exact st 64 _ (st 32 _ (st 16 _ (st 8 _ (st 4 _ (st 2 _ (st 1 v fun l => (window_one (fun k => v (ix2 k h)) l).symm)))))) l

theorem sumAlong_at (v : FVec Ideal S32x128 .f32) (h : Fin 32) (l : Fin 128) : sumAlong v (ix2 h l) = upto (fun k => v (ix2 h k)) l := by
  have st : ∀ (n : Fin 128) (w : FVec Ideal S32x128 .f32), (∀ l, w (ix2 h l) = window (fun k => v (ix2 h k)) n.val l) →
      ∀ l, stepAlong (BitVec.ofNat 32 n.val) w (ix2 h l) = window (fun k => v (ix2 h k)) (2 * n.val) l := by
    intro n w hw l
    rw [stepAlong_at, ← window_step, hw]
    congr 1
    split
    · rw [hw]
    · rfl
  rw [← window_all]
  exact st 64 _ (st 32 _ (st 16 _ (st 8 _ (st 4 _ (st 2 _ (st 1 v fun l => (window_one (fun k => v (ix2 h k)) l).symm)))))) l

theorem rateDown_at (d : Vec Ideal S128x128 .f32) (al : Vec Ideal S1x128 .f32) (l h : Fin 128) :
    rateDown d al (ix2 l h) = d (ix2 l h) * -Ideal.exp (al (ix2 (0 : Fin 1) h)) := by
  unfold rateDown
  pointwise
  simp only [zero_sub]

theorem steps_at (d : Vec Ideal S32x128 .f32) (h : Fin 32) (l : Fin 128) : steps d (ix2 h l) = d (ix2 h l) := by
  unfold steps
  pointwise

theorem rateAlong_at (d : Vec Ideal S32x128 .f32) (al : Vec Ideal S32x1 .f32) (h : Fin 32) (l : Fin 128) :
    rateAlong d al (ix2 h l) = d (ix2 h l) * -Ideal.exp (al (ix2 h (0 : Fin 1))) := by
  unfold rateAlong steps
  pointwise
  simp only [zero_sub]

theorem laneHead_at (j : Fin 256) : laneHead (ix2 (0 : Fin 1) j) = BitVec.ofNat 32 (j.val / 64) := by
  unfold laneHead k0_pay15 k0_pay13 k0_pay14
  pointwise
  revert j
  decide +kernel

theorem mask_eq : (Named.named κ "mask" 0xF149F2CA#32 : Ideal .f32) = (⊥ : EReal) :=
  IdealRules.named_const.ideal_named_scalar _ _ _ _ rfl

section
variable (csc : FVec Ideal S128x128 .f32) (csr dt : FVec Ideal S32x128 .f32) (cb cf : FVec Ideal S128x128 .f32) (h : Fin 32)

theorem left_in (l s : Fin 128) :
    leftOf csc csr dt cb cf h (ix2 l (⟨s.val, by omega⟩ : Fin 256))
      = cb (ix2 l s) * (if s.val ≤ l.val then Ideal.exp (csc (ix2 l (⟨h.val, by omega⟩ : Fin 128)) - csr (ix2 h s)) else 0) * dt (ix2 h s) := by
  unfold leftOf colOf rowOf causal
  pointwise
  rw [mask_eq, reach_sel]
  split
  · rfl
  · rw [Ideal.exp_bot]

theorem left_state (l n : Fin 128) :
    leftOf csc csr dt cb cf h (ix2 l (⟨128 + n.val, by omega⟩ : Fin 256)) = cf (ix2 l n) * Ideal.exp (csc (ix2 l (⟨h.val, by omega⟩ : Fin 128))) := by
  unfold leftOf colOf rowOf causal
  pointwise

theorem in_at (bt : FVec Ideal S128x128 .f32) (n s : Fin 128) :
    inOf csr dt bt h (ix2 n s) = bt (ix2 n s) * (dt (ix2 h s) * Ideal.exp (csr (ix2 h (127 : Fin 128)) - csr (ix2 h s))) := by
  unfold inOf lastOf rowOf
  pointwise
end

/-- Which of two heads a lane takes. -/
theorem lane_sel : ∀ (j : Fin 128) (a b : EReal),
    Scalar.select (IntOp.cmpi CmpIPredicate.eq (BitVec.ofNat 32 (j.val / 64)) 1#32) a b = if j.val / 64 = 1 then a else b := by
  have h : ∀ j : Fin 128, IntOp.cmpi CmpIPredicate.eq (BitVec.ofNat 32 (j.val / 64)) 1#32 = if j.val / 64 = 1 then 1#1 else 0#1 := by decide +kernel
  intro j a b
  rw [h]; split <;> rfl

theorem lane_sel' : ∀ (j : Fin 128) (a b : EReal),
    Scalar.select (IntOp.cmpi CmpIPredicate.eq (BitVec.ofNat 32 ((128 + j.val) / 64)) 3#32) a b = if j.val / 64 = 1 then a else b := by
  have h : ∀ j : Fin 128, IntOp.cmpi CmpIPredicate.eq (BitVec.ofNat 32 ((128 + j.val) / 64)) 3#32 = if j.val / 64 = 1 then 1#1 else 0#1 := by decide +kernel
  intro j a b
  rw [h]; split <;> rfl

theorem lanes0_at (j : Fin 128) : lanes0 (ix2 (0 : Fin 1) j) = BitVec.ofNat 32 (j.val / 64) := by
  refine Eq.trans ?_ (laneHead_at ⟨j.val, by omega⟩)
  unfold lanes0
  pointwise

theorem lanes1_at (j : Fin 128) : lanes1 (ix2 (0 : Fin 1) j) = BitVec.ofNat 32 ((128 + j.val) / 64) := by
  refine Eq.trans ?_ (laneHead_at ⟨128 + j.val, by omega⟩)
  unfold lanes1
  pointwise

theorem pick0 (v : FVec Ideal S256x128 .f32) (l j : Fin 128) :
    pickHead lanes0 1#32 v (ix2 l j) = if j.val / 64 = 1 then v (ix2 (⟨128 + l.val, by omega⟩ : Fin 256) j) else v (ix2 (⟨l.val, by omega⟩ : Fin 256) j) := by
  unfold pickHead
  pointwise
  rw [lanes0_at, lane_sel]

theorem pick1 (v : FVec Ideal S256x128 .f32) (l j : Fin 128) :
    pickHead lanes1 3#32 v (ix2 l j) = if j.val / 64 = 1 then v (ix2 (⟨128 + l.val, by omega⟩ : Fin 256) j) else v (ix2 (⟨l.val, by omega⟩ : Fin 256) j) := by
  unfold pickHead
  pointwise
  rw [lanes1_at, lane_sel']

theorem outPair_top (A B : FVec Ideal S128x256 .bf16) (w : FVec Ideal S256x128 .bf16) (l j : Fin 128) :
    outPair A B w (ix2 (⟨l.val, by omega⟩ : Fin 256) j) = ∑ k : Fin 256, A (ix2 l k) * w (ix2 k j) := by
  unfold outPair
  pointwise

theorem outPair_bot (A B : FVec Ideal S128x256 .bf16) (w : FVec Ideal S256x128 .bf16) (l j : Fin 128) :
    outPair A B w (ix2 (⟨128 + l.val, by omega⟩ : Fin 256) j) = ∑ k : Fin 256, B (ix2 l k) * w (ix2 k j) := by
  unfold outPair
  pointwise

theorem inPair_top (A B : FVec Ideal S128x128 .bf16) (w : FVec Ideal S128x128 .bf16) (l j : Fin 128) :
    inPair A B w (ix2 (⟨l.val, by omega⟩ : Fin 256) j) = ∑ k : Fin 128, A (ix2 l k) * w (ix2 k j) := by
  unfold inPair
  pointwise

theorem inPair_bot (A B : FVec Ideal S128x128 .bf16) (w : FVec Ideal S128x128 .bf16) (l j : Fin 128) :
    inPair A B w (ix2 (⟨128 + l.val, by omega⟩ : Fin 256) j) = ∑ k : Fin 128, B (ix2 l k) * w (ix2 k j) := by
  unfold inPair
  pointwise

theorem right_in (x : Vec Ideal S128x256 .bf16) (s : Vec Ideal S1x128x256 .f32) (k : Fin 128) (q : Fin 256) :
    rightOf x s (ix2 (⟨k.val, by omega⟩ : Fin 256) q) = x (ix2 k q) := by
  unfold rightOf
  pointwise

theorem right_state (x : Vec Ideal S128x256 .bf16) (s : Vec Ideal S1x128x256 .f32) (k : Fin 128) (q : Fin 256) :
    rightOf x s (ix2 (⟨128 + k.val, by omega⟩ : Fin 256) q) = s (ix3 (0 : Fin 1) k q) := by
  unfold rightOf stateIn
  pointwise

theorem rowDots_at (a b : Vec Ideal S128x128 .bf16) (l s : Fin 128) :
    (rowDots (F := Ideal) a b (ix2 l s) : EReal) = ∑ n : Fin 128, (a (ix2 l n) : EReal) * (b (ix2 s n) : EReal) := by
  unfold rowDots
  pointwise

theorem eye_off : ∀ n k : Fin 128, n ≠ k → IntOp.cmpi CmpIPredicate.eq (BitVec.ofNat 32 n.val) (BitVec.ofNat 32 k.val) = 0#1 := by
  decide +kernel

theorem eye_dots (b : Vec Ideal S128x128 .bf16) (n s : Fin 128) : (rowDots (F := Ideal) k0_pay16 b (ix2 n s) : EReal) = (b (ix2 s n) : EReal) := by
  rw [rowDots_at]
  unfold k0_pay16
  pointwise
  rw [Finset.sum_eq_single n]
  · rw [show IntOp.cmpi CmpIPredicate.eq (BitVec.ofNat 32 n.val) (BitVec.ofNat 32 n.val) = 1#1 by simp [IntOp.cmpi]]
    rfl
  · intro k _ hk
    rw [eye_off n k hk.symm]
    rfl
  · exact fun hn => absurd (Finset.mem_univ n) hn

theorem decay_at (csr : FVec Ideal S32x128 .f32) (g : Fin 8) (q : Fin 256) :
    decayOf csr g (ix2 (0 : Fin 1) q) = Ideal.exp (csr (ix2 (headOf g ⟨q.val / 64, by omega⟩) (127 : Fin 128))) := by
  unfold decayOf decayOver lastOf rowOf
  pointwise
  rw [laneHead_at]
  have hq : q.val / 64 < 4 := by omega
  have key : ∀ m : Fin 4, Scalar.select (IntOp.cmpi CmpIPredicate.eq (BitVec.ofNat 32 m.val) 3#32) (Ideal.exp (csr (ix2 (headOf g 3) (127 : Fin 128))))
      (Scalar.select (IntOp.cmpi CmpIPredicate.eq (BitVec.ofNat 32 m.val) 2#32) (Ideal.exp (csr (ix2 (headOf g 2) (127 : Fin 128))))
        (Scalar.select (IntOp.cmpi CmpIPredicate.eq (BitVec.ofNat 32 m.val) 1#32) (Ideal.exp (csr (ix2 (headOf g 1) (127 : Fin 128))))
          (Scalar.select (IntOp.cmpi CmpIPredicate.eq (BitVec.ofNat 32 m.val) 0#32) (Ideal.exp (csr (ix2 (headOf g 0) (127 : Fin 128)))) 0)))
      = Ideal.exp (csr (ix2 (headOf g m) (127 : Fin 128))) := by
    intro m
    match m with
    | 0 => rfl
    | 1 => rfl
    | 2 => rfl
    | 3 => rfl
  exact key ⟨q.val / 64, hq⟩

/-- The head, within its group, of a lane. -/
def quarter (q : Fin 256) : Fin 4 := ⟨q.val / 64, by omega⟩

theorem halves (P : Fin 256 → Prop) (lo : ∀ j : Fin 128, P ⟨j.val, by omega⟩) (hi : ∀ j : Fin 128, P ⟨128 + j.val, by omega⟩) (q : Fin 256) : P q := by
  by_cases h : q.val < 128
  · exact lo ⟨q.val, h⟩
  · have e := hi ⟨q.val - 128, by omega⟩
    have : (⟨128 + (q.val - 128), by omega⟩ : Fin 256) = q := Fin.ext (by show 128 + (q.val - 128) = q.val; omega)
    rwa [this] at e

/-- A sum over two halves of 128. -/
theorem sum_halves (f : Fin 256 → EReal) :
    ∑ k : Fin 256, f k = ∑ s : Fin 128, f ⟨s.val, by omega⟩ + ∑ n : Fin 128, f ⟨128 + n.val, by omega⟩ :=
  Fin.sum_univ_add (a := 128) (b := 128) f

section
variable (A : Fin 4 → FVec Ideal S128x256 .bf16) (B : Fin 4 → FVec Ideal S128x128 .bf16)

theorem out_lo (w : FVec Ideal S256x128 .bf16) (l j : Fin 128) :
    pickHead lanes0 1#32 (outPair (A 0) (A 1) w) (ix2 l j) = ∑ k : Fin 256, A (quarter ⟨j.val, by omega⟩) (ix2 l k) * w (ix2 k j) := by
  rw [pick0]
  split
  · rename_i h
    rw [outPair_bot, show quarter ⟨j.val, by omega⟩ = 1 from Fin.ext h]
  · rename_i h
    rw [outPair_top, show quarter ⟨j.val, by omega⟩ = 0 from Fin.ext (by show j.val / 64 = 0; omega)]

theorem out_hi (w : FVec Ideal S256x128 .bf16) (l j : Fin 128) :
    pickHead lanes1 3#32 (outPair (A 2) (A 3) w) (ix2 l j) = ∑ k : Fin 256, A (quarter ⟨128 + j.val, by omega⟩) (ix2 l k) * w (ix2 k j) := by
  rw [pick1]
  split
  · rename_i h
    rw [outPair_bot, show quarter ⟨128 + j.val, by omega⟩ = 3 from Fin.ext (by show (128 + j.val) / 64 = 3; omega)]
  · rename_i h
    rw [outPair_top, show quarter ⟨128 + j.val, by omega⟩ = 2 from Fin.ext (by show (128 + j.val) / 64 = 2; omega)]

theorem in_lo (w : FVec Ideal S128x128 .bf16) (l j : Fin 128) :
    pickHead lanes0 1#32 (inPair (B 0) (B 1) w) (ix2 l j) = ∑ k : Fin 128, B (quarter ⟨j.val, by omega⟩) (ix2 l k) * w (ix2 k j) := by
  rw [pick0]
  split
  · rename_i h
    rw [inPair_bot, show quarter ⟨j.val, by omega⟩ = 1 from Fin.ext h]
  · rename_i h
    rw [inPair_top, show quarter ⟨j.val, by omega⟩ = 0 from Fin.ext (by show j.val / 64 = 0; omega)]

theorem in_hi (w : FVec Ideal S128x128 .bf16) (l j : Fin 128) :
    pickHead lanes1 3#32 (inPair (B 2) (B 3) w) (ix2 l j) = ∑ k : Fin 128, B (quarter ⟨128 + j.val, by omega⟩) (ix2 l k) * w (ix2 k j) := by
  rw [pick1]
  split
  · rename_i h
    rw [inPair_bot, show quarter ⟨128 + j.val, by omega⟩ = 3 from Fin.ext (by show (128 + j.val) / 64 = 3; omega)]
  · rename_i h
    rw [inPair_top, show quarter ⟨128 + j.val, by omega⟩ = 2 from Fin.ext (by show (128 + j.val) / 64 = 2; omega)]
end

theorem right_lo_in (x : Vec Ideal S128x256 .bf16) (st : Vec Ideal S1x128x256 .f32) (k j : Fin 128) :
    extractStridedSlice S256x128 ![0, 0] (rightOf x st) slices_S256x256_o0_0_S256x128 (ix2 (⟨k.val, by omega⟩ : Fin 256) j) = x (ix2 k (⟨j.val, by omega⟩ : Fin 256)) := by
  unfold rightOf
  pointwise

theorem right_lo_state (x : Vec Ideal S128x256 .bf16) (st : Vec Ideal S1x128x256 .f32) (k j : Fin 128) :
    extractStridedSlice S256x128 ![0, 0] (rightOf x st) slices_S256x256_o0_0_S256x128 (ix2 (⟨128 + k.val, by omega⟩ : Fin 256) j)
      = st (ix3 (0 : Fin 1) k (⟨j.val, by omega⟩ : Fin 256)) := by
  unfold rightOf stateIn
  pointwise

theorem right_hi_in (x : Vec Ideal S128x256 .bf16) (st : Vec Ideal S1x128x256 .f32) (k j : Fin 128) :
    extractStridedSlice S256x128 ![0, 128] (rightOf x st) slices_S256x256_o0_128_S256x128 (ix2 (⟨k.val, by omega⟩ : Fin 256) j)
      = x (ix2 k (⟨128 + j.val, by omega⟩ : Fin 256)) := by
  unfold rightOf
  pointwise

theorem right_hi_state (x : Vec Ideal S128x256 .bf16) (st : Vec Ideal S1x128x256 .f32) (k j : Fin 128) :
    extractStridedSlice S256x128 ![0, 128] (rightOf x st) slices_S256x256_o0_128_S256x128 (ix2 (⟨128 + k.val, by omega⟩ : Fin 256) j)
      = st (ix3 (0 : Fin 1) k (⟨128 + j.val, by omega⟩ : Fin 256)) := by
  unfold rightOf stateIn
  pointwise

theorem stateIn_at (st : Vec Ideal S1x128x256 .f32) (n : Fin 128) (q : Fin 256) : (stateIn (F := Ideal) st (ix2 n q) : EReal) = (st (ix3 (0 : Fin 1) n q) : EReal) := by
  unfold stateIn
  pointwise

/-- An output entry of a group: the chunk's own tokens, the carried state, and the skip. -/
theorem outOf_at (csc : FVec Ideal S128x128 .f32) (csr dt : FVec Ideal S32x128 .f32) (b cc : Vec Ideal S128x128 .bf16)
    (x : Vec Ideal S128x256 .bf16) (st : Vec Ideal S1x128x256 .f32) (k : Vec Ideal S1x256 .f32) (g : Fin 8) (l : Fin 128) (q : Fin 256) :
    (outOf (F := Ideal) csc csr dt b cc x st k g (ix2 l q) : EReal)
      = ((∑ s : Fin 128, (∑ n : Fin 128, (cc (ix2 l n) : EReal) * (b (ix2 s n) : EReal))
            * (if s.val ≤ l.val then Ideal.exp (csc (ix2 l (⟨(headOf g (quarter q)).val, by omega⟩ : Fin 128)) - csr (ix2 (headOf g (quarter q)) s)) else 0)
            * dt (ix2 (headOf g (quarter q)) s) * (x (ix2 s q) : EReal))
          + ∑ n : Fin 128, (cc (ix2 l n) : EReal) * Ideal.exp (csc (ix2 l (⟨(headOf g (quarter q)).val, by omega⟩ : Fin 128))) * (st (ix3 (0 : Fin 1) n q) : EReal))
        + (x (ix2 l q) : EReal) * (k (ix2 (0 : Fin 1) q) : EReal) := by
  unfold outOf
  have lo := out_lo (fun r => leftOf csc csr dt (rowDots cc b) (extf .f32 cc bitsLt_bf16_f32) (headOf g r))
  have hi := out_hi (fun r => leftOf csc csr dt (rowDots cc b) (extf .f32 cc bitsLt_bf16_f32) (headOf g r))
  revert q
  refine halves _ (fun j => ?_) (fun j => ?_)
  · pointwise
    rw [lo, sum_halves]
    simp only [left_in, left_state, right_lo_in, right_lo_state, rowDots_at]
    rfl
  · pointwise
    rw [hi, sum_halves]
    simp only [left_in, left_state, right_hi_in, right_hi_state, rowDots_at]
    rfl

theorem nextOf_at (csr dt : FVec Ideal S32x128 .f32) (b : Vec Ideal S128x128 .bf16) (x : Vec Ideal S128x256 .bf16)
    (st : Vec Ideal S1x128x256 .f32) (g : Fin 8) (n : Fin 128) (q : Fin 256) :
    (nextOf (F := Ideal) csr dt b x st g (ix3 (0 : Fin 1) n q) : EReal)
      = (st (ix3 (0 : Fin 1) n q) : EReal) * Ideal.exp (csr (ix2 (headOf g (quarter q)) (127 : Fin 128)))
        + ∑ s : Fin 128, (b (ix2 s n) : EReal) * (dt (ix2 (headOf g (quarter q)) s)
            * Ideal.exp (csr (ix2 (headOf g (quarter q)) (127 : Fin 128)) - csr (ix2 (headOf g (quarter q)) s))) * (x (ix2 s q) : EReal) := by
  unfold nextOf
  have lo := in_lo (fun r => inOf csr dt (rowDots k0_pay16 b) (headOf g r))
  have hi := in_hi (fun r => inOf csr dt (rowDots k0_pay16 b) (headOf g r))
  revert q
  refine halves _ (fun j => ?_) (fun j => ?_)
  · pointwise
    rw [lo, stateIn_at, decay_at]
    simp only [in_at, eye_dots]
    pointwise
    rfl
  · pointwise
    rw [hi, stateIn_at, decay_at]
    simp only [in_at, eye_dots]
    pointwise
    rfl

end Cert.SsdIdeal.Own
-- ==== Proof.SsdPoint.lean ====
/- The state-space scan: the blocks each grid point reads, entry by entry, and one grid point's output and state in the
   chunk form. -/
module

public import proofs.«01_k».proof.Proof.SsdEntry
public import Idealize.ShloMosaic.Lib.Routing.OpsSet
public import Idealize.ShloMosaic.Lib.StableHlo.ReadAt

@[expose] public section

set_option maxRecDepth 100000

noncomputable section

namespace Cert.SsdIdeal.Own
open Cert.Own.Chunks Cert.SsdIdeal Cert.SsdIdeal.Gen Idealize.ShloMosaic Idealize.ShloMosaic.TcCoe

section
variable {F : FTy → Type} [FloatOps F] [Named F] (m : (ℓ : Loc nD τ sig) → Buf (Elt F) ℓ) (c : Dev nD)

theorem V_lanes (r : Fin 16384) (h : Fin 32) : V m c main_v0 (ix2 r (⟨h.val, by omega⟩ : Fin 128)) = m ((c : Thread nD τ).loc main_arg1) (ix2 r h) := by
  unfold V
  after_reads_at

theorem V_turned (r : Fin 16384) (h : Fin 32) : V m c main_v1 (ix2 h r) = m ((c : Thread nD τ).loc main_arg1) (ix2 r h) := by
  unfold V
  after_reads_at

theorem V_rateCol (h : Fin 32) : V m c main_v9 (ix2 h (0 : Fin 1)) = m ((c : Thread nD τ).loc main_arg2) (ix2 (0 : Fin 1) h) := by
  unfold V
  after_reads_at

theorem V_skip (q : Fin 2048) : V m c main_v12 (ix2 (0 : Fin 1) q) = m ((c : Thread nD τ).loc main_arg3) (ix2 (0 : Fin 1) (⟨q.val / 64, by omega⟩ : Fin 32)) := by
  unfold V
  after_reads_at

/-- The corner at which the host writes the decay rates into a row of zeros. -/
def corner : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

theorem corner_lands : ∀ h k : Fin 32, scatter_S1x128_S2_S32_0_0_01_0.resultIdx? (ix1 k) corner = some (ix2 (0 : Fin 1) (⟨h.val, by omega⟩ : Fin 128)) ↔ k = h := by
  decide +kernel

theorem V_rateRow' : V m c main_v8 = Host.scatter scatter_S1x128_S2_S32_0_0_01_0 (fun _ b => b)
    (broadcastInDim S1x128 ![] bcast_S_S1x128 (constant S_ .f32 0x00000000#32)) corner (shapeCast S32 (m ((c : Thread nD τ).loc main_arg2)) shapeCasts_S1x32_S32) := by
  unfold V
  after_reads_simp
  rfl

theorem V_rateRow (h : Fin 32) : V m c main_v8 (ix2 (0 : Fin 1) (⟨h.val, by omega⟩ : Fin 128)) = m ((c : Thread nD τ).loc main_arg2) (ix2 (0 : Fin 1) h) := by
  rw [V_rateRow']
  refine Idealize.ShloMosaic.Routing.scatter_set_hit _ _ _ _ _ _ (fun k hk => ?_) (ix1 h) ((corner_lands h h).2 rfl)
  obtain ⟨k, rfl⟩ : ∃ k' : Fin 32, k = ix1 k' := ⟨k 0, eq_ix1 k⟩
  rw [(corner_lands h k).1 hk]
  pointwise

theorem lt_N (t : Fin cfg0.N) : t.val < 128 := lt_of_lt_of_eq t.isLt N_0

/-- The chunk of a grid point. -/
def chunkOf (t : Fin cfg0.N) : Fin 128 := ⟨t.val, lt_N t⟩

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = 0 ∧ win0_2.index t 1 = t.val := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)

/-- The tokens a point reads. -/
theorem blk0 (t : Fin cfg0.N) (l : Fin 128) (q : Fin 4096) :
    iblk m c 0 t (ix2 l q) = m ((c : Thread nD τ).loc main_arg0) (ix2 (tok (chunkOf t) l) q) := by
  unfold iblk
  rw [View.read_apply]
  show V m c main_arg0 _ = _
  rw [V_main_arg0]
  congr 1
  funext b
  apply Fin.ext
  obtain ⟨e0, e1⟩ := idx0 t
  match b with
  | ⟨0, _⟩ => show win0_0.index t 0 * 128 + 1 * l.val = 128 * t.val + l.val; rw [e0]; omega
  | ⟨1, _⟩ => show win0_0.index t 1 * 4096 + 1 * q.val = q.val; rw [e1]; omega

/-- The step sizes a point reads, tokens down the rows. -/
theorem blk1 (t : Fin cfg0.N) (l : Fin 128) (h : Fin 32) :
    iblk m c 1 t (ix2 l (⟨h.val, by omega⟩ : Fin 128)) = m ((c : Thread nD τ).loc main_arg1) (ix2 (tok (chunkOf t) l) h) := by
  unfold iblk
  rw [View.read_apply]
  show V m c main_v0 _ = _
  refine Eq.trans ?_ (V_lanes m c (tok (chunkOf t) l) h)
  congr 1
  funext b
  apply Fin.ext
  obtain ⟨e0, e1⟩ := idx1 t
  match b with
  | ⟨0, _⟩ => show win0_1.index t 0 * 128 + 1 * l.val = 128 * t.val + l.val; rw [e0]; omega
  | ⟨1, _⟩ => show win0_1.index t 1 * 128 + 1 * h.val = h.val; rw [e1]; omega

/-- The step sizes a point reads, tokens along the lanes. -/
theorem blk2 (t : Fin cfg0.N) (l : Fin 128) (h : Fin 32) :
    iblk m c 2 t (ix2 h l) = m ((c : Thread nD τ).loc main_arg1) (ix2 (tok (chunkOf t) l) h) := by
  unfold iblk
  rw [View.read_apply]
  show V m c main_v1 _ = _
  refine Eq.trans ?_ (V_turned m c (tok (chunkOf t) l) h)
  congr 1
  funext b
  apply Fin.ext
  obtain ⟨e0, e1⟩ := idx2 t
  match b with
  | ⟨0, _⟩ => show win0_2.index t 0 * 32 + 1 * h.val = h.val; rw [e0]; omega
  | ⟨1, _⟩ => show win0_2.index t 1 * 128 + 1 * l.val = 128 * t.val + l.val; rw [e1]; omega

/-- The logarithms of the decay rates, along the lanes. -/
theorem blk3 (t : Fin cfg0.N) (h : Fin 32) :
    iblk m c 3 t (ix2 (0 : Fin 1) (⟨h.val, by omega⟩ : Fin 128)) = m ((c : Thread nD τ).loc main_arg2) (ix2 (0 : Fin 1) h) := by
  unfold iblk
  rw [View.read_apply]
  show V m c main_v8 _ = _
  refine Eq.trans ?_ (V_rateRow m c h)
  congr 1
  funext b
  apply Fin.ext
  obtain ⟨e0, e1⟩ := idx3 t
  match b with
  | ⟨0, _⟩ => show win0_3.index t 0 * 1 + 1 * 0 = 0; rw [e0]
  | ⟨1, _⟩ => show win0_3.index t 1 * 128 + 1 * h.val = h.val; rw [e1]; omega

/-- The logarithms of the decay rates, down the rows. -/
theorem blk4 (t : Fin cfg0.N) (h : Fin 32) :
    iblk m c 4 t (ix2 h (0 : Fin 1)) = m ((c : Thread nD τ).loc main_arg2) (ix2 (0 : Fin 1) h) := by
  unfold iblk
  rw [View.read_apply]
  show V m c main_v9 _ = _
  refine Eq.trans ?_ (V_rateCol m c h)
  congr 1
  funext b
  apply Fin.ext
  obtain ⟨e0, e1⟩ := idx4 t
  match b with
  | ⟨0, _⟩ => show win0_4.index t 0 * 32 + 1 * h.val = h.val; rw [e0]; omega
  | ⟨1, _⟩ => show win0_4.index t 1 * 1 + 1 * 0 = 0; rw [e1]

/-- The skip weights, one per lane. -/
theorem blk5 (t : Fin cfg0.N) (q : Fin 2048) :
    iblk m c 5 t (ix2 (0 : Fin 1) q) = m ((c : Thread nD τ).loc main_arg3) (ix2 (0 : Fin 1) (head q)) := by
  unfold iblk
  rw [View.read_apply]
  show V m c main_v12 _ = _
  refine Eq.trans ?_ (V_skip m c q)
  congr 1
  funext b
  apply Fin.ext
  obtain ⟨e0, e1⟩ := idx5 t
  match b with
  | ⟨0, _⟩ => show win0_5.index t 0 * 1 + 1 * 0 = 0; rw [e0]
  | ⟨1, _⟩ => show win0_5.index t 1 * 2048 + 1 * q.val = q.val; rw [e1]; omega

/-- The loads of a group's blocks. -/
theorem ldB_at (x : Vec F S128x4096 .bf16) (g : Fin 8) (s n : Fin 128) :
    ldB x g (ix2 s n) = x (ix2 s (⟨2048 + 128 * g.val + n.val, by omega⟩ : Fin 4096)) := by
  unfold ldB
  refine congrArg x (funext fun b => Fin.ext ?_)
  match b with
  | ⟨0, _⟩ => show 0 + 1 * s.val = s.val; omega
  | ⟨1, _⟩ => show 2048 + 128 * g.val + 1 * n.val = 2048 + 128 * g.val + n.val; omega

theorem ldC_at (x : Vec F S128x4096 .bf16) (g : Fin 8) (s n : Fin 128) :
    ldC x g (ix2 s n) = x (ix2 s (⟨3072 + 128 * g.val + n.val, by omega⟩ : Fin 4096)) := by
  unfold ldC
  refine congrArg x (funext fun b => Fin.ext ?_)
  match b with
  | ⟨0, _⟩ => show 0 + 1 * s.val = s.val; omega
  | ⟨1, _⟩ => show 3072 + 128 * g.val + 1 * n.val = 3072 + 128 * g.val + n.val; omega

theorem ldX_at (x : Vec F S128x4096 .bf16) (g : Fin 8) (s : Fin 128) (j : Fin 256) :
    ldX x g (ix2 s j) = x (ix2 s (⟨256 * g.val + j.val, by omega⟩ : Fin 4096)) := by
  unfold ldX
  refine congrArg x (funext fun b => Fin.ext ?_)
  match b with
  | ⟨0, _⟩ => show 0 + 1 * s.val = s.val; omega
  | ⟨1, _⟩ => show 256 * g.val + 1 * j.val = 256 * g.val + j.val; omega

theorem ldK_at (x : Vec F S1x2048 .f32) (g : Fin 8) (j : Fin 256) :
    ldK x g (ix2 (0 : Fin 1) j) = x (ix2 (0 : Fin 1) (⟨256 * g.val + j.val, by omega⟩ : Fin 2048)) := by
  unfold ldK
  refine congrArg x (funext fun b => Fin.ext ?_)
  match b with
  | ⟨0, _⟩ => rfl
  | ⟨1, _⟩ => show 256 * g.val + 1 * j.val = 256 * g.val + j.val; omega

theorem ldS_at (x : Vec F S8x128x256 .f32) (g : Fin 8) (n : Fin 128) (j : Fin 256) :
    ldS x g (ix3 (0 : Fin 1) n j) = x (ix3 g n j) := by
  unfold ldS
  refine congrArg x (funext fun b => Fin.ext ?_)
  match b with
  | ⟨0, _⟩ => show g.val + 1 * 0 = g.val; omega
  | ⟨1, _⟩ => show 0 + 1 * n.val = n.val; omega
  | ⟨2, _⟩ => show 0 + 1 * j.val = j.val; omega
end

section
variable (m : (ℓ : Loc nD τ sig) → Buf (Elt Ideal) ℓ) (c : Dev nD)

/-- The arguments, as functions. -/
abbrev inX : Fin 16384 → Fin 4096 → EReal := fun r k => m ((c : Thread nD τ).loc main_arg0) (ix2 r k)
abbrev inD : Fin 16384 → Fin 32 → EReal := fun r h => m ((c : Thread nD τ).loc main_arg1) (ix2 r h)
abbrev inA : Fin 32 → EReal := fun h => m ((c : Thread nD τ).loc main_arg2) (ix2 (0 : Fin 1) h)
abbrev inK : Fin 32 → EReal := fun h => m ((c : Thread nD τ).loc main_arg3) (ix2 (0 : Fin 1) h)

/-- A state block as a function of lane and position. -/
def flat (xs : Vec Ideal S8x128x256 .f32) : Fin 2048 → Fin 128 → EReal := fun q n => xs (ix3 (group q) n (⟨q.val % 256, Nat.mod_lt _ (by norm_num)⟩ : Fin 256))

/-- Lane `j` of group `g`. -/
def lane (g : Fin 8) (j : Fin 256) : Fin 2048 := ⟨256 * g.val + j.val, by omega⟩

theorem group_lane (g : Fin 8) (j : Fin 256) : group (lane g j) = g := Fin.ext (by show (256 * g.val + j.val) / 256 = g.val; omega)
theorem head_lane (g : Fin 8) (j : Fin 256) : head (lane g j) = headOf g (quarter j) :=
  Fin.ext (by show (256 * g.val + j.val) / 64 = 4 * g.val + j.val / 64; omega)
theorem flat_lane (xs : Vec Ideal S8x128x256 .f32) (g : Fin 8) (j : Fin 256) (n : Fin 128) : flat xs (lane g j) n = xs (ix3 g n j) := by
  unfold flat
  rw [group_lane]
  exact congrArg (fun i => xs (ix3 g n i)) (Fin.ext (by show (256 * g.val + j.val) % 256 = j.val; omega))

variable (t : Fin cfg0.N)

theorem cumDown_at (l : Fin 128) (h : Fin 32) :
    sumDown (rateDown (iblk m c 1 t) (iblk m c 3 t)) (ix2 l (⟨h.val, by omega⟩ : Fin 128)) = cum (inD m c) (inA m c) (chunkOf t) h l := by
  rw [sumDown_at]
  unfold cum
  congr 1
  funext k
  rw [rateDown_at, blk1, blk3]

theorem cumAlong_at (h : Fin 32) (l : Fin 128) :
    sumAlong (rateAlong (iblk m c 2 t) (iblk m c 4 t)) (ix2 h l) = cum (inD m c) (inA m c) (chunkOf t) h l := by
  rw [sumAlong_at]
  unfold cum
  congr 1
  funext k
  rw [rateAlong_at, blk2, blk4]

/-- The state a point leaves. -/
theorem next_at (xs : Vec Ideal S8x128x256 .f32) (g : Fin 8) (n : Fin 128) (j : Fin 256) :
    nextB (iblk m c 0 t) (iblk m c 2 t) (iblk m c 4 t) xs (ix3 g n j) = after (inX m c) (inD m c) (inA m c) 128 (chunkOf t) (flat xs) (lane g j) n := by
  have e : nextB (iblk m c 0 t) (iblk m c 2 t) (iblk m c 4 t) xs (ix3 g n j)
      = nextG (iblk m c 0 t) (iblk m c 2 t) (iblk m c 4 t) (ldS xs g) g (ix3 (0 : Fin 1) n j) := rfl
  refine e.trans ((nextOf_at _ _ _ _ _ g n j).trans ?_)
  unfold after
  rw [group_lane, head_lane, flat_lane, cumAlong_at, ldS_at]
  congr 1
  refine Finset.sum_congr rfl fun s _ => ?_
  rw [cumAlong_at, steps_at, blk2, ldB_at, ldX_at, blk0, blk0]
  rfl

/-- The output a point leaves. -/
theorem out_at (xs : Vec Ideal S8x128x256 .f32) (l : Fin 128) (q : Fin 2048) :
    outB (iblk m c 0 t) (iblk m c 1 t) (iblk m c 2 t) (iblk m c 3 t) (iblk m c 4 t) (iblk m c 5 t) xs (ix2 l q)
      = output (inX m c) (inD m c) (inA m c) (inK m c) (chunkOf t) (flat xs) l q := by
  obtain ⟨g, j, rfl⟩ : ∃ (g : Fin 8) (j : Fin 256), q = lane g j :=
    ⟨group q, ⟨q.val % 256, Nat.mod_lt _ (by norm_num)⟩, Fin.ext (by show q.val = 256 * (q.val / 256) + q.val % 256; omega)⟩
  have eg : (⟨(lane g j).val / 256, by have := (lane g j).isLt; omega⟩ : Fin 8) = g := group_lane g j
  have ej : (⟨(lane g j).val % 256, Nat.mod_lt _ (by norm_num)⟩ : Fin 256) = j := Fin.ext (by show (256 * g.val + j.val) % 256 = j.val; omega)
  have e : outB (iblk m c 0 t) (iblk m c 1 t) (iblk m c 2 t) (iblk m c 3 t) (iblk m c 4 t) (iblk m c 5 t) xs (ix2 l (lane g j))
      = outG (iblk m c 0 t) (iblk m c 1 t) (iblk m c 2 t) (iblk m c 3 t) (iblk m c 4 t) (iblk m c 5 t) (ldS xs g) g (ix2 l j) := by
    show outG _ _ _ _ _ _ (ldS xs ⟨(lane g j).val / 256, _⟩) ⟨(lane g j).val / 256, _⟩ (ix2 l (⟨(lane g j).val % 256, _⟩ : Fin 256)) = _
    rw [eg, ej]
  refine e.trans ((outOf_at _ _ _ _ _ _ _ _ g l j).trans ?_)
  unfold output
  rw [group_lane, head_lane, cumDown_at]
  refine congrArg₂ (· + ·) (congrArg₂ (· + ·) ?_ ?_) ?_
  · refine Finset.sum_congr rfl fun s _ => ?_
    rw [cumAlong_at, steps_at, blk2, ldX_at, blk0]
    refine congrArg₂ (· * ·) (congrArg₂ (· * ·) (congrArg₂ (· * ·) ?_ rfl) rfl) rfl
    refine Finset.sum_congr rfl fun n _ => ?_
    rw [ldC_at, ldB_at, blk0, blk0]
    rfl
  · refine Finset.sum_congr rfl fun n _ => ?_
    rw [ldC_at, blk0, ldS_at, flat_lane]
    rfl
  · rw [ldX_at, blk0, ldK_at, blk5, ← head_lane]
    rfl
end

end Cert.SsdIdeal.Own
-- ==== Proof.SsdState.lean ====
/- The state-space scan: the state the kernel carries from one grid point to the next, and its result at each entry. -/
module

public import proofs.«01_k».proof.Proof.SsdPoint

@[expose] public section

set_option maxRecDepth 100000

noncomputable section

namespace Cert.SsdIdeal.Own
open Cert.Own.Chunks Cert.SsdIdeal Cert.SsdIdeal.Gen Idealize.ShloMosaic Idealize.ShloMosaic.TcCoe

variable (m : (ℓ : Loc nD τ sig) → Buf (Elt Ideal) ℓ) (c : Dev nD)

theorem flat_zero : flat (noState (F := Ideal)) = fun _ _ => 0 := by
  funext q n
  unfold flat noState
  pointwise

/-- The state before a point: nothing at the first, what the point before left at the others. -/
def stateBefore (t : Fin cfg0.N) : Vec Ideal S8x128x256 .f32 :=
  if t.val % 128 = 0 then noState else (outsAt0 m c (t.val - 1) (Nat.lt_of_le_of_lt (Nat.sub_le _ _) t.isLt)).2

/-- What a point leaves: its output block and the state after it. -/
theorem point (t : Fin cfg0.N) : outsAt0 m c t.val t.isLt
    = (outB (iblk m c 0 t) (iblk m c 1 t) (iblk m c 2 t) (iblk m c 3 t) (iblk m c 4 t) (iblk m c 5 t) (stateBefore m c t),
        nextB (iblk m c 0 t) (iblk m c 2 t) (iblk m c 4 t) (stateBefore m c t)) := by
  unfold stateBefore
  by_cases h : t.val % 128 = 0
  · rw [outsAt0_A m c t h, if_pos h]
    refine congrArg₂ Prod.mk ?_ ?_
    · exact out_first (hc := (hcond0_0 t).mpr h) ..
    · exact next_first (hc := (hcond0_0 t).mpr h) ..
  · rw [outsAt0_B m c t h, if_neg h]
    refine congrArg₂ Prod.mk ?_ ?_
    · exact out_later (hc := fun h' => h ((hcond0_0 t).mp h')) ..
    · exact next_later (hc := fun h' => h ((hcond0_0 t).mp h')) ..

/-- The state before each point is the chunk form's. -/
theorem state_at (n : ℕ) (hn : n < cfg0.N) : flat (stateBefore m c ⟨n, hn⟩) = before (inX m c) (inD m c) (inA m c) 128 128 n := by
  induction n with
  | zero =>
    unfold stateBefore
    rw [if_pos (Nat.zero_mod _), flat_zero]
    rfl
  | succ n ih =>
    have hN : n + 1 < 128 := lt_of_lt_of_eq hn N_0
    have e : stateBefore m c ⟨n + 1, hn⟩ = (outsAt0 m c n (Nat.lt_of_succ_lt hn)).2 := by
      unfold stateBefore
      exact if_neg (by show ¬ (n + 1) % 128 = 0; omega)
    rw [e, point m c ⟨n, Nat.lt_of_succ_lt hn⟩]
    funext q k
    refine (next_at m c ⟨n, Nat.lt_of_succ_lt hn⟩ _ (group q) k (⟨q.val % 256, Nat.mod_lt _ (by norm_num)⟩ : Fin 256)).trans ?_
    rw [ih, show lane (group q) (⟨q.val % 256, Nat.mod_lt _ (by norm_num)⟩ : Fin 256) = q from
      Fin.ext (by show 256 * (q.val / 256) + q.val % 256 = q.val; omega)]
    show after _ _ _ _ _ _ q k = after _ _ _ _ (chunk 128 n) _ q k
    rw [show chunkOf ⟨n, Nat.lt_of_succ_lt hn⟩ = chunk 128 n from Fin.ext (by show n = n % 128; omega)]

/-- The kernel's result at one entry. -/
theorem result_at (k l : Fin 128) (q : Fin 2048) :
    Value.G6 m c (ix2 (tok k l) q)
      = output (inX m c) (inD m c) (inA m c) (inK m c) k (before (inX m c) (inD m c) (inA m c) 128 128 k.val) l q := by
  unfold Value.G6
  have hp : Value.pt6Of (ix2 (tok k l) q) = k.val := by
    show 1 * ((128 * k.val + l.val) / 128 - 0) + 1 * (q.val / 2048 - 0) = k.val
    omega
  have hlt : Value.pt6Of (ix2 (tok k l) q) < cfg0.N := by rw [hp]; exact lt_of_lt_of_eq k.isLt N_0.symm
  rw [dif_pos hlt, ← Value.outsAt0_sweep m c _ hlt, point m c ⟨_, hlt⟩]
  rw [show Value.loc6Of (ix2 (tok k l) q) = ix2 l q from by
    funext d
    match d with
    | ⟨0, _⟩ => exact Fin.ext (by show (128 * k.val + l.val) % 128 = l.val; omega)
    | ⟨1, _⟩ => exact Fin.ext (by show q.val % 2048 = q.val; omega)]
  refine (out_at m c ⟨_, hlt⟩ _ l q).trans ?_
  rw [state_at, show chunkOf ⟨Value.pt6Of (ix2 (tok k l) q), hlt⟩ = k from Fin.ext hp, hp]

end Cert.SsdIdeal.Own
-- ==== Proof.SsdReference.lean ====
/- The state-space scan: what the reference holds when its loop over the chunks starts, entry by entry. -/
module

public import proofs.«01_k».proof.Proof.SsdChunks
public import proofs.«01_k».proof.Proof.Gen.SsdRefIdeal.Run
public import Idealize.ShloMosaic.Lib.StableHlo.ReadAt

@[expose] public section

set_option maxRecDepth 100000

noncomputable section

namespace Cert.SsdRefIdeal.Own
open Cert.Own.Chunks Cert.SsdRefIdeal Cert.SsdRefIdeal.Gen Cert.SsdRefIdeal.Value Idealize.ShloMosaic Idealize.ShloMosaic.TcCoe

/-! ## The running sum over a window -/

/-- A fold of additions is the sum. -/
theorem fold_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window's offsets along the last axis. -/
def lastAxis : (⟨4, ![1, 1, 1, 64]⟩ : Shape).Idx ≃ Fin 64 where
  toFun i := i 3
  invFun w := ix4 0 0 0 w
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
    | ⟨3, _⟩ => rfl
  right_inv w := rfl

/-- Sums along the last axis, each entry those up to it. -/
def running (v : FVec Ideal S8x4x256x64 .f32) : FVec Ideal S8x4x256x64 .f32 :=
  Host.reduceWindowAdd (F := Ideal) ![1, 1, 1, 64] ![1, 1, 1, 1] ![0, 0, 0, 63] ![0, 0, 0, 0] v
    (broadcastInDim S_ ![] bcast_S_S_ (constant S_ .f32 0x00000000#32)) reduceWindows_S8x4x256x64_S8x4x256x64_w1s1p0_0_w1s1p0_0_w1s1p0_0_w64s1p63_0 h_S_

/-- The window's offset with a given number. -/
def place (i : Fin (⟨4, ![1, 1, 1, 64]⟩ : Shape).numel) : (⟨4, ![1, 1, 1, 64]⟩ : Shape).Idx := (⟨4, ![1, 1, 1, 64]⟩ : Shape).rowMajor.symm i

theorem running_at (v : FVec Ideal S8x4x256x64 .f32) (g : Fin 8) (r : Fin 4) (k : Fin 256) (l : Fin 64) :
    running v (ix4 g r k l) = upto (fun s => v (ix4 g r k s)) l := by
  have hz : (broadcastInDim S_ ![] bcast_S_S_ (constant (F := Ideal) S_ .f32 0x00000000#32)) (Shape.Idx.first h_S_) = (0 : EReal) := by
    pointwise
  unfold running upto
  show Host.reduceWindow (α := EReal) (u := S_) (· + ·) ![1, 1, 1, 64] ![1, 1, 1, 1] ![0, 0, 0, 63] ![0, 0, 0, 0] v
    (fun _ => (broadcastInDim S_ ![] bcast_S_S_ (constant (F := Ideal) S_ .f32 0x00000000#32)) (Shape.Idx.first h_S_))
    reduceWindows_S8x4x256x64_S8x4x256x64_w1s1p0_0_w1s1p0_0_w1s1p0_0_w64s1p63_0 h_S_ (ix4 g r k l) = _
  rw [hz]
  unfold Host.reduceWindow
  refine (fold_add _ _ _).trans ?_
  rw [zero_add, ← Fin.sum_univ_def]
  refine Fintype.sum_equiv ((⟨4, ![1, 1, 1, 64]⟩ : Shape).rowMajor.symm.trans (lastAxis.trans (Equiv.addRight (l + 1)))) _ _ fun i => ?_
  obtain ⟨w, hw⟩ : ∃ w, place i = lastAxis.symm w := ⟨lastAxis _, (lastAxis.symm_apply_apply _).symm⟩
  have h0 : (place i 0).val = 0 := by rw [hw]; rfl
  have h1 : (place i 1).val = 0 := by rw [hw]; rfl
  have h2 : (place i 2).val = 0 := by rw [hw]; rfl
  have h3 : (place i 3).val = w.val := by rw [hw]; rfl
  have e : (((⟨4, ![1, 1, 1, 64]⟩ : Shape).rowMajor.symm.trans (lastAxis.trans (Equiv.addRight (l + 1)))) i) = w + (l + 1) := by
    show lastAxis (place i) + (l + 1) = _
    rw [hw, Equiv.apply_symm_apply]
  have hv : (w + (l + 1)).val = (l.val + w.val + 1) % 64 := by
    rw [Fin.val_add, Fin.val_add]; show (w.val + (l.val + 1) % 64) % 64 = _; omega
  rw [e]
  by_cases h : 63 ≤ l.val + w.val
  · rw [if_pos (show (w + (l + 1)).val ≤ l.val by rw [hv]; omega), dif_pos]
    · refine congrArg v (funext fun a => Fin.ext ?_)
      match a with
      | ⟨0, _⟩ => show g.val * 1 + (place i 0).val - 0 = g.val; omega
      | ⟨1, _⟩ => show r.val * 1 + (place i 1).val - 0 = r.val; omega
      | ⟨2, _⟩ => show k.val * 1 + (place i 2).val - 0 = k.val; omega
      | ⟨3, _⟩ => show l.val * 1 + (place i 3).val - 63 = (w + (l + 1)).val; rw [hv, h3]; omega
    · intro a
      match a with
      | ⟨0, _⟩ => show 0 ≤ g.val * 1 + (place i 0).val ∧ g.val * 1 + (place i 0).val - 0 < 8; omega
      | ⟨1, _⟩ => show 0 ≤ r.val * 1 + (place i 1).val ∧ r.val * 1 + (place i 1).val - 0 < 4; omega
      | ⟨2, _⟩ => show 0 ≤ k.val * 1 + (place i 2).val ∧ k.val * 1 + (place i 2).val - 0 < 256; omega
      | ⟨3, _⟩ => show 63 ≤ l.val * 1 + (place i 3).val ∧ l.val * 1 + (place i 3).val - 63 < 64; omega
  · rw [if_neg (show ¬ (w + (l + 1)).val ≤ l.val by rw [hv]; omega), dif_neg]
    intro hin
    have h4 : 63 ≤ l.val * 1 + (place i 3).val := (hin 3).1
    omega

/-! ## The arrays the loop starts from, of the ones before them -/

variable (m : (ℓ : Loc nD τ sig) → Buf (Elt Ideal) ℓ) (c : Dev nD)

/-- Everything as the loop starts. -/
abbrev start : Valuation τ sig (Elt Ideal) := StableHlo.entryContents preI m c

/-- A head's number and a lane's, by group, head in the group and place in the head. -/
def hd (g : Fin 8) (r : Fin 4) : Fin 32 := ⟨g.val * 4 + r.val, by omega⟩
def col (g : Fin 8) (r : Fin 4) (p : Fin 64) : Fin 2048 := ⟨(g.val * 4 + r.val) * 64 + p.val, by omega⟩

theorem tok_eq (k : Fin 256) (l : Fin 64) (h : k.val * 64 + l.val < 16384) : tok k l = ⟨k.val * 64 + l.val, h⟩ :=
  Fin.ext (by show 64 * k.val + l.val = k.val * 64 + l.val; omega)

/-- The step sizes times the rates, by head. -/
def rates (d : FVec Ideal S16384x32 .f32) (a : FVec Ideal S1x32 .f32) : FVec Ideal S8x4x256x64 .f32 :=
  transpose S8x4x256x64 [2, 3, 0, 1]
    (shapeCast S256x64x8x4
      (mulf d (broadcastInDim S16384x32 ![0, 1] bcast_S1x32_S16384x32_0_1 (broadcastInDim S1x32 ![1] bcast_S32_S1x32_1
        (Host.negf (Host.exp (F := Ideal) (shapeCast S32 a shapeCasts_S1x32_S32))))))
      shapeCasts_S16384x32_S256x64x8x4)
    transposes_S256x64x8x4_S8x4x256x64_2_3_0_1

/-- The input-to-state and state-to-output coefficients, by chunk. -/
def toState (x : FVec Ideal S16384x4096 .bf16) : FVec Ideal S256x64x8x128 .f32 :=
  shapeCast S256x64x8x128 (extractStridedSlice S16384x1024 ![0, 2048] (extf .f32 x bitsLt_bf16_f32) slices_S16384x4096_S16384x1024_0_2048) shapeCasts_S16384x1024_S256x64x8x128
def fromState (x : FVec Ideal S16384x4096 .bf16) : FVec Ideal S256x64x8x128 .f32 :=
  shapeCast S256x64x8x128 (extractStridedSlice S16384x1024 ![0, 3072] (extf .f32 x bitsLt_bf16_f32) slices_S16384x4096_S16384x1024_0_3072) shapeCasts_S16384x1024_S256x64x8x128

/-- The inputs by head, and by chunk after a factor per head. -/
def inputs (x : FVec Ideal S16384x4096 .bf16) : FVec Ideal S16384x32x64 .f32 :=
  shapeCast S16384x32x64 (extractStridedSlice S16384x2048 ![0, 0] (extf .f32 x bitsLt_bf16_f32) slices_S16384x4096_S16384x2048_0_0) shapeCasts_S16384x2048_S16384x32x64
def scaled (x : FVec Ideal S16384x4096 .bf16) (d : FVec Ideal S16384x32 .f32) : FVec Ideal S256x64x8x4x64 .f32 :=
  shapeCast S256x64x8x4x64
    (mulf (inputs x) (broadcastInDim S16384x32x64 ![0, 1, 2] bcast_S16384x32x1_S16384x32x64_0_1_2 (broadcastInDim S16384x32x1 ![0, 1] bcast_S16384x32_S16384x32x1_0_1 d)))
    shapeCasts_S16384x32x64_S256x64x8x4x64
def skipped (x : FVec Ideal S16384x4096 .bf16) (d : FVec Ideal S1x32 .f32) : FVec Ideal S256x64x8x4x64 .f32 :=
  shapeCast S256x64x8x4x64
    (mulf (inputs x) (broadcastInDim S16384x32x64 ![0, 1, 2] bcast_S1x32x1_S16384x32x64_0_1_2 (broadcastInDim S1x32x1 ![1, 2] bcast_S32x1_S1x32x1_1_2
      (broadcastInDim S32x1 ![0] bcast_S32_S32x1_0 (shapeCast S32 d shapeCasts_S1x32_S32)))))
    shapeCasts_S16384x32x64_S256x64x8x4x64

/-- Where a position may read an earlier one. -/
def mayRead : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The decay between two positions of a chunk, of the running sums. -/
def decayIn (s : FVec Ideal S8x4x256x64 .f32) : FVec Ideal S8x4x256x64x64 .f32 :=
  select (broadcastInDim S8x4x256x64x64 ![3, 4] bcast_S64x64_S8x4x256x64x64_3_4 mayRead)
    (Host.exp (F := Ideal) (select (broadcastInDim S8x4x256x64x64 ![3, 4] bcast_S64x64_S8x4x256x64x64_3_4 mayRead)
      (subf
        (broadcastInDim S8x4x256x64x64 ![0, 1, 2, 3, 4] bcast_S8x4x256x64x1_S8x4x256x64x64_0_1_2_3_4 (broadcastInDim S8x4x256x64x1 ![0, 1, 2, 3] bcast_S8x4x256x64_S8x4x256x64x1_0_1_2_3 s))
        (broadcastInDim S8x4x256x64x64 ![0, 1, 2, 3, 4] bcast_S8x4x256x1x64_S8x4x256x64x64_0_1_2_3_4 (broadcastInDim S8x4x256x1x64 ![0, 1, 2, 4] bcast_S8x4x256x64_S8x4x256x1x64_0_1_2_4 s)))
      (broadcastInDim S8x4x256x64x64 ![] bcast_S_S8x4x256x64x64 (constant S_ .f32 0x00000000#32))))
    (broadcastInDim S8x4x256x64x64 ![] bcast_S_S8x4x256x64x64 (constant S_ .f32 0x00000000#32))

/-- What each chunk adds to the state, its decay, its weights on the state before it, and its own part of the output. -/
def added (x : FVec Ideal S256x64x8x4x64 .f32) (b : FVec Ideal S256x64x8x128 .f32) (s : FVec Ideal S8x4x256x64 .f32) : FVec Ideal S256x8x4x64x128 .f32 :=
  Host.dotGeneral (F := Ideal) dot_S256x64x8x4x64_S256x64x8x128_S256x8x4x64x128_1_1_34_3_02_02 none
    (mulf x (broadcastInDim S256x64x8x4x64 ![0, 1, 2, 3, 4] bcast_S256x64x8x4x1_S256x64x8x4x64_0_1_2_3_4 (broadcastInDim S256x64x8x4x1 ![0, 1, 2, 3] bcast_S256x64x8x4_S256x64x8x4x1_0_1_2_3
      (transpose S256x64x8x4 [2, 3, 0, 1]
        (Host.exp (F := Ideal) (subf (broadcastInDim S8x4x256x64 ![0, 1, 2, 3] bcast_S8x4x256x1_S8x4x256x64_0_1_2_3 (extractStridedSlice S8x4x256x1 ![0, 0, 0, 63] s slices_S8x4x256x64_S8x4x256x1_0_0_0_63)) s))
        transposes_S8x4x256x64_S256x64x8x4_2_3_0_1))))
    b
def kept (s : FVec Ideal S8x4x256x64 .f32) : FVec Ideal S256x8x4 .f32 :=
  transpose S256x8x4 [2, 0, 1]
    (Host.exp (F := Ideal) (shapeCast S8x4x256 (extractStridedSlice S8x4x256x1 ![0, 0, 0, 63] s slices_S8x4x256x64_S8x4x256x1_0_0_0_63) shapeCasts_S8x4x256x1_S8x4x256))
    transposes_S8x4x256_S256x8x4_2_0_1
def weights (k : FVec Ideal S256x64x8x128 .f32) (s : FVec Ideal S8x4x256x64 .f32) : FVec Ideal S256x64x8x4x128 .f32 :=
  mulf
    (broadcastInDim S256x64x8x4x128 ![0, 1, 2, 3, 4] bcast_S256x64x8x1x128_S256x64x8x4x128_0_1_2_3_4 (broadcastInDim S256x64x8x1x128 ![0, 1, 2, 4] bcast_S256x64x8x128_S256x64x8x1x128_0_1_2_4 k))
    (broadcastInDim S256x64x8x4x128 ![0, 1, 2, 3, 4] bcast_S256x64x8x4x1_S256x64x8x4x128_0_1_2_3_4 (broadcastInDim S256x64x8x4x1 ![0, 1, 2, 3] bcast_S256x64x8x4_S256x64x8x4x1_0_1_2_3
      (transpose S256x64x8x4 [2, 3, 0, 1] (Host.exp (F := Ideal) s) transposes_S8x4x256x64_S256x64x8x4_2_3_0_1)))
def own (x : FVec Ideal S256x64x8x4x64 .f32) (b k : FVec Ideal S256x64x8x128 .f32) (d : FVec Ideal S8x4x256x64x64 .f32) : FVec Ideal S256x64x8x4x64 .f32 :=
  transpose S256x64x8x4x64 [0, 4, 1, 2, 3]
    (Host.dotGeneral (F := Ideal) dot_S256x64x8x4x64_S8x4x256x64x64_S256x8x4x64x64_1_4_4_3_023_201 none x
      (mulf (broadcastInDim S8x4x256x64x64 ![0, 1, 2, 3, 4] bcast_S8x1x256x64x64_S8x4x256x64x64_0_1_2_3_4 (broadcastInDim S8x1x256x64x64 ![0, 2, 3, 4] bcast_S8x256x64x64_S8x1x256x64x64_0_2_3_4
        (Host.dotGeneral (F := Ideal) dot_S256x64x8x128_S256x64x8x128_S8x256x64x64_3_3_1_1_20_20 none k b))) d))
    transposes_S256x8x4x64x64_S256x64x8x4x64_0_4_1_2_3

/-! ## What the loop starts from -/

theorem start_sums : (start m c (Proc.devRef .tc main_v19) : FVec Ideal S8x4x256x64 .f32)
    = running (rates (m ((c : Thread nD τ).loc main_arg1)) (m ((c : Thread nD τ).loc main_arg2))) := by
  unfold start running rates
  simp only [StableHlo.entryContents, StableHlo.afterL_cons, StableHlo.afterL_nil]
  after_reads_simp
  simp -implicitDefEqProofs only [StableHlo.TRef.toBuf, StableHlo.TRef.ofBuf, cast_eq]
  rfl

theorem start_decay : (start m c (Proc.devRef .tc main_v29) : FVec Ideal S8x4x256x64x64 .f32) = decayIn (start m c (Proc.devRef .tc main_v19)) := by
  unfold start decayIn mayRead
  simp only [StableHlo.entryContents, StableHlo.afterL_cons, StableHlo.afterL_nil]
  after_reads_simp
  simp -implicitDefEqProofs only [StableHlo.TRef.toBuf, StableHlo.TRef.ofBuf, cast_eq]
  rfl

theorem start_added : (start m c (Proc.devRef .tc main_v65_0) : FVec Ideal S256x8x4x64x128 .f32)
    = added (scaled (m ((c : Thread nD τ).loc main_arg0)) (m ((c : Thread nD τ).loc main_arg1))) (toState (m ((c : Thread nD τ).loc main_arg0))) (start m c (Proc.devRef .tc main_v19)) := by
  unfold start added scaled inputs toState
  simp only [StableHlo.entryContents, StableHlo.afterL_cons, StableHlo.afterL_nil]
  after_reads_simp
  rfl

theorem start_kept : (start m c (Proc.devRef .tc main_v65_1) : FVec Ideal S256x8x4 .f32) = kept (start m c (Proc.devRef .tc main_v19)) := by
  unfold start kept
  simp only [StableHlo.entryContents, StableHlo.afterL_cons, StableHlo.afterL_nil]
  after_reads_simp
  rfl

theorem start_weights : (start m c (Proc.devRef .tc main_v65_2) : FVec Ideal S256x64x8x4x128 .f32)
    = weights (fromState (m ((c : Thread nD τ).loc main_arg0))) (start m c (Proc.devRef .tc main_v19)) := by
  unfold start weights fromState
  simp only [StableHlo.entryContents, StableHlo.afterL_cons, StableHlo.afterL_nil]
  after_reads_simp
  rfl

theorem start_own : (start m c (Proc.devRef .tc main_v65_3) : FVec Ideal S256x64x8x4x64 .f32)
    = addf (own (scaled (m ((c : Thread nD τ).loc main_arg0)) (m ((c : Thread nD τ).loc main_arg1))) (toState (m ((c : Thread nD τ).loc main_arg0)))
        (fromState (m ((c : Thread nD τ).loc main_arg0))) (start m c (Proc.devRef .tc main_v29)))
      (skipped (m ((c : Thread nD τ).loc main_arg0)) (m ((c : Thread nD τ).loc main_arg3))) := by
  unfold start own scaled skipped inputs toState fromState
  simp only [StableHlo.entryContents, StableHlo.afterL_cons, StableHlo.afterL_nil]
  after_reads_simp
  rfl

theorem start_state : (start m c (Proc.devRef .tc main_v65_5) : FVec Ideal S8x4x64x128 .f32) = fun _ => (0 : EReal) := by
  unfold start
  simp only [StableHlo.entryContents, StableHlo.afterL_cons, StableHlo.afterL_nil]
  after_reads_simp
  funext i
  show broadcastInDim S8x4x64x128 ![] bcast_S_S8x4x64x128 (constant (F := Ideal) S_ .f32 0x00000000#32) i = (0 : EReal)
  pointwise

/-! ## Entry by entry -/

theorem rates_at (d : FVec Ideal S16384x32 .f32) (a : FVec Ideal S1x32 .f32) (g : Fin 8) (r : Fin 4) (k : Fin 256) (l : Fin 64) :
    rates d a (ix4 g r k l) = d (ix2 (tok k l) (hd g r)) * -Ideal.exp (a (ix2 0 (hd g r))) := by
  unfold rates
  rw [tok_eq k l (by omega)]
  pointwise
  rfl
theorem toState_at (x : FVec Ideal S16384x4096 .bf16) (k : Fin 256) (s : Fin 64) (n : Fin 128) (g : Fin 8) :
    toState x (ix4 k s g n) = bOf (fun i j => x (ix2 i j)) k g s n := by
  unfold toState bOf
  rw [tok_eq k s (by omega), show (⟨2048 + 128 * g.val + n.val, by omega⟩ : Fin 4096) = ⟨2048 + (g.val * 128 + n.val), by omega⟩ from Fin.ext (by show 2048 + 128 * g.val + n.val = 2048 + (g.val * 128 + n.val); omega)]
  pointwise
theorem fromState_at (x : FVec Ideal S16384x4096 .bf16) (k : Fin 256) (s : Fin 64) (n : Fin 128) (g : Fin 8) :
    fromState x (ix4 k s g n) = cOf (fun i j => x (ix2 i j)) k g s n := by
  unfold fromState cOf
  rw [tok_eq k s (by omega), show (⟨3072 + 128 * g.val + n.val, by omega⟩ : Fin 4096) = ⟨3072 + (g.val * 128 + n.val), by omega⟩ from Fin.ext (by show 3072 + 128 * g.val + n.val = 3072 + (g.val * 128 + n.val); omega)]
  pointwise
theorem scaled_at (x : FVec Ideal S16384x4096 .bf16) (d : FVec Ideal S16384x32 .f32) (k : Fin 256) (s : Fin 64) (g : Fin 8) (r : Fin 4) (p : Fin 64) :
    scaled x d (ix5 k s g r p) = xOf (fun i j => x (ix2 i j)) k s (col g r p) * d (ix2 (tok k s) (hd g r)) := by
  unfold scaled inputs xOf
  rw [tok_eq k s (by omega)]
  pointwise
  rfl
theorem skipped_at (x : FVec Ideal S16384x4096 .bf16) (d : FVec Ideal S1x32 .f32) (k : Fin 256) (s : Fin 64) (g : Fin 8) (r : Fin 4) (p : Fin 64) :
    skipped x d (ix5 k s g r p) = xOf (fun i j => x (ix2 i j)) k s (col g r p) * d (ix2 0 (hd g r)) := by
  unfold skipped inputs xOf
  rw [tok_eq k s (by omega)]
  pointwise
  rfl

theorem mayRead_at (l s : Fin 64) : mayRead (ix2 l s) = if s.val ≤ l.val then 1#1 else 0#1 := by
  have h : ∀ l s : Fin 64, Scalar.select (IntOp.cmpi CmpIPredicate.sge (IntOp.addi (BitVec.ofNat 32 l.val) 0#32) (BitVec.ofNat 32 s.val)) 1#1 0#1
      = if s.val ≤ l.val then 1#1 else 0#1 := by decide +kernel
  unfold mayRead
  pointwise
  exact h l s

theorem decayIn_at (v : FVec Ideal S8x4x256x64 .f32) (k : Fin 256) (l s : Fin 64) (g : Fin 8) (r : Fin 4) :
    decayIn v (ix5 g r k l s) = if s.val ≤ l.val then Ideal.exp (v (ix4 g r k l) - v (ix4 g r k s)) else 0 := by
  unfold decayIn
  have h := mayRead_at l s
  generalize mayRead = w at h ⊢
  pointwise
  rw [h]
  by_cases hs : s.val ≤ l.val
  · rw [if_pos hs, if_pos hs]; rfl
  · rw [if_neg hs, if_neg hs]; rfl

theorem added_at (x : FVec Ideal S256x64x8x4x64 .f32) (b : FVec Ideal S256x64x8x128 .f32) (v : FVec Ideal S8x4x256x64 .f32) (k : Fin 256) (n : Fin 128) (g : Fin 8) (r : Fin 4) (p : Fin 64) :
    added x b v (ix5 k g r p n) = ∑ s : Fin 64, x (ix5 k s g r p) * Ideal.exp (v (ix4 g r k 63) - v (ix4 g r k s)) * b (ix4 k s g n) := by
  unfold added
  pointwise
theorem kept_at (v : FVec Ideal S8x4x256x64 .f32) (k : Fin 256) (g : Fin 8) (r : Fin 4) : kept v (ix3 k g r) = Ideal.exp (v (ix4 g r k 63)) := by
  unfold kept
  pointwise
theorem weights_at (b : FVec Ideal S256x64x8x128 .f32) (v : FVec Ideal S8x4x256x64 .f32) (k : Fin 256) (l : Fin 64) (n : Fin 128) (g : Fin 8) (r : Fin 4) :
    weights b v (ix5 k l g r n) = b (ix4 k l g n) * Ideal.exp (v (ix4 g r k l)) := by
  unfold weights
  pointwise
theorem own_at (x : FVec Ideal S256x64x8x4x64 .f32) (b w : FVec Ideal S256x64x8x128 .f32) (d : FVec Ideal S8x4x256x64x64 .f32) (k : Fin 256) (l : Fin 64) (g : Fin 8) (r : Fin 4) (p : Fin 64) :
    own x b w d (ix5 k l g r p) = ∑ s : Fin 64, x (ix5 k s g r p) * ((∑ n : Fin 128, w (ix4 k l g n) * b (ix4 k s g n)) * d (ix5 g r k l s)) := by
  unfold own
  pointwise

end Cert.SsdRefIdeal.Own
-- ==== Proof.SsdLoop.lean ====
/- The state-space scan: the reference's loop over the chunks, and its result at each entry. -/
module

public import proofs.«01_k».proof.Proof.SsdReference
public import Idealize.ShloMosaic.Lib.DynamicIndex

@[expose] public section

set_option maxRecDepth 100000

noncomputable section

namespace Cert.SsdRefIdeal.Own
open Cert.Own.Chunks Cert.SsdRefIdeal Cert.SsdRefIdeal.Gen Cert.SsdRefIdeal.Value Idealize.ShloMosaic Idealize.ShloMosaic.TcCoe

variable (m : (ℓ : Loc nD τ sig) → Buf (Elt Ideal) ℓ) (c : Dev nD)

/-- The arguments as functions. -/
abbrev inX : Fin 16384 → Fin 4096 → EReal := fun r k => m ((c : Thread nD τ).loc main_arg0) (ix2 r k)
abbrev inD : Fin 16384 → Fin 32 → EReal := fun r h => m ((c : Thread nD τ).loc main_arg1) (ix2 r h)
abbrev inA : Fin 32 → EReal := fun h => m ((c : Thread nD τ).loc main_arg2) (ix2 0 h)
abbrev inK : Fin 32 → EReal := fun h => m ((c : Thread nD τ).loc main_arg3) (ix2 0 h)

theorem head_col (g : Fin 8) (r : Fin 4) (p : Fin 64) : head (col g r p) = hd g r :=
  Fin.ext (by show ((g.val * 4 + r.val) * 64 + p.val) / 64 = g.val * 4 + r.val; omega)
theorem group_col (g : Fin 8) (r : Fin 4) (p : Fin 64) : group (col g r p) = g :=
  Fin.ext (by show ((g.val * 4 + r.val) * 64 + p.val) / 256 = g.val; omega)

/-! ## What the loop starts from, entry by entry -/

theorem sums_at (g : Fin 8) (r : Fin 4) (k : Fin 256) (l : Fin 64) :
    (start m c (Proc.devRef .tc main_v19) : FVec Ideal S8x4x256x64 .f32) (ix4 g r k l) = cum (inD m c) (inA m c) k (hd g r) l := by
  rw [start_sums, running_at]
  unfold cum
  exact congrArg (fun f => upto f l) (funext fun s => rates_at _ _ g r k s)

theorem turn_added (x d e b : EReal) : x * d * e * b = b * (d * e) * x := by ac_rfl
theorem turn_own (x d b e : EReal) : x * d * (b * e) = b * e * d * x := by ac_rfl

theorem entry_added (k : Fin 256) (n : Fin 128) (g : Fin 8) (r : Fin 4) (p : Fin 64) :
    (start m c (Proc.devRef .tc main_v65_0) : FVec Ideal S256x8x4x64x128 .f32) (ix5 k g r p n)
      = (∑ s : Fin 64, bOf (inX m c) k g s n * (inD m c (tok k s) (hd g r)
          * Ideal.exp (cum (inD m c) (inA m c) k (hd g r) (last 64) - cum (inD m c) (inA m c) k (hd g r) s)) * xOf (inX m c) k s (col g r p) : EReal) := by
  rw [start_added]
  refine (added_at _ _ _ k n g r p).trans (Finset.sum_congr (M := EReal) rfl fun s _ => ?_)
  rw [scaled_at, toState_at, sums_at, sums_at]
  exact turn_added _ _ _ _

theorem entry_kept (k : Fin 256) (g : Fin 8) (r : Fin 4) :
    (start m c (Proc.devRef .tc main_v65_1) : FVec Ideal S256x8x4 .f32) (ix3 k g r) = Ideal.exp (cum (inD m c) (inA m c) k (hd g r) (last 64)) := by
  rw [start_kept, kept_at, sums_at]
  rfl

theorem entry_weights (k : Fin 256) (l : Fin 64) (n : Fin 128) (g : Fin 8) (r : Fin 4) :
    (start m c (Proc.devRef .tc main_v65_2) : FVec Ideal S256x64x8x4x128 .f32) (ix5 k l g r n)
      = cOf (inX m c) k g l n * Ideal.exp (cum (inD m c) (inA m c) k (hd g r) l) := by
  rw [start_weights, weights_at, fromState_at, sums_at]

theorem entry_own (k : Fin 256) (l : Fin 64) (g : Fin 8) (r : Fin 4) (p : Fin 64) :
    (start m c (Proc.devRef .tc main_v65_3) : FVec Ideal S256x64x8x4x64 .f32) (ix5 k l g r p)
      = (∑ s : Fin 64, (∑ n : Fin 128, cOf (inX m c) k g l n * bOf (inX m c) k g s n)
            * (if s.val ≤ l.val then Ideal.exp (cum (inD m c) (inA m c) k (hd g r) l - cum (inD m c) (inA m c) k (hd g r) s) else 0)
            * inD m c (tok k s) (hd g r) * xOf (inX m c) k s (col g r p))
        + xOf (inX m c) k l (col g r p) * inK m c (hd g r) := by
  rw [start_own, start_decay]
  refine congrArg₂ (fun a b : EReal => a + b) ?_ (skipped_at _ _ k l g r p)
  rw [own_at]
  refine Finset.sum_congr rfl fun s _ => ?_
  rw [scaled_at, decayIn_at, sums_at, sums_at]
  simp only [toState_at, fromState_at]
  exact turn_own _ _ _ _

/-! ## One trip -/

/-- The places a trip reads and writes at: its chunk's. -/
def places3 (n : IVec S_ 32) : Fin 3 → Int := fun k => (((![n, constantI S_ 32 0#32, constantI S_ 32 0#32] : Fin 3 → IVec S_ 32)) k (Shape.Idx.first h_S_)).toInt
def places5 (n : IVec S_ 32) : Fin 5 → Int := fun k =>
  (((![n, constantI S_ 32 0#32, constantI S_ 32 0#32, constantI S_ 32 0#32, constantI S_ 32 0#32] : Fin 5 → IVec S_ 32)) k (Shape.Idx.first h_S_)).toInt

theorem places3_at (k : Fin 256) (a : Fin 3) : places3 (fun _ => BitVec.ofNat 32 k.val) a = ((![k.val, 0, 0] : Fin 3 → ℕ) a : Int) := by
  match a with
  | ⟨0, _⟩ => exact toInt_ofNat_of_lt (by omega)
  | ⟨1, _⟩ => rfl
  | ⟨2, _⟩ => rfl
theorem places5_at (k : Fin 256) (a : Fin 5) : places5 (fun _ => BitVec.ofNat 32 k.val) a = ((![k.val, 0, 0, 0, 0] : Fin 5 → ℕ) a : Int) := by
  match a with
  | ⟨0, _⟩ => exact toInt_ofNat_of_lt (by omega)
  | ⟨1, _⟩ => rfl
  | ⟨2, _⟩ => rfl
  | ⟨3, _⟩ => rfl
  | ⟨4, _⟩ => rfl

/-- The state after a trip, and its chunk of the output. -/
def nextState (s : FVec Ideal S8x4x64x128 .f32) (e : FVec Ideal S256x8x4 .f32) (u : FVec Ideal S256x8x4x64x128 .f32) (n : IVec S_ 32) : FVec Ideal S8x4x64x128 .f32 :=
  addf
    (mulf s (broadcastInDim S8x4x64x128 ![0, 1, 2, 3] bcast_S8x4x1x1_S8x4x64x128_0_1_2_3 (broadcastInDim S8x4x1x1 ![0, 1] bcast_S8x4_S8x4x1x1_0_1
      (shapeCast S8x4 (Host.dynamicSlice S1x8x4 e (places3 n) sliceFits_S256x8x4_S1x8x4) shapeCasts_S1x8x4_S8x4))))
    (shapeCast S8x4x64x128 (Host.dynamicSlice S1x8x4x64x128 u (places5 n) sliceFits_S256x8x4x64x128_S1x8x4x64x128) shapeCasts_S1x8x4x64x128_S8x4x64x128)
def chunkOut (s : FVec Ideal S8x4x64x128 .f32) (w : FVec Ideal S256x64x8x4x128 .f32) (o : FVec Ideal S256x64x8x4x64 .f32) (n : IVec S_ 32) : FVec Ideal S64x8x4x64 .f32 :=
  addf
    (shapeCast S64x8x4x64 (Host.dynamicSlice S1x64x8x4x64 o (places5 n) sliceFits_S256x64x8x4x64_S1x64x8x4x64) shapeCasts_S1x64x8x4x64_S64x8x4x64)
    (transpose S64x8x4x64 [3, 0, 1, 2]
      (Host.dotGeneral (F := Ideal) dot_S8x4x64x128_S64x8x4x128_S8x4x64x64_3_3_2_0_01_12 none s
        (shapeCast S64x8x4x128 (Host.dynamicSlice S1x64x8x4x128 w (places5 n) sliceFits_S256x64x8x4x128_S1x64x8x4x128) shapeCasts_S1x64x8x4x128_S64x8x4x128))
      transposes_S8x4x64x64_S64x8x4x64_3_0_1_2)
def written (y : FVec Ideal S256x64x8x4x64 .f32) (o : FVec Ideal S64x8x4x64 .f32) (n : IVec S_ 32) : FVec Ideal S256x64x8x4x64 .f32 :=
  Host.dynamicUpdateSlice y (broadcastInDim S1x64x8x4x64 ![1, 2, 3, 4] bcast_S64x8x4x64_S1x64x8x4x64_1_2_3_4 o) (places5 n) updateFits_S256x64x8x4x64_S1x64x8x4x64

theorem slice3_at (e : FVec Ideal S256x8x4 .f32) (k : Fin 256) (g : Fin 8) (r : Fin 4) :
    Host.dynamicSlice S1x8x4 e (places3 fun _ => BitVec.ofNat 32 k.val) sliceFits_S256x8x4_S1x8x4 (ix3 0 g r) = e (ix3 k g r) := by
  rw [Host.dynamicSlice_eq_extractStridedSlice S1x8x4 e _ ![k.val, 0, 0] sliceFits_S256x8x4_S1x8x4 ⟨rfl, fun a => by
    match a with
    | ⟨0, _⟩ => show k.val + 1 ≤ 256; omega
    | ⟨1, _⟩ => show 0 + 8 ≤ 8; omega
    | ⟨2, _⟩ => show 0 + 4 ≤ 4; omega⟩ (places3_at k)]
  pointwise

theorem slice5_at {a b d e : ℕ} (x : (⟨5, ![256, a, b, d, e]⟩ : Shape).Idx → EReal) (k : Fin 256) (f : (⟨5, ![256, a, b, d, e]⟩ : Shape).Slices (fun _ => 0) ⟨5, ![1, a, b, d, e]⟩)
    (i : Fin a) (j : Fin b) (q : Fin d) (t : Fin e) :
    Host.dynamicSlice ⟨5, ![1, a, b, d, e]⟩ x (places5 fun _ => BitVec.ofNat 32 k.val) f (ix5 0 i j q t) = x (ix5 k i j q t) := by
  rw [Host.dynamicSlice_eq_extractStridedSlice _ x _ ![k.val, 0, 0, 0, 0] f ⟨rfl, fun z => by
    match z with
    | ⟨0, _⟩ => show k.val + 1 ≤ 256; omega
    | ⟨1, _⟩ => show 0 + a ≤ a; omega
    | ⟨2, _⟩ => show 0 + b ≤ b; omega
    | ⟨3, _⟩ => show 0 + d ≤ d; omega
    | ⟨4, _⟩ => show 0 + e ≤ e; omega⟩ (places5_at k)]
  unfold extractStridedSlice
  refine congrArg x (funext fun z => Fin.ext ?_)
  match z with
  | ⟨0, _⟩ => show k.val + 0 = k.val; omega
  | ⟨1, _⟩ => show 0 + i.val = i.val; omega
  | ⟨2, _⟩ => show 0 + j.val = j.val; omega
  | ⟨3, _⟩ => show 0 + q.val = q.val; omega
  | ⟨4, _⟩ => show 0 + t.val = t.val; omega

theorem nextState_at (s : FVec Ideal S8x4x64x128 .f32) (e : FVec Ideal S256x8x4 .f32) (u : FVec Ideal S256x8x4x64x128 .f32) (k : Fin 256) (n : Fin 128) (g : Fin 8) (r : Fin 4) (p : Fin 64) :
    nextState s e u (fun _ => BitVec.ofNat 32 k.val) (ix4 g r p n) = s (ix4 g r p n) * e (ix3 k g r) + u (ix5 k g r p n) := by
  unfold nextState
  have h3 := slice3_at e k g r
  have h5 := slice5_at u k sliceFits_S256x8x4x64x128_S1x8x4x64x128 g r p n
  generalize Host.dynamicSlice S1x8x4 e _ _ = e' at h3 ⊢
  change Host.dynamicSlice S1x8x4x64x128 u (places5 fun _ => BitVec.ofNat 32 k.val) sliceFits_S256x8x4x64x128_S1x8x4x64x128 _ = _ at h5
  generalize Host.dynamicSlice S1x8x4x64x128 u _ _ = u' at h5 ⊢
  rw [← h3, ← h5]
  pointwise

theorem chunkOut_at (s : FVec Ideal S8x4x64x128 .f32) (w : FVec Ideal S256x64x8x4x128 .f32) (o : FVec Ideal S256x64x8x4x64 .f32) (k : Fin 256) (l : Fin 64) (g : Fin 8) (r : Fin 4) (p : Fin 64) :
    chunkOut s w o (fun _ => BitVec.ofNat 32 k.val) (ix4 l g r p) = o (ix5 k l g r p) + ∑ n : Fin 128, s (ix4 g r p n) * w (ix5 k l g r n) := by
  unfold chunkOut
  have h5 := slice5_at o k sliceFits_S256x64x8x4x64_S1x64x8x4x64 l g r p
  have hw := slice5_at w k sliceFits_S256x64x8x4x128_S1x64x8x4x128 l g r
  change Host.dynamicSlice S1x64x8x4x64 o (places5 fun _ => BitVec.ofNat 32 k.val) sliceFits_S256x64x8x4x64_S1x64x8x4x64 _ = _ at h5
  change ∀ n, Host.dynamicSlice S1x64x8x4x128 w (places5 fun _ => BitVec.ofNat 32 k.val) sliceFits_S256x64x8x4x128_S1x64x8x4x128 _ = _ at hw
  generalize Host.dynamicSlice S1x64x8x4x64 o _ _ = o' at h5 ⊢
  generalize Host.dynamicSlice S1x64x8x4x128 w _ _ = w' at hw ⊢
  simp only [← h5, ← hw]
  pointwise

theorem written_at (y : FVec Ideal S256x64x8x4x64 .f32) (o : FVec Ideal S64x8x4x64 .f32) (k k' : Fin 256) (l : Fin 64) (g : Fin 8) (r : Fin 4) (p : Fin 64) :
    written y o (fun _ => BitVec.ofNat 32 k.val) (ix5 k' l g r p) = if k' = k then o (ix4 l g r p) else y (ix5 k' l g r p) := by
  unfold written
  rw [Host.dynamicUpdateSlice_apply]
  have hc : ∀ a, Host.clampedStart S256x64x8x4x64 S1x64x8x4x64 rfl (places5 fun _ => BitVec.ofNat 32 k.val) a = (![k.val, 0, 0, 0, 0] : Fin 5 → ℕ) a := fun a => by
    refine Host.clampedStart_of_le _ _ _ _ (places5_at k a) ?_
    match a with
    | ⟨0, _⟩ => show k.val + 1 ≤ 256; omega
    | ⟨1, _⟩ => show 0 + 64 ≤ 64; omega
    | ⟨2, _⟩ => show 0 + 8 ≤ 8; omega
    | ⟨3, _⟩ => show 0 + 4 ≤ 4; omega
    | ⟨4, _⟩ => show 0 + 64 ≤ 64; omega
  by_cases h : k' = k
  · subst h
    rw [if_pos rfl, dif_pos]
    · have e : ∀ a : Fin 5, ((ix5 k' l g r p : S256x64x8x4x64.Idx) a).val - Host.clampedStart S256x64x8x4x64 S1x64x8x4x64 rfl (places5 fun _ => BitVec.ofNat 32 k'.val) a
          = ((ix5 0 l g r p : S1x64x8x4x64.Idx) a).val := fun a => by
        rw [hc]
        match a with
        | ⟨0, _⟩ => show k'.val - k'.val = 0; omega
        | ⟨1, _⟩ => rfl
        | ⟨2, _⟩ => rfl
        | ⟨3, _⟩ => rfl
        | ⟨4, _⟩ => rfl
      have b : ∀ i : S1x64x8x4x64.Idx, (∀ a : Fin 5, (i a).val = ((ix5 0 l g r p : S1x64x8x4x64.Idx) a).val) →
          broadcastInDim S1x64x8x4x64 ![1, 2, 3, 4] bcast_S64x8x4x64_S1x64x8x4x64_1_2_3_4 o i = o (ix4 l g r p) := fun i hi => by
        rw [show i = ix5 0 l g r p from funext fun a => Fin.ext (hi a)]
        pointwise
      exact b _ e
    · intro a
      refine (hc a).symm ▸ ?_
      match a with
      | ⟨0, _⟩ => show k'.val ≤ k'.val ∧ k'.val < k'.val + 1; omega
      | ⟨1, _⟩ => show 0 ≤ l.val ∧ l.val < 0 + 64; omega
      | ⟨2, _⟩ => show 0 ≤ g.val ∧ g.val < 0 + 8; omega
      | ⟨3, _⟩ => show 0 ≤ r.val ∧ r.val < 0 + 4; omega
      | ⟨4, _⟩ => show 0 ≤ p.val ∧ p.val < 0 + 64; omega
  · rw [if_neg h, dif_neg]
    intro hin
    have h0 := hin 0
    rw [hc] at h0
    have h1 : k.val ≤ k'.val ∧ k'.val < k.val + 1 := h0
    exact h (Fin.ext (by omega))

/-! ## The loop -/

/-- Before trip `k`: the arrays it started from, its number, the state before chunk `k`, and the chunks before it written. -/
structure Before (k : ℕ) (V : Valuation τ sig (Elt Ideal)) : Prop where
  adds : V (Proc.devRef .tc main_v65_0) = start m c (Proc.devRef .tc main_v65_0)
  keeps : V (Proc.devRef .tc main_v65_1) = start m c (Proc.devRef .tc main_v65_1)
  weighs : V (Proc.devRef .tc main_v65_2) = start m c (Proc.devRef .tc main_v65_2)
  owns : V (Proc.devRef .tc main_v65_3) = start m c (Proc.devRef .tc main_v65_3)
  count : (V (Proc.devRef .tc main_v65_4) : IVec S_ 32) = fun _ => BitVec.ofNat 32 k
  state : ∀ (g : Fin 8) (r : Fin 4) (p : Fin 64) (n : Fin 128),
    (V (Proc.devRef .tc main_v65_5) : FVec Ideal S8x4x64x128 .f32) (ix4 g r p n) = before (inX m c) (inD m c) (inA m c) 256 64 k (col g r p) n
  done : ∀ (j : Fin 256) (l : Fin 64) (g : Fin 8) (r : Fin 4) (p : Fin 64), j.val < k →
    (V (Proc.devRef .tc main_v65_6) : FVec Ideal S256x64x8x4x64 .f32) (ix5 j l g r p)
      = output (inX m c) (inD m c) (inA m c) (inK m c) j (before (inX m c) (inD m c) (inA m c) 256 64 j.val) l (col g r p)

theorem before_start : Before m c 0 (start m c) where
  adds := rfl
  keeps := rfl
  weighs := rfl
  owns := rfl
  count := ctr_entry m c
  state g r p n := by rw [start_state]; rfl
  done j l g r p h := absurd h (Nat.not_lt_zero _)

theorem before_step (k : ℕ) (hk : k < 256) (V : Valuation τ sig (Elt Ideal)) (h : Before m c k V) : Before m c (k + 1) (STEP V) where
  adds := (STEP_main_v65_0 V).trans h.adds
  keeps := (STEP_main_v65_1 V).trans h.keeps
  weighs := (STEP_main_v65_2 V).trans h.weighs
  owns := (STEP_main_v65_3 V).trans h.owns
  count := by
    rw [STEP_main_v65_4]
    show addi (V (Proc.devRef .tc main_v65_4) : IVec S_ 32) (constantI S_ 32 1#32) = _
    rw [h.count]
    funext i
    show BitVec.ofNat 32 k + 1#32 = BitVec.ofNat 32 (k + 1)
    rw [BitVec.ofNat_add]
  state g r p n := by
    rw [STEP_main_v65_5]
    show nextState (V (Proc.devRef .tc main_v65_5)) (V (Proc.devRef .tc main_v65_1)) (V (Proc.devRef .tc main_v65_0)) (V (Proc.devRef .tc main_v65_4)) (ix4 g r p n) = _
    rw [h.count, h.keeps, h.adds]
    refine (nextState_at _ _ _ ⟨k, hk⟩ n g r p).trans ?_
    rw [h.state, entry_kept, entry_added]
    show _ = after _ _ _ _ (chunk 256 k) _ (col g r p) n
    rw [show chunk 256 k = ⟨k, hk⟩ from Fin.ext (Nat.mod_eq_of_lt hk)]
    unfold after
    rw [head_col, group_col]
  done j l g r p hj := by
    rw [STEP_main_v65_6]
    show written (V (Proc.devRef .tc main_v65_6)) (chunkOut (V (Proc.devRef .tc main_v65_5)) (V (Proc.devRef .tc main_v65_2)) (V (Proc.devRef .tc main_v65_3)) (V (Proc.devRef .tc main_v65_4)))
      (V (Proc.devRef .tc main_v65_4)) (ix5 j l g r p) = _
    rw [h.count, h.weighs, h.owns]
    refine (written_at _ _ ⟨k, hk⟩ j l g r p).trans ?_
    by_cases e : j = ⟨k, hk⟩
    · subst e
      rw [if_pos rfl]
      refine (chunkOut_at _ _ _ ⟨k, hk⟩ l g r p).trans ?_
      rw [entry_own]
      unfold output
      rw [head_col, group_col, add_right_comm]
      refine congrArg₂ (fun a b : EReal => a + b) (congrArg₂ (fun a b : EReal => a + b) rfl ?_) rfl
      refine Finset.sum_congr rfl fun n _ => ?_
      rw [h.state, entry_weights]
      exact mul_comm _ _
    · rw [if_neg e]
      exact h.done j l g r p (by have : j.val ≠ k := fun h' => e (Fin.ext h'); omega)

theorem before_all (k : ℕ) (hk : k ≤ 256) : Before m c k (STEP^[k] (start m c)) := by
  induction k with
  | zero => exact before_start m c
  | succ k ih =>
    rw [Function.iterate_succ', Function.comp_apply]
    exact before_step m c k hk _ (ih (Nat.le_of_succ_le hk))

/-- The reference's result at one entry. -/
theorem ref_at (k : Fin 256) (l : Fin 64) (q : Fin 2048) :
    (out_main_v67 (STEP^[256] (start m c)) : FVec Ideal S16384x2048 .bf16) (ix2 (tok k l) q)
      = output (inX m c) (inD m c) (inA m c) (inK m c) k (before (inX m c) (inD m c) (inA m c) 256 64 k.val) l q := by
  have h := (before_all m c 256 le_rfl).done k l (⟨q.val / 256, by omega⟩ : Fin 8) (⟨q.val / 64 % 4, Nat.mod_lt _ (by norm_num)⟩ : Fin 4) (⟨q.val % 64, Nat.mod_lt _ (by norm_num)⟩ : Fin 64) k.isLt
  rw [show col (⟨q.val / 256, by omega⟩ : Fin 8) (⟨q.val / 64 % 4, Nat.mod_lt _ (by norm_num)⟩ : Fin 4) (⟨q.val % 64, Nat.mod_lt _ (by norm_num)⟩ : Fin 64) = q from
    Fin.ext (by show (q.val / 256 * 4 + q.val / 64 % 4) * 64 + q.val % 64 = q.val; omega)] at h
  refine Eq.trans ?_ h
  unfold out_main_v67
  generalize STEP^[256] (start m c) = V
  show (truncf (F := Ideal) .bf16 (shapeCast (α := EReal) S16384x2048 (V (Proc.devRef .tc main_v65_6) : FVec Ideal S256x64x8x4x64 .f32) shapeCasts_S256x64x8x4x64_S16384x2048) bitsLt_bf16_f32) (ix2 (tok k l) q) = _
  generalize (V (Proc.devRef .tc main_v65_6) : FVec Ideal S256x64x8x4x64 .f32) = y
  pointwise
  refine congrArg y (congrArg₂ (fun a b => ix5 a b _ _ _) (Fin.ext ?_) (Fin.ext ?_))
  · show (64 * k.val + l.val) / 64 = k.val; omega
  · show (64 * k.val + l.val) % 64 = l.val; omega

end Cert.SsdRefIdeal.Own
-- ==== Proof.SsdCuts.lean ====
/- The state-space scan does not depend on how the tokens are cut into chunks, where the inputs and the step sizes are
   finite: every cut gives the recurrence that takes one token at a time. -/
module

public import proofs.«01_k».proof.Proof.SsdChunks

@[expose] public section

noncomputable section

namespace Cert.Own.Chunks
open Idealize.ShloMosaic

/-! ## The recurrence, one token at a time, over the reals -/

/-- The state before token `t`: each token decays it and adds to it. -/
def recur (r u : ℕ → ℝ) : ℕ → ℝ
  | 0 => 0
  | t + 1 => recur r u t * Real.exp (r t) + u t

/-- `k` tokens at once. -/
theorem recur_add (r u : ℕ → ℝ) (t k : ℕ) :
    recur r u (t + k) = recur r u t * Real.exp (∑ i ∈ Finset.range k, r (t + i))
      + ∑ s ∈ Finset.range k, u (t + s) * Real.exp (∑ i ∈ Finset.range k, r (t + i) - ∑ i ∈ Finset.range (s + 1), r (t + i)) := by
  induction k with
  | zero => simp
  | succ k ih =>
    have e : ∀ s, Real.exp (∑ i ∈ Finset.range (k + 1), r (t + i) - ∑ i ∈ Finset.range (s + 1), r (t + i))
        = Real.exp (∑ i ∈ Finset.range k, r (t + i) - ∑ i ∈ Finset.range (s + 1), r (t + i)) * Real.exp (r (t + k)) := fun s => by
      rw [Finset.sum_range_succ (fun i => r (t + i)) k, ← Real.exp_add]
      congr 1
      ring
    rw [Finset.sum_range_succ (fun s => u (t + s) * _) k, sub_self, Real.exp_zero, mul_one]
    simp only [e]
    rw [Finset.sum_range_succ (fun i => r (t + i)) k, Real.exp_add]
    show recur r u (t + k) * Real.exp (r (t + k)) + u (t + k) = _
    rw [ih, add_mul, Finset.sum_mul, add_assoc]
    simp only [mul_assoc]

/-- The states weighted at a token, by the state `k` tokens before and the tokens since. -/
theorem weigh_recur {J : Type} [Fintype J] (r : ℕ → ℝ) (w : J → ℝ) (b : J → ℕ → ℝ) (v : ℕ → ℝ) (t k : ℕ) :
    ∑ n, w n * recur r (fun i => b n i * v i) (t + k)
      = ∑ s ∈ Finset.range k, (∑ n, w n * b n (t + s)) * Real.exp (∑ i ∈ Finset.range k, r (t + i) - ∑ i ∈ Finset.range (s + 1), r (t + i)) * v (t + s)
        + ∑ n, w n * Real.exp (∑ i ∈ Finset.range k, r (t + i)) * recur r (fun i => b n i * v i) t := by
  simp only [recur_add, mul_add, Finset.sum_add_distrib, Finset.mul_sum, Finset.sum_mul]
  rw [add_comm, Finset.sum_comm]
  refine congrArg₂ (· + ·) (Finset.sum_congr rfl fun s _ => Finset.sum_congr rfl fun n _ => by ring) (Finset.sum_congr rfl fun n _ => by ring)

/-! ## Finite values -/

/-- A sum of reals. -/
theorem coe_sum {J : Type} (s : Finset J) (f : J → ℝ) : (∑ j ∈ s, (f j : EReal)) = ((∑ j ∈ s, f j : ℝ) : EReal) := by
  classical
  induction s using Finset.induction_on with
  | empty => simp
  | insert j s h ih => rw [Finset.sum_insert h, Finset.sum_insert h, ih, EReal.coe_add]

variable {N L : ℕ} [Cut N L]

/-- A value for each token, read at a number. -/
def line (f : Fin 16384 → ℝ) (t : ℕ) : ℝ := f ⟨t % 16384, Nat.mod_lt _ (by norm_num)⟩

theorem line_tok (f : Fin 16384 → ℝ) (c : Fin N) (l : Fin L) : line f (L * c.val + l.val) = f (tok c l) :=
  congrArg f (Fin.ext (Nat.mod_eq_of_lt (inside c l)))

/-- A sum over the tokens up to one of a chunk. -/
theorem sum_upto (g : ℕ → ℝ) (l : Fin L) : (∑ s : Fin L, if s.val ≤ l.val then g s.val else 0) = ∑ s ∈ Finset.range (l.val + 1), g s := by
  rw [Fin.sum_univ_eq_sum_range (fun s => if s ≤ l.val then g s else 0) L, ← Finset.sum_filter]
  refine Finset.sum_congr (Finset.ext fun s => ?_) fun _ _ => rfl
  have := l.isLt
  simp only [Finset.mem_filter, Finset.mem_range]
  omega

variable (x : Fin 16384 → Fin 4096 → ℝ) (d : Fin 16384 → Fin 32 → ℝ) (A K : Fin 32 → EReal) (a : ℝ) (q : Fin 2048)

/-- A token's decay exponent, its step size times its input, and its two coefficients. -/
def rateAt (t : ℕ) : ℝ := line (fun t => d t (head q) * a) t
def stepAt (t : ℕ) : ℝ := line (fun t => d t (head q) * x t ⟨q.val, by omega⟩) t
def toAt (n : Fin 128) (t : ℕ) : ℝ := line (fun t => x t ⟨2048 + 128 * (group q).val + n.val, by omega⟩) t
def fromAt (n : Fin 128) (t : ℕ) : ℝ := line (fun t => x t ⟨3072 + 128 * (group q).val + n.val, by omega⟩) t

/-- The state of a lane before a token. -/
def stateAt (n : Fin 128) (t : ℕ) : ℝ := recur (rateAt d a q) (fun i => toAt x q n i * stepAt x d q i) t

/-- The decay exponents of a chunk's tokens up to one. -/
def expo (t k : ℕ) : ℝ := ∑ i ∈ Finset.range k, rateAt d a q (t + i)

theorem stateAt_add (n : Fin 128) (t k : ℕ) :
    stateAt x d a q n (t + k) = stateAt x d a q n t * Real.exp (expo d a q t k)
      + ∑ s ∈ Finset.range k, toAt x q n (t + s) * stepAt x d q (t + s) * Real.exp (expo d a q t k - expo d a q t (s + 1)) :=
  recur_add _ _ t k

theorem weigh_stateAt (w : Fin 128 → ℝ) (t k : ℕ) :
    ∑ n, w n * stateAt x d a q n (t + k)
      = ∑ s ∈ Finset.range k, (∑ n, w n * toAt x q n (t + s)) * Real.exp (expo d a q t k - expo d a q t (s + 1)) * stepAt x d q (t + s)
        + ∑ n, w n * Real.exp (expo d a q t k) * stateAt x d a q n t :=
  weigh_recur _ w (toAt x q) _ t k

theorem cum_real (ha : -Ideal.exp (A (head q)) = (a : EReal)) (c : Fin N) (l : Fin L) :
    cum (fun t h => (d t h : EReal)) A c (head q) l = (expo d a q (L * c.val) (l.val + 1) : EReal) := by
  unfold cum upto expo
  rw [ha, ← sum_upto, ← coe_sum]
  refine Finset.sum_congr rfl fun s _ => ?_
  split
  · show (d (tok c s) (head q) : EReal) * (a : EReal) = _
    rw [← EReal.coe_mul]
    exact congrArg _ (line_tok (fun t => d t (head q) * a) c s).symm
  · rfl

/-- A chunk takes the state of the recurrence to the state of the recurrence. -/
theorem after_real [NeZero L] (ha : -Ideal.exp (A (head q)) = (a : EReal)) (c : Fin N) (S : Fin 2048 → Fin 128 → EReal) (n : Fin 128)
    (hS : S q n = (stateAt x d a q n (L * c.val) : EReal)) :
    after (fun t j => (x t j : EReal)) (fun t h => (d t h : EReal)) A L c S q n = (stateAt x d a q n (L * c.val + L) : EReal) := by
  have hL : (last L).val + 1 = L := Nat.sub_add_cancel (NeZero.pos L)
  unfold after
  rw [hS, cum_real d A a q ha c (last L), hL]
  rw [stateAt_add, EReal.coe_add, EReal.coe_mul, ← coe_sum]
  refine congrArg₂ (fun a b : EReal => a + b) rfl ?_
  rw [← Fin.sum_univ_eq_sum_range (fun s => (((toAt x q n (L * c.val + s) * stepAt x d q (L * c.val + s))
    * Real.exp (expo d a q (L * c.val) L - expo d a q (L * c.val) (s + 1)) : ℝ) : EReal)) L]
  refine Finset.sum_congr rfl fun s _ => ?_
  rw [cum_real d A a q ha c s, ← EReal.coe_sub, Ideal.exp_coe]
  unfold bOf xOf toAt stepAt
  rw [line_tok, line_tok, ← EReal.coe_mul, ← EReal.coe_mul, ← EReal.coe_mul]
  exact congrArg _ (by ring)

/-- The state before each chunk is the recurrence's. -/
theorem before_real [NeZero N] [NeZero L] (ha : -Ideal.exp (A (head q)) = (a : EReal)) (n : Fin 128) (k : ℕ) (hk : k ≤ N) :
    before (fun t j => (x t j : EReal)) (fun t h => (d t h : EReal)) A N L k q n = (stateAt x d a q n (L * k) : EReal) := by
  induction k with
  | zero => rfl
  | succ k ih =>
    have e : (chunk N k).val = k := Nat.mod_eq_of_lt hk
    have h := after_real x d A a q ha (chunk N k) (before (fun t j => (x t j : EReal)) (fun t h => (d t h : EReal)) A N L k) n
      (by rw [e]; exact ih (Nat.le_of_succ_le hk))
    rw [e] at h
    exact h

/-- The output at each token is the recurrence's: the state after the token, weighted, and the skip. -/
theorem output_real [NeZero N] [NeZero L] (ha : -Ideal.exp (A (head q)) = (a : EReal)) (c : Fin N) (l : Fin L) :
    output (fun t j => (x t j : EReal)) (fun t h => (d t h : EReal)) A K c (before (fun t j => (x t j : EReal)) (fun t h => (d t h : EReal)) A N L c.val) l q
      = ((∑ n, fromAt x q n (tok c l).val * stateAt x d a q n ((tok c l).val + 1) : ℝ) : EReal) + (x (tok c l) ⟨q.val, by omega⟩ : EReal) * K (head q) := by
  unfold output
  refine congrArg₂ (fun a b : EReal => a + b) ?_ rfl
  show _ = ((∑ n, fromAt x q n (L * c.val + l.val) * stateAt x d a q n (L * c.val + (l.val + 1)) : ℝ) : EReal)
  rw [weigh_stateAt, EReal.coe_add, ← sum_upto (fun s => (∑ n, fromAt x q n (L * c.val + l.val) * toAt x q n (L * c.val + s))
    * Real.exp (expo d a q (L * c.val) (l.val + 1) - expo d a q (L * c.val) (s + 1)) * stepAt x d q (L * c.val + s)) l, ← coe_sum, ← coe_sum]
  refine congrArg₂ (fun a b : EReal => a + b) (Finset.sum_congr rfl fun s _ => ?_) (Finset.sum_congr rfl fun n _ => ?_)
  · unfold cOf bOf xOf
    simp only [← EReal.coe_mul, coe_sum]
    rw [cum_real d A a q ha c s, cum_real d A a q ha c l, ← EReal.coe_sub, Ideal.exp_coe]
    unfold fromAt toAt stepAt
    simp only [line_tok]
    split
    · rw [← EReal.coe_mul, ← EReal.coe_mul, ← EReal.coe_mul]
      exact congrArg _ (by ring)
    · rw [mul_zero, zero_mul, zero_mul, EReal.coe_zero]
  · rw [cum_real d A a q ha c l, before_real x d A a q ha n c.val (Nat.le_of_lt c.isLt), Ideal.exp_coe]
    unfold cOf fromAt
    rw [line_tok, ← EReal.coe_mul, ← EReal.coe_mul]

/-! ## A rate of minus infinity -/

theorem sum_bot_iff {J : Type} (s : Finset J) (f : J → EReal) : ∑ j ∈ s, f j = ⊥ ↔ ∃ j ∈ s, f j = ⊥ := by
  classical
  induction s using Finset.induction_on with
  | empty => simp
  | insert j s h ih => rw [Finset.sum_insert h, EReal.add_eq_bot_iff, ih, Finset.exists_mem_insert]

theorem upto_bot_iff {L : ℕ} (f : Fin L → EReal) (l : Fin L) : upto f l = ⊥ ↔ ∃ k : Fin L, k.val ≤ l.val ∧ f k = ⊥ := by
  unfold upto
  rw [sum_bot_iff]
  refine exists_congr fun k => ?_
  by_cases h : k.val ≤ l.val
  · rw [if_pos h]; simp [h]
  · rw [if_neg h]; simp [h]

variable {a}

/-- Under such a rate a token is forgotten at once. -/
theorem forgotten (hA : -Ideal.exp (A (head q)) = ⊥) (c : Fin N) (s l : Fin L) (h : s.val ≤ l.val) :
    (d (tok c s) (head q) : EReal) * Ideal.exp (cum (fun t h => (d t h : EReal)) A c (head q) l - cum (fun t h => (d t h : EReal)) A c (head q) s) = 0 := by
  obtain ⟨f, hf⟩ : ∃ f : Fin L → EReal, f = fun k => (d (tok c k) (head q) : EReal) * ⊥ := ⟨_, rfl⟩
  have e : ∀ l : Fin L, cum (fun t h => (d t h : EReal)) A c (head q) l = upto f l := fun l => by unfold cum; rw [hA, hf]
  rw [e, e]
  by_cases hd : d (tok c s) (head q) = 0
  · rw [hd, EReal.coe_zero, zero_mul]
  suffices hb : upto f l - upto f s = ⊥ by rw [hb, Ideal.exp_bot, mul_zero]
  by_cases hs : upto f s = ⊥
  · obtain ⟨k, hk, hb⟩ := (upto_bot_iff f s).mp hs
    rw [(upto_bot_iff f l).mpr ⟨k, hk.trans h, hb⟩, sub_eq_add_neg, EReal.bot_add]
  · have hn : ∀ k : Fin L, k.val ≤ s.val → f k ≠ ⊥ := fun k hk hb => hs ((upto_bot_iff f s).mpr ⟨k, hk, hb⟩)
    have ht : f s = ⊤ := by
      have h' := hn s le_rfl
      rw [hf] at h' ⊢
      rcases lt_or_gt_of_ne hd with h0 | h0
      · exact EReal.coe_mul_bot_of_neg h0
      · exact absurd (EReal.coe_mul_bot_of_pos h0) h'
    have hu : upto f s = ⊤ := by
      unfold upto
      rw [← Finset.add_sum_erase _ _ (Finset.mem_univ s), if_pos le_rfl, ht]
      refine EReal.top_add_of_ne_bot fun hb => ?_
      obtain ⟨k, _, hk⟩ := (sum_bot_iff _ _).mp hb
      by_cases h' : k.val ≤ s.val
      · rw [if_pos h'] at hk; exact hn k h' hk
      · rw [if_neg h'] at hk; exact EReal.zero_ne_bot hk
    rw [hu, sub_eq_add_neg, EReal.neg_top, EReal.add_bot]

/-- Then no state is kept. -/
theorem before_none [NeZero N] [NeZero L] (hA : -Ideal.exp (A (head q)) = ⊥) (n : Fin 128) (k : ℕ) :
    before (fun t j => (x t j : EReal)) (fun t h => (d t h : EReal)) A N L k q n = 0 := by
  induction k with
  | zero => rfl
  | succ k ih =>
    show after _ _ _ _ _ _ _ _ = _
    unfold after
    rw [ih, zero_mul, zero_add]
    refine Finset.sum_eq_zero fun s _ => ?_
    rw [forgotten d A q hA (chunk N k) s (last L) (Nat.le_sub_one_of_lt s.isLt), mul_zero, zero_mul]

/-- And only the skip is left of the output. -/
theorem output_none [NeZero N] [NeZero L] (hA : -Ideal.exp (A (head q)) = ⊥) (c : Fin N) (l : Fin L) :
    output (fun t j => (x t j : EReal)) (fun t h => (d t h : EReal)) A K c (before (fun t j => (x t j : EReal)) (fun t h => (d t h : EReal)) A N L c.val) l q
      = 0 + (x (tok c l) ⟨q.val, by omega⟩ : EReal) * K (head q) := by
  unfold output
  refine congrArg₂ (fun a b : EReal => a + b) ?_ rfl
  rw [Finset.sum_eq_zero, Finset.sum_eq_zero, add_zero]
  · intro n _
    rw [before_none x d A q hA, mul_zero]
  · intro s _
    by_cases h : s.val ≤ l.val
    · rw [if_pos h, mul_assoc _ (Ideal.exp _), mul_comm (Ideal.exp _), forgotten d A q hA c s l h, mul_zero, zero_mul]
    · rw [if_neg h, mul_zero, zero_mul, zero_mul]

/-! ## Every cut is the same -/

variable {x d}

/-- The output at a token does not depend on the cut. -/
theorem output_cut : ∃ Y : Fin 16384 → EReal, ∀ (N L : ℕ) [Cut N L] [NeZero N] [NeZero L] (c : Fin N) (l : Fin L),
    output (fun t j => (x t j : EReal)) (fun t h => (d t h : EReal)) A K c (before (fun t j => (x t j : EReal)) (fun t h => (d t h : EReal)) A N L c.val) l q
      = Y (tok c l) := by
  have rate : -Ideal.exp (A (head q)) = ⊥ ∨ ∃ a : ℝ, -Ideal.exp (A (head q)) = (a : EReal) := by
    rcases A (head q) with _ | _ | r
    · exact Or.inr ⟨0, neg_zero⟩
    · exact Or.inl rfl
    · exact Or.inr ⟨-Real.exp r, rfl⟩
  rcases rate with hA | ⟨a, ha⟩
  · exact ⟨fun t => 0 + (x t ⟨q.val, by omega⟩ : EReal) * K (head q), fun N L _ _ _ c l => output_none x d A K q hA c l⟩
  · exact ⟨fun t => ((∑ n, fromAt x q n t.val * stateAt x d a q n (t.val + 1) : ℝ) : EReal) + (x t ⟨q.val, by omega⟩ : EReal) * K (head q),
      fun N L _ _ _ c l => output_real x d A K a q ha c l⟩

end Cert.Own.Chunks
-- ==== Proof.SsdValue.lean ====
/- The state-space scan: the kernel's result is the reference's, where the inputs and the step sizes are finite. -/
module

public import proofs.«01_k».proof.Proof.SsdState
public import proofs.«01_k».proof.Proof.SsdLoop
public import proofs.«01_k».proof.Proof.SsdCuts
public import proofs.«01_k».proof.Defs

@[expose] public section

set_option maxRecDepth 100000

noncomputable section

namespace Cert.SsdIdeal.Own
open Cert.Own.Chunks Cert.SsdIdeal Cert.SsdIdeal.Gen Idealize.ShloMosaic Idealize.ShloMosaic.TcCoe

/-- A value below infinity in size is a real. -/
theorem real_of_below (x : EReal) (h : FloatOps.cmpf (F := Ideal) (φ := .f32) .olt (FloatOps.absf (F := Ideal) (φ := .f32) x) (⊤ : EReal) = 1#1) : ∃ r : ℝ, x = r := by
  have h' : BitVec.ofBool (decide (max x (-x) < ⊤)) = 1#1 := h
  induction x using EReal.rec with
  | bot => simp at h'
  | coe r => exact ⟨r, rfl⟩
  | top => simp at h'

/-- Under the precondition the inputs and the step sizes are reals. -/
theorem reals [Cert.Pre_finite.Facts] (m : (ℓ : Loc nD τ sig) → Buf (Elt Ideal) ℓ) (h : Cert.Pre_SsdIdeal_finite m) (c : Dev nD) :
    (∃ x : Fin 16384 → Fin 4096 → ℝ, inX m c = fun t j => (x t j : EReal)) ∧ ∃ d : Fin 16384 → Fin 32 → ℝ, inD m c = fun t h => (d t h : EReal) := by
  obtain ⟨hx, hd⟩ := h c
  unfold Cert.Pre_finite.fn at hx hd
  have ex : ∀ t j, ∃ r : ℝ, inX m c t j = r := fun t j => by
    have e := congrFun hx (ix2 t j)
    pointwise at e
    exact real_of_below _ e
  have ed : ∀ t j, ∃ r : ℝ, inD m c t j = r := fun t j => by
    have e := congrFun hd (ix2 t j)
    pointwise at e
    exact real_of_below _ e
  exact ⟨⟨fun t j => (ex t j).choose, funext fun t => funext fun j => (ex t j).choose_spec⟩,
    ⟨fun t j => (ed t j).choose, funext fun t => funext fun j => (ed t j).choose_spec⟩⟩

/-- Kernel and reference agree: both are the scan chunk by chunk, and the cut into chunks does not matter. -/
theorem algebraic [hf : Cert.Pre_finite.Facts] : Cert.algebraic_SsdIdeal_SsdRefIdeal_pre_finite := by
  intro m ρ m' ρ' hpre hagree
  refine ⟨_, Cert.SsdIdeal.Value.run (F := Ideal) m ρ, ?_⟩
  refine (θ_run Cert.SsdRefIdeal.defs _ _).mono (fun _ h c => ⟨?_, (h c).2⟩) (Cert.SsdRefIdeal.Value.run (F := Ideal) m' ρ')
  rw [(h c).1]
  obtain ⟨e0, e1, e2, e3⟩ := hagree c
  obtain ⟨⟨x, hx⟩, ⟨d, hd⟩⟩ := reals m hpre c
  funext j
  rw [eq_ix2 (n0 := 16384) (n1 := 2048) j]
  obtain ⟨i, hi⟩ : ∃ i : Fin 16384, i = j 0 := ⟨_, rfl⟩
  obtain ⟨q, hq⟩ : ∃ q : Fin 2048, q = j 1 := ⟨_, rfl⟩
  rw [← hi, ← hq]
  have cut : ∀ (N L : ℕ) [Cut N L] [NeZero N] [NeZero L], ∃ (k : Fin N) (l : Fin L), i = tok k l := fun N L _ _ _ => by
    have hL : 0 < L := NeZero.pos L
    have hi' : i.val < L * N := by rw [Nat.mul_comm, Cut.whole (N := N) (L := L)]; exact i.isLt
    exact ⟨⟨i.val / L, Nat.div_lt_of_lt_mul hi'⟩, ⟨i.val % L, Nat.mod_lt _ hL⟩, Fin.ext (Nat.div_add_mod i.val L).symm⟩
  obtain ⟨k, l, hk⟩ := cut 128 128
  obtain ⟨k', l', hk'⟩ := cut 256 64
  obtain ⟨Y, hY⟩ := output_cut (x := x) (d := d) (inA m c) (inK m c) q
  have ours := result_at m c k l q
  have theirs := Cert.SsdRefIdeal.Own.ref_at m' c k' l' q
  unfold Cert.SsdRefIdeal.Own.inX Cert.SsdRefIdeal.Own.inD Cert.SsdRefIdeal.Own.inA Cert.SsdRefIdeal.Own.inK at theirs
  rw [e0, e1, e2, e3] at theirs
  have theirs' := theirs.trans (show output (inX m c) (inD m c) (inA m c) (inK m c) k' (before (inX m c) (inD m c) (inA m c) 256 64 k'.val) l' q = Y i by
    rw [hx, hd, hY, hk'])
  rw [hx, hd, hY, ← hk] at ours
  rw [← hk'] at theirs'
  exact theirs'.trans ours.symm

end Cert.SsdIdeal.Own
-- ==== Proof.UBody.lean ====
/- The second branch's input projection, one grid point: which product fills each entry of the block it stores, read
   off the thirty-two stores of its run. -/
module

public import proofs.«01_k».proof.Proof.StepMajor
public import proofs.«01_k».proof.Proof.Gen.UIdeal.Frame
public import Idealize.ShloMosaic.Lib.WritesUnit
public import Idealize.ShloMosaic.Lib.Pipeline.ValueKit.Tiles

@[expose] public section

set_option maxRecDepth 100000

noncomputable section

namespace Cert.UIdeal.Own
open Cert.UIdeal Cert.UIdeal.Gen Idealize.ShloMosaic Idealize.ShloMosaic.TcCoe
open scoped BigOperators

section
variable {F : FTy → Type} [FloatOps F]

theorem inb_store (n : Fin 32) : ∀ b, (![n.val % 16, 16 * (n.val / 16), 0] : Fin 3 → ℕ) b + S1x16x1024.size b ≤ S16x32x1024.size b := by
  intro b
  have := n.isLt
  match b with
  | ⟨0, _⟩ => show n.val % 16 + 1 ≤ 16; omega
  | ⟨1, _⟩ => show 16 * (n.val / 16) + 16 ≤ 32; omega
  | ⟨2, _⟩ => show 0 + 1024 ≤ 1024; omega

theorem step_slices : ∀ n : Fin 32, S256x1024.Slices ![16 * (n.val % 16), 0] S16x1024 := by decide

/-- The rows of one half of the block, reordered. -/
def half (x : Vec F S512x2048 .bf16) (w : Vec F S2048x1024 .bf16) (n : Fin 32) : FVec F S256x1024 .bf16 :=
  if n.val < 16 then k0_pay5 x w else k0_pay24 (k0_pay3 x w) k0_pay4

/-- Store `n` of the run: step `n % 16` of half `n / 16`. -/
def stored (x : Vec F S512x2048 .bf16) (w : Vec F S2048x1024 .bf16) (n : Fin 32) : View.Piece (Elt F) S16x32x1024 .bf16 :=
  ⟨Rect.unit (s := S16x32x1024) ![n.val % 16, 16 * (n.val / 16), 0] S1x16x1024.size (inb_store n),
    shapeCast S1x16x1024 (extractStridedSlice S16x1024 ![16 * (n.val % 16), 0] (half x w n) (step_slices n)) shapeCasts_S16x1024_S1x16x1024⟩

/-- The stores, last first. -/
def stores (x : Vec F S512x2048 .bf16) (w : Vec F S2048x1024 .bf16) : List (View.Piece (Elt F) S16x32x1024 .bf16) :=
  [31, 30, 29, 28, 27, 26, 25, 24, 23, 22, 21, 20, 19, 18, 17, 16, 15, 14, 13, 12, 11, 10, 9, 8, 7, 6, 5, 4, 3, 2, 1, 0].map (stored x w)

variable (c : Dev nD) (i : grid0.Coords) (a1 : Memref sig .tc .vmem S512x2048 .bf16) (h1 : a1.IsWhole)
  (a2 : Memref sig .tc .vmem S1x1024x2048 .f32) (h2 : a2.IsWhole) (a3 : Memref sig .tc .vmem S16x32x1024 .bf16) (h3 : a3.IsWhole)
  (a4 : Memref sig .tc .vmem S2048x1024 .bf16) (h4 : a4.IsWhole)
  (x0 : Vec F S512x2048 .bf16) (x1 : Vec F S1x1024x2048 .f32) (xs : Vec F S2048x1024 .bf16)

/-- The stores of the first point, over the weight block just stored. -/
theorem pieces_A (hc : cond0_0 i) :
    (kernelRun0_A c i a1 h1 a2 h2 a3 h3 a4 h4 hc x0 x1).1 = stores
      (a1.view.readAt (Elt F) (Rect.unit (s := S512x2048) ![0, 0] S512x2048.size inb_S512x2048_S512x2048_0_0).toLoadRect (h1.unread x0))
      (a4.view.readCov [⟨Rect.unit (s := S2048x1024) ![0, 0] S2048x1024.size inb_S2048x1024_S2048x1024_0_0,
          k0_pay2 (a2.view.readAt (Elt F) (Rect.unit (s := S1x1024x2048) ![0, 0, 0] S1x1024x2048.size inb_S1x1024x2048_S1x1024x2048_0_0_0).toLoadRect (h2.unread x1))⟩]
        (Rect.unit (s := S2048x1024) ![0, 0] S2048x1024.size inb_S2048x1024_S2048x1024_0_0).toLoadRect) := by
  unfold kernelRun0_A
  dsimp only
  rfl

/-- The stores of a later point, over the resident weight block. -/
theorem pieces_B (hc : ¬cond0_0 i) :
    (kernelRun0_B c i a1 h1 a2 h2 a3 h3 a4 h4 hc x0 x1 xs).1 = stores
      (a1.view.readAt (Elt F) (Rect.unit (s := S512x2048) ![0, 0] S512x2048.size inb_S512x2048_S512x2048_0_0).toLoadRect (h1.unread x0))
      (a4.view.readAt (Elt F) (Rect.unit (s := S2048x1024) ![0, 0] S2048x1024.size inb_S2048x1024_S2048x1024_0_0).toLoadRect (h4.unread xs)) := by
  unfold kernelRun0_B
  dsimp only
  rfl

/-- At the first point the block is what the stores leave, computed from the weight block just stored. -/
theorem out_A (hc : cond0_0 i) :
    out0_A_2 c i a1 h1 a2 h2 a3 h3 a4 h4 hc x0 x1 = View.canon (stores x0 (k0_pay2 x1)) := by
  unfold out0_A_2
  rw [View.read_writes_eq_canon _ _ _ (cover0_A_2 c i a1 h1 a2 h2 a3 h3 a4 h4 hc x0 x1), pieces_A]
  rw [Cert.Own.whole2, Cert.Own.whole3, View.readCov_unit_zero (S := S2048x1024) _ Cert.Own.off2]

/-- At the first point the weight block is stored transposed. -/
theorem scr_A (hc : cond0_0 i) : sout0_A_0 c i a1 h1 a2 h2 a3 h3 a4 h4 hc x0 x1 = k0_pay2 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero Cert.Own.off2, Cert.Own.whole3]

/-- At a later point the block is what the stores leave, computed from the resident weight block. -/
theorem out_B (hc : ¬cond0_0 i) :
    out0_B_2 c i a1 h1 a2 h2 a3 h3 a4 h4 hc x0 x1 xs = View.canon (stores x0 xs) := by
  unfold out0_B_2
  rw [View.read_writes_eq_canon _ _ _ (cover0_B_2 c i a1 h1 a2 h2 a3 h3 a4 h4 hc x0 x1 xs), pieces_B]
  rw [Cert.Own.whole2, Cert.Own.whole2]
end

/-- The 0/1 matrix at one entry. -/
theorem perm_at (o k : Fin 256) : (k0_pay4 (F := Ideal)) (ix2 o k) = if k = Cert.Own.swap o then (1 : EReal) else 0 := by
  unfold k0_pay4
  pointwise
  exact Cert.Own.swap_select o k

/-- A product with the 0/1 matrix takes the row with the digits swapped. -/
theorem perm_dot (x : FVec Ideal S256x1024 .bf16) (o : Fin 256) (q : Fin 1024) :
    truncf .bf16 (matmul dot_S256x256_S256x1024_S256x1024_1_0_0_1_n_n none (k0_pay4 (F := Ideal)) x (constant S256x1024 .f32 0x00000000#32)) bitsLt_bf16_f32 (ix2 o q)
      = x (ix2 (Cert.Own.swap o) q) := by
  refine Eq.trans (b := ∑ k : Fin 256, ((k0_pay4 (F := Ideal)) (ix2 o k) : EReal) * (x (ix2 k q) : EReal)) ?_ ?_
  · generalize k0_pay4 (F := Ideal) = p
    pointwise
  · simp only [perm_at]
    exact Cert.Own.swap_sum o fun k => x (ix2 k q)

section
variable (x : Vec Ideal S512x2048 .bf16) (w : Vec Ideal S2048x1024 .bf16)

/-- The product of the rows and the weight at one entry. -/
theorem rows_dot (a : Fin 512) (q : Fin 1024) :
    k0_pay3 x w (ix2 a q) = ∑ k : Fin 2048, (x (ix2 a k) : EReal) * (w (ix2 k q) : EReal) := by
  unfold k0_pay3
  pointwise

/-- One entry of a half: its row, in step order. -/
theorem half_at (n : Fin 32) (o : Fin 256) (q : Fin 1024) :
    half x w n (ix2 o q) = k0_pay3 x w (ix2 (⟨256 * (n.val / 16) + (Cert.Own.swap o).val, by omega⟩ : Fin 512) q) := by
  unfold half
  split
  · rename_i h
    unfold k0_pay5
    generalize k0_pay3 x w = u
    refine (perm_dot _ o q).trans ?_
    pointwise
    congr 2
    exact Fin.ext (by show (Cert.Own.swap o).val = 256 * (n.val / 16) + (Cert.Own.swap o).val; omega)
  · rename_i h
    unfold k0_pay24
    generalize k0_pay3 x w = u
    refine (perm_dot _ o q).trans ?_
    pointwise
    congr 2
    exact Fin.ext (by show 256 + (Cert.Own.swap o).val = 256 * (n.val / 16) + (Cert.Own.swap o).val; omega)

/-- One entry of a store. -/
theorem stored_at (n : Fin 32) (j : Fin 16) (q : Fin 1024) :
    (stored x w n).2 (ix3 (0 : Fin 1) j q) = k0_pay3 x w (ix2 (⟨256 * (n.val / 16) + 16 * j.val + n.val % 16, by omega⟩ : Fin 512) q) := by
  unfold stored
  dsimp only
  refine Eq.trans (b := half x w n (ix2 (⟨16 * (n.val % 16) + j.val, by omega⟩ : Fin 256) q)) ?_ ?_
  · generalize half x w n = H
    pointwise
  · rw [half_at]
    congr 2
    exact Fin.ext (by show 256 * (n.val / 16) + ((16 * (n.val % 16) + j.val) % 16 * 16 + (16 * (n.val % 16) + j.val) / 16) = 256 * (n.val / 16) + 16 * j.val + n.val % 16; omega)

/-- One entry of the block: entry (step, chunk) is row `16 · chunk + step`. -/
theorem block_at (s : Fin 16) (r : Fin 32) (q : Fin 1024) :
    View.canon (stores x w) (ix3 s r q) = ∑ k : Fin 2048, (x (ix2 (⟨16 * r.val + s.val, by omega⟩ : Fin 512) k) : EReal) * (w (ix2 k q) : EReal) := by
  rw [← rows_dot]
  have mem : ∀ n : Fin 32, stored x w n ∈ stores x w := fun n => List.mem_map_of_mem (by revert n; decide)
  obtain ⟨n, hn⟩ : ∃ n : Fin 32, n.val = 16 * (r.val / 16) + s.val := ⟨⟨_, by omega⟩, rfl⟩
  refine View.canon_eq_of_allAt _ _ _ ⟨_, mem n, ?_⟩ ?_
  · refine (Rect.mem_set_unit (inb := inb_store n)).mpr fun a => ?_
    match a with
    | ⟨0, _⟩ => show n.val % 16 ≤ s.val ∧ s.val < n.val % 16 + 1; omega
    | ⟨1, _⟩ => show 16 * (n.val / 16) ≤ r.val ∧ r.val < 16 * (n.val / 16) + 16; omega
    | ⟨2, _⟩ => show 0 ≤ q.val ∧ q.val < 0 + 1024; omega
  · intro p hp
    obtain ⟨n', -, rfl⟩ := List.mem_map.mp hp
    intro y hy
    have e0 : n'.val % 16 + 1 * (y (0 : Fin 3)).val = s.val := congrArg (fun z : S16x32x1024.Idx => (z (0 : Fin 3)).val) hy
    have e1 : 16 * (n'.val / 16) + 1 * (y (1 : Fin 3)).val = r.val := congrArg (fun z : S16x32x1024.Idx => (z (1 : Fin 3)).val) hy
    have e2 : 0 + 1 * (y (2 : Fin 3)).val = q.val := congrArg (fun z : S16x32x1024.Idx => (z (2 : Fin 3)).val) hy
    obtain ⟨y0, y1, y2, rfl⟩ : ∃ (y0 : Fin 1) (y1 : Fin 16) (y2 : Fin 1024), y = ix3 y0 y1 y2 := ⟨y 0, y 1, y 2, eq_ix3 y⟩
    obtain rfl : y0 = 0 := Subsingleton.elim _ _
    refine (stored_at x w n' y1 y2).trans ?_
    have e0' : n'.val % 16 + 1 * 0 = s.val := e0
    have e1' : 16 * (n'.val / 16) + 1 * y1.val = r.val := e1
    have e2' : 0 + 1 * y2.val = q.val := e2
    congr 2
    · exact Fin.ext (by show 256 * (n'.val / 16) + 16 * y1.val + n'.val % 16 = 16 * r.val + s.val; omega)
    · exact Fin.ext (by omega)
end
end Cert.UIdeal.Own
-- ==== Proof.UValue.lean ====
/- The second branch's input projection: what the kernel leaves at each entry of the result, from the rows each grid
   point reads and the weight block that stays resident. -/
module

public import proofs.«01_k».proof.Proof.UBody
public import proofs.«01_k».proof.Defs
public import Idealize.ShloMosaic.Adequacy
public import Idealize.ShloMosaic.Init
public import proofs.«01_k».proof.Proof.Gen.URefIdeal.Run

@[expose] public section

set_option maxRecDepth 100000

noncomputable section

namespace Cert.UIdeal.Own
open Cert.UIdeal Cert.UIdeal.Gen Idealize.ShloMosaic Idealize.ShloMosaic.TcCoe
open scoped BigOperators

section
variable {F : FTy → Type} [FloatOps F]
variable (m : (ℓ : Loc nD τ sig) → Buf (Elt F) ℓ) (c : Dev nD)

theorem lt_N (t : Fin cfg0.N) : t.val < 32 := lt_of_lt_of_eq t.isLt N_0

/-- Point `t` reads row tile `t` and weight rows `6176` on, and writes rows `32 t` on of every step. -/
theorem idx_all : ∀ t : Fin cfg0.N, (win0_0.index t 0 = t.val ∧ win0_0.index t 1 = 0) ∧ (win0_1.index t 0 = 0 ∧ win0_1.index t 1 = 6176 ∧ win0_1.index t 2 = 0)
    ∧ (win0_2.index t 0 = 0 ∧ win0_2.index t 1 = t.val ∧ win0_2.index t 2 = 0) :=
  (by decide +kernel : ∀ t : Fin grid0.N, _)

/-- The rows a point reads. -/
theorem rows_at (t : Fin cfg0.N) (a : Fin 512) (k : Fin 2048) :
    iblk m c 0 t (ix2 a k) = m ((c : Thread nD τ).loc main_arg0) (ix2 (⟨512 * t.val + a.val, by have := lt_N t; omega⟩ : Fin 16384) k) := by
  unfold iblk
  rw [View.read_apply]
  show V m c main_arg0 _ = _
  rw [V_main_arg0]
  congr 1
  funext b
  apply Fin.ext
  obtain ⟨⟨e0, e1⟩, -⟩ := idx_all t
  match b with
  | ⟨0, _⟩ => show win0_0.index t 0 * 512 + 1 * a.val = 512 * t.val + a.val; rw [e0]; omega
  | ⟨1, _⟩ => show win0_0.index t 1 * 2048 + 1 * k.val = k.val; rw [e1]; omega

theorem V_wt : V m c main_v0 = transpose S1x11296x2048 [0, 2, 1] (m ((c : Thread nD τ).loc main_arg1)) transposes_S1x2048x11296_S1x11296x2048_0_2_1 := by
  unfold V
  after_results <;> rfl

/-- The weight block a point reads. -/
theorem wt_at (t : Fin cfg0.N) (b : Fin 1024) (k : Fin 2048) :
    iblk m c 1 t (ix3 0 b k) = m ((c : Thread nD τ).loc main_arg1) (ix3 0 k (⟨6176 + b.val, by omega⟩ : Fin 11296)) := by
  unfold iblk
  rw [View.read_apply]
  show V m c main_v0 _ = _
  rw [V_wt]
  obtain ⟨-, ⟨e0, e1, e2⟩, -⟩ := idx_all t
  rw [show ((cfg0.win 1).blk t).view.emb (ix3 0 b k) = ix3 (0 : Fin 1) (⟨6176 + b.val, by omega⟩ : Fin 11296) k from ?_]
  · pointwise
  funext d
  apply Fin.ext
  match d with
  | ⟨0, _⟩ => show win0_1.index t 0 + 1 * 0 = 0; rw [e0]
  | ⟨1, _⟩ => show win0_1.index t 1 + 1 * b.val = 6176 + b.val; rw [e1]; omega
  | ⟨2, _⟩ => show win0_1.index t 2 + 1 * k.val = k.val; rw [e2]; omega

/-- Every point reads the same weight rows. -/
theorem wt_same (t t' : Fin cfg0.N) : iblk m c 1 t = iblk m c 1 t' := by
  funext y
  obtain ⟨i0, i1, i2, rfl⟩ : ∃ (i0 : Fin 1) (i1 : Fin 1024) (i2 : Fin 2048), y = ix3 i0 i1 i2 := ⟨y 0, y 1, y 2, eq_ix3 y⟩
  obtain rfl : i0 = 0 := Subsingleton.elim _ _
  rw [wt_at, wt_at]

/-- The resident weight block after each point. -/
theorem resident (n : ℕ) (hn : n < cfg0.N) : (outsAt0 m c n hn).2 = k0_pay2 (iblk m c 1 ⟨n, hn⟩) := by
  have first : ∀ t : Fin cfg0.N, t.val % 32 = 0 → (outsAt0 m c t.val t.isLt).2 = k0_pay2 (iblk m c 1 t) := by
    intro t h
    have e := scr_A (F := F) c (grid0.coords t) (ms0_0 t) (hs0_0 t) (ms0_1 t) (hs0_1 t) (ms0_2 t) (hs0_2 t) scM0_0 (Memref.isWhole_whole _) (iblk m c 0 t) (iblk m c 1 t) ((hcond0_0 t).mpr h)
    rw [outsAt0_A m c t h]
    dsimp only
    exact e
  induction n with
  | zero => exact first ⟨0, hn⟩ (Nat.zero_mod _)
  | succ n ih =>
    by_cases h : (n + 1) % 32 = 0
    · exact first ⟨n + 1, hn⟩ h
    · rw [outsAt0_B m c ⟨n + 1, hn⟩ h]
      dsimp only
      refine (ih (Nat.lt_of_succ_lt hn)).trans ?_
      exact congrArg k0_pay2 (wt_same m c _ _)

/-- The output block of each point, from the rows and the weight rows it reads. -/
theorem point (t : Fin cfg0.N) : (outsAt0 m c t.val t.isLt).1 = View.canon (stores (iblk m c 0 t) (k0_pay2 (iblk m c 1 t))) := by
  by_cases h : t.val % 32 = 0
  · have e := out_A (F := F) c (grid0.coords t) (ms0_0 t) (hs0_0 t) (ms0_1 t) (hs0_1 t) (ms0_2 t) (hs0_2 t) scM0_0 (Memref.isWhole_whole _) (iblk m c 0 t) (iblk m c 1 t) ((hcond0_0 t).mpr h)
    rw [outsAt0_A m c t h]
    dsimp only
    exact e
  · have e := out_B (F := F) c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h'))
    rw [outsAt0_B m c t h]
    dsimp only
    refine e.trans ?_
    rw [resident, wt_same m c ⟨t.val - 1, _⟩ t]

/-- Two points write different blocks. -/
theorem apart (t t' : Fin cfg0.N) (h : t ≠ t') : Disjoint ((cfg0.win 2).blk t).view.set ((cfg0.win 2).blk t').view.set :=
  (cfg0.win 2).disjoint_blk fun e => h (Fin.ext (by
    have := congrFun e (1 : Fin 3)
    rw [← (idx_all t).2.2.2.1, ← (idx_all t').2.2.2.1]
    exact this))

variable (ρ : Dev nD → PrngReg)
open Idealize.SL.Sem in
/-- The kernel's run: the result holds what the points wrote, and the arguments are as launched. -/
theorem run : θ_run defs (onTc (τ := τ) (main (F := F))) ⟨m, fun _ => 0, ρ⟩ fun r => ∀ c : Dev nD,
      r.2.mem ((c : Thread nD τ).loc main_v1) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1 2, ?_, ?_⟩) (run_main m ρ)
  · rw [← V_main_arg0 m c, ← A_eq m c 0, ← (dats m 0 c).arrAt_in 0 rfl cfg0.N]
    exact (h c).1 0
  · rw [← V_main_arg1 m c]
    exact (h c).2 main_arg1 (Pipeline.mem_restRefs_of main_arg1 (by decide) (by decide))
end

section
variable (m : (ℓ : Loc nD τ sig) → Buf (Elt Ideal) ℓ) (c : Dev nD)

/-- The stored weight block at one entry. -/
theorem wt_block (x1 : Vec Ideal S1x1024x2048 .f32) (k : Fin 2048) (q : Fin 1024) : k0_pay2 x1 (ix2 k q) = x1 (ix3 0 q k) := by
  unfold k0_pay2
  pointwise

/-- The kernel's result at one entry: step `s` of chunk `R` is token `16 R + s`. -/
theorem result_at (s : Fin 16) (R : Fin 1024) (q : Fin 1024) : (dats m 0 c).arrAt 2 cfg0.N (ix3 s R q)
    = Cert.Own.proj (m ((c : Thread nD τ).loc main_arg0)) (m ((c : Thread nD τ).loc main_arg1)) (⟨16 * R.val + s.val, by omega⟩ : Fin 16384) (⟨6176 + q.val, by omega⟩ : Fin 11296) := by
  obtain ⟨t, ht⟩ : ∃ t : Fin cfg0.N, t.val = R.val / 32 := ⟨⟨_, lt_of_lt_of_eq (show R.val / 32 < 32 by omega) N_0.symm⟩, rfl⟩
  obtain ⟨r, hr⟩ : ∃ r : Fin 32, r.val = R.val % 32 := ⟨⟨_, Nat.mod_lt _ (by decide)⟩, rfl⟩
  have e := (dats m 0 c).arrAt_emb_eq_flushed 2 (fun t t' _ _ h => apart t t' h) t (flush0_2 t) (ix3 s r q)
  rw [show ((cfg0.win 2).blk t).view.emb (ix3 s r q) = ix3 s R q from by
    funext d
    apply Fin.ext
    obtain ⟨-, -, ⟨e0, e1, e2⟩⟩ := idx_all t
    match d with
    | ⟨0, _⟩ => show win0_2.index t 0 * 16 + 1 * s.val = s.val; rw [e0]; omega
    | ⟨1, _⟩ => show win0_2.index t 1 * 32 + 1 * r.val = R.val; rw [e1]; omega
    | ⟨2, _⟩ => show win0_2.index t 2 * 1024 + 1 * q.val = q.val; rw [e2]; omega] at e
  refine e.trans ?_
  have b := block_at (iblk m c 0 t) (k0_pay2 (iblk m c 1 t)) s r q
  rw [← point m c t, ← after0_2 m c t] at b
  refine Eq.trans (show _ = (dats m 0 c).after 2 t (ix3 s r q) from rfl) (b.trans ?_)
  unfold Cert.Own.proj
  simp only [wt_block, rows_at, wt_at]
  simp only [show ∀ h, (⟨512 * t.val + (16 * r.val + s.val), h⟩ : Fin 16384) = ⟨16 * R.val + s.val, by omega⟩ from
    fun _ => Fin.ext (by show 512 * t.val + (16 * r.val + s.val) = 16 * R.val + s.val; omega)]
end

/-- The reference's projection at one entry. -/
theorem ref_proj (h : FVec Ideal S16384x2048 .bf16) (w : FVec Ideal S1x2048x11296 .f32) (r : Fin 16384) (q : Fin 11296) :
    Host.dotGeneral URefIdeal.dot_S1x16384x2048_S2048x11296_S1x16384x11296_2_0_01_1_n_n none
      (broadcastInDim URefIdeal.S1x16384x2048 ![1, 2] URefIdeal.Gen.bcast_S16384x2048_S1x16384x2048_1_2 (extf .f32 h URefIdeal.Gen.bitsLt_bf16_f32))
      (shapeCast URefIdeal.S2048x11296 w URefIdeal.Gen.shapeCasts_S1x2048x11296_S2048x11296) (ix3 0 r q) = Cert.Own.proj h w r q := by
  unfold Cert.Own.proj
  pointwise

/-- The reference's rows in step order, at one entry. -/
theorem ref_steps (P : FVec Ideal URefIdeal.S1x16384x11296 .f32) (s : Fin 16) (R q : Fin 1024) :
    transpose URefIdeal.S16x1024x1024 [1, 0, 2] (shapeCast URefIdeal.S1024x16x1024 (truncf .bf16 (shapeCast URefIdeal.S16384x1024
      (extractStridedSlice URefIdeal.S1x16384x1024 ![0, 0, 6176] P URefIdeal.Gen.slices_S1x16384x11296_S1x16384x1024_0_0_6176)
      URefIdeal.Gen.shapeCasts_S1x16384x1024_S16384x1024) URefIdeal.Gen.bitsLt_bf16_f32) URefIdeal.Gen.shapeCasts_S16384x1024_S1024x16x1024)
      URefIdeal.Gen.transposes_S1024x16x1024_S16x1024x1024_1_0_2 (ix3 s R q)
      = P (ix3 0 (⟨16 * R.val + s.val, by omega⟩ : Fin 16384) (⟨6176 + q.val, by omega⟩ : Fin 11296)) := by
  pointwise
  congr 2
  exact Fin.ext (by show R.val * 16 + s.val = 16 * R.val + s.val; omega)

open Idealize.SL.Sem in
/-- The kernel's result is the reference's. -/
theorem algebraic : Cert.algebraic_UIdeal_URefIdeal := by
  intro m ρ m' ρ' _ hagree
  refine ⟨_, run (F := Ideal) m ρ, ?_⟩
  refine (θ_run Cert.URefIdeal.defs _ _).mono (fun _ h c => ⟨?_, (h c).2⟩) (Cert.URefIdeal.Value.run (F := Ideal) m' ρ')
  rw [(h c).1]
  obtain ⟨e0, e1⟩ := hagree c
  rw [e0, e1]
  funext j
  obtain ⟨s, R, q, rfl⟩ : ∃ (s : Fin 16) (R q : Fin 1024), j = ix3 s R q := ⟨j 0, j 1, j 2, eq_ix3 j⟩
  refine Eq.trans ?_ (result_at m c s R q).symm
  rw [← ref_proj]
  exact ref_steps _ s R q
end Cert.UIdeal.Own
-- ==== Proof.MergeValue.lean ====
/- The gated merge of the two branches, its output projection with the residual, and the norm that the experts read: what
   the kernel leaves at each entry of the two results. -/
module

public import proofs.«01_k».proof.Proof.GatedValue
public import proofs.«01_k».proof.Proof.Gen.MergeIdeal.Value
public import proofs.«01_k».proof.Proof.Gen.MergeRefIdeal.Run

@[expose] public section

set_option maxRecDepth 100000

noncomputable section

namespace Cert.MergeIdeal.Own
open Cert.MergeIdeal Cert.MergeIdeal.Gen Idealize.ShloMosaic Idealize.ShloMosaic.TcCoe
open Cert.GatedIdeal.Own (normAt)

section
variable {F : FTy → Type} [FloatOps F]
variable (m : (ℓ : Loc nD τ sig) → Buf (Elt F) ℓ) (c : Dev nD)

/-- What a point leaves in its block of the residual stream. -/
theorem out_sum (x0 x1 x2 x3 : Vec F S512x2048 .bf16) (x4 : Vec F S512x2048 .f32) (x5 : Vec F S2048x2048 .bf16) (x6 : Vec F S1x2048 .f32)
    (x7 : Vec F S2048x128 .bf16) (x8 : Vec F S1x128 .f32) : out0_9 x0 x1 x2 x3 x4 x5 x6 x7 x8 = k0_pay2 x0 x2 x1 x3 x4 x5 := by
  unfold out0_9
  rw [View.canon_unit_zero Cert.Own.off2]
  repeat rw [View.ld_unit_zero Cert.Own.off2]

/-- What a point leaves in its block of the normalised rows. -/
theorem out_norm (x0 x1 x2 x3 : Vec F S512x2048 .bf16) (x4 : Vec F S512x2048 .f32) (x5 : Vec F S2048x2048 .bf16) (x6 : Vec F S1x2048 .f32)
    (x7 : Vec F S2048x128 .bf16) (x8 : Vec F S1x128 .f32) : out0_10 x0 x1 x2 x3 x4 x5 x6 x7 x8 = k0_pay4 x0 x2 x1 x3 x4 x5 x6 := by
  unfold out0_10
  rw [View.canon_unit_zero Cert.Own.off2]
  repeat rw [View.ld_unit_zero Cert.Own.off2]

theorem lt_N (t : Fin cfg0.N) : t.val < 32 := lt_of_lt_of_eq t.isLt N_0

/-- Point `t` works on row tile `t`; the second window of the gates is their second half. -/
theorem idx_rows : ∀ t : Fin cfg0.N, (win0_0.index t 0 = t.val ∧ win0_0.index t 1 = 0) ∧ (win0_1.index t 0 = t.val ∧ win0_1.index t 1 = 1)
    ∧ (win0_2.index t 0 = t.val ∧ win0_2.index t 1 = 0) ∧ (win0_3.index t 0 = t.val ∧ win0_3.index t 1 = 0) ∧ (win0_4.index t 0 = t.val ∧ win0_4.index t 1 = 0) :=
  (by decide +kernel : ∀ t : Fin grid0.N, _)

/-- The weights are taken whole, and the results' blocks are row tile `t`. -/
theorem idx_whole : ∀ t : Fin cfg0.N, (win0_5.index t 0 = 0 ∧ win0_5.index t 1 = 0) ∧ (win0_6.index t 0 = 0 ∧ win0_6.index t 1 = 0)
    ∧ (win0_9.index t 0 = t.val ∧ win0_9.index t 1 = 0) ∧ (win0_10.index t 0 = t.val ∧ win0_10.index t 1 = 0) :=
  (by decide +kernel : ∀ t : Fin grid0.N, _)

/-- The row of the whole arrays that row `a` of tile `t` is. -/
abbrev row (t : Fin cfg0.N) (a : Fin 512) : Fin 16384 := ⟨512 * t.val + a.val, by have := lt_N t; omega⟩

theorem ga_at (t : Fin cfg0.N) (a : Fin 512) (k : Fin 2048) :
    iblk m c 0 t (ix2 a k) = m ((c : Thread nD τ).loc main_arg0) (ix2 (row t a) (⟨k.val, by omega⟩ : Fin 4096)) := by
  unfold iblk
  rw [View.read_apply]
  show V m c main_arg0 _ = _
  rw [V_main_arg0]
  congr 1
  funext b
  apply Fin.ext
  obtain ⟨⟨e0, e1⟩, -⟩ := idx_rows t
  match b with
  | ⟨0, _⟩ => show win0_0.index t 0 * 512 + 1 * a.val = 512 * t.val + a.val; rw [e0]; omega
  | ⟨1, _⟩ => show win0_0.index t 1 * 2048 + 1 * k.val = k.val; rw [e1]; omega

theorem gb_at (t : Fin cfg0.N) (a : Fin 512) (k : Fin 2048) :
    iblk m c 1 t (ix2 a k) = m ((c : Thread nD τ).loc main_arg0) (ix2 (row t a) (⟨2048 + k.val, by omega⟩ : Fin 4096)) := by
  unfold iblk
  rw [View.read_apply]
  show V m c main_arg0 _ = _
  rw [V_main_arg0]
  congr 1
  funext b
  apply Fin.ext
  obtain ⟨-, ⟨e0, e1⟩, -⟩ := idx_rows t
  match b with
  | ⟨0, _⟩ => show win0_1.index t 0 * 512 + 1 * a.val = 512 * t.val + a.val; rw [e0]; omega
  | ⟨1, _⟩ => show win0_1.index t 1 * 2048 + 1 * k.val = 2048 + k.val; rw [e1]; omega

theorem ya_at (t : Fin cfg0.N) (a : Fin 512) (k : Fin 2048) :
    iblk m c 2 t (ix2 a k) = m ((c : Thread nD τ).loc main_arg1) (ix2 (row t a) k) := by
  unfold iblk
  rw [View.read_apply]
  show V m c main_arg1 _ = _
  rw [V_main_arg1]
  congr 1
  funext b
  apply Fin.ext
  obtain ⟨-, -, ⟨e0, e1⟩, -⟩ := idx_rows t
  match b with
  | ⟨0, _⟩ => show win0_2.index t 0 * 512 + 1 * a.val = 512 * t.val + a.val; rw [e0]; omega
  | ⟨1, _⟩ => show win0_2.index t 1 * 2048 + 1 * k.val = k.val; rw [e1]; omega

theorem yb_at (t : Fin cfg0.N) (a : Fin 512) (k : Fin 2048) :
    iblk m c 3 t (ix2 a k) = m ((c : Thread nD τ).loc main_arg2) (ix2 (row t a) k) := by
  unfold iblk
  rw [View.read_apply]
  show V m c main_arg2 _ = _
  rw [V_main_arg2]
  congr 1
  funext b
  apply Fin.ext
  obtain ⟨-, -, -, ⟨e0, e1⟩, -⟩ := idx_rows t
  match b with
  | ⟨0, _⟩ => show win0_3.index t 0 * 512 + 1 * a.val = 512 * t.val + a.val; rw [e0]; omega
  | ⟨1, _⟩ => show win0_3.index t 1 * 2048 + 1 * k.val = k.val; rw [e1]; omega

theorem x_at (t : Fin cfg0.N) (a : Fin 512) (k : Fin 2048) :
    iblk m c 4 t (ix2 a k) = m ((c : Thread nD τ).loc main_arg3) (ix2 (row t a) k) := by
  unfold iblk
  rw [View.read_apply]
  show V m c main_arg3 _ = _
  rw [V_main_arg3]
  congr 1
  funext b
  apply Fin.ext
  obtain ⟨-, -, -, -, ⟨e0, e1⟩⟩ := idx_rows t
  match b with
  | ⟨0, _⟩ => show win0_4.index t 0 * 512 + 1 * a.val = 512 * t.val + a.val; rw [e0]; omega
  | ⟨1, _⟩ => show win0_4.index t 1 * 2048 + 1 * k.val = k.val; rw [e1]; omega

theorem V_w : V m c main_v19 = truncf .bf16 (shapeCast S2048x2048 (m ((c : Thread nD τ).loc main_arg4)) shapeCasts_S1x2048x2048_S2048x2048) bitsLt_bf16_f32 := by
  unfold V
  after_results <;> rfl

theorem V_norm : V m c main_v22 = shapeCast S1x2048 (shapeCast S2048 (m ((c : Thread nD τ).loc main_arg5)) shapeCasts_S1x2048_S2048) shapeCasts_S2048_S1x2048 := by
  unfold V
  after_results <;> rfl
end

section
variable (m : (ℓ : Loc nD τ sig) → Buf (Elt Ideal) ℓ) (c : Dev nD)

theorem w_cast (w : FVec Ideal S1x2048x2048 .f32) (k q : Fin 2048) :
    truncf .bf16 (shapeCast S2048x2048 w shapeCasts_S1x2048x2048_S2048x2048) bitsLt_bf16_f32 (ix2 k q) = w (ix3 0 k q) := by
  pointwise

theorem w_at (t : Fin cfg0.N) (k q : Fin 2048) :
    iblk m c 5 t (ix2 k q) = m ((c : Thread nD τ).loc main_arg4) (ix3 0 k q) := by
  unfold iblk
  rw [View.read_apply]
  show V m c main_v19 _ = _
  rw [V_w]
  obtain ⟨⟨e0, e1⟩, -⟩ := idx_whole t
  rw [show ((cfg0.win 5).blk t).view.emb (ix2 k q) = ix2 k q from ?_]
  · exact w_cast _ k q
  funext d
  apply Fin.ext
  match d with
  | ⟨0, _⟩ => show win0_5.index t 0 * 2048 + 1 * k.val = k.val; rw [e0]; omega
  | ⟨1, _⟩ => show win0_5.index t 1 * 2048 + 1 * q.val = q.val; rw [e1]; omega

theorem norm_at (t : Fin cfg0.N) (k : Fin 2048) :
    iblk m c 6 t (ix2 0 k) = m ((c : Thread nD τ).loc main_arg5) (ix2 0 k) := by
  unfold iblk
  rw [View.read_apply]
  show V m c main_v22 _ = _
  rw [V_norm]
  obtain ⟨-, ⟨e0, e1⟩, -⟩ := idx_whole t
  rw [show ((cfg0.win 6).blk t).view.emb (ix2 0 k) = ix2 (0 : Fin 1) k from ?_]
  · pointwise
  funext d
  apply Fin.ext
  match d with
  | ⟨0, _⟩ => show win0_6.index t 0 * 1 + 1 * 0 = 0; rw [e0]
  | ⟨1, _⟩ => show win0_6.index t 1 * 2048 + 1 * k.val = k.val; rw [e1]; omega
end

/-- One entry of the residual stream after the merge: the old entry, and the gated sum of the two branches projected. -/
def sumAt (g : Vec Ideal S16384x4096 .bf16) (ya yb : Vec Ideal S16384x2048 .bf16) (x : Vec Ideal S16384x2048 .f32) (w : Vec Ideal S1x2048x2048 .f32)
    (r : Fin 16384) (q : Fin 2048) : EReal :=
  x (ix2 r q) + ∑ k : Fin 2048, ((g (ix2 r (⟨k.val, by omega⟩ : Fin 4096)) : EReal) * ya (ix2 r k)
    + (g (ix2 r (⟨2048 + k.val, by omega⟩ : Fin 4096)) : EReal) * yb (ix2 r k)) * w (ix3 0 k q)

/-- One entry of a block of the residual stream. -/
theorem body_sum (x0 x1 x2 x3 : Vec Ideal S512x2048 .bf16) (x4 : Vec Ideal S512x2048 .f32) (x5 : Vec Ideal S2048x2048 .bf16) (a : Fin 512) (q : Fin 2048) :
    k0_pay2 x0 x2 x1 x3 x4 x5 (ix2 a q)
      = (x4 (ix2 a q) : EReal) + ∑ k : Fin 2048, ((x0 (ix2 a k) : EReal) * x2 (ix2 a k) + (x1 (ix2 a k) : EReal) * x3 (ix2 a k)) * x5 (ix2 k q) := by
  unfold k0_pay2
  pointwise

/-- One entry of a block of the normalised rows, from the block of the residual stream. -/
theorem body_norm (x0 x1 x2 x3 : Vec Ideal S512x2048 .bf16) (x4 : Vec Ideal S512x2048 .f32) (x5 : Vec Ideal S2048x2048 .bf16) (x6 : Vec Ideal S1x2048 .f32)
    (a : Fin 512) (q : Fin 2048) :
    k0_pay4 x0 x2 x1 x3 x4 x5 x6 (ix2 a q) = normAt (fun k => k0_pay2 x0 x2 x1 x3 x4 x5 (ix2 a k)) (fun k => x6 (ix2 0 k)) q := by
  unfold k0_pay4 k0_pay3 normAt
  generalize k0_pay2 x0 x2 x1 x3 x4 x5 = v
  pointwise

section
variable (m : (ℓ : Loc nD τ sig) → Buf (Elt Ideal) ℓ) (c : Dev nD)

/-- The residual stream at one entry, from the arguments. -/
abbrev sumOf (r : Fin 16384) (q : Fin 2048) : EReal :=
  sumAt (m ((c : Thread nD τ).loc main_arg0)) (m ((c : Thread nD τ).loc main_arg1)) (m ((c : Thread nD τ).loc main_arg2)) (m ((c : Thread nD τ).loc main_arg3))
    (m ((c : Thread nD τ).loc main_arg4)) r q

/-- The block of the residual stream that point `t` computes. -/
theorem block_sum (t : Fin cfg0.N) (a : Fin 512) (q : Fin 2048) :
    k0_pay2 (iblk m c 0 t) (iblk m c 2 t) (iblk m c 1 t) (iblk m c 3 t) (iblk m c 4 t) (iblk m c 5 t) (ix2 a q) = sumOf m c (row t a) q := by
  refine (body_sum (iblk m c 0 t) (iblk m c 1 t) (iblk m c 2 t) (iblk m c 3 t) (iblk m c 4 t) (iblk m c 5 t) a q).trans ?_
  unfold sumOf sumAt
  simp only [ga_at, gb_at, ya_at, yb_at, x_at, w_at]

/-- Row `r` is row `a` of some tile `t`. -/
theorem tile_of (r : Fin 16384) : ∃ (t : Fin cfg0.N) (a : Fin 512), row t a = r := by
  have hN : r.val / 512 < cfg0.N := lt_of_lt_of_eq (show r.val / 512 < 32 by omega) N_0.symm
  exact ⟨⟨_, hN⟩, ⟨r.val % 512, Nat.mod_lt _ (by decide)⟩, Fin.ext (by show 512 * (r.val / 512) + r.val % 512 = r.val; omega)⟩

/-- The first result at one entry. -/
theorem result_sum (r : Fin 16384) (q : Fin 2048) : (dats m 0 c).arrAt 9 cfg0.N (ix2 r q) = sumOf m c r q := by
  obtain ⟨t, a, rfl⟩ := tile_of r
  have e := (dats m 0 c).arrAt_emb_eq_flushed 9 Value.disjoint9 t (flush0_9 t) (ix2 a q)
  rw [show ((cfg0.win 9).blk t).view.emb (ix2 a q) = ix2 (row t a) q from by
    funext d
    apply Fin.ext
    obtain ⟨-, -, ⟨e0, e1⟩, -⟩ := idx_whole t
    match d with
    | ⟨0, _⟩ => show win0_9.index t 0 * 512 + 1 * a.val = 512 * t.val + a.val; rw [e0]; omega
    | ⟨1, _⟩ => show win0_9.index t 1 * 2048 + 1 * q.val = q.val; rw [e1]; omega] at e
  refine e.trans ?_
  rw [Value.flushed9, out_sum]
  exact block_sum m c t a q

/-- The second result at one entry. -/
theorem result_norm (r : Fin 16384) (q : Fin 2048) :
    (dats m 0 c).arrAt 10 cfg0.N (ix2 r q) = normAt (sumOf m c r) (fun k => m ((c : Thread nD τ).loc main_arg5) (ix2 0 k)) q := by
  obtain ⟨t, a, rfl⟩ := tile_of r
  have e := (dats m 0 c).arrAt_emb_eq_flushed 10 Value.disjoint10 t (flush0_10 t) (ix2 a q)
  rw [show ((cfg0.win 10).blk t).view.emb (ix2 a q) = ix2 (row t a) q from by
    funext d
    apply Fin.ext
    obtain ⟨-, -, -, ⟨e0, e1⟩⟩ := idx_whole t
    match d with
    | ⟨0, _⟩ => show win0_10.index t 0 * 512 + 1 * a.val = 512 * t.val + a.val; rw [e0]; omega
    | ⟨1, _⟩ => show win0_10.index t 1 * 2048 + 1 * q.val = q.val; rw [e1]; omega] at e
  refine e.trans ?_
  rw [Value.flushed10, out_norm]
  refine (body_norm (iblk m c 0 t) (iblk m c 1 t) (iblk m c 2 t) (iblk m c 3 t) (iblk m c 4 t) (iblk m c 5 t) (iblk m c 6 t) a q).trans ?_
  simp only [block_sum, norm_at]
end

/-- The reference's residual stream, as its run leaves it. -/
def refSum (g : FVec Ideal S16384x4096 .bf16) (ya yb : FVec Ideal S16384x2048 .bf16) (x : FVec Ideal S16384x2048 .f32) (w : FVec Ideal S1x2048x2048 .f32) :
    FVec Ideal S16384x2048 .f32 :=
  addf x (Host.dotGeneral MergeRefIdeal.dot_S16384x2048_S2048x2048_S16384x2048_1_0_0_1_n_n none (addf (mulf (extractStridedSlice MergeRefIdeal.S16384x2048 ![0, 0] (extf .f32 g MergeRefIdeal.Gen.bitsLt_bf16_f32) MergeRefIdeal.Gen.slices_S16384x4096_S16384x2048_0_0) (extf .f32 ya MergeRefIdeal.Gen.bitsLt_bf16_f32)) (mulf (extractStridedSlice MergeRefIdeal.S16384x2048 ![0, 2048] (extf .f32 g MergeRefIdeal.Gen.bitsLt_bf16_f32) MergeRefIdeal.Gen.slices_S16384x4096_S16384x2048_0_2048) (extf .f32 yb MergeRefIdeal.Gen.bitsLt_bf16_f32))) (shapeCast MergeRefIdeal.S2048x2048 w MergeRefIdeal.Gen.shapeCasts_S1x2048x2048_S2048x2048))

/-- The reference's residual stream at one entry. -/
theorem ref_sum (g : FVec Ideal S16384x4096 .bf16) (ya yb : FVec Ideal S16384x2048 .bf16) (x : FVec Ideal S16384x2048 .f32) (w : FVec Ideal S1x2048x2048 .f32)
    (r : Fin 16384) (q : Fin 2048) : refSum g ya yb x w (ix2 r q) = sumAt g ya yb x w r q := by
  unfold refSum sumAt
  pointwise

/-- The reference's norm at one entry, of any rows. -/
theorem ref_norm (v : FVec Ideal S16384x2048 .f32) (nw : FVec Ideal S1x2048 .f32) (r : Fin 16384) (q : Fin 2048) :
    truncf .bf16 (mulf (mulf v (broadcastInDim MergeRefIdeal.S16384x2048 ![0, 1] MergeRefIdeal.Gen.bcast_S16384x1_S16384x2048_0_1 (Host.rsqrt (addf (Host.divf (broadcastInDim MergeRefIdeal.S16384x1 ![0] MergeRefIdeal.Gen.bcast_S16384_S16384x1_0 (Host.reduceAdd (mulf v v) (constant MergeRefIdeal.S_ .f32 0x00000000#32) MergeRefIdeal.Gen.reducesTo_S16384x2048_S16384_d1 MergeRefIdeal.Gen.h_S_)) (broadcastInDim MergeRefIdeal.S16384x1 ![] MergeRefIdeal.Gen.bcast_S_S16384x1 (constant MergeRefIdeal.S_ .f32 0x45000000#32))) (broadcastInDim MergeRefIdeal.S16384x1 ![] MergeRefIdeal.Gen.bcast_S_S16384x1 (constant MergeRefIdeal.S_ .f32 0x358637BD#32)))))) (broadcastInDim MergeRefIdeal.S16384x2048 ![0, 1] MergeRefIdeal.Gen.bcast_S1x2048_S16384x2048_0_1 (broadcastInDim MergeRefIdeal.S1x2048 ![1] MergeRefIdeal.Gen.bcast_S2048_S1x2048_1 (shapeCast MergeRefIdeal.S2048 nw MergeRefIdeal.Gen.shapeCasts_S1x2048_S2048)))) MergeRefIdeal.Gen.bitsLt_bf16_f32 (ix2 r q)
      = normAt (fun k => v (ix2 r k)) (fun k => nw (ix2 0 k)) q := by
  unfold normAt
  pointwise

open Idealize.SL.Sem in
/-- The kernel's two results are the reference's. -/
theorem algebraic : Cert.algebraic_MergeIdeal_MergeRefIdeal := by
  intro m ρ m' ρ' _ hagree
  refine ⟨fun c => (dats m 0 c).arrAt 9 cfg0.N, fun c => (dats m 0 c).arrAt 10 cfg0.N,
    (θ_run defs _ _).mono (fun _ h c => ⟨(h c).1, (h c).2.1, (h c).2.2.2⟩) (Cert.MergeIdeal.Value.run_blocks (F := Ideal) m ρ), ?_⟩
  refine (θ_run Cert.MergeRefIdeal.defs _ _).mono (fun _ h c => ⟨?_, ?_, (h c).2.2⟩) (Cert.MergeRefIdeal.Value.run (F := Ideal) m' ρ')
  · rw [(h c).1]
    obtain ⟨e0, e1, e2, e3, e4, -⟩ := hagree c
    rw [e0, e1, e2, e3, e4]
    funext j
    rw [eq_ix2 (n0 := 16384) (n1 := 2048) j]
    exact (ref_sum _ _ _ _ _ (j 0) (j 1)).trans (result_sum m c (j 0) (j 1)).symm
  · rw [(h c).2.1]
    obtain ⟨e0, e1, e2, e3, e4, e5, -⟩ := hagree c
    rw [e0, e1, e2, e3, e4, e5]
    funext j
    rw [eq_ix2 (n0 := 16384) (n1 := 2048) j]
    refine (ref_norm (refSum _ _ _ _ _) _ (j 0) (j 1)).trans ?_
    rw [show (fun k => refSum _ _ _ _ _ (ix2 (j 0) k)) = sumOf m c (j 0) from funext (ref_sum _ _ _ _ _ (j 0))]
    exact (result_norm m c (j 0) (j 1)).symm
end Cert.MergeIdeal.Own
-- ==== Proof.DtBody.lean ====
/- The layer's first norm and its time steps, one grid point: what the stores of its run leave in each of the three output
   blocks and in the resident weight block, entry by entry. -/
module

public import proofs.«01_k».proof.Proof.GatedValue
public import proofs.«01_k».proof.Proof.Projection
public import proofs.«01_k».proof.Proof.Gen.DtIdeal.Frame
public import Idealize.ShloMosaic.Lib.WritesUnit
public import Idealize.ShloMosaic.Lib.Pipeline.ValueKit.Tiles

@[expose] public section

set_option maxRecDepth 100000

noncomputable section

namespace Cert.DtIdeal.Own
open Cert.DtIdeal Cert.DtIdeal.Gen Idealize.ShloMosaic Idealize.ShloMosaic.TcCoe
open Cert.GatedIdeal.Own (normAt)
open scoped BigOperators

section
variable {F : FTy → Type} [FloatOps F]
variable (c : Dev nD) (i : grid0.Coords) (a1 : Memref sig .tc .vmem S512x2048 .f32) (h1 : a1.IsWhole)
  (a2 : Memref sig .tc .vmem S1x2048 .f32) (h2 : a2.IsWhole) (a3 : Memref sig .tc .vmem S1x128x2048 .f32) (h3 : a3.IsWhole)
  (a4 : Memref sig .tc .vmem S1x128 .f32) (h4 : a4.IsWhole) (a5 : Memref sig .tc .vmem S512x2048 .bf16) (h5 : a5.IsWhole)
  (a6 : Memref sig .tc .vmem S512x128 .f32) (h6 : a6.IsWhole) (a7 : Memref sig .tc .vmem S128x512 .f32) (h7 : a7.IsWhole)
  (a8 : Memref sig .tc .vmem S2048x128 .bf16) (h8 : a8.IsWhole)
  (x0 : Vec F S512x2048 .f32) (x1 : Vec F S1x2048 .f32) (x2 : Vec F S1x128x2048 .f32) (x3 : Vec F S1x128 .f32) (xs : Vec F S2048x128 .bf16)

/-! The first point, which stores the weight block before it uses it. -/

theorem norm_A (hc : cond0_0 i) : out0_A_4 c i a1 h1 a2 h2 a3 h3 a4 h4 a5 h5 a6 h6 a7 h7 a8 h8 hc x0 x1 x2 x3 = k0_pay3 x0 x1 := by
  unfold out0_A_4
  rw [View.read_writes_eq_canon _ _ _ (cover0_A_4 c i a1 h1 a2 h2 a3 h3 a4 h4 a5 h5 a6 h6 a7 h7 a8 h8 hc x0 x1 x2 x3)]
  unfold kernelRun0_A
  dsimp only
  sl_unfold_words
  rw [View.canon_unit_zero Cert.Own.off2, Cert.Own.whole2, Cert.Own.whole2]

theorem steps_A (hc : cond0_0 i) : out0_A_5 c i a1 h1 a2 h2 a3 h3 a4 h4 a5 h5 a6 h6 a7 h7 a8 h8 hc x0 x1 x2 x3 = k0_pay4 x0 x1 (k0_pay2 x2) x3 := by
  unfold out0_A_5
  rw [View.read_writes_eq_canon _ _ _ (cover0_A_5 c i a1 h1 a2 h2 a3 h3 a4 h4 a5 h5 a6 h6 a7 h7 a8 h8 hc x0 x1 x2 x3)]
  unfold kernelRun0_A
  dsimp only
  sl_unfold_words
  rw [View.canon_unit_zero Cert.Own.off2, View.readCov_unit_zero (S := S2048x128) _ Cert.Own.off2, Cert.Own.whole3, Cert.Own.whole2, Cert.Own.whole2, Cert.Own.whole2]

theorem stepsT_A (hc : cond0_0 i) : out0_A_6 c i a1 h1 a2 h2 a3 h3 a4 h4 a5 h5 a6 h6 a7 h7 a8 h8 hc x0 x1 x2 x3 = k0_pay1 (k0_pay4 x0 x1 (k0_pay2 x2) x3) := by
  unfold out0_A_6
  rw [View.read_writes_eq_canon _ _ _ (cover0_A_6 c i a1 h1 a2 h2 a3 h3 a4 h4 a5 h5 a6 h6 a7 h7 a8 h8 hc x0 x1 x2 x3)]
  unfold kernelRun0_A
  dsimp only
  sl_unfold_words
  rw [View.canon_unit_zero Cert.Own.off2, View.readCov_unit_zero (S := S2048x128) _ Cert.Own.off2, Cert.Own.whole3, Cert.Own.whole2, Cert.Own.whole2, Cert.Own.whole2]

theorem weight_A (hc : cond0_0 i) : sout0_A_0 c i a1 h1 a2 h2 a3 h3 a4 h4 a5 h5 a6 h6 a7 h7 a8 h8 hc x0 x1 x2 x3 = k0_pay2 x2 := by
  unfold sout0_A_0
  rw [View.read_writes_eq_canon _ _ _ (scover0_A_0 c i a1 h1 a2 h2 a3 h3 a4 h4 a5 h5 a6 h6 a7 h7 a8 h8 hc x0 x1 x2 x3)]
  unfold kernelRun0_A
  dsimp only
  sl_unfold_words
  rw [View.canon_unit_zero Cert.Own.off2, Cert.Own.whole3]

/-! A later point, which finds the weight block resident. -/

theorem norm_B (hc : ¬cond0_0 i) : out0_B_4 c i a1 h1 a2 h2 a3 h3 a4 h4 a5 h5 a6 h6 a7 h7 a8 h8 hc x0 x1 x2 x3 xs = k0_pay3 x0 x1 := by
  unfold out0_B_4
  rw [View.read_writes_eq_canon _ _ _ (cover0_B_4 c i a1 h1 a2 h2 a3 h3 a4 h4 a5 h5 a6 h6 a7 h7 a8 h8 hc x0 x1 x2 x3 xs)]
  unfold kernelRun0_B
  dsimp only
  sl_unfold_words
  rw [View.canon_unit_zero Cert.Own.off2, Cert.Own.whole2, Cert.Own.whole2]

theorem steps_B (hc : ¬cond0_0 i) : out0_B_5 c i a1 h1 a2 h2 a3 h3 a4 h4 a5 h5 a6 h6 a7 h7 a8 h8 hc x0 x1 x2 x3 xs = k0_pay4 x0 x1 xs x3 := by
  unfold out0_B_5
  rw [View.read_writes_eq_canon _ _ _ (cover0_B_5 c i a1 h1 a2 h2 a3 h3 a4 h4 a5 h5 a6 h6 a7 h7 a8 h8 hc x0 x1 x2 x3 xs)]
  unfold kernelRun0_B
  dsimp only
  sl_unfold_words
  rw [View.canon_unit_zero Cert.Own.off2, Cert.Own.whole2, Cert.Own.whole2, Cert.Own.whole2, Cert.Own.whole2]

theorem stepsT_B (hc : ¬cond0_0 i) : out0_B_6 c i a1 h1 a2 h2 a3 h3 a4 h4 a5 h5 a6 h6 a7 h7 a8 h8 hc x0 x1 x2 x3 xs = k0_pay1 (k0_pay4 x0 x1 xs x3) := by
  unfold out0_B_6
  rw [View.read_writes_eq_canon _ _ _ (cover0_B_6 c i a1 h1 a2 h2 a3 h3 a4 h4 a5 h5 a6 h6 a7 h7 a8 h8 hc x0 x1 x2 x3 xs)]
  unfold kernelRun0_B
  dsimp only
  sl_unfold_words
  rw [View.canon_unit_zero Cert.Own.off2, Cert.Own.whole2, Cert.Own.whole2, Cert.Own.whole2, Cert.Own.whole2]

end

/-- The softplus of a step, as both programs compute it. -/
def soft (v : EReal) : EReal := max v 0 + Ideal.log (1 + Ideal.exp (-(max v (-v))))

/-- One entry of a block of normalised rows. -/
theorem norm_block (x0 : Vec Ideal S512x2048 .f32) (x1 : Vec Ideal S1x2048 .f32) (a : Fin 512) (k : Fin 2048) :
    k0_pay3 x0 x1 (ix2 a k) = normAt (fun k => x0 (ix2 a k)) (fun k => x1 (ix2 0 k)) k := by
  unfold k0_pay3 normAt
  pointwise

/-- The stored weight block at one entry. -/
theorem weight_block (x2 : Vec Ideal S1x128x2048 .f32) (k : Fin 2048) (q : Fin 128) : k0_pay2 x2 (ix2 k q) = x2 (ix3 0 q k) := by
  unfold k0_pay2
  pointwise

/-- One entry of a block of time steps. -/
theorem steps_block (x0 : Vec Ideal S512x2048 .f32) (x1 : Vec Ideal S1x2048 .f32) (w : Vec Ideal S2048x128 .bf16) (x3 : Vec Ideal S1x128 .f32) (a : Fin 512) (q : Fin 128) :
    k0_pay4 x0 x1 w x3 (ix2 a q)
      = soft ((∑ k : Fin 2048, normAt (fun k => x0 (ix2 a k)) (fun k => x1 (ix2 0 k)) k * (w (ix2 k q) : EReal)) + (x3 (ix2 0 q) : EReal)) := by
  simp only [← norm_block]
  unfold k0_pay4 soft
  generalize k0_pay3 x0 x1 = h
  pointwise
  rw [zero_sub]
  rfl

/-- The transposed block. -/
theorem turned_block (v : FVec Ideal S512x128 .f32) (q : Fin 128) (a : Fin 512) : k0_pay1 v (ix2 q a) = v (ix2 a q) := by
  unfold k0_pay1
  pointwise

end Cert.DtIdeal.Own
-- ==== Proof.DtBlocks.lean ====
/- The layer's first norm and its time steps: the blocks each grid point reads, and what the kernel leaves at each entry of
   its three arrays. -/
module

public import proofs.«01_k».proof.Proof.DtBody
public import Idealize.ShloMosaic.Lib.Routing.OpsSet
public import Idealize.ShloMosaic.Lib.Routing.OpsOne

@[expose] public section

set_option maxRecDepth 100000

noncomputable section

namespace Cert.DtIdeal.Own
open Cert.DtIdeal Cert.DtIdeal.Gen Idealize.ShloMosaic Idealize.ShloMosaic.TcCoe
open Cert.GatedIdeal.Own (normAt)
open scoped BigOperators
open Idealize.ShloMosaic.Routing

section
variable {F : FTy → Type} [FloatOps F]
variable (m : (ℓ : Loc nD τ sig) → Buf (Elt F) ℓ) (c : Dev nD)

theorem lt_N (t : Fin cfg0.N) : t.val < 32 := lt_of_lt_of_eq t.isLt N_0

/-- Point `t` reads row tile `t`, and the weight from row `6144` on. -/
theorem idx_in : ∀ t : Fin cfg0.N, (win0_0.index t 0 = t.val ∧ win0_0.index t 1 = 0) ∧ (win0_1.index t 0 = 0 ∧ win0_1.index t 1 = 0)
    ∧ (win0_2.index t 0 = 0 ∧ win0_2.index t 1 = 6144 ∧ win0_2.index t 2 = 0) ∧ (win0_3.index t 0 = 0 ∧ win0_3.index t 1 = 0) :=
  (by decide +kernel : ∀ t : Fin grid0.N, _)

/-- Point `t` writes row tile `t`, and column tile `t` of the transposed steps. -/
theorem idx_out : ∀ t : Fin cfg0.N, (win0_4.index t 0 = t.val ∧ win0_4.index t 1 = 0) ∧ (win0_5.index t 0 = t.val ∧ win0_5.index t 1 = 0)
    ∧ (win0_6.index t 0 = 0 ∧ win0_6.index t 1 = t.val) :=
  (by decide +kernel : ∀ t : Fin grid0.N, _)

/-- The row of the whole arrays that row `a` of tile `t` is. -/
abbrev row (t : Fin cfg0.N) (a : Fin 512) : Fin 16384 := ⟨512 * t.val + a.val, by have := lt_N t; omega⟩

/-- Row `r` is row `a` of some tile `t`. -/
theorem tile_of (r : Fin 16384) : ∃ (t : Fin cfg0.N) (a : Fin 512), row t a = r := by
  have hN : r.val / 512 < cfg0.N := lt_of_lt_of_eq (show r.val / 512 < 32 by omega) N_0.symm
  exact ⟨⟨_, hN⟩, ⟨r.val % 512, Nat.mod_lt _ (by decide)⟩, Fin.ext (by show 512 * (r.val / 512) + r.val % 512 = r.val; omega)⟩

theorem V_wt : V m c main_v0 = transpose S1x11296x2048 [0, 2, 1] (m ((c : Thread nD τ).loc main_arg2)) transposes_S1x2048x11296_S1x11296x2048_0_2_1 := by
  show StableHlo.after hostOps0 (fun b => m (c, b)) (Proc.devRef .tc main_v0) = _
  after_results <;> rfl

theorem V_rows : V m c main_v7 = shapeCast S16384x2048 (m ((c : Thread nD τ).loc main_arg0)) shapeCasts_S1x16384x2048_S16384x2048 := by
  show StableHlo.after hostOps0 (fun b => m (c, b)) (Proc.devRef .tc main_v7) = _
  after_results <;> rfl

theorem V_norm : V m c main_v9 = shapeCast S1x2048 (shapeCast S2048 (m ((c : Thread nD τ).loc main_arg1)) shapeCasts_S1x2048_S2048) shapeCasts_S2048_S1x2048 := by
  show StableHlo.after hostOps0 (fun b => m (c, b)) (Proc.devRef .tc main_v9) = _
  after_results <;> rfl

/-- The two start indices of the bias's row: both zero. -/
def start : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

theorem V_bias : V m c main_v6 = Host.scatter scatter_S1x128_S2_S32_0_0_01_0 (fun _ b => b) (broadcastInDim S1x128 ![] bcast_S_S1x128 (constant S_ .f32 0x00000000#32))
    start (shapeCast S32 (m ((c : Thread nD τ).loc main_arg3)) shapeCasts_S1x32_S32) := by
  show StableHlo.after hostOps0 (fun b => m (c, b)) (Proc.devRef .tc main_v6) = _
  after_results <;> rfl

theorem start_zero (q : Fin 2) : start (ix1 q) = 0#32 := by
  unfold start
  match q with
  | ⟨0, _⟩ => rfl
  | ⟨1, _⟩ => rfl

/-- Where entry `k` of the bias is stored. -/
theorem lands (k : Fin 32) (e : Fin 128) : scatter_S1x128_S2_S32_0_0_01_0.resultIdx? (ix1 k) start = some (ix2 (0 : Fin 1) e) ↔ k.val = e.val := by
  have hk : scatter_S1x128_S2_S32_0_0_01_0.sKept = [1] := rfl
  have w0 : scatter_S1x128_S2_S32_0_0_01_0.window (ix1 k) 0 = 0 := by
    unfold ScatterDims.window
    rw [dif_neg (by rw [hk]; decide)]
  have w1 : scatter_S1x128_S2_S32_0_0_01_0.window (ix1 k) 1 = k.val := by
    unfold ScatterDims.window
    rw [dif_pos (by rw [hk]; decide)]
    exact congrArg (fun t => ((ix1 k : (shape1 32).Idx) t).val) (Subsingleton.elim (α := Fin 1) _ 0)
  have z : ∀ q : Fin 2, (start (ix1 q)).toInt = 0 := fun q => by rw [start_zero]; decide
  have s : ∀ q : Fin 2, scatter_S1x128_S2_S32_0_0_01_0.start (ix1 k) start q = 0 := fun q => (start_pair (R := 1) (C := 128) _ rfl rfl start (ix1 k) q).trans (z q)
  refine (resultIdx?_ix2 (R := 1) (C := 128) scatter_S1x128_S2_S32_0_0_01_0 (ix1 k) start 0 e).trans ?_
  rw [s 0, s 1, w0, w1]
  simp only [Fin.val_zero]
  omega

/-- The padded bias at one of its first 32 entries. -/
theorem bias_pad {α : Type} (z : S1x128.Idx → α) (b : S32.Idx → α) (q : Fin 32) :
    Host.scatter scatter_S1x128_S2_S32_0_0_01_0 (fun _ b => b) z start b (ix2 (0 : Fin 1) (⟨q.val, by omega⟩ : Fin 128)) = b (ix1 q) :=
  scatter_set_hit _ z start b _ _ (fun k hk => by
    rw [eq_ix1 (n0 := 32) k] at hk ⊢
    exact congrArg (fun e => b (ix1 e)) (Fin.ext ((lands _ _).1 hk))) (ix1 q) ((lands q _).2 rfl)

theorem rows_cast (x : Vec F S1x16384x2048 .f32) (r : Fin 16384) (k : Fin 2048) :
    shapeCast S16384x2048 x shapeCasts_S1x16384x2048_S16384x2048 (ix2 r k) = x (ix3 0 r k) := by
  pointwise

theorem rows_at (t : Fin cfg0.N) (a : Fin 512) (k : Fin 2048) :
    iblk m c 0 t (ix2 a k) = m ((c : Thread nD τ).loc main_arg0) (ix3 0 (row t a) k) := by
  unfold iblk
  rw [View.read_apply]
  show V m c main_v7 _ = _
  rw [V_rows]
  obtain ⟨⟨e0, e1⟩, -⟩ := idx_in t
  rw [show ((cfg0.win 0).blk t).view.emb (ix2 a k) = ix2 (row t a) k from ?_]
  · exact rows_cast _ (row t a) k
  funext d
  apply Fin.ext
  match d with
  | ⟨0, _⟩ => show win0_0.index t 0 * 512 + 1 * a.val = 512 * t.val + a.val; rw [e0]; omega
  | ⟨1, _⟩ => show win0_0.index t 1 * 2048 + 1 * k.val = k.val; rw [e1]; omega

theorem norm_at (t : Fin cfg0.N) (k : Fin 2048) : iblk m c 1 t (ix2 0 k) = m ((c : Thread nD τ).loc main_arg1) (ix2 0 k) := by
  unfold iblk
  rw [View.read_apply]
  show V m c main_v9 _ = _
  rw [V_norm]
  obtain ⟨-, ⟨e0, e1⟩, -⟩ := idx_in t
  rw [show ((cfg0.win 1).blk t).view.emb (ix2 0 k) = ix2 (0 : Fin 1) k from ?_]
  · pointwise
  funext d
  apply Fin.ext
  match d with
  | ⟨0, _⟩ => show win0_1.index t 0 * 1 + 1 * 0 = 0; rw [e0]
  | ⟨1, _⟩ => show win0_1.index t 1 * 2048 + 1 * k.val = k.val; rw [e1]; omega

theorem wt_at (t : Fin cfg0.N) (b : Fin 128) (k : Fin 2048) :
    iblk m c 2 t (ix3 0 b k) = m ((c : Thread nD τ).loc main_arg2) (ix3 0 k (⟨6144 + b.val, by omega⟩ : Fin 11296)) := by
  unfold iblk
  rw [View.read_apply]
  show V m c main_v0 _ = _
  rw [V_wt]
  obtain ⟨-, -, ⟨e0, e1, e2⟩, -⟩ := idx_in t
  rw [show ((cfg0.win 2).blk t).view.emb (ix3 0 b k) = ix3 (0 : Fin 1) (⟨6144 + b.val, by omega⟩ : Fin 11296) k from ?_]
  · pointwise
  funext d
  apply Fin.ext
  match d with
  | ⟨0, _⟩ => show win0_2.index t 0 + 1 * 0 = 0; rw [e0]
  | ⟨1, _⟩ => show win0_2.index t 1 + 1 * b.val = 6144 + b.val; rw [e1]; omega
  | ⟨2, _⟩ => show win0_2.index t 2 + 1 * k.val = k.val; rw [e2]; omega

/-- The bias a point reads, at one of the 32 heads. -/
theorem bias_at (t : Fin cfg0.N) (q : Fin 32) :
    iblk m c 3 t (ix2 0 (⟨q.val, by omega⟩ : Fin 128)) = m ((c : Thread nD τ).loc main_arg3) (ix2 0 q) := by
  unfold iblk
  rw [View.read_apply]
  show V m c main_v6 _ = _
  rw [V_bias]
  obtain ⟨-, -, -, ⟨e0, e1⟩⟩ := idx_in t
  rw [show ((cfg0.win 3).blk t).view.emb (ix2 0 (⟨q.val, by omega⟩ : Fin 128)) = ix2 (0 : Fin 1) (⟨q.val, by omega⟩ : Fin 128) from ?_]
  · refine (bias_pad _ _ q).trans ?_
    pointwise
  funext d
  apply Fin.ext
  match d with
  | ⟨0, _⟩ => show win0_3.index t 0 * 1 + 1 * 0 = 0; rw [e0]
  | ⟨1, _⟩ => show win0_3.index t 1 * 128 + 1 * q.val = q.val; rw [e1]; omega

/-- Every point reads the same weight rows. -/
theorem wt_same (t t' : Fin cfg0.N) : iblk m c 2 t = iblk m c 2 t' := by
  funext y
  obtain ⟨i0, i1, i2, rfl⟩ : ∃ (i0 : Fin 1) (i1 : Fin 128) (i2 : Fin 2048), y = ix3 i0 i1 i2 := ⟨y 0, y 1, y 2, eq_ix3 y⟩
  obtain rfl : i0 = 0 := Subsingleton.elim _ _
  rw [wt_at, wt_at]

/-- The resident weight block after each point. -/
theorem resident (n : ℕ) (hn : n < cfg0.N) : (outsAt0 m c n hn).2.2.2 = k0_pay2 (iblk m c 2 ⟨n, hn⟩) := by
  have first : ∀ t : Fin cfg0.N, t.val % 32 = 0 → (outsAt0 m c t.val t.isLt).2.2.2 = k0_pay2 (iblk m c 2 t) := by
    intro t h
    have e := weight_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) ((hcond0_0 t).mpr h)
    rw [outsAt0_A m c t h]
    dsimp only
    exact e
  induction n with
  | zero => exact first ⟨0, hn⟩ (Nat.zero_mod _)
  | succ n ih =>
    by_cases h : (n + 1) % 32 = 0
    · exact first ⟨n + 1, hn⟩ h
    · rw [outsAt0_B m c ⟨n + 1, hn⟩ h]
      dsimp only
      refine (ih (Nat.lt_of_succ_lt hn)).trans ?_
      exact congrArg k0_pay2 (wt_same m c _ _)

/-- The normalised rows of each point. -/
theorem point_norm (t : Fin cfg0.N) : (outsAt0 m c t.val t.isLt).1 = k0_pay3 (iblk m c 0 t) (iblk m c 1 t) := by
  by_cases h : t.val % 32 = 0
  · have e := norm_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) ((hcond0_0 t).mpr h)
    rw [outsAt0_A m c t h]
    dsimp only
    exact e
  · have e := norm_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (outsAt0 m c (t.val - 1) (Nat.lt_of_le_of_lt (Nat.sub_le _ _) t.isLt)).2.2.2 (fun h' => h ((hcond0_0 t).mp h'))
    rw [outsAt0_B m c t h]
    dsimp only
    exact e

/-- The time steps of each point. -/
theorem point_steps (t : Fin cfg0.N) : (outsAt0 m c t.val t.isLt).2.1 = k0_pay4 (iblk m c 0 t) (iblk m c 1 t) (k0_pay2 (iblk m c 2 t)) (iblk m c 3 t) := by
  by_cases h : t.val % 32 = 0
  · have e := steps_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) ((hcond0_0 t).mpr h)
    rw [outsAt0_A m c t h]
    dsimp only
    exact e
  · have e := steps_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (outsAt0 m c (t.val - 1) (Nat.lt_of_le_of_lt (Nat.sub_le _ _) t.isLt)).2.2.2 (fun h' => h ((hcond0_0 t).mp h'))
    rw [outsAt0_B m c t h]
    dsimp only
    refine e.trans ?_
    rw [resident, wt_same m c ⟨t.val - 1, _⟩ t]

/-- The transposed time steps of each point. -/
theorem point_stepsT (t : Fin cfg0.N) : (outsAt0 m c t.val t.isLt).2.2.1 = k0_pay1 (k0_pay4 (iblk m c 0 t) (iblk m c 1 t) (k0_pay2 (iblk m c 2 t)) (iblk m c 3 t)) := by
  by_cases h : t.val % 32 = 0
  · have e := stepsT_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) ((hcond0_0 t).mpr h)
    rw [outsAt0_A m c t h]
    dsimp only
    exact e
  · have e := stepsT_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (outsAt0 m c (t.val - 1) (Nat.lt_of_le_of_lt (Nat.sub_le _ _) t.isLt)).2.2.2 (fun h' => h ((hcond0_0 t).mp h'))
    rw [outsAt0_B m c t h]
    dsimp only
    refine e.trans ?_
    rw [resident, wt_same m c ⟨t.val - 1, _⟩ t]

theorem apart4 (t t' : Fin cfg0.N) (h : t ≠ t') : Disjoint ((cfg0.win 4).blk t).view.set ((cfg0.win 4).blk t').view.set :=
  (cfg0.win 4).disjoint_blk fun e => h (Fin.ext (by
    have := congrFun e (0 : Fin 2)
    rw [← (idx_out t).1.1, ← (idx_out t').1.1]
    exact this))

theorem apart5 (t t' : Fin cfg0.N) (h : t ≠ t') : Disjoint ((cfg0.win 5).blk t).view.set ((cfg0.win 5).blk t').view.set :=
  (cfg0.win 5).disjoint_blk fun e => h (Fin.ext (by
    have := congrFun e (0 : Fin 2)
    rw [← (idx_out t).2.1.1, ← (idx_out t').2.1.1]
    exact this))

theorem apart6 (t t' : Fin cfg0.N) (h : t ≠ t') : Disjoint ((cfg0.win 6).blk t).view.set ((cfg0.win 6).blk t').view.set :=
  (cfg0.win 6).disjoint_blk fun e => h (Fin.ext (by
    have := congrFun e (1 : Fin 2)
    rw [← (idx_out t).2.2.2, ← (idx_out t').2.2.2]
    exact this))
end

/-- One entry of the normalised rows, from the arguments. -/
def hAt (x : Vec Ideal S1x16384x2048 .f32) (nw : Vec Ideal S1x2048 .f32) (r : Fin 16384) (k : Fin 2048) : EReal :=
  normAt (fun k => x (ix3 0 r k)) (fun k => nw (ix2 0 k)) k

/-- One time step, from the arguments. -/
def dtAt (x : Vec Ideal S1x16384x2048 .f32) (nw : Vec Ideal S1x2048 .f32) (w : Vec Ideal S1x2048x11296 .f32) (b : Vec Ideal S1x32 .f32) (r : Fin 16384) (q : Fin 32) : EReal :=
  soft ((∑ k : Fin 2048, hAt x nw r k * (w (ix3 0 k (⟨6144 + q.val, by omega⟩ : Fin 11296)) : EReal)) + (b (ix2 0 q) : EReal))

section
variable (m : (ℓ : Loc nD τ sig) → Buf (Elt Ideal) ℓ) (c : Dev nD)

/-- The time step that point `t` computes. -/
theorem block_steps (t : Fin cfg0.N) (a : Fin 512) (q : Fin 32) :
    k0_pay4 (iblk m c 0 t) (iblk m c 1 t) (k0_pay2 (iblk m c 2 t)) (iblk m c 3 t) (ix2 a (⟨q.val, by omega⟩ : Fin 128))
      = dtAt (m ((c : Thread nD τ).loc main_arg0)) (m ((c : Thread nD τ).loc main_arg1)) (m ((c : Thread nD τ).loc main_arg2)) (m ((c : Thread nD τ).loc main_arg3)) (row t a) q := by
  refine (steps_block (iblk m c 0 t) (iblk m c 1 t) (k0_pay2 (iblk m c 2 t)) (iblk m c 3 t) a ⟨q.val, by omega⟩).trans ?_
  unfold dtAt hAt
  simp only [weight_block, rows_at, norm_at, wt_at, bias_at]

/-- The normalised rows the kernel leaves. -/
theorem result_norm (r : Fin 16384) (k : Fin 2048) :
    (dats m 0 c).arrAt 4 cfg0.N (ix2 r k) = hAt (m ((c : Thread nD τ).loc main_arg0)) (m ((c : Thread nD τ).loc main_arg1)) r k := by
  obtain ⟨t, a, rfl⟩ := tile_of r
  have e := (dats m 0 c).arrAt_emb_eq_flushed 4 (fun t t' _ _ h => apart4 t t' h) t (flush0_4 t) (ix2 a k)
  rw [show ((cfg0.win 4).blk t).view.emb (ix2 a k) = ix2 (row t a) k from by
    funext d
    apply Fin.ext
    obtain ⟨⟨e0, e1⟩, -⟩ := idx_out t
    match d with
    | ⟨0, _⟩ => show win0_4.index t 0 * 512 + 1 * a.val = 512 * t.val + a.val; rw [e0]; omega
    | ⟨1, _⟩ => show win0_4.index t 1 * 2048 + 1 * k.val = k.val; rw [e1]; omega] at e
  refine e.trans (Eq.trans (show _ = (dats m 0 c).after 4 t (ix2 a k) from rfl) ?_)
  rw [after0_4, point_norm]
  refine (norm_block (iblk m c 0 t) (iblk m c 1 t) a k).trans ?_
  unfold hAt
  simp only [rows_at, norm_at]

/-- The time steps the kernel leaves, at the 32 heads. -/
theorem result_steps (r : Fin 16384) (q : Fin 32) : (dats m 0 c).arrAt 5 cfg0.N (ix2 r (⟨q.val, by omega⟩ : Fin 128))
    = dtAt (m ((c : Thread nD τ).loc main_arg0)) (m ((c : Thread nD τ).loc main_arg1)) (m ((c : Thread nD τ).loc main_arg2)) (m ((c : Thread nD τ).loc main_arg3)) r q := by
  obtain ⟨t, a, rfl⟩ := tile_of r
  have e := (dats m 0 c).arrAt_emb_eq_flushed 5 (fun t t' _ _ h => apart5 t t' h) t (flush0_5 t) (ix2 a (⟨q.val, by omega⟩ : Fin 128))
  rw [show ((cfg0.win 5).blk t).view.emb (ix2 a (⟨q.val, by omega⟩ : Fin 128)) = ix2 (row t a) (⟨q.val, by omega⟩ : Fin 128) from by
    funext d
    apply Fin.ext
    obtain ⟨-, ⟨e0, e1⟩, -⟩ := idx_out t
    match d with
    | ⟨0, _⟩ => show win0_5.index t 0 * 512 + 1 * a.val = 512 * t.val + a.val; rw [e0]; omega
    | ⟨1, _⟩ => show win0_5.index t 1 * 128 + 1 * q.val = q.val; rw [e1]; omega] at e
  refine e.trans (Eq.trans (show _ = (dats m 0 c).after 5 t (ix2 a (⟨q.val, by omega⟩ : Fin 128)) from rfl) ?_)
  rw [after0_5, point_steps]
  exact block_steps m c t a q

/-- The transposed time steps the kernel leaves, at the 32 heads. -/
theorem result_stepsT (q : Fin 32) (r : Fin 16384) : (dats m 0 c).arrAt 6 cfg0.N (ix2 (⟨q.val, by omega⟩ : Fin 128) r)
    = dtAt (m ((c : Thread nD τ).loc main_arg0)) (m ((c : Thread nD τ).loc main_arg1)) (m ((c : Thread nD τ).loc main_arg2)) (m ((c : Thread nD τ).loc main_arg3)) r q := by
  obtain ⟨t, a, rfl⟩ := tile_of r
  have e := (dats m 0 c).arrAt_emb_eq_flushed 6 (fun t t' _ _ h => apart6 t t' h) t (flush0_6 t) (ix2 (⟨q.val, by omega⟩ : Fin 128) a)
  rw [show ((cfg0.win 6).blk t).view.emb (ix2 (⟨q.val, by omega⟩ : Fin 128) a) = ix2 (⟨q.val, by omega⟩ : Fin 128) (row t a) from by
    funext d
    apply Fin.ext
    obtain ⟨-, -, ⟨e0, e1⟩⟩ := idx_out t
    match d with
    | ⟨0, _⟩ => show win0_6.index t 0 * 128 + 1 * q.val = q.val; rw [e0]; omega
    | ⟨1, _⟩ => show win0_6.index t 1 * 512 + 1 * a.val = 512 * t.val + a.val; rw [e1]; omega] at e
  refine e.trans (Eq.trans (show _ = (dats m 0 c).after 6 t (ix2 (⟨q.val, by omega⟩ : Fin 128) a) from rfl) ?_)
  rw [after0_6, point_stepsT]
  exact (turned_block _ _ a).trans (block_steps m c t a q)
end
end Cert.DtIdeal.Own
-- ==== Proof.DtValue.lean ====
/- The layer's first norm and its time steps: the kernel's run, the reference's text entry by entry, and the equality of
   the three results. -/
module

public import proofs.«01_k».proof.Proof.DtBlocks
public import proofs.«01_k».proof.Defs
public import Idealize.ShloMosaic.Adequacy
public import Idealize.ShloMosaic.Init
public import proofs.«01_k».proof.Proof.Gen.DtRefIdeal.Run

@[expose] public section

set_option maxRecDepth 100000

noncomputable section

namespace Cert.DtIdeal.Own
open Cert.DtIdeal Cert.DtIdeal.Gen Idealize.ShloMosaic Idealize.ShloMosaic.TcCoe
open Cert.GatedIdeal.Own (normAt)
open scoped BigOperators

section
variable {F : FTy → Type} [FloatOps F]
variable (m : (ℓ : Loc nD τ sig) → Buf (Elt F) ℓ) (c : Dev nD)

/-- The arrays as the host's last operations find them. -/
abbrev left : Valuation τ sig (Elt F) := Pipeline.withArrays (cfgs 0).spec c (V0 m c) fun w => (dats m 0 c).arrAt w (cfgs 0).N

theorem left_steps : left m c (Proc.devRef .tc main_v10_1) = (dats m 0 c).arrAt 5 cfg0.N :=
  Pipeline.withArrays_arr (cfgs 0).spec (by decide) c (V0 m c) (fun w => (dats m 0 c).arrAt w (cfgs 0).N) 5

theorem left_stepsT : left m c (Proc.devRef .tc main_v10_2) = (dats m 0 c).arrAt 6 cfg0.N :=
  Pipeline.withArrays_arr (cfgs 0).spec (by decide) c (V0 m c) (fun w => (dats m 0 c).arrAt w (cfgs 0).N) 6

theorem tail_steps : Pipeline.afterTail₀ cfgs (dats m) 0 (V0 m) [hostOps1] c main_v11
    = extractStridedSlice S16384x32 ![0, 0] ((dats m 0 c).arrAt 5 cfg0.N) slices_S16384x128_S16384x32_0_0 := by
  rw [← left_steps]
  show StableHlo.after hostOps1 (left m c) (Proc.devRef .tc main_v11) = _
  generalize left m c = V
  after_results <;> rfl

theorem tail_stepsT : Pipeline.afterTail₀ cfgs (dats m) 0 (V0 m) [hostOps1] c main_v12
    = extractStridedSlice S32x16384 ![0, 0] ((dats m 0 c).arrAt 6 cfg0.N) slices_S128x16384_S32x16384_0_0 := by
  rw [← left_stepsT]
  show StableHlo.after hostOps1 (left m c) (Proc.devRef .tc main_v12) = _
  generalize left m c = V
  after_results <;> rfl

variable (ρ : Dev nD → PrngReg)
open Idealize.SL.Sem in
/-- The kernel's run: the results hold what the points wrote, at the 32 heads, and the arguments are as launched. -/
theorem run : θ_run defs (onTc (τ := τ) (main (F := F))) ⟨m, fun _ => 0, ρ⟩ fun r => ∀ c : Dev nD,
      r.2.mem ((c : Thread nD τ).loc main_v10_0) = (dats m 0 c).arrAt 4 cfg0.N
      ∧ r.2.mem ((c : Thread nD τ).loc main_v11) = extractStridedSlice S16384x32 ![0, 0] ((dats m 0 c).arrAt 5 cfg0.N) slices_S16384x128_S16384x32_0_0
      ∧ r.2.mem ((c : Thread nD τ).loc main_v12) = extractStridedSlice S32x16384 ![0, 0] ((dats m 0 c).arrAt 6 cfg0.N) slices_S128x16384_S32x16384_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4,
      ((h.1 c).2 main_v11 (Pipeline.mem_restRefs_of main_v11 (by decide) (by decide))).trans (tail_steps m c),
      ((h.1 c).2 main_v12 (Pipeline.mem_restRefs_of main_v12 (by decide) (by decide))).trans (tail_stepsT m c), h.2 c⟩)
    (θ_run_and (run_main m ρ) (unchanged m ρ))
end

/-- The reference's normalised rows, as its run leaves them. -/
def refNorm (x : FVec Ideal DtRefIdeal.S1x16384x2048 .f32) (nw : FVec Ideal DtRefIdeal.S1x2048 .f32) : FVec Ideal DtRefIdeal.S1x16384x2048 .f32 :=
  mulf (mulf x (broadcastInDim DtRefIdeal.S1x16384x2048 ![0, 1, 2] DtRefIdeal.Gen.bcast_S1x16384x1_S1x16384x2048_0_1_2 (Host.rsqrt (addf (Host.divf (broadcastInDim DtRefIdeal.S1x16384x1 ![0, 1] DtRefIdeal.Gen.bcast_S1x16384_S1x16384x1_0_1 (Host.reduceAdd (mulf x x) (constant DtRefIdeal.S_ .f32 0x00000000#32) DtRefIdeal.Gen.reducesTo_S1x16384x2048_S1x16384_d2 DtRefIdeal.Gen.h_S_)) (broadcastInDim DtRefIdeal.S1x16384x1 ![] DtRefIdeal.Gen.bcast_S_S1x16384x1 (constant DtRefIdeal.S_ .f32 0x45000000#32))) (broadcastInDim DtRefIdeal.S1x16384x1 ![] DtRefIdeal.Gen.bcast_S_S1x16384x1 (constant DtRefIdeal.S_ .f32 0x358637BD#32)))))) (broadcastInDim DtRefIdeal.S1x16384x2048 ![0, 1, 2] DtRefIdeal.Gen.bcast_S1x1x2048_S1x16384x2048_0_1_2 (broadcastInDim DtRefIdeal.S1x1x2048 ![2] DtRefIdeal.Gen.bcast_S2048_S1x1x2048_2 (shapeCast DtRefIdeal.S2048 nw DtRefIdeal.Gen.shapeCasts_S1x2048_S2048)))

theorem ref_norm (x : FVec Ideal DtRefIdeal.S1x16384x2048 .f32) (nw : FVec Ideal DtRefIdeal.S1x2048 .f32) (r : Fin 16384) (k : Fin 2048) :
    refNorm x nw (ix3 0 r k) = hAt x nw r k := by
  unfold refNorm hAt normAt
  pointwise

theorem ref_norm_cast (h : FVec Ideal DtRefIdeal.S1x16384x2048 .f32) (r : Fin 16384) (k : Fin 2048) :
    truncf .bf16 (shapeCast DtRefIdeal.S16384x2048 h DtRefIdeal.Gen.shapeCasts_S1x16384x2048_S16384x2048) DtRefIdeal.Gen.bitsLt_bf16_f32 (ix2 r k) = h (ix3 0 r k) := by
  pointwise

/-- The reference's steps before the softplus, of any rows. -/
def refPre (h : FVec Ideal DtRefIdeal.S1x16384x2048 .f32) (w : FVec Ideal DtRefIdeal.S1x2048x11296 .f32) (b : FVec Ideal DtRefIdeal.S1x32 .f32) : FVec Ideal DtRefIdeal.S1x16384x32 .f32 :=
  addf (extractStridedSlice DtRefIdeal.S1x16384x32 ![0, 0, 6144] (Host.dotGeneral DtRefIdeal.dot_S1x16384x2048_S2048x11296_S1x16384x11296_2_0_01_1_n_n none h (shapeCast DtRefIdeal.S2048x11296 w DtRefIdeal.Gen.shapeCasts_S1x2048x11296_S2048x11296)) DtRefIdeal.Gen.slices_S1x16384x11296_S1x16384x32_0_0_6144) (broadcastInDim DtRefIdeal.S1x16384x32 ![0, 1, 2] DtRefIdeal.Gen.bcast_S1x1x32_S1x16384x32_0_1_2 (broadcastInDim DtRefIdeal.S1x1x32 ![2] DtRefIdeal.Gen.bcast_S32_S1x1x32_2 (shapeCast DtRefIdeal.S32 b DtRefIdeal.Gen.shapeCasts_S1x32_S32)))

theorem ref_pre (h : FVec Ideal DtRefIdeal.S1x16384x2048 .f32) (w : FVec Ideal DtRefIdeal.S1x2048x11296 .f32) (b : FVec Ideal DtRefIdeal.S1x32 .f32) (r : Fin 16384) (q : Fin 32) :
    refPre h w b (ix3 0 r q) = (∑ k : Fin 2048, h (ix3 0 r k) * w (ix3 0 k (⟨6144 + q.val, by omega⟩ : Fin 11296))) + b (ix2 0 q) := by
  unfold refPre
  pointwise

/-- The reference's softplus, of any steps. -/
def refSoft (P : FVec Ideal DtRefIdeal.S1x16384x32 .f32) : FVec Ideal DtRefIdeal.S16384x32 .f32 :=
  shapeCast DtRefIdeal.S16384x32 (select (cmpf .une (subf P (broadcastInDim DtRefIdeal.S1x16384x32 ![] DtRefIdeal.Gen.bcast_S_S1x16384x32 (constant DtRefIdeal.S_ .f32 0x00000000#32))) (subf P (broadcastInDim DtRefIdeal.S1x16384x32 ![] DtRefIdeal.Gen.bcast_S_S1x16384x32 (constant DtRefIdeal.S_ .f32 0x00000000#32)))) (addf P (broadcastInDim DtRefIdeal.S1x16384x32 ![] DtRefIdeal.Gen.bcast_S_S1x16384x32 (constant DtRefIdeal.S_ .f32 0x00000000#32))) (addf (maximumf P (broadcastInDim DtRefIdeal.S1x16384x32 ![] DtRefIdeal.Gen.bcast_S_S1x16384x32 (constant DtRefIdeal.S_ .f32 0x00000000#32))) (Host.log1p (Host.exp (Host.negf (Host.absf (subf P (broadcastInDim DtRefIdeal.S1x16384x32 ![] DtRefIdeal.Gen.bcast_S_S1x16384x32 (constant DtRefIdeal.S_ .f32 0x00000000#32))))))))) DtRefIdeal.Gen.shapeCasts_S1x16384x32_S16384x32

theorem ref_soft (P : FVec Ideal DtRefIdeal.S1x16384x32 .f32) (r : Fin 16384) (q : Fin 32) : refSoft P (ix2 r q) = soft (P (ix3 0 r q)) := by
  unfold refSoft soft
  pointwise
  rw [if_neg fun h => h rfl]
  rfl

/-- The reference's time steps at one entry. -/
theorem ref_steps (x : FVec Ideal DtRefIdeal.S1x16384x2048 .f32) (nw : FVec Ideal DtRefIdeal.S1x2048 .f32) (w : FVec Ideal DtRefIdeal.S1x2048x11296 .f32) (b : FVec Ideal DtRefIdeal.S1x32 .f32)
    (r : Fin 16384) (q : Fin 32) : refSoft (refPre (refNorm x nw) w b) (ix2 r q) = dtAt x nw w b r q := by
  rw [ref_soft, ref_pre]
  unfold dtAt
  simp only [ref_norm]

theorem ref_turned (v : FVec Ideal DtRefIdeal.S16384x32 .f32) (q : Fin 32) (r : Fin 16384) :
    transpose DtRefIdeal.S32x16384 [1, 0] v DtRefIdeal.Gen.transposes_S16384x32_S32x16384_1_0 (ix2 q r) = v (ix2 r q) := by
  pointwise

theorem cut_steps (v : FVec Ideal S16384x128 .f32) (r : Fin 16384) (q : Fin 32) :
    extractStridedSlice S16384x32 ![0, 0] v slices_S16384x128_S16384x32_0_0 (ix2 r q) = v (ix2 r (⟨q.val, by omega⟩ : Fin 128)) := by
  pointwise

theorem cut_stepsT (v : FVec Ideal S128x16384 .f32) (q : Fin 32) (r : Fin 16384) :
    extractStridedSlice S32x16384 ![0, 0] v slices_S128x16384_S32x16384_0_0 (ix2 q r) = v (ix2 (⟨q.val, by omega⟩ : Fin 128) r) := by
  pointwise

open Idealize.SL.Sem in
/-- The kernel's three results are the reference's. -/
theorem algebraic : Cert.algebraic_DtIdeal_DtRefIdeal := by
  intro m ρ m' ρ' _ hagree
  refine ⟨_, _, _, run (F := Ideal) m ρ, ?_⟩
  refine (θ_run Cert.DtRefIdeal.defs _ _).mono (fun _ h c => ⟨?_, ?_, ?_, (h c).2.2.2⟩) (Cert.DtRefIdeal.Value.run (F := Ideal) m' ρ')
  · rw [(h c).1]
    obtain ⟨e0, e1, -⟩ := hagree c
    rw [e0, e1]
    funext j
    rw [eq_ix2 (n0 := 16384) (n1 := 2048) j]
    exact (ref_norm_cast (refNorm _ _) (j 0) (j 1)).trans ((ref_norm _ _ (j 0) (j 1)).trans (result_norm m c (j 0) (j 1)).symm)
  · refine (h c).2.1.trans ?_
    obtain ⟨e0, e1, e2, e3⟩ := hagree c
    unfold Cert.DtRefIdeal.Value.res_main_v28
    rw [e0, e1, e2, e3]
    funext j
    rw [eq_ix2 (n0 := 16384) (n1 := 32) j]
    exact (ref_steps _ _ _ _ (j 0) (j 1)).trans ((cut_steps _ (j 0) (j 1)).trans (result_steps m c (j 0) (j 1))).symm
  · refine (h c).2.2.1.trans ?_
    obtain ⟨e0, e1, e2, e3⟩ := hagree c
    unfold Cert.DtRefIdeal.Value.res_main_v30
    rw [e0, e1, e2, e3]
    funext j
    rw [eq_ix2 (n0 := 32) (n1 := 16384) j]
    exact (ref_turned (refSoft (refPre (refNorm _ _) _ _)) (j 0) (j 1)).trans
      ((ref_steps _ _ _ _ (j 1) (j 0)).trans ((cut_stepsT _ (j 0) (j 1)).trans (result_stepsT m c (j 0) (j 1))).symm)
end Cert.DtIdeal.Own
-- ==== Proof.RouteOrder.lean ====
/- The first place of the greatest value of a row, the next one after it, and the two readings of them: the first two places
   of a stable descending sort. -/
module

public import proofs.«01_k».proof.Proof.GatedValue
public import Idealize.ShloMosaic.Lib.SortFacts
public import Idealize.ShloMosaic.Lib.ValueIdx
public import Idealize.ShloMosaic.Lib.SortNet.Extract

@[expose] public section

noncomputable section

namespace Cert.Route.Own
open Idealize.ShloMosaic

/-- The word that starts a greatest-value reduction is minus infinity. -/
theorem low_eq : Ideal.ofBits .f32 0xFF800000#32 = ⊥ := by
  simp [Ideal.ofBits, Ideal.ieee]

section
variable {n : Nat} (v : Fin n → EReal)

/-- `i` is the first place of the greatest value. -/
def First (i : Fin n) : Prop := (∀ j, v j ≤ v i) ∧ ∀ j, j < i → v j < v i

/-- `i` is the first place of the greatest value away from `a`. -/
def Next (a i : Fin n) : Prop := i ≠ a ∧ (∀ j, j ≠ a → v j ≤ v i) ∧ ∀ j, j ≠ a → j < i → v j < v i

/-- `a` comes before `b` in the descending order, equal values in the order of their places. -/
def Ahead (a b : Fin n) : Prop := v b < v a ∨ (v a = v b ∧ a < b)

variable {v}

theorem ahead_le {a b : Fin n} (h : Ahead v a b) : v b ≤ v a := h.elim le_of_lt fun e => e.1.symm.le

theorem ahead_trans {a b c : Fin n} (h : Ahead v a b) (k : Ahead v b c) : Ahead v a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

/-- Whether one place sorts strictly before another. -/
abbrev above (v : Fin n → EReal) (a b : Fin n) : Bool := decide (v b < v a)

theorem insert_ahead (a : Fin n) (l : List (Fin n)) (hl : l.Pairwise (Ahead v)) (ha : ∀ b ∈ l, a < b) :
    (insertBefore (above v) a l).Pairwise (Ahead v) := by
  induction l with
  | nil => exact List.pairwise_singleton _ _
  | cons b l ih =>
    rw [List.pairwise_cons] at hl
    unfold insertBefore
    split
    · rename_i hb
      refine List.pairwise_cons.mpr ⟨fun d hd => ?_, ih hl.2 fun d hd => ha d (List.mem_cons_of_mem _ hd)⟩
      rcases List.mem_cons.mp ((perm_insertBefore _ a l).mem_iff.mp hd) with rfl | hd
      · exact Or.inl (of_decide_eq_true hb)
      · exact hl.1 d hd
    · rename_i hb
      have hab : Ahead v a b := by
        rcases lt_or_eq_of_le (not_lt.mp fun h => hb (decide_eq_true h)) with h | h
        · exact Or.inl h
        · exact Or.inr ⟨h.symm, ha b List.mem_cons_self⟩
      refine List.pairwise_cons.mpr ⟨fun d hd => ?_, List.pairwise_cons.mpr hl⟩
      rcases List.mem_cons.mp hd with rfl | hd
      · exact hab
      · exact ahead_trans hab (hl.1 d hd)

theorem sort_ahead (l : List (Fin n)) (hl : l.Pairwise (· < ·)) : (stableSort (above v) l).Pairwise (Ahead v) := by
  induction l with
  | nil => exact List.Pairwise.nil
  | cons a l ih =>
    rw [List.pairwise_cons] at hl
    unfold stableSort
    exact insert_ahead a _ (ih hl.2) fun b hb => hl.1 b ((perm_stableSort _ l).mem_iff.mp hb)

theorem sorted_ahead (i j : Fin n) (h : i < j) : Ahead v (sortedFrom (above v) i) (sortedFrom (above v) j) :=
  List.pairwise_iff_get.mp (sort_ahead (v := v) (List.finRange n) (List.pairwise_lt_finRange n)) _ _ (show i.val < j.val from h)

/-- The sort puts the first greatest place first. -/
theorem sorted_first (h0 : 0 < n) : First v (sortedFrom (above v) ⟨0, h0⟩) := by
  have key : ∀ j, j = sortedFrom (above v) ⟨0, h0⟩ ∨ Ahead v (sortedFrom (above v) ⟨0, h0⟩) j := fun j => by
    obtain ⟨k, rfl⟩ := sortedFrom_surjective (above v) j
    rcases Nat.eq_zero_or_pos k.val with h | h
    · exact Or.inl (congrArg _ (Fin.ext h))
    · exact Or.inr (sorted_ahead _ _ h)
  refine ⟨fun j => ?_, fun j hj => ?_⟩
  · rcases key j with h | h
    · rw [h]
    · exact ahead_le h
  · rcases key j with h | h | h
    · exact absurd h hj.ne
    · exact h
    · exact absurd h.2 hj.asymm

/-- The sort puts the next greatest place second. -/
theorem sorted_next (h1 : 1 < n) : Next v (sortedFrom (above v) ⟨0, by omega⟩) (sortedFrom (above v) ⟨1, h1⟩) := by
  have key : ∀ j, j ≠ sortedFrom (above v) ⟨0, by omega⟩ → j = sortedFrom (above v) ⟨1, h1⟩ ∨ Ahead v (sortedFrom (above v) ⟨1, h1⟩) j :=
    fun j hj => by
      obtain ⟨k, rfl⟩ := sortedFrom_surjective (above v) j
      have hk : k.val ≠ 0 := fun h => hj (congrArg _ (Fin.ext h))
      rcases Nat.lt_or_ge 1 k.val with h | h
      · exact Or.inr (sorted_ahead _ _ h)
      · exact Or.inl (congrArg _ (Fin.ext (by show k.val = 1; omega)))
  refine ⟨fun h => ?_, fun j hj => ?_, fun j hj hl => ?_⟩
  · have := congrArg Fin.val (sortedFrom_injective _ h); simp at this
  · rcases key j hj with h | h
    · rw [h]
    · exact ahead_le h
  · rcases key j hj with h | h | h
    · exact absurd h hl.ne
    · exact h
    · exact absurd h.2 hl.asymm

theorem first_unique {i j : Fin n} (h : First v i) (k : First v j) : i = j := by
  rcases lt_trichotomy i j with e | e | e
  · exact absurd (h.1 j) (not_le.mpr (k.2 i e))
  · exact e
  · exact absurd (k.1 i) (not_le.mpr (h.2 j e))

theorem next_unique {a i j : Fin n} (h : Next v a i) (k : Next v a j) : i = j := by
  rcases lt_trichotomy i j with e | e | e
  · exact absurd (h.2.1 j k.1) (not_le.mpr (k.2.2 i h.1 e))
  · exact e
  · exact absurd (k.2.1 i h.1) (not_le.mpr (h.2.2 j k.1 e))
end

/-- The reference's comparison on a row. -/
theorem above_row {R n : Nat} (x : FVec Ideal ⟨2, ![R, n]⟩ .f32) (r : Fin R) (a b : Fin n) :
    (FloatOps.cmpfTotal .gt (x (ix2 r a)) (x (ix2 r b)) == 1#1) = above (fun k => (x (ix2 r k) : EReal)) a b := by
  show (BitVec.ofBool (decide ((x (ix2 r b) : EReal) < x (ix2 r a))) == 1#1) = decide ((x (ix2 r b) : EReal) < x (ix2 r a))
  cases decide ((x (ix2 r b) : EReal) < x (ix2 r a)) <;> rfl

theorem along_row {R n : Nat} (j : (⟨2, ![R, n]⟩ : Shape).Idx) (k : Fin n) : j.along 1 k = ix2 (n0 := R) (n1 := n) (j 0) k := by
  funext d
  match d with
  | ⟨0, _⟩ => rfl
  | ⟨1, _⟩ => rfl

/-- The greatest places of a row as the reference picks them: their values and their numbers. -/
theorem topK_row {R n k : Nat} (x : FVec Ideal ⟨2, ![R, n]⟩ .f32) (h : (⟨2, ![R, n]⟩ : Shape).Slices (fun _ => 0) ⟨2, ![R, k]⟩) (hk : k ≤ n) (r : Fin R) (q : Fin k) :
    (Host.topK ⟨2, ![R, k]⟩ 1 (FloatOps.cmpfTotal .gt) x h).1 (ix2 r q) = x (ix2 r (sortedFrom (above fun k => (x (ix2 r k) : EReal)) ⟨q.val, by omega⟩))
      ∧ (Host.topK ⟨2, ![R, k]⟩ 1 (FloatOps.cmpfTotal .gt) x h).2 (ix2 r q) = BitVec.ofNat 32 (sortedFrom (above fun k => (x (ix2 r k) : EReal)) ⟨q.val, by omega⟩).val := by
  have e : (fun k k' : Fin n => FloatOps.cmpfTotal .gt (x (ix2 r k)) (x (ix2 r k')) == 1#1) = above (fun k => (x (ix2 r k) : EReal)) :=
    funext fun a => funext fun b => above_row x r a b
  have step : ∀ j : (⟨2, ![R, n]⟩ : Shape).Idx, j = ix2 r (⟨q.val, by omega⟩ : Fin n) →
      j.along 1 (sortedFrom (fun k k' : Fin n => FloatOps.cmpfTotal .gt (x (j.along 1 k)) (x (j.along 1 k')) == 1#1) (j 1))
        = ix2 r (sortedFrom (above fun k => (x (ix2 r k) : EReal)) ⟨q.val, by omega⟩) := by
    rintro j rfl
    rw [← e]
    simp only [along_row]
    exact along_row _ _
  have hj : (fun a => ⟨0 + ((ix2 r q : (⟨2, ![R, k]⟩ : Shape).Idx) (a.cast h.1.symm)).val, Nat.lt_of_lt_of_le (Nat.add_lt_add_left ((ix2 r q : (⟨2, ![R, k]⟩ : Shape).Idx) _).isLt _) (h.2 a)⟩ : (⟨2, ![R, n]⟩ : Shape).Idx)
      = ix2 r (⟨q.val, by omega⟩ : Fin n) := by
    funext a
    apply Fin.ext
    match a with
    | ⟨0, _⟩ => exact Nat.zero_add _
    | ⟨1, _⟩ => exact Nat.zero_add _
  constructor
  · exact congrArg x (step _ hj)
  · exact (congrArg (fun j : (⟨2, ![R, n]⟩ : Shape).Idx => BitVec.ofNat 32 (j 1).val) (step _ hj))

/-- The greatest value is the value at its first place. -/
theorem fold_first {n : Nat} {v : Fin n → EReal} {i : Fin n} (h : First v i) : Finset.fold max ⊥ v Finset.univ = v i := by
  refine le_antisymm ((Finset.fold_max_le _).mpr ⟨bot_le, fun j _ => h.1 j⟩) ?_
  exact (Finset.le_fold_max _).mpr (Or.inr ⟨i, Finset.mem_univ i, le_rfl⟩)

/-- The least lane that holds the greatest value is its first place. -/
theorem fold_lane {v : Fin 128 → EReal} {i : Fin 128} (h : First v i) :
    Finset.fold IntOp.minsi 2147483647#32 (fun x : Fin 128 => if v x = v i then BitVec.ofNat 32 x.val else 128#32) Finset.univ = BitVec.ofNat 32 i.val := by
  have key : ∀ s : Finset (Fin 128), (Finset.fold IntOp.minsi 2147483647#32 (fun x : Fin 128 => if v x = v i then BitVec.ofNat 32 x.val else 128#32) s).toInt
      = Finset.fold min 2147483647 (fun x : Fin 128 => if v x = v i then (x.val : ℤ) else 128) s := fun s => by
    induction s using Finset.induction_on with
    | empty => rfl
    | insert a s ha ih =>
      rw [Finset.fold_insert ha, Finset.fold_insert ha, SortNet.toInt_minsi, ih]
      congr 1
      split
      · rw [BitVec.toInt_ofNat']; have := a.isLt; simp [Int.bmod]; omega
      · rfl
  apply BitVec.eq_of_toInt_eq
  rw [key, show (BitVec.ofNat 32 i.val).toInt = (i.val : ℤ) from by rw [BitVec.toInt_ofNat']; have := i.isLt; simp [Int.bmod]; omega]
  have hi := i.isLt
  refine le_antisymm ?_ ?_
  · exact (Finset.fold_min_le _).mpr (Or.inr ⟨i, Finset.mem_univ i, by rw [if_pos rfl]⟩)
  · refine (Finset.le_fold_min _).mpr ⟨by omega, fun x _ => ?_⟩
    split
    · rename_i hx
      have : ¬ x < i := fun hl => (h.2 x hl).ne hx
      have := Fin.not_lt.mp this
      exact_mod_cast this
    · omega

/-- A row of lanes that is a shorter row from lane `o` on, and minus infinity elsewhere. -/
def lanes {k : Nat} (o : Nat) (v : Fin k → EReal) (l : Fin 128) : EReal := if h : o ≤ l.val ∧ l.val < o + k then v ⟨l.val - o, by omega⟩ else ⊥

theorem lanes_at {k o : Nat} (v : Fin k → EReal) (i : Fin k) (h : o + i.val < 128) : lanes o v ⟨o + i.val, h⟩ = v i := by
  unfold lanes
  rw [dif_pos ⟨by show o ≤ o + i.val; omega, by show o + i.val < o + k; omega⟩]
  exact congrArg v (Fin.ext (by show o + i.val - o = i.val; omega))

/-- The first greatest lane is the first greatest place. -/
theorem first_lanes {k o : Nat} {v : Fin k → EReal} {i : Fin k} (h : First v i) (ho : o + i.val < 128) (hb : v i ≠ ⊥) : First (lanes o v) ⟨o + i.val, ho⟩ := by
  refine ⟨fun j => ?_, fun j hj => ?_⟩
  · rw [lanes_at]
    unfold lanes
    split
    · exact h.1 _
    · exact bot_le
  · rw [lanes_at]
    unfold lanes
    split
    · exact h.2 _ (show j.val - o < i.val from by have : j.val < o + i.val := hj; omega)
    · exact bot_lt_iff_ne_bot.mpr hb

/-- With the first greatest lane taken out, the first greatest lane is the next place. -/
theorem first_next {k o : Nat} {v : Fin k → EReal} {a i : Fin k} (h : Next v a i) (ho : ∀ j : Fin k, o + j.val < 128) (hb : v i ≠ ⊥) :
    First (fun l => if l = ⟨o + a.val, ho a⟩ then ⊥ else lanes o v l) ⟨o + i.val, ho i⟩ := by
  have hia : (⟨o + i.val, ho i⟩ : Fin 128) ≠ ⟨o + a.val, ho a⟩ := fun e => h.1 (Fin.ext (by have := congrArg Fin.val e; simp at this; omega))
  refine ⟨fun j => ?_, fun j hj => ?_⟩
  · simp only [if_neg hia, lanes_at]
    split
    · exact bot_le
    · rename_i hja
      unfold lanes
      split
      · rename_i hr
        exact h.2.1 _ fun e => hja (Fin.ext (by have := congrArg Fin.val e; simp at this; show j.val = o + a.val; omega))
      · exact bot_le
  · simp only [if_neg hia, lanes_at]
    split
    · exact bot_lt_iff_ne_bot.mpr hb
    · rename_i hja
      unfold lanes
      split
      · rename_i hr
        exact h.2.2 _ (fun e => hja (Fin.ext (by have := congrArg Fin.val e; simp at this; show j.val = o + a.val; omega)))
          (show j.val - o < i.val from by have : j.val < o + i.val := hj; omega)
      · exact bot_lt_iff_ne_bot.mpr hb
end Cert.Route.Own
-- ==== Proof.RouteBody.lean ====
/- The routing choice, one block of rows: the group, the two experts and their weights that the kernel's masked reductions
   over 128 lanes find, from the logits of the row. -/
module

public import proofs.«01_k».proof.Proof.RouteOrder
public import proofs.«01_k».proof.Proof.Gen.RouteIdeal.Frame

@[expose] public section

set_option maxRecDepth 100000

noncomputable section

namespace Cert.RouteIdeal.Own
open Cert.RouteIdeal Cert.RouteIdeal.Gen Cert.Route.Own Idealize.ShloMosaic Idealize.ShloMosaic.TcCoe
open scoped BigOperators

/-- The lanes of the groups. -/
theorem lane_group : ∀ x : Fin 128, IntOp.cmpi .slt (BitVec.ofNat 32 x.val) 4#32 = BitVec.ofBool (decide (0 ≤ x.val ∧ x.val < 0 + 4)) := by decide +kernel

/-- The lanes of a group's experts. -/
theorem lane_expert : ∀ (g : Fin 4) (x : Fin 128), IntOp.andi (IntOp.cmpi .sge (BitVec.ofNat 32 x.val) (IntOp.addi 8#32 (IntOp.muli (BitVec.ofNat 32 g.val) 8#32)))
    (IntOp.cmpi .slt (BitVec.ofNat 32 x.val) (IntOp.addi (IntOp.addi 8#32 (IntOp.muli (BitVec.ofNat 32 g.val) 8#32)) 8#32))
      = BitVec.ofBool (decide (8 + 8 * g.val ≤ x.val ∧ x.val < 8 + 8 * g.val + 8)) := by decide +kernel

theorem lane_eq : ∀ x y : Fin 128, IntOp.cmpi .eq (BitVec.ofNat 32 x.val) (BitVec.ofNat 32 y.val) = BitVec.ofBool (decide (x = y)) := by decide +kernel

theorem select_bool {α : Type} (p : Prop) [Decidable p] (x y : α) : Scalar.select (BitVec.ofBool (decide p)) x y = if p then x else y := by
  by_cases h : p
  · rw [decide_eq_true h, if_pos h]; rfl
  · rw [decide_eq_false h, if_neg h]; rfl

section
theorem lt_group (j : Fin 4) : 0 + j.val < 128 := by omega
theorem lt_expert (g : Fin 4) (q : Fin 8) : 8 + 8 * g.val + q.val < 128 := by omega

variable (h : FVec Ideal S512x2048 .bf16) (w : Vec Ideal S2048x128 .bf16) (b : Vec Ideal S1x128 .f32) (a : Fin 512)

/-- One logit of a block. -/
theorem logit_block (l : Fin 128) : k0_pay6 h w b (ix2 a l) = (∑ k : Fin 2048, (h (ix2 a k) : EReal) * w (ix2 k l)) + b (ix2 0 l) := by
  unfold k0_pay6
  pointwise

variable (G : Fin 4 → EReal) (hG : ∀ j : Fin 4, k0_pay6 h w b (ix2 a (⟨0 + j.val, lt_group j⟩ : Fin 128)) = G j)
include hG

theorem group_lanes (l : Fin 128) : k0_pay8 h w b (ix2 a l) = lanes 0 G l := by
  unfold k0_pay8 k0_pay7
  have e : ∀ hl : 0 ≤ l.val ∧ l.val < 0 + 4, k0_pay6 h w b (ix2 a l) = G ⟨l.val - 0, by omega⟩ := fun hl => by
    rw [← hG]; exact congrArg (fun l => k0_pay6 h w b (ix2 a l)) (Fin.ext (by show l.val = 0 + (l.val - 0); omega))
  generalize k0_pay6 h w b = L at e ⊢
  pointwise
  rw [lane_group, select_bool]
  unfold lanes
  by_cases hl : 0 ≤ l.val ∧ l.val < 0 + 4
  · rw [if_pos hl, dif_pos hl, e hl]
  · rw [if_neg hl, dif_neg hl, low_eq]

variable (g : Fin 4) (hf : First G g) (hb : G g ≠ ⊥)
include hf hb

theorem group_top : k0_pay9 h w b (ix2 a 0) = G g := by
  have e := group_lanes h w b a G hG
  unfold k0_pay9
  generalize k0_pay8 h w b = L at e ⊢
  pointwise
  simp only [e]
  rw [low_eq, fold_first (first_lanes hf (by omega) hb)]
  exact lanes_at ..

/-- The experts' logits of the chosen group, the other lanes at minus infinity. -/
theorem expert_lanes (E : Fin 8 → EReal) (hE : ∀ q : Fin 8, k0_pay6 h w b (ix2 a (⟨8 + 8 * g.val + q.val, lt_expert g q⟩ : Fin 128)) = E q) (l : Fin 128) :
    k0_pay11 h w b (ix2 a l) = lanes (8 + 8 * g.val) E l := by
  have e := group_lanes h w b a G hG
  have e' := group_top h w b a G hG g hf hb
  have e2 : ∀ hl : 8 + 8 * g.val ≤ l.val ∧ l.val < 8 + 8 * g.val + 8, k0_pay6 h w b (ix2 a l) = E ⟨l.val - (8 + 8 * g.val), by omega⟩ := fun hl => by
    rw [← hE]; exact congrArg (fun l => k0_pay6 h w b (ix2 a l)) (Fin.ext (by show l.val = 8 + 8 * g.val + (l.val - (8 + 8 * g.val)); omega))
  unfold k0_pay11
  generalize k0_pay8 h w b = L at e ⊢
  generalize k0_pay9 h w b = M at e' ⊢
  generalize k0_pay6 h w b = N at e2 ⊢
  pointwise
  simp only [e, e']
  have hl0 : lanes 0 G (⟨0 + g.val, by omega⟩ : Fin 128) = G g := lanes_at ..
  have k := fold_lane (first_lanes (o := 0) hf (by omega) hb)
  rw [hl0] at k
  rw [k]
  rw [show (⟨0 + g.val, by omega⟩ : Fin 128).val = g.val from Nat.zero_add _, lane_expert, select_bool]
  unfold lanes
  by_cases hl : 8 + 8 * g.val ≤ l.val ∧ l.val < 8 + 8 * g.val + 8
  · rw [if_pos hl, dif_pos hl, e2 hl]
  · rw [if_neg hl, dif_neg hl, low_eq]

theorem group_share : k0_pay10 h w b (ix2 a 0) = Ideal.div 1 (∑ j : Fin 4, Ideal.exp (G j - G g)) := by
  have e' := group_top h w b a G hG g hf hb
  have e2 : ∀ j : Fin 4, k0_pay6 h w b (ix2 a (Fin.castAdd 124 j)) = G j := fun j => by
    rw [← hG]; exact congrArg (fun l => k0_pay6 h w b (ix2 a l)) (Fin.ext (by show j.val = 0 + j.val; omega))
  unfold k0_pay10 k0_pay7
  generalize k0_pay9 h w b = M at e' ⊢
  generalize k0_pay6 h w b = N at e2 ⊢
  pointwise
  simp only [lane_group, select_bool, e']
  rw [Fin.sum_univ_add (a := 4) (b := 124)]
  simp only [e2]
  rw [Finset.sum_eq_zero (s := Finset.univ) (f := fun i : Fin 124 => _) fun i _ => if_neg fun hi => by
    have : (Fin.natAdd 4 i).val < 0 + 4 := hi.2
    have : (Fin.natAdd 4 i).val = 4 + i.val := rfl
    omega, add_zero]
  exact congrArg (Ideal.div 1) (Finset.sum_congr rfl fun j _ => if_pos ⟨Nat.zero_le _, by show j.val < 0 + 4; omega⟩)
end

section
variable (v : IVec S512x128 32) (hv : ∀ a l, v (ix2 a l) = BitVec.ofNat 32 l.val) (p : FVec Ideal S512x1 .f32) (e : FVec Ideal S512x128 .f32) (a : Fin 512)
  (o : ℕ) (ho : o + 8 ≤ 128) (E : Fin 8 → EReal) (he : ∀ l, e (ix2 a l) = lanes o E l) (x y : Fin 8) (hx : First E x) (hy : Next E x y) (hbx : E x ≠ ⊥) (hby : E y ≠ ⊥)
include hv ho he hx hbx

theorem best_value : k0_pay12 e (ix2 a 0) = E x := by
  unfold k0_pay12
  pointwise
  simp only [he]
  rw [low_eq, fold_first (first_lanes hx (by omega) hbx)]
  exact lanes_at ..

theorem best_lane : k0_pay13 v e (ix2 a 0) = BitVec.ofNat 32 (o + x.val) := by
  have e' := best_value v hv e a o ho E he x hx hbx
  unfold k0_pay13
  generalize k0_pay12 e = M at e' ⊢
  pointwise
  simp only [he, hv, e']
  have hl0 : lanes o E (⟨o + x.val, by omega⟩ : Fin 128) = E x := lanes_at ..
  have k := fold_lane (first_lanes (o := o) hx (by omega) hbx)
  rw [hl0] at k
  exact k

theorem rest_lanes (l : Fin 128) : k0_pay14 v e (ix2 a l) = if l = (⟨o + x.val, by omega⟩ : Fin 128) then ⊥ else lanes o E l := by
  have e' := best_lane v hv e a o ho E he x hx hbx
  unfold k0_pay14
  generalize k0_pay13 v e = M at e' ⊢
  pointwise
  simp only [he, hv, e']
  rw [lane_eq l ⟨o + x.val, by omega⟩, select_bool, low_eq]

include hy hby

omit hv ho he hx hbx hby in
theorem next_at (ho : ∀ j : Fin 8, o + j.val < 128) :
    (if (⟨o + y.val, ho y⟩ : Fin 128) = ⟨o + x.val, ho x⟩ then ⊥ else lanes o E (⟨o + y.val, ho y⟩ : Fin 128)) = E y := by
  rw [if_neg fun e => hy.1 (Fin.ext (by have := congrArg Fin.val e; simp at this; omega)), lanes_at]

theorem second_value : k0_pay15 v e (ix2 a 0) = E y := by
  have e' := rest_lanes v hv e a o ho E he x hx hbx
  unfold k0_pay15
  generalize k0_pay14 v e = M at e' ⊢
  pointwise
  simp only [e']
  rw [low_eq, fold_first (first_next hy (fun j => by omega) hby)]
  exact next_at o E x y hy (fun j => by omega)

theorem second_lane : k0_pay21 v e (ix2 a 0) = FloatOps.sitofp .f32 (IntOp.subi (BitVec.ofNat 32 (o + y.val)) 8#32) := by
  have e' := rest_lanes v hv e a o ho E he x hx hbx
  have e2 := second_value v hv e a o ho E he x y hx hy hbx hby
  unfold k0_pay21
  generalize k0_pay14 v e = M at e' ⊢
  generalize k0_pay15 v e = N at e2 ⊢
  pointwise
  simp only [e', e2, hv]
  have k := fold_lane (first_next (o := o) hy (fun j => by omega) hby)
  rw [next_at o E x y hy (fun j => by omega)] at k
  rw [k]

theorem ratio : k0_pay16 v e (ix2 a 0) = Ideal.exp (E y - E x) := by
  have e1 := best_value v hv e a o ho E he x hx hbx
  have e2 := second_value v hv e a o ho E he x y hx hy hbx hby
  unfold k0_pay16
  generalize k0_pay12 e = M at e1 ⊢
  generalize k0_pay15 v e = N at e2 ⊢
  pointwise
  rw [e1, e2]

/-- The four lanes a row's choice is stored in: the two experts, and their weights. -/
theorem stored :
    let out := k0_pay1 (k0_pay17 v p e) (k0_pay18 v) (k0_pay19 v e) (k0_pay20 v) (k0_pay21 v e) (k0_pay22 v) (k0_pay23 v) (Scalar.ofBits .f32 0x00000000#32) (k0_pay24 v p e)
    out (ix2 a 0) = FloatOps.sitofp (F := Ideal) .f32 (IntOp.subi (BitVec.ofNat 32 (o + x.val)) 8#32)
    ∧ out (ix2 a 1) = FloatOps.sitofp (F := Ideal) .f32 (IntOp.subi (BitVec.ofNat 32 (o + y.val)) 8#32)
    ∧ out (ix2 a 2) = Ideal.div (p (ix2 a 0)) (1 + Ideal.exp (E y - E x))
    ∧ out (ix2 a 3) = Ideal.div ((p (ix2 a 0) : EReal) * Ideal.exp (E y - E x)) (1 + Ideal.exp (E y - E x)) := by
  have e1 := best_lane v hv e a o ho E he x hx hbx
  have e2 := second_lane v hv e a o ho E he x y hx hy hbx hby
  have e3 := ratio v hv e a o ho E he x y hx hy hbx hby
  have h0 := hv a 0
  have h1 := hv a 1
  have h2 := hv a 2
  have h3 := hv a 3
  unfold k0_pay1 k0_pay17 k0_pay18 k0_pay19 k0_pay20 k0_pay22 k0_pay23 k0_pay24
  generalize k0_pay13 v e = i0 at e1 ⊢
  generalize k0_pay21 v e = i1 at e2 ⊢
  generalize k0_pay16 v e = r at e3 ⊢
  rw [← e1, ← e2, ← e3]
  refine ⟨?_, ?_, ?_, ?_⟩
  · pointwise
    rw [h0]
    rfl
  · pointwise
    rw [h1]
    rfl
  · pointwise
    rw [h2]
    rfl
  · pointwise
    rw [h3]
    rfl
end
end Cert.RouteIdeal.Own
-- ==== Proof.RouteScatter.lean ====
/- The routing choice: where the host lays out the router's weight and bias. -/
module

public import proofs.«01_k».proof.Proof.RouteBody
public import Idealize.ShloMosaic.Lib.Routing.OpsSet
public import Idealize.ShloMosaic.Lib.Routing.OpsOne

@[expose] public section

set_option maxRecDepth 100000

noncomputable section

namespace Cert.RouteIdeal.Own
open Cert.RouteIdeal Cert.RouteIdeal.Gen Idealize.ShloMosaic Idealize.ShloMosaic.TcCoe
open scoped BigOperators
open Idealize.ShloMosaic.Routing

/-- The two start indices of a part of the bias: row 0, and the part's first column. -/
def start (o : BitVec 32) : IVec S2 32 :=
  concatenate S2 0 [⟨S1, broadcastInDim S1 ![] bcast_S_S1 (constantI S_ 32 0#32)⟩, ⟨S1, broadcastInDim S1 ![] bcast_S_S1 (constantI S_ 32 o)⟩] concatenates_S1_S1_S2_d0

theorem start_row (o : BitVec 32) : start o (ix1 0) = 0#32 := rfl
theorem start_col (o : BitVec 32) : start o (ix1 1) = o := rfl

/-- Where an entry of the groups' bias is stored. -/
theorem bias_four (k : Fin 4) (e : Fin 128) : scatter_S1x128_S2_S4_0_0_01_0.resultIdx? (ix1 k) (start 0#32) = some (ix2 (0 : Fin 1) e) ↔ k.val = e.val := by
  have hk : scatter_S1x128_S2_S4_0_0_01_0.sKept = [1] := rfl
  have w0 : scatter_S1x128_S2_S4_0_0_01_0.window (ix1 k) 0 = 0 := by
    unfold ScatterDims.window
    rw [dif_neg (by rw [hk]; decide)]
  have w1 : scatter_S1x128_S2_S4_0_0_01_0.window (ix1 k) 1 = k.val := by
    unfold ScatterDims.window
    rw [dif_pos (by rw [hk]; decide)]
    exact congrArg (fun t => ((ix1 k : (shape1 4).Idx) t).val) (Subsingleton.elim (α := Fin 1) _ 0)
  have s0 : scatter_S1x128_S2_S4_0_0_01_0.start (ix1 k) (start 0#32) 0 = 0 := (start_pair (R := 1) (C := 128) _ rfl rfl (start 0#32) (ix1 k) 0).trans ((congrArg BitVec.toInt (start_row _)).trans (by decide))
  have s1 : scatter_S1x128_S2_S4_0_0_01_0.start (ix1 k) (start 0#32) 1 = 0 := (start_pair (R := 1) (C := 128) _ rfl rfl (start 0#32) (ix1 k) 1).trans ((congrArg BitVec.toInt (start_col _)).trans (by decide))
  refine (resultIdx?_ix2 (R := 1) (C := 128) scatter_S1x128_S2_S4_0_0_01_0 (ix1 k) (start 0#32) 0 e).trans ?_
  rw [s0, s1, w0, w1]
  simp only [Fin.val_zero]
  omega

/-- Where an entry of the experts' bias is stored. -/
theorem bias_rest (k : Fin 32) (e : Fin 128) : scatter_S1x128_S2_S32_0_0_01_0.resultIdx? (ix1 k) (start 8#32) = some (ix2 (0 : Fin 1) e) ↔ 8 + k.val = e.val := by
  have hk : scatter_S1x128_S2_S32_0_0_01_0.sKept = [1] := rfl
  have w0 : scatter_S1x128_S2_S32_0_0_01_0.window (ix1 k) 0 = 0 := by
    unfold ScatterDims.window
    rw [dif_neg (by rw [hk]; decide)]
  have w1 : scatter_S1x128_S2_S32_0_0_01_0.window (ix1 k) 1 = k.val := by
    unfold ScatterDims.window
    rw [dif_pos (by rw [hk]; decide)]
    exact congrArg (fun t => ((ix1 k : (shape1 32).Idx) t).val) (Subsingleton.elim (α := Fin 1) _ 0)
  have s0 : scatter_S1x128_S2_S32_0_0_01_0.start (ix1 k) (start 8#32) 0 = 0 := (start_pair (R := 1) (C := 128) _ rfl rfl (start 8#32) (ix1 k) 0).trans ((congrArg BitVec.toInt (start_row _)).trans (by decide))
  have s1 : scatter_S1x128_S2_S32_0_0_01_0.start (ix1 k) (start 8#32) 1 = 8 := (start_pair (R := 1) (C := 128) _ rfl rfl (start 8#32) (ix1 k) 1).trans ((congrArg BitVec.toInt (start_col _)).trans (by decide))
  refine (resultIdx?_ix2 (R := 1) (C := 128) scatter_S1x128_S2_S32_0_0_01_0 (ix1 k) (start 8#32) 0 e).trans ?_
  rw [s0, s1, w0, w1]
  simp only [Fin.val_zero]
  omega

/-- Where an entry of the groups' weight is stored. -/
theorem router_four (i : IVec S1 32) (hi : ∀ j, i j = 0#32) (r : Fin 2048) (k : Fin 4) (r' : Fin 2048) (e : Fin 128) :
    scatter_S2048x128_S1_S2048x4_01_n_1_0.resultIdx? (ix2 r k) i = some (ix2 r' e) ↔ r.val = r'.val ∧ k.val = e.val := by
  have hk : scatter_S2048x128_S1_S2048x4_01_n_1_0.sKept = [0, 1] := rfl
  have hd : scatter_S2048x128_S1_S2048x4_01_n_1_0.scatterDimsToOperandDims = [1] := rfl
  have w0 : scatter_S2048x128_S1_S2048x4_01_n_1_0.window (ix2 r k) 0 = r.val := by
    unfold ScatterDims.window
    rw [dif_pos (by rw [hk]; decide)]
    rfl
  have w1 : scatter_S2048x128_S1_S2048x4_01_n_1_0.window (ix2 r k) 1 = k.val := by
    unfold ScatterDims.window
    rw [dif_pos (by rw [hk]; decide)]
    rfl
  have s0 : scatter_S2048x128_S1_S2048x4_01_n_1_0.start (ix2 r k) i 0 = 0 := by
    unfold ScatterDims.start
    rw [dif_neg (by rw [hd]; decide)]
  have s1 : scatter_S2048x128_S1_S2048x4_01_n_1_0.start (ix2 r k) i 1 = 0 := by
    unfold ScatterDims.start
    rw [dif_pos (by rw [hd]; decide), hi]
    rfl
  refine (resultIdx?_ix2 (R := 2048) (C := 128) scatter_S2048x128_S1_S2048x4_01_n_1_0 (ix2 r k) i r' e).trans ?_
  rw [s0, s1, w0, w1]
  omega

/-- Where an entry of the experts' weight is stored. -/
theorem router_rest (i : IVec S1 32) (hi : ∀ j, i j = 8#32) (r : Fin 2048) (k : Fin 32) (r' : Fin 2048) (e : Fin 128) :
    scatter_S2048x128_S1_S2048x32_01_n_1_0.resultIdx? (ix2 r k) i = some (ix2 r' e) ↔ r.val = r'.val ∧ 8 + k.val = e.val := by
  have hk : scatter_S2048x128_S1_S2048x32_01_n_1_0.sKept = [0, 1] := rfl
  have hd : scatter_S2048x128_S1_S2048x32_01_n_1_0.scatterDimsToOperandDims = [1] := rfl
  have w0 : scatter_S2048x128_S1_S2048x32_01_n_1_0.window (ix2 r k) 0 = r.val := by
    unfold ScatterDims.window
    rw [dif_pos (by rw [hk]; decide)]
    rfl
  have w1 : scatter_S2048x128_S1_S2048x32_01_n_1_0.window (ix2 r k) 1 = k.val := by
    unfold ScatterDims.window
    rw [dif_pos (by rw [hk]; decide)]
    rfl
  have s0 : scatter_S2048x128_S1_S2048x32_01_n_1_0.start (ix2 r k) i 0 = 0 := by
    unfold ScatterDims.start
    rw [dif_neg (by rw [hd]; decide)]
  have s1 : scatter_S2048x128_S1_S2048x32_01_n_1_0.start (ix2 r k) i 1 = 8 := by
    unfold ScatterDims.start
    rw [dif_pos (by rw [hd]; decide), hi]
    rfl
  refine (resultIdx?_ix2 (R := 2048) (C := 128) scatter_S2048x128_S1_S2048x32_01_n_1_0 (ix2 r k) i r' e).trans ?_
  rw [s0, s1, w0, w1]
  omega

section
variable {α : Type}

/-- The laid-out bias at a group's column. -/
theorem bias_group (z : S1x128.Idx → α) (x : S4.Idx → α) (y : S32.Idx → α) (j : Fin 4) :
    Host.scatter scatter_S1x128_S2_S32_0_0_01_0 (fun _ b => b) (Host.scatter scatter_S1x128_S2_S4_0_0_01_0 (fun _ b => b) z (start 0#32) x) (start 8#32) y
      (ix2 (0 : Fin 1) (⟨0 + j.val, by omega⟩ : Fin 128)) = x (ix1 j) := by
  refine (scatter_set_miss _ _ _ _ _ fun k hk => ?_).trans (scatter_set_hit _ _ _ _ _ _ (fun k hk => ?_) (ix1 j) ((bias_four j _).2 (Nat.zero_add _).symm))
  · rw [eq_ix1 (n0 := 32) k] at hk
    have := (bias_rest _ _).1 hk
    simp only at this
    omega
  · rw [eq_ix1 (n0 := 4) k] at hk ⊢
    exact congrArg (fun e => x (ix1 e)) (Fin.ext (((bias_four _ _).1 hk).trans (Nat.zero_add _)))

/-- The laid-out bias at an expert's column. -/
theorem bias_expert (z : S1x128.Idx → α) (y : S32.Idx → α) (q : Fin 32) :
    Host.scatter scatter_S1x128_S2_S32_0_0_01_0 (fun _ b => b) z (start 8#32) y (ix2 (0 : Fin 1) (⟨8 + q.val, by omega⟩ : Fin 128)) = y (ix1 q) :=
  scatter_set_hit _ _ _ _ _ _ (fun k hk => by
    rw [eq_ix1 (n0 := 32) k] at hk ⊢
    exact congrArg (fun e => y (ix1 e)) (Fin.ext (Nat.add_left_cancel ((bias_rest _ _).1 hk)))) (ix1 q) ((bias_rest q _).2 rfl)

/-- The laid-out weight at a group's column. -/
theorem router_group (z : S2048x128.Idx → α) (i i' : IVec S1 32) (hi : ∀ j, i j = 0#32) (hi' : ∀ j, i' j = 8#32) (x : S2048x4.Idx → α) (y : S2048x32.Idx → α) (r : Fin 2048) (j : Fin 4) :
    Host.scatter scatter_S2048x128_S1_S2048x32_01_n_1_0 (fun _ b => b) (Host.scatter scatter_S2048x128_S1_S2048x4_01_n_1_0 (fun _ b => b) z i x) i' y
      (ix2 r (⟨0 + j.val, by omega⟩ : Fin 128)) = x (ix2 r j) := by
  refine (scatter_set_miss _ _ _ _ _ fun k hk => ?_).trans (scatter_set_hit _ _ _ _ _ _ (fun k hk => ?_) (ix2 r j) ((router_four i hi r j r _).2 ⟨rfl, (Nat.zero_add _).symm⟩))
  · rw [eq_ix2 (n0 := 2048) (n1 := 32) k] at hk
    have := ((router_rest i' hi' _ _ _ _).1 hk).2
    simp only at this
    omega
  · rw [eq_ix2 (n0 := 2048) (n1 := 4) k] at hk ⊢
    obtain ⟨h0, h1⟩ := (router_four i hi _ _ _ _).1 hk
    rw [show k 0 = r from Fin.ext h0, show k 1 = j from Fin.ext (h1.trans (Nat.zero_add _))]

/-- The laid-out weight at an expert's column. -/
theorem router_expert (z : S2048x128.Idx → α) (i' : IVec S1 32) (hi' : ∀ j, i' j = 8#32) (y : S2048x32.Idx → α) (r : Fin 2048) (q : Fin 32) :
    Host.scatter scatter_S2048x128_S1_S2048x32_01_n_1_0 (fun _ b => b) z i' y (ix2 r (⟨8 + q.val, by omega⟩ : Fin 128)) = y (ix2 r q) :=
  scatter_set_hit _ _ _ _ _ _ (fun k hk => by
    rw [eq_ix2 (n0 := 2048) (n1 := 32) k] at hk ⊢
    obtain ⟨h0, h1⟩ := (router_rest i' hi' _ _ _ _).1 hk
    rw [show k 0 = r from Fin.ext h0, show k 1 = q from Fin.ext (Nat.add_left_cancel h1)]) (ix2 r q) ((router_rest i' hi' r q r _).2 ⟨rfl, rfl⟩)
end

end Cert.RouteIdeal.Own
-- ==== Proof.RouteBlocks.lean ====
/- The routing choice: the blocks each grid point reads, and the router's weight and bias as the host lays them out. -/
module

public import proofs.«01_k».proof.Proof.RouteBody
public import proofs.«01_k».proof.Proof.MergeValue
public import proofs.«01_k».proof.Proof.RouteScatter

@[expose] public section

set_option maxRecDepth 100000

noncomputable section

namespace Cert.RouteIdeal.Own
open Cert.RouteIdeal Cert.RouteIdeal.Gen Idealize.ShloMosaic Idealize.ShloMosaic.TcCoe
open Cert.GatedIdeal.Own (normAt)
open Cert.MergeIdeal.Own (sumAt)
open scoped BigOperators

section
variable {F : FTy → Type} [FloatOps F]
variable (m : (ℓ : Loc nD τ sig) → Buf (Elt F) ℓ) (c : Dev nD)

theorem lt_N (t : Fin cfg0.N) : t.val < 32 := lt_of_lt_of_eq t.isLt N_0

/-- Point `t` works on row tile `t`; the second window of the gates is their second half. -/
theorem idx_rows : ∀ t : Fin cfg0.N, (win0_0.index t 0 = t.val ∧ win0_0.index t 1 = 0) ∧ (win0_1.index t 0 = t.val ∧ win0_1.index t 1 = 1)
    ∧ (win0_2.index t 0 = t.val ∧ win0_2.index t 1 = 0) ∧ (win0_3.index t 0 = t.val ∧ win0_3.index t 1 = 0) ∧ (win0_4.index t 0 = t.val ∧ win0_4.index t 1 = 0) :=
  (by decide +kernel : ∀ t : Fin grid0.N, _)

/-- The weights are taken whole, and the result's block is row tile `t`. -/
theorem idx_whole : ∀ t : Fin cfg0.N, (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) ∧ (win0_11.index t 0 = t.val ∧ win0_11.index t 1 = 0) :=
  (by decide +kernel : ∀ t : Fin grid0.N, _)

/-- The row of the whole arrays that row `a` of tile `t` is. -/
abbrev row (t : Fin cfg0.N) (a : Fin 512) : Fin 16384 := ⟨512 * t.val + a.val, by have := lt_N t; omega⟩

theorem ga_at (t : Fin cfg0.N) (a : Fin 512) (k : Fin 2048) :
    iblk m c 0 t (ix2 a k) = m ((c : Thread nD τ).loc main_arg0) (ix2 (row t a) (⟨k.val, by omega⟩ : Fin 4096)) := by
  unfold iblk
  rw [View.read_apply]
  show V m c main_arg0 _ = _
  rw [V_main_arg0]
  congr 1
  funext b
  apply Fin.ext
  obtain ⟨⟨e0, e1⟩, -⟩ := idx_rows t
  match b with
  | ⟨0, _⟩ => show win0_0.index t 0 * 512 + 1 * a.val = 512 * t.val + a.val; rw [e0]; omega
  | ⟨1, _⟩ => show win0_0.index t 1 * 2048 + 1 * k.val = k.val; rw [e1]; omega

theorem gb_at (t : Fin cfg0.N) (a : Fin 512) (k : Fin 2048) :
    iblk m c 1 t (ix2 a k) = m ((c : Thread nD τ).loc main_arg0) (ix2 (row t a) (⟨2048 + k.val, by omega⟩ : Fin 4096)) := by
  unfold iblk
  rw [View.read_apply]
  show V m c main_arg0 _ = _
  rw [V_main_arg0]
  congr 1
  funext b
  apply Fin.ext
  obtain ⟨-, ⟨e0, e1⟩, -⟩ := idx_rows t
  match b with
  | ⟨0, _⟩ => show win0_1.index t 0 * 512 + 1 * a.val = 512 * t.val + a.val; rw [e0]; omega
  | ⟨1, _⟩ => show win0_1.index t 1 * 2048 + 1 * k.val = 2048 + k.val; rw [e1]; omega

theorem ya_at (t : Fin cfg0.N) (a : Fin 512) (k : Fin 2048) :
    iblk m c 2 t (ix2 a k) = m ((c : Thread nD τ).loc main_arg1) (ix2 (row t a) k) := by
  unfold iblk
  rw [View.read_apply]
  show V m c main_arg1 _ = _
  rw [V_main_arg1]
  congr 1
  funext b
  apply Fin.ext
  obtain ⟨-, -, ⟨e0, e1⟩, -⟩ := idx_rows t
  match b with
  | ⟨0, _⟩ => show win0_2.index t 0 * 512 + 1 * a.val = 512 * t.val + a.val; rw [e0]; omega
  | ⟨1, _⟩ => show win0_2.index t 1 * 2048 + 1 * k.val = k.val; rw [e1]; omega

theorem yb_at (t : Fin cfg0.N) (a : Fin 512) (k : Fin 2048) :
    iblk m c 3 t (ix2 a k) = m ((c : Thread nD τ).loc main_arg2) (ix2 (row t a) k) := by
  unfold iblk
  rw [View.read_apply]
  show V m c main_arg2 _ = _
  rw [V_main_arg2]
  congr 1
  funext b
  apply Fin.ext
  obtain ⟨-, -, -, ⟨e0, e1⟩, -⟩ := idx_rows t
  match b with
  | ⟨0, _⟩ => show win0_3.index t 0 * 512 + 1 * a.val = 512 * t.val + a.val; rw [e0]; omega
  | ⟨1, _⟩ => show win0_3.index t 1 * 2048 + 1 * k.val = k.val; rw [e1]; omega

theorem x_at (t : Fin cfg0.N) (a : Fin 512) (k : Fin 2048) :
    iblk m c 4 t (ix2 a k) = m ((c : Thread nD τ).loc main_arg3) (ix2 (row t a) k) := by
  unfold iblk
  rw [View.read_apply]
  show V m c main_arg3 _ = _
  rw [V_main_arg3]
  congr 1
  funext b
  apply Fin.ext
  obtain ⟨-, -, -, -, ⟨e0, e1⟩⟩ := idx_rows t
  match b with
  | ⟨0, _⟩ => show win0_4.index t 0 * 512 + 1 * a.val = 512 * t.val + a.val; rw [e0]; omega
  | ⟨1, _⟩ => show win0_4.index t 1 * 2048 + 1 * k.val = k.val; rw [e1]; omega

theorem V_w : V m c main_v19 = truncf .bf16 (shapeCast S2048x2048 (m ((c : Thread nD τ).loc main_arg4)) shapeCasts_S1x2048x2048_S2048x2048) bitsLt_bf16_f32 := by
  show StableHlo.after hostOps0 (fun b => m (c, b)) (Proc.devRef .tc main_v19) = _
  after_results <;> rfl

theorem V_norm : V m c main_v22 = shapeCast S1x2048 (shapeCast S2048 (m ((c : Thread nD τ).loc main_arg5)) shapeCasts_S1x2048_S2048) shapeCasts_S2048_S1x2048 := by
  show StableHlo.after hostOps0 (fun b => m (c, b)) (Proc.devRef .tc main_v22) = _
  after_results <;> rfl
end

section
variable (m : (ℓ : Loc nD τ sig) → Buf (Elt Ideal) ℓ) (c : Dev nD)

theorem w_cast (w : FVec Ideal S1x2048x2048 .f32) (k q : Fin 2048) :
    truncf .bf16 (shapeCast S2048x2048 w shapeCasts_S1x2048x2048_S2048x2048) bitsLt_bf16_f32 (ix2 k q) = w (ix3 0 k q) := by
  pointwise

theorem w_at (t : Fin cfg0.N) (k q : Fin 2048) :
    iblk m c 5 t (ix2 k q) = m ((c : Thread nD τ).loc main_arg4) (ix3 0 k q) := by
  unfold iblk
  rw [View.read_apply]
  show V m c main_v19 _ = _
  rw [V_w]
  obtain ⟨⟨e0, e1⟩, -⟩ := idx_whole t
  rw [show ((cfg0.win 5).blk t).view.emb (ix2 k q) = ix2 k q from ?_]
  · exact w_cast _ k q
  funext d
  apply Fin.ext
  match d with
  | ⟨0, _⟩ => show win0_5.index t 0 * 2048 + 1 * k.val = k.val; rw [e0]; omega
  | ⟨1, _⟩ => show win0_5.index t 1 * 2048 + 1 * q.val = q.val; rw [e1]; omega

theorem norm_at (t : Fin cfg0.N) (k : Fin 2048) :
    iblk m c 6 t (ix2 0 k) = m ((c : Thread nD τ).loc main_arg5) (ix2 0 k) := by
  unfold iblk
  rw [View.read_apply]
  show V m c main_v22 _ = _
  rw [V_norm]
  obtain ⟨-, ⟨e0, e1⟩, -⟩ := idx_whole t
  rw [show ((cfg0.win 6).blk t).view.emb (ix2 0 k) = ix2 (0 : Fin 1) k from ?_]
  · pointwise
  funext d
  apply Fin.ext
  match d with
  | ⟨0, _⟩ => show win0_6.index t 0 * 1 + 1 * 0 = 0; rw [e0]
  | ⟨1, _⟩ => show win0_6.index t 1 * 2048 + 1 * k.val = k.val; rw [e1]; omega
end

/-! The router's weight and bias: 128 columns, the groups' from column 0 on and the experts' from column 8 on. -/

section
variable {F : FTy → Type} [FloatOps F]
variable (m : (ℓ : Loc nD τ sig) → Buf (Elt F) ℓ) (c : Dev nD)

theorem V_bias : V m c main_v17 = Host.scatter scatter_S1x128_S2_S32_0_0_01_0 (fun _ b => b)
    (Host.scatter scatter_S1x128_S2_S4_0_0_01_0 (fun _ b => b) (broadcastInDim S1x128 ![] bcast_S_S1x128 (constant S_ .f32 0x00000000#32))
      (start 0#32) (shapeCast S4 (m ((c : Thread nD τ).loc main_arg7)) shapeCasts_S1x4_S4))
    (start 8#32) (shapeCast S32 (m ((c : Thread nD τ).loc main_arg9)) shapeCasts_S1x32_S32) := by
  show StableHlo.after hostOps0 (fun b => m (c, b)) (Proc.devRef .tc main_v17) = _
  after_results <;> rfl

theorem V_router : V m c main_v21 = truncf .bf16 (Host.scatter scatter_S2048x128_S1_S2048x32_01_n_1_0 (fun _ b => b)
    (Host.scatter scatter_S2048x128_S1_S2048x4_01_n_1_0 (fun _ b => b) (broadcastInDim S2048x128 ![] bcast_S_S2048x128 (constant S_ .f32 0x00000000#32))
      (broadcastInDim S1 ![] bcast_S_S1 (constantI S_ 32 0#32)) (shapeCast S2048x4 (m ((c : Thread nD τ).loc main_arg6)) shapeCasts_S1x2048x4_S2048x4))
    (broadcastInDim S1 ![] bcast_S_S1 (constantI S_ 32 8#32)) (shapeCast S2048x32 (m ((c : Thread nD τ).loc main_arg8)) shapeCasts_S1x2048x32_S2048x32)) bitsLt_bf16_f32 := by
  show StableHlo.after hostOps0 (fun b => m (c, b)) (Proc.devRef .tc main_v21) = _
  after_results <;> rfl
end

section
variable (m : (ℓ : Loc nD τ sig) → Buf (Elt Ideal) ℓ) (c : Dev nD)

theorem router_block (t : Fin cfg0.N) (k : Fin 2048) (l : Fin 128) : iblk m c 7 t (ix2 k l) = V m c main_v21 (ix2 k l) := by
  unfold iblk
  rw [View.read_apply]
  show V m c main_v21 _ = _
  obtain ⟨-, -, ⟨e0, e1⟩, -⟩ := idx_whole t
  congr 1
  funext d
  apply Fin.ext
  match d with
  | ⟨0, _⟩ => show win0_7.index t 0 * 2048 + 1 * k.val = k.val; rw [e0]; omega
  | ⟨1, _⟩ => show win0_7.index t 1 * 128 + 1 * l.val = l.val; rw [e1]; omega

theorem bias_block (t : Fin cfg0.N) (l : Fin 128) : iblk m c 8 t (ix2 0 l) = V m c main_v17 (ix2 0 l) := by
  unfold iblk
  rw [View.read_apply]
  show V m c main_v17 _ = _
  obtain ⟨-, -, -, ⟨e0, e1⟩, -⟩ := idx_whole t
  congr 1
  funext d
  apply Fin.ext
  match d with
  | ⟨0, _⟩ => show win0_8.index t 0 * 1 + 1 * 0 = 0; rw [e0]
  | ⟨1, _⟩ => show win0_8.index t 1 * 128 + 1 * l.val = l.val; rw [e1]; omega

theorem trunc_at (x : FVec Ideal S2048x128 .f32) (i : S2048x128.Idx) : truncf .bf16 x bitsLt_bf16_f32 i = x i := rfl

theorem four_cast (w : FVec Ideal S1x2048x4 .f32) (k : Fin 2048) (j : Fin 4) : shapeCast S2048x4 w shapeCasts_S1x2048x4_S2048x4 (ix2 k j) = w (ix3 0 k j) := by
  pointwise

theorem rest_cast (w : FVec Ideal S1x2048x32 .f32) (k : Fin 2048) (j : Fin 32) : shapeCast S2048x32 w shapeCasts_S1x2048x32_S2048x32 (ix2 k j) = w (ix3 0 k j) := by
  pointwise

theorem group_weight (t : Fin cfg0.N) (k : Fin 2048) (j : Fin 4) :
    iblk m c 7 t (ix2 k (⟨0 + j.val, by omega⟩ : Fin 128)) = m ((c : Thread nD τ).loc main_arg6) (ix3 0 k j) := by
  rw [router_block, V_router, trunc_at, router_group _ (broadcastInDim S1 ![] bcast_S_S1 (constantI S_ 32 0#32)) (broadcastInDim S1 ![] bcast_S_S1 (constantI S_ 32 8#32)) (fun _ => rfl) (fun _ => rfl)]
  exact four_cast _ k j

theorem expert_weight (t : Fin cfg0.N) (k : Fin 2048) (q : Fin 32) :
    iblk m c 7 t (ix2 k (⟨8 + q.val, by omega⟩ : Fin 128)) = m ((c : Thread nD τ).loc main_arg8) (ix3 0 k q) := by
  rw [router_block, V_router, trunc_at, router_expert _ (broadcastInDim S1 ![] bcast_S_S1 (constantI S_ 32 8#32)) (fun _ => rfl)]
  exact rest_cast _ k q

theorem group_bias (t : Fin cfg0.N) (j : Fin 4) : iblk m c 8 t (ix2 0 (⟨0 + j.val, by omega⟩ : Fin 128)) = m ((c : Thread nD τ).loc main_arg7) (ix2 0 j) := by
  rw [bias_block, V_bias, bias_group]
  pointwise

theorem expert_bias (t : Fin cfg0.N) (q : Fin 32) : iblk m c 8 t (ix2 0 (⟨8 + q.val, by omega⟩ : Fin 128)) = m ((c : Thread nD τ).loc main_arg9) (ix2 0 q) := by
  rw [bias_block, V_bias, bias_expert]
  pointwise

/-- The normalised rows that point `t` routes. -/
theorem block_norm (t : Fin cfg0.N) (a : Fin 512) (q : Fin 2048) :
    k0_pay5 (iblk m c 0 t) (iblk m c 2 t) (iblk m c 1 t) (iblk m c 3 t) (iblk m c 4 t) (iblk m c 5 t) (iblk m c 6 t) (ix2 a q)
      = normAt (sumAt (m ((c : Thread nD τ).loc main_arg0)) (m ((c : Thread nD τ).loc main_arg1)) (m ((c : Thread nD τ).loc main_arg2)) (m ((c : Thread nD τ).loc main_arg3))
          (m ((c : Thread nD τ).loc main_arg4)) (row t a)) (fun k => m ((c : Thread nD τ).loc main_arg5) (ix2 0 k)) q := by
  refine (Cert.MergeIdeal.Own.body_norm (iblk m c 0 t) (iblk m c 1 t) (iblk m c 2 t) (iblk m c 3 t) (iblk m c 4 t) (iblk m c 5 t) (iblk m c 6 t) a q).trans ?_
  have e : (fun k => Cert.MergeIdeal.Gen.k0_pay2 (iblk m c 0 t) (iblk m c 2 t) (iblk m c 1 t) (iblk m c 3 t) (iblk m c 4 t) (iblk m c 5 t) (ix2 a k))
      = sumAt (m ((c : Thread nD τ).loc main_arg0)) (m ((c : Thread nD τ).loc main_arg1)) (m ((c : Thread nD τ).loc main_arg2)) (m ((c : Thread nD τ).loc main_arg3))
          (m ((c : Thread nD τ).loc main_arg4)) (row t a) := funext fun k => by
    refine (Cert.MergeIdeal.Own.body_sum (iblk m c 0 t) (iblk m c 1 t) (iblk m c 2 t) (iblk m c 3 t) (iblk m c 4 t) (iblk m c 5 t) a k).trans ?_
    unfold sumAt
    simp only [ga_at, gb_at, ya_at, yb_at, x_at, w_at]
  rw [e]
  simp only [norm_at]
end

theorem tile_of (r : Fin 16384) : ∃ (t : Fin cfg0.N) (a : Fin 512), row t a = r := by
  have hN : r.val / 512 < cfg0.N := lt_of_lt_of_eq (show r.val / 512 < 32 by omega) N_0.symm
  exact ⟨⟨_, hN⟩, ⟨r.val % 512, Nat.mod_lt _ (by decide)⟩, Fin.ext (by show 512 * (r.val / 512) + r.val % 512 = r.val; omega)⟩
end Cert.RouteIdeal.Own
-- ==== Proof.RouteRef.lean ====
/- The reference's routing, read at one row: which group and which two of its experts it picks, and with what weights. -/
module

public import proofs.«01_k».proof.Proof.RouteOrder
public import proofs.«01_k».proof.Proof.Gen.RouteRefIdeal.Run

@[expose] public section

set_option maxRecDepth 100000

noncomputable section

namespace Cert.RouteRefIdeal.Own
open Cert.RouteRefIdeal Cert.RouteRefIdeal.Gen Cert.RouteRefIdeal.Value Cert.Route.Own
open Idealize.ShloMosaic Idealize.ShloMosaic.TcCoe Idealize.SL.Sem Idealize.ShloMosaic.StableHlo

theorem word_group : ∀ g : Fin 4, min (BitVec.ofNat 32 g.val).toInt.toNat 3 = g.val := by decide

/-- A lookup along the groups, of one number per row. -/
theorem gather_one (x : FVec Ideal S16384x4 .f32) (h : IVec S16384x1x1 32) (r : Fin 16384) (g : Fin 4) (hg : h (ix3 r 0 0) = BitVec.ofNat 32 g.val) :
    Host.gather gather_S16384x4_S16384x1x1_S16384x1_n_1_0_0_1_2_11 x h (ix2 r 0) = x (ix2 r g) := by
  let D := gather_S16384x4_S16384x1x1_S16384x1_n_1_0_0_1_2_11
  unfold Host.gather
  congr 1
  funext d
  apply Fin.ext
  show D.start (ix2 r 0) h d + D.batchCoord (ix2 r 0) d + D.offCoord (ix2 r 0) d = _
  match d with
  | ⟨0, _⟩ =>
    show D.start (ix2 r 0) h 0 + D.batchCoord (ix2 r 0) 0 + D.offCoord (ix2 r 0) 0 = r.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ D.operandBatchingDims from List.mem_singleton.mpr rfl)]
    exact Nat.zero_add _
  | ⟨1, _⟩ =>
    show D.start (ix2 r 0) h 1 + D.batchCoord (ix2 r 0) 1 + D.offCoord (ix2 r 0) 1 = g.val
    rw [GatherDims.batchCoord_eq_zero _ _ _ (fun h => by simp [D, gather_S16384x4_S16384x1x1_S16384x1_n_1_0_0_1_2_11] at h),
      GatherDims.offCoord_eq_zero _ _ _ (fun h => ((GatherDims.mem_sKept _ _).mp h).1 (List.mem_singleton.mpr rfl))]
    unfold GatherDims.start
    rw [dif_pos (show (1 : Fin 2) ∈ D.startIndexMap from List.mem_singleton.mpr rfl)]
    have hsi : D.siIdx (ix2 r 0) ⟨List.idxOf (1 : Fin 2) D.startIndexMap, List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, hg]
    exact word_group g

/-- A lookup along the groups, of a row of eight numbers per row. -/
theorem gather_eight (x : FVec Ideal S16384x4x8 .f32) (h : IVec S16384x1x1 32) (r : Fin 16384) (q : Fin 8) (g : Fin 4) (hg : h (ix3 r 0 0) = BitVec.ofNat 32 g.val) :
    Host.gather gather_S16384x4x8_S16384x1x1_S16384x1x8_2_1_0_0_1_2_118 x h (ix3 r 0 q) = x (ix3 r g q) := by
  let D := gather_S16384x4x8_S16384x1x1_S16384x1x8_2_1_0_0_1_2_118
  unfold Host.gather
  congr 1
  funext d
  apply Fin.ext
  show D.start (ix3 r 0 q) h d + D.batchCoord (ix3 r 0 q) d + D.offCoord (ix3 r 0 q) d = _
  match d with
  | ⟨0, _⟩ =>
    show D.start (ix3 r 0 q) h 0 + D.batchCoord (ix3 r 0 q) 0 + D.offCoord (ix3 r 0 q) 0 = r.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ D.operandBatchingDims from List.mem_singleton.mpr rfl)]
    exact Nat.zero_add _
  | ⟨1, _⟩ =>
    show D.start (ix3 r 0 q) h 1 + D.batchCoord (ix3 r 0 q) 1 + D.offCoord (ix3 r 0 q) 1 = g.val
    rw [GatherDims.batchCoord_eq_zero _ _ _ (fun h => by simp [D, gather_S16384x4x8_S16384x1x1_S16384x1x8_2_1_0_0_1_2_118] at h),
      GatherDims.offCoord_eq_zero _ _ _ (fun h => ((GatherDims.mem_sKept _ _).mp h).1 (List.mem_singleton.mpr rfl))]
    unfold GatherDims.start
    rw [dif_pos (show (1 : Fin 3) ∈ D.startIndexMap from List.mem_singleton.mpr rfl)]
    have hsi : D.siIdx (ix3 r 0 q) ⟨List.idxOf (1 : Fin 3) D.startIndexMap, List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, hg]
    exact word_group g
  | ⟨2, _⟩ =>
    show D.start (ix3 r 0 q) h 2 + D.batchCoord (ix3 r 0 q) 2 + D.offCoord (ix3 r 0 q) 2 = q.val
    rw [GatherDims.batchCoord_eq_zero _ _ _ (fun h => by simp [D, gather_S16384x4x8_S16384x1x1_S16384x1x8_2_1_0_0_1_2_118] at h)]
    have h1 : D.start (ix3 r 0 q) h 2 = 0 := by
      unfold GatherDims.start
      rw [dif_neg (show ¬ (2 : Fin 3) ∈ D.startIndexMap from by decide)]
    have h2 : D.offCoord (ix3 r 0 q) 2 = q.val := by
      unfold GatherDims.offCoord
      rw [dif_pos (by decide)]
      rfl
    rw [h1, h2]
    omega

theorem inside : ∀ g : Fin 4, IntOp.andi (IntOp.andi (IntOp.cmpi .sge (BitVec.ofNat 32 g.val) 0#32) (IntOp.cmpi .sle (BitVec.ofNat 32 g.val) 3#32)) 1#1 = 1#1
    ∧ Scalar.select (IntOp.cmpi .slt (BitVec.ofNat 32 g.val) 0#32) (IntOp.addi (BitVec.ofNat 32 g.val) 4#32) (BitVec.ofNat 32 g.val) = BitVec.ofNat 32 g.val := by
  decide

/-- The looked-up number, the group's number being in range. -/
theorem take_one (x : FVec Ideal S16384x4 .f32) (h : IVec S16384x1x1 32) (r : Fin 16384) (g : Fin 4) (hg : h (ix3 r 0 0) = BitVec.ofNat 32 g.val) :
    (select (Host.reduce IntOp.andi (andi (cmpi .sge h (broadcastInDim S16384x1x1 ![] bcast_S_S16384x1x1 (constantI S_ 32 0#32))) (cmpi .sle h (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_) (Host.gather gather_S16384x4_S16384x1x1_S16384x1_n_1_0_0_1_2_11 x h) (broadcastInDim S16384x1 ![] bcast_S_S16384x1 (constant (F := Ideal) S_ .f32 0x7FC00000#32))) (ix2 r 0)
      = x (ix2 r g) := by
  have e := gather_one x h r g hg
  generalize Host.gather gather_S16384x4_S16384x1x1_S16384x1_n_1_0_0_1_2_11 x h = G at e ⊢
  rw [← e]
  pointwise
  rw [show (Finset.univ : Finset (Fin 1)) = {0} from rfl, Finset.fold_singleton, hg, (inside g).1]
  rfl

/-- The looked-up row, the group's number being in range. -/
theorem take_eight (x : FVec Ideal S16384x32 .f32) (h : IVec S16384x1x1 32) (r : Fin 16384) (q : Fin 8) (g : Fin 4) (hg : h (ix3 r 0 0) = BitVec.ofNat 32 g.val) :
    shapeCast S16384x8 (select (broadcastInDim S16384x1x8 ![0, 1] bcast_S16384x1_S16384x1x8_0_1 (Host.reduce IntOp.andi (andi (cmpi .sge h (broadcastInDim S16384x1x1 ![] bcast_S_S16384x1x1 (constantI S_ 32 0#32))) (cmpi .sle h (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_)) (Host.gather gather_S16384x4x8_S16384x1x1_S16384x1x8_2_1_0_0_1_2_118 (shapeCast _ x shapeCasts_S16384x32_S16384x4x8) h) (broadcastInDim S16384x1x8 ![] bcast_S_S16384x1x8 (constant (F := Ideal) S_ .f32 0x7FC00000#32))) shapeCasts_S16384x1x8_S16384x8 (ix2 r q)
      = x (ix2 r (⟨8 * g.val + q.val, by omega⟩ : Fin 32)) := by
  have e := gather_eight (shapeCast _ x shapeCasts_S16384x32_S16384x4x8) h r q g hg
  rw [show shapeCast S16384x4x8 x shapeCasts_S16384x32_S16384x4x8 (ix3 r g q) = x (ix2 r (⟨8 * g.val + q.val, by omega⟩ : Fin 32)) from ?_] at e
  · generalize Host.gather gather_S16384x4x8_S16384x1x1_S16384x1x8_2_1_0_0_1_2_118 (shapeCast _ x shapeCasts_S16384x32_S16384x4x8) h = G at e ⊢
    rw [← e]
    pointwise
    rw [show (Finset.univ : Finset (Fin 1)) = {0} from rfl, Finset.fold_singleton, hg, (inside g).1]
    rfl
  · pointwise
    exact congrArg (fun k => x (ix2 r k)) (Fin.ext (by show g.val * 8 + q.val = 8 * g.val + q.val; omega))

/-- The exponentials of a row of group logits, from the greatest one. -/
theorem exp_four (x : FVec Ideal S16384x4 .f32) (r : Fin 16384) (j g : Fin 4) (hg : First (fun k => (x (ix2 r k) : EReal)) g) :
    Host.exp (subf x (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf x (constant S_ .f32 0xFF800000#32) reducesTo_S16384x4_S16384_d1 h_S_))))) (ix2 r j)
      = Ideal.exp ((x (ix2 r j) : EReal) - x (ix2 r g)) := by
  pointwise
  rw [low_eq, fold_first hg, max_eq_right bot_le]

/-- The exponentials of a row of two logits, from the greatest one. -/
theorem exp_two (x : FVec Ideal S16384x2 .f32) (r : Fin 16384) (j : Fin 2) (h : (x (ix2 r 1) : EReal) ≤ x (ix2 r 0)) :
    Host.exp (subf x (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf x (constant S_ .f32 0xFF800000#32) reducesTo_S16384x2_S16384_d1 h_S_))))) (ix2 r j)
      = Ideal.exp ((x (ix2 r j) : EReal) - x (ix2 r 0)) := by
  have hf : First (fun k : Fin 2 => (x (ix2 r k) : EReal)) 0 := ⟨fun k => by fin_cases k; exacts [le_rfl, h], fun k hk => absurd hk (Fin.not_lt_zero k)⟩
  pointwise
  rw [low_eq, fold_first hf, max_eq_right bot_le]

/-- One group logit. -/
theorem logit_four (h : FVec Ideal S16384x2048 .f32) (w : FVec Ideal S1x2048x4 .f32) (b : FVec Ideal S1x4 .f32) (r : Fin 16384) (j : Fin 4) :
    addf (Host.dotGeneral dot_S16384x2048_S2048x4_S16384x4_1_0_0_1_n_n none h (shapeCast _ w shapeCasts_S1x2048x4_S2048x4)) (broadcastInDim S16384x4 ![0, 1] bcast_S1x4_S16384x4_0_1 (broadcastInDim S1x4 ![1] bcast_S4_S1x4_1 (shapeCast _ b shapeCasts_S1x4_S4))) (ix2 r j)
      = (∑ k : Fin 2048, (h (ix2 r k) : EReal) * w (ix3 0 k j)) + b (ix2 0 j) := by
  pointwise

/-- One expert logit. -/
theorem logit_32 (h : FVec Ideal S16384x2048 .f32) (w : FVec Ideal S1x2048x32 .f32) (b : FVec Ideal S1x32 .f32) (r : Fin 16384) (j : Fin 32) :
    addf (Host.dotGeneral dot_S16384x2048_S2048x32_S16384x32_1_0_0_1_n_n none h (shapeCast _ w shapeCasts_S1x2048x32_S2048x32)) (broadcastInDim S16384x32 ![0, 1] bcast_S1x32_S16384x32_0_1 (broadcastInDim S1x32 ![1] bcast_S32_S1x32_1 (shapeCast _ b shapeCasts_S1x32_S32))) (ix2 r j)
      = (∑ k : Fin 2048, (h (ix2 r k) : EReal) * w (ix3 0 k j)) + b (ix2 0 j) := by
  pointwise
end Cert.RouteRefIdeal.Own
-- ==== Proof.RouteReal.lean ====
/- The routing choice over the reals: logits of real arguments are reals, and the two ways the weights of the chosen experts
   are written agree. -/
module

public import proofs.«01_k».proof.Proof.MergeValue

@[expose] public section

noncomputable section

namespace Cert.Route.Own
open Idealize.ShloMosaic Idealize.ShloMosaic.TcCoe
open Cert.GatedIdeal.Own (normAt)
open Cert.MergeIdeal.Own (sumAt)
open scoped BigOperators

/-- A number that is no infinity. -/
def IsReal (x : EReal) : Prop := ∃ r : ℝ, x = r

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

theorem IsReal.ne_bot {x : EReal} (h : IsReal x) : x ≠ ⊥ := by
  obtain ⟨r, rfl⟩ := h
  exact EReal.coe_ne_bot r

/-- The number of columns the mean divides by, and the small number under the root. -/
theorem columns : ∃ n : ℝ, 0 < n ∧ Ideal.ofBits .f32 0x45000000#32 = n := ⟨2048, by norm_num, by
  simp [Ideal.ofBits, Ideal.ieee]
  rw [← EReal.coe_mul]
  norm_num⟩

theorem small : ∃ e : ℝ, 0 < e ∧ Ideal.ofBits .f32 0x358637BD#32 = e := by
  refine ⟨_, ?_, by simp [Ideal.ofBits, Ideal.ieee]; rfl⟩
  positivity

/-- A normalised row of reals is a row of reals. -/
theorem norm_real {v w : Fin 2048 → EReal} (hv : ∀ k, IsReal (v k)) (hw : ∀ k, IsReal (w k)) (k : Fin 2048) : IsReal (normAt v w k) := by
  choose x hx using hv
  obtain ⟨n, hn, en⟩ := columns
  obtain ⟨e, he, ee⟩ := small
  have hr : IsReal (Ideal.rsqrt (Ideal.div (∑ j : Fin 2048, v j * v j) (Ideal.ofBits .f32 0x45000000#32) + Ideal.ofBits .f32 0x358637BD#32)) := by
    have hs : (∑ j : Fin 2048, v j * v j) = ((∑ j, x j * x j : ℝ) : EReal) := by
      rw [coe_sum]
      exact Finset.sum_congr rfl fun j _ => by rw [hx, EReal.coe_mul]
    have hp : 0 < (∑ j, x j * x j) * n⁻¹ + e := by
      have : 0 ≤ ∑ j, x j * x j := Finset.sum_nonneg fun j _ => mul_self_nonneg _
      positivity
    refine ⟨(Real.sqrt ((∑ j, x j * x j) * n⁻¹ + e))⁻¹, ?_⟩
    rw [hs, en, ee]
    have hd : Ideal.div ((∑ j, x j * x j : ℝ) : EReal) (n : EReal) = (((∑ j, x j * x j) * n⁻¹ : ℝ) : EReal) := by
      unfold Ideal.div
      rw [if_neg (by exact_mod_cast hn.ne'), ← EReal.coe_inv, ← EReal.coe_mul]
    rw [hd, ← EReal.coe_add]
    show (if _ then _ else if _ then _ else _) = _
    rw [if_neg hp.not_gt, if_neg hp.ne']
  unfold normAt
  exact (IsReal.mul ⟨x k, hx k⟩ hr).mul (hw k)

/-- The weights of the two experts, from the group's share: the reference divides each exponential by their sum and
    multiplies by the share; the kernel divides the share first. -/
theorem weights {S : EReal} {x y : EReal} (hS : ∃ s : ℝ, 0 < s ∧ S = s) (hx : IsReal x) (hy : IsReal y) :
    Ideal.div (Ideal.div 1 S) (1 + Ideal.exp (y - x)) = Ideal.div (Ideal.exp (x - x)) (Ideal.exp (x - x) + Ideal.exp (y - x)) * Ideal.div 1 S
    ∧ Ideal.div (Ideal.div 1 S * Ideal.exp (y - x)) (1 + Ideal.exp (y - x)) = Ideal.div (Ideal.exp (y - x)) (Ideal.exp (x - x) + Ideal.exp (y - x)) * Ideal.div 1 S := by
  obtain ⟨s, hs, rfl⟩ := hS
  obtain ⟨x, rfl⟩ := hx
  obtain ⟨y, rfl⟩ := hy
  have h0 : Ideal.exp ((x : EReal) - x) = ((1 : ℝ) : EReal) := by
    rw [← EReal.coe_sub, sub_self]
    show ((Real.exp 0 : ℝ) : EReal) = _
    rw [Real.exp_zero]
  have h1 : Ideal.exp ((y : EReal) - x) = (Real.exp (y - x) : ℝ) := by rw [← EReal.coe_sub]; rfl
  have hd : ∀ a b : ℝ, 0 < b → Ideal.div (a : EReal) (b : EReal) = ((a * b⁻¹ : ℝ) : EReal) := fun a b hb => by
    unfold Ideal.div
    rw [if_neg (by exact_mod_cast hb.ne'), ← EReal.coe_inv, ← EReal.coe_mul]
  have hp : 0 < 1 + Real.exp (y - x) := by positivity
  have e1 : Ideal.div 1 (s : EReal) = ((1 * s⁻¹ : ℝ) : EReal) := hd 1 s hs
  have e2 : (1 : EReal) + ((Real.exp (y - x) : ℝ) : EReal) = ((1 + Real.exp (y - x) : ℝ) : EReal) := (EReal.coe_add 1 _).symm
  rw [h0, h1, e1, e2, ← EReal.coe_add, ← EReal.coe_mul, hd _ _ hp, hd _ _ hp, hd _ _ hp, hd _ _ hp, ← EReal.coe_mul, ← EReal.coe_mul]
  exact ⟨congrArg _ (by ring), congrArg _ (by ring)⟩

/-- The sum of the exponentials is a positive real. -/
theorem share_real {G : Fin 4 → EReal} (hG : ∀ j, IsReal (G j)) (g : Fin 4) : ∃ s : ℝ, 0 < s ∧ (∑ j, Ideal.exp (G j - G g)) = s := by
  choose x hx using hG
  refine ⟨∑ j, Real.exp (x j - x g), Finset.sum_pos (fun j _ => Real.exp_pos _) ⟨0, Finset.mem_univ _⟩, ?_⟩
  rw [coe_sum]
  refine Finset.sum_congr rfl fun j _ => ?_
  rw [hx, hx, ← EReal.coe_sub]
  rfl

/-- The expert's number comes back from the lane it is stored in. -/
theorem number (n : ℕ) (hn : n < 32) : Ideal.fptosi 32 (FloatOps.sitofp (F := Ideal) .f32 (IntOp.subi (BitVec.ofNat 32 (8 + n)) 8#32)) = BitVec.ofNat 32 n := by
  have e : ∀ n : Fin 32, (IntOp.subi (BitVec.ofNat 32 (8 + n.val)) 8#32).toInt = n.val := by decide
  have e' : (IntOp.subi (BitVec.ofNat 32 (8 + n)) 8#32).toInt = n := e ⟨n, hn⟩
  show Ideal.fptosi 32 (((IntOp.subi (BitVec.ofNat 32 (8 + n)) 8#32).toInt : ℝ) : EReal) = _
  rw [e']
  have hf : ⌊((n : ℤ) : ℝ)⌋ = (n : ℤ) := Int.floor_intCast _
  show BitVec.ofInt 32 (max (-(2 ^ 31 : ℕ)) (min ((2 ^ 31 : ℕ) - 1) (if 0 ≤ ((n : ℤ) : ℝ) then ⌊((n : ℤ) : ℝ)⌋ else ⌈((n : ℤ) : ℝ)⌉))) = _
  rw [if_pos (by positivity), hf, max_eq_right (by omega), min_eq_right (by omega)]
  rfl
/-- One logit of a normalised row. -/
def logit {n : Nat} (v : Fin 2048 → EReal) (w : FVec Ideal ⟨3, ![1, 2048, n]⟩ .f32) (b : FVec Ideal ⟨2, ![1, n]⟩ .f32) (j : Fin n) : EReal :=
  (∑ k : Fin 2048, v k * (w (ix3 0 k j) : EReal)) + (b (ix2 0 j) : EReal)

/-- The normalised row `r`, from the arguments. -/
def rowAt (g : FVec Ideal ⟨2, ![16384, 4096]⟩ .bf16) (ya yb : FVec Ideal ⟨2, ![16384, 2048]⟩ .bf16) (x : FVec Ideal ⟨2, ![16384, 2048]⟩ .f32) (w : FVec Ideal ⟨3, ![1, 2048, 2048]⟩ .f32)
    (nw : FVec Ideal ⟨2, ![1, 2048]⟩ .f32) (r : Fin 16384) (q : Fin 2048) : EReal :=
  Cert.GatedIdeal.Own.normAt (Cert.MergeIdeal.Own.sumAt g ya yb x w r) (fun k => nw (ix2 0 k)) q
end Cert.Route.Own
-- ==== Proof.RouteRow.lean ====
/- The reference's routing choice for one row: the group, the two experts and their weights. -/
module

public import proofs.«01_k».proof.Proof.RouteRef
public import proofs.«01_k».proof.Proof.RouteReal
public import proofs.«01_k».proof.Proof.Gen.RouteRefIdeal.Run

@[expose] public section

set_option maxRecDepth 100000

noncomputable section

namespace Cert.RouteRefIdeal.Own
open Cert.RouteRefIdeal Cert.RouteRefIdeal.Gen Cert.RouteRefIdeal.Value Idealize.ShloMosaic Idealize.ShloMosaic.TcCoe
open Cert.Route.Own
open Cert.GatedIdeal.Own (normAt)
open Idealize.SL.Sem Idealize.ShloMosaic.StableHlo
open scoped BigOperators

theorem number_eq : ∀ (g : Fin 4) (x : Fin 8), IntOp.addi (IntOp.muli (BitVec.ofNat 32 g.val) 8#32) (BitVec.ofNat 32 x.val) = BitVec.ofNat 32 (8 * g.val + x.val) := by
  decide

theorem ids_at (G : IVec S16384 32) (K : IVec S16384x2 32) (r : Fin 16384) (q : Fin 2) :
    addi (broadcastInDim S16384x2 ![0, 1] bcast_S16384x1_S16384x2_0_1 (muli (broadcastInDim S16384x1 ![0] bcast_S16384_S16384x1_0 G) (broadcastInDim S16384x1 ![] bcast_S_S16384x1 (constantI S_ 32 8#32)))) K (ix2 r q)
      = IntOp.addi (IntOp.muli (G (ix1 r)) 8#32) (K (ix2 r q)) := by
  pointwise

theorem weights_at (e : FVec Ideal S16384x2 .f32) (s : FVec Ideal S16384x1 .f32) (r : Fin 16384) (q : Fin 2) :
    mulf (Host.divf e (broadcastInDim S16384x2 ![0, 1] bcast_S16384x1_S16384x2_0_1 (broadcastInDim S16384x1 ![0] bcast_S16384_S16384x1_0 (Host.reduceAdd e (constant S_ .f32 0x00000000#32) reducesTo_S16384x2_S16384_d1 h_S_)))) (broadcastInDim S16384x2 ![0, 1] bcast_S16384x1_S16384x2_0_1 s) (ix2 r q)
      = Ideal.div (e (ix2 r q)) (∑ j : Fin 2, (e (ix2 r j) : EReal)) * (s (ix2 r 0) : EReal) := by
  pointwise

theorem share_at (e : FVec Ideal S16384x4 .f32) (r : Fin 16384) (g : Fin 4) :
    Host.divf e (broadcastInDim S16384x4 ![0, 1] bcast_S16384x1_S16384x4_0_1 (broadcastInDim S16384x1 ![0] bcast_S16384_S16384x1_0 (Host.reduceAdd e (constant S_ .f32 0x00000000#32) reducesTo_S16384x4_S16384_d1 h_S_))) (ix2 r g)
      = Ideal.div (e (ix2 r g)) (∑ j : Fin 4, (e (ix2 r j) : EReal)) := by
  pointwise

theorem cast_idx (K : IVec S16384x1 32) (r : Fin 16384) : shapeCast S16384 K shapeCasts_S16384x1_S16384 (ix1 r) = K (ix2 r 0) := by
  pointwise

/-- The group's number, as the first lookup takes it. -/
theorem look_one (G : IVec S16384 32) (r : Fin 16384) (g : Fin 4) (h : G (ix1 r) = BitVec.ofNat 32 g.val) :
    shapeCast S16384x1x1 (select (cmpi .slt (broadcastInDim S16384x1 ![0] bcast_S16384_S16384x1_0 G) (broadcastInDim S16384x1 ![] bcast_S_S16384x1 (constantI S_ 32 0#32))) (addi (broadcastInDim S16384x1 ![0] bcast_S16384_S16384x1_0 G) (broadcastInDim S16384x1 ![] bcast_S_S16384x1 (constantI S_ 32 4#32))) (broadcastInDim S16384x1 ![0] bcast_S16384_S16384x1_0 G)) shapeCasts_S16384x1_S16384x1x1 (ix3 r 0 0)
      = BitVec.ofNat 32 g.val := by
  refine Eq.trans (b := Scalar.select (IntOp.cmpi .slt (G (ix1 r)) 0#32) (IntOp.addi (G (ix1 r)) 4#32) (G (ix1 r))) ?_ (by rw [h]; exact (inside g).2)
  pointwise

/-- The group's number, as the second lookup takes it. -/
theorem look_eight (G : IVec S16384 32) (r : Fin 16384) (g : Fin 4) (h : G (ix1 r) = BitVec.ofNat 32 g.val) :
    select (cmpi .slt (broadcastInDim S16384x1x1 ![0] bcast_S16384_S16384x1x1_0 G) (broadcastInDim S16384x1x1 ![] bcast_S_S16384x1x1 (constantI S_ 32 0#32))) (addi (broadcastInDim S16384x1x1 ![0] bcast_S16384_S16384x1x1_0 G) (broadcastInDim S16384x1x1 ![] bcast_S_S16384x1x1 (constantI S_ 32 4#32))) (broadcastInDim S16384x1x1 ![0] bcast_S16384_S16384x1x1_0 G) (ix3 r 0 0)
      = BitVec.ofNat 32 g.val := by
  refine Eq.trans (b := Scalar.select (IntOp.cmpi .slt (G (ix1 r)) 0#32) (IntOp.addi (G (ix1 r)) 4#32) (G (ix1 r))) ?_ (by rw [h]; exact (inside g).2)
  pointwise

theorem norm_row (v : FVec Ideal S16384x2048 .f32) (nw : FVec Ideal S1x2048 .f32) (r : Fin 16384) (q : Fin 2048) :
    mulf (mulf v (broadcastInDim S16384x2048 ![0, 1] bcast_S16384x1_S16384x2048_0_1 (Host.rsqrt (addf (Host.divf (broadcastInDim S16384x1 ![0] bcast_S16384_S16384x1_0 (Host.reduceAdd (mulf v v) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast S2048 nw shapeCasts_S1x2048_S2048))) (ix2 r q)
      = normAt (fun k => v (ix2 r k)) (fun k => nw (ix2 0 k)) q :=
  Cert.MergeIdeal.Own.ref_norm v nw r q

section
variable (V : Valuation τ sig (Elt Ideal)) (r : Fin 16384)

/-- The normalised row the reference routes. -/
abbrev rowOf : Fin 2048 → EReal := rowAt (V (Proc.devRef .tc main_arg0)) (V (Proc.devRef .tc main_arg1)) (V (Proc.devRef .tc main_arg2)) (V (Proc.devRef .tc main_arg3)) (V (Proc.devRef .tc main_arg4)) (V (Proc.devRef .tc main_arg5)) r

/-- The row's group logits. -/
abbrev groups : Fin 4 → EReal := logit (rowOf V r) (V (Proc.devRef .tc main_arg6)) (V (Proc.devRef .tc main_arg7))

/-- The row's expert logits in group `g`. -/
abbrev experts (g : Fin 4) (q : Fin 8) : EReal := logit (rowOf V r) (V (Proc.devRef .tc main_arg8)) (V (Proc.devRef .tc main_arg9)) (⟨8 * g.val + q.val, by omega⟩ : Fin 32)

theorem row_eq (q : Fin 2048) : (res_main_v24 V : FVec Ideal S16384x2048 .f32) (ix2 r q) = rowOf V r q := by
  unfold res_main_v24
  refine (norm_row (res_main_v10 V) (V (Proc.devRef .tc main_arg5)) r q).trans ?_
  unfold rowOf rowAt
  exact congrArg (fun v => normAt v _ q) (funext fun k => Cert.MergeIdeal.Own.ref_sum _ _ _ _ _ r k)

theorem group_eq (j : Fin 4) : (res_main_v30 V : FVec Ideal S16384x4 .f32) (ix2 r j) = groups V r j := by
  unfold res_main_v30
  refine (logit_four (res_main_v24 V) _ _ r j).trans ?_
  unfold groups logit
  simp only [row_eq]

theorem groups_eq : (fun k : Fin 4 => ((res_main_v30 V : FVec Ideal S16384x4 .f32) (ix2 r k) : EReal)) = groups V r := funext fun k => group_eq V r k

/-- The group the reference chooses. -/
abbrev group : Fin 4 := sortedFrom (above (groups V r)) ⟨0, by decide⟩

theorem group_number : (res_main_v42 V : IVec S16384 32) (ix1 r) = BitVec.ofNat 32 (group V r).val := by
  unfold res_main_v42
  refine (cast_idx _ r).trans ?_
  have e := (topK_row (res_main_v30 V : FVec Ideal S16384x4 .f32) sliceFits_S16384x4_S16384x1 (by decide) r (0 : Fin 1)).2
  rw [groups_eq] at e
  exact e

theorem expert_eq (q : Fin 8) : (res_main_v54 V : FVec Ideal S16384x8 .f32) (ix2 r q) = experts V r (group V r) q := by
  unfold res_main_v54
  refine (take_eight _ (res_main_call1_v4 V) r q (group V r) ?_).trans ?_
  · unfold res_main_call1_v4 res_main_v52
    exact look_eight _ r _ (group_number V r)
  · refine (logit_32 (res_main_v24 V) _ _ r _).trans ?_
    unfold experts logit
    simp only [row_eq]

theorem experts_eq : (fun k : Fin 8 => ((res_main_v54 V : FVec Ideal S16384x8 .f32) (ix2 r k) : EReal)) = experts V r (group V r) := funext fun k => expert_eq V r k

/-- The two experts the reference chooses within the group. -/
abbrev expert (q : Fin 2) : Fin 8 := sortedFrom (above (experts V r (group V r))) ⟨q.val, by omega⟩

theorem ids (q : Fin 2) : addi (broadcastInDim S16384x2 ![0, 1] bcast_S16384x1_S16384x2_0_1 (muli (broadcastInDim S16384x1 ![0] bcast_S16384_S16384x1_0 (res_main_v42 V)) (broadcastInDim S16384x1 ![] bcast_S_S16384x1 (constantI S_ 32 8#32)))) ((Host.topK S16384x2 1 (FloatOps.cmpfTotal .gt) (res_main_v54 V) sliceFits_S16384x8_S16384x2).2) (ix2 r q)
    = BitVec.ofNat 32 (8 * (group V r).val + (expert V r q).val) := by
  refine (ids_at _ _ r q).trans ?_
  have e := (topK_row (res_main_v54 V : FVec Ideal S16384x8 .f32) sliceFits_S16384x8_S16384x2 (by decide) r q).2
  rw [experts_eq] at e
  rw [group_number]
  exact (congrArg (IntOp.addi _) e).trans (number_eq _ _)

theorem value_eq (q : Fin 2) : (res_main_values_5 V : FVec Ideal S16384x2 .f32) (ix2 r q) = experts V r (group V r) (expert V r q) := by
  have e := (topK_row (res_main_v54 V : FVec Ideal S16384x8 .f32) sliceFits_S16384x8_S16384x2 (by decide) r q).1
  rw [experts_eq] at e
  exact e.trans (expert_eq V r _)

theorem expert_first : First (experts V r (group V r)) (expert V r 0) := sorted_first (by decide)
theorem expert_next : Next (experts V r (group V r)) (expert V r 0) (expert V r 1) := sorted_next (by decide)
theorem group_first : First (groups V r) (group V r) := sorted_first (by decide)

theorem exp_expert (q : Fin 2) : (res_main_v61 V : FVec Ideal S16384x2 .f32) (ix2 r q)
    = Ideal.exp (experts V r (group V r) (expert V r q) - experts V r (group V r) (expert V r 0)) := by
  unfold res_main_v61
  refine (exp_two (res_main_values_5 V) r q ?_).trans ?_
  · rw [value_eq, value_eq]
    exact (expert_first V r).1 _
  · rw [value_eq, value_eq]

theorem exp_group (j : Fin 4) : (res_main_v37 V : FVec Ideal S16384x4 .f32) (ix2 r j) = Ideal.exp (groups V r j - groups V r (group V r)) := by
  unfold res_main_v37
  refine (exp_four (res_main_v30 V) r j (group V r) ?_).trans ?_
  · rw [groups_eq]
    exact group_first V r
  · rw [group_eq, group_eq]

theorem shares (q : Fin 2) : mulf (Host.divf (res_main_v61 V) (broadcastInDim S16384x2 ![0, 1] bcast_S16384x1_S16384x2_0_1 (broadcastInDim S16384x1 ![0] bcast_S16384_S16384x1_0 (Host.reduceAdd (res_main_v61 V) (constant S_ .f32 0x00000000#32) reducesTo_S16384x2_S16384_d1 h_S_)))) (broadcastInDim S16384x2 ![0, 1] bcast_S16384x1_S16384x2_0_1 (select (Host.reduce IntOp.andi (andi (cmpi .sge (res_main_call0_v5 V) (broadcastInDim S16384x1x1 ![] bcast_S_S16384x1x1 (constantI S_ 32 0#32))) (cmpi .sle (res_main_call0_v5 V) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_) (Host.gather gather_S16384x4_S16384x1x1_S16384x1_n_1_0_0_1_2_11 (Host.divf (res_main_v37 V) (broadcastInDim S16384x4 ![0, 1] bcast_S16384x1_S16384x4_0_1 (broadcastInDim S16384x1 ![0] bcast_S16384_S16384x1_0 (Host.reduceAdd (res_main_v37 V) (constant S_ .f32 0x00000000#32) reducesTo_S16384x4_S16384_d1 h_S_)))) (res_main_call0_v5 V)) (broadcastInDim S16384x1 ![] bcast_S_S16384x1 (constant S_ .f32 0x7FC00000#32)))) (ix2 r q)
    = Ideal.div (Ideal.exp (experts V r (group V r) (expert V r q) - experts V r (group V r) (expert V r 0)))
        (Ideal.exp (experts V r (group V r) (expert V r 0) - experts V r (group V r) (expert V r 0)) + Ideal.exp (experts V r (group V r) (expert V r 1) - experts V r (group V r) (expert V r 0)))
      * Ideal.div (Ideal.exp (groups V r (group V r) - groups V r (group V r))) (∑ j : Fin 4, Ideal.exp (groups V r j - groups V r (group V r))) := by
  refine (weights_at (res_main_v61 V) _ r q).trans ?_
  rw [Fin.sum_univ_two, exp_expert, exp_expert, exp_expert]
  congr 1
  refine (take_one _ (res_main_call0_v5 V) r (group V r) ?_).trans ?_
  · unfold res_main_call0_v5 res_main_v43
    exact look_one _ r _ (group_number V r)
  · refine (share_at (res_main_v37 V) r _).trans ?_
    simp only [exp_group]
end
end Cert.RouteRefIdeal.Own
-- ==== Proof.RouteValue.lean ====
/- The routing choice: the kernel's run, what it leaves for one row, and the equality with the reference. -/
module

public import proofs.«01_k».proof.Proof.RouteBlocks
public import proofs.«01_k».proof.Proof.RouteRow
public import proofs.«01_k».proof.Proof.SsdValue
public import proofs.«01_k».proof.Defs
public import Idealize.ShloMosaic.Adequacy
public import Idealize.ShloMosaic.Init

@[expose] public section

set_option maxRecDepth 100000

noncomputable section

namespace Cert.RouteIdeal.Own
open Cert.RouteIdeal Cert.RouteIdeal.Gen Idealize.ShloMosaic Idealize.ShloMosaic.TcCoe
open Cert.Route.Own
open scoped BigOperators

section
variable {F : FTy → Type} [FloatOps F]
variable (m : (ℓ : Loc nD τ sig) → Buf (Elt F) ℓ) (c : Dev nD)

/-- The arrays as the host's last operations find them. -/
abbrev left : Valuation τ sig (Elt F) := Pipeline.withArrays (cfgs 0).spec c (V0 m c) fun w => (dats m 0 c).arrAt w (cfgs 0).N

theorem left_choice : left m c (Proc.devRef .tc main_v23_2) = (dats m 0 c).arrAt 11 cfg0.N :=
  (dats m 0 c).withArrays_arrAt sharedIn0 (V0 m c) (A_eq m c) 11

theorem tail_ids : Pipeline.afterTail₀ cfgs (dats m) 0 (V0 m) [hostOps1] c main_v25
    = fptosi 32 (extractStridedSlice S16384x2 ![0, 0] ((dats m 0 c).arrAt 11 cfg0.N) slices_S16384x128_S16384x2_0_0) := by
  rw [← left_choice]
  show StableHlo.after hostOps1 (left m c) (Proc.devRef .tc main_v25) = _
  generalize left m c = V
  after_results <;> rfl

theorem tail_weights : Pipeline.afterTail₀ cfgs (dats m) 0 (V0 m) [hostOps1] c main_v26
    = extractStridedSlice S16384x2 ![0, 2] ((dats m 0 c).arrAt 11 cfg0.N) slices_S16384x128_S16384x2_0_2 := by
  rw [← left_choice]
  show StableHlo.after hostOps1 (left m c) (Proc.devRef .tc main_v26) = _
  generalize left m c = V
  after_results <;> rfl

variable (ρ : Dev nD → PrngReg)
open Idealize.SL.Sem in
/-- The kernel's run: the results are cut from what the points wrote, and the arguments are as launched. -/
theorem run : θ_run defs (onTc (τ := τ) (main (F := F))) ⟨m, fun _ => 0, ρ⟩ fun r => ∀ c : Dev nD,
      r.2.mem ((c : Thread nD τ).loc main_v25) = fptosi 32 (extractStridedSlice S16384x2 ![0, 0] ((dats m 0 c).arrAt 11 cfg0.N) slices_S16384x128_S16384x2_0_0)
      ∧ r.2.mem ((c : Thread nD τ).loc main_v26) = extractStridedSlice S16384x2 ![0, 2] ((dats m 0 c).arrAt 11 cfg0.N) slices_S16384x128_S16384x2_0_2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h.1 c).2 main_v25 (Pipeline.mem_restRefs_of main_v25 (by decide) (by decide))).trans (tail_ids m c),
      ((h.1 c).2 main_v26 (Pipeline.mem_restRefs_of main_v26 (by decide) (by decide))).trans (tail_weights m c), h.2 c⟩)
    (θ_run_and (run_main m ρ) (unchanged m ρ))

theorem apart (t t' : Fin cfg0.N) (h : t ≠ t') : Disjoint ((cfg0.win 11).blk t).view.set ((cfg0.win 11).blk t').view.set :=
  (cfg0.win 11).disjoint_blk fun e => h (Fin.ext (by
    have := congrFun e (0 : Fin 2)
    rw [← (idx_whole t).2.2.2.2.1, ← (idx_whole t').2.2.2.2.1]
    exact this))
end

theorem cut_ids (v : FVec Ideal S16384x128 .f32) (r : Fin 16384) (q : Fin 2) :
    fptosi 32 (extractStridedSlice S16384x2 ![0, 0] v slices_S16384x128_S16384x2_0_0) (ix2 r q) = Ideal.fptosi 32 (v (ix2 r (⟨q.val, by omega⟩ : Fin 128))) := by
  pointwise
  rfl

theorem cut_weights (v : FVec Ideal S16384x128 .f32) (r : Fin 16384) (q : Fin 2) :
    extractStridedSlice S16384x2 ![0, 2] v slices_S16384x128_S16384x2_0_2 (ix2 r q) = v (ix2 r (⟨2 + q.val, by omega⟩ : Fin 128)) := by
  pointwise

theorem lane_number (a : Fin 512) (l : Fin 128) : iota .tc S512x128 32 [1] iota_S512x128_d1_w32 (ix2 a l) = BitVec.ofNat 32 l.val := by
  pointwise

section
variable (m : (ℓ : Loc nD τ sig) → Buf (Elt Ideal) ℓ) (c : Dev nD)

/-- The normalised row the kernel routes. -/
abbrev rowOf (r : Fin 16384) : Fin 2048 → EReal := rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r

/-- The row's group logits. -/
abbrev groups (r : Fin 16384) : Fin 4 → EReal := logit (rowOf m c r) (m ((c : Thread nD τ).loc main_arg6)) (m ((c : Thread nD τ).loc main_arg7))

/-- The row's expert logits in group `g`. -/
abbrev experts (r : Fin 16384) (g : Fin 4) (q : Fin 8) : EReal := logit (rowOf m c r) (m ((c : Thread nD τ).loc main_arg8)) (m ((c : Thread nD τ).loc main_arg9)) (⟨8 * g.val + q.val, by omega⟩ : Fin 32)

/-- The normalised rows of point `t`, as the router takes them. -/
abbrev rows (t : Fin cfg0.N) : FVec Ideal S512x2048 .bf16 := k0_pay5 (iblk m c 0 t) (iblk m c 2 t) (iblk m c 1 t) (iblk m c 3 t) (iblk m c 4 t) (iblk m c 5 t) (iblk m c 6 t)

theorem groups_at (t : Fin cfg0.N) (a : Fin 512) (j : Fin 4) :
    k0_pay6 (rows m c t) (iblk m c 7 t) (iblk m c 8 t) (ix2 a (⟨0 + j.val, by omega⟩ : Fin 128)) = groups m c (row t a) j := by
  refine (logit_block (rows m c t) (iblk m c 7 t) (iblk m c 8 t) a _).trans ?_
  unfold groups logit rowOf rowAt
  refine congrArg₂ (· + ·) (Finset.sum_congr rfl fun k _ => congrArg₂ (· * ·) (block_norm m c t a k) (group_weight m c t k j)) (group_bias m c t j)

theorem experts_at (t : Fin cfg0.N) (a : Fin 512) (g : Fin 4) (q : Fin 8) :
    k0_pay6 (rows m c t) (iblk m c 7 t) (iblk m c 8 t) (ix2 a (⟨8 + 8 * g.val + q.val, by omega⟩ : Fin 128)) = experts m c (row t a) g q := by
  rw [show (⟨8 + 8 * g.val + q.val, by omega⟩ : Fin 128) = ⟨8 + (⟨8 * g.val + q.val, by omega⟩ : Fin 32).val, by have := g.isLt; have := q.isLt; simp only; omega⟩ from Fin.ext (by show 8 + 8 * g.val + q.val = 8 + (8 * g.val + q.val); omega)]
  refine (logit_block (rows m c t) (iblk m c 7 t) (iblk m c 8 t) a _).trans ?_
  unfold experts logit rowOf rowAt
  refine congrArg₂ (· + ·) (Finset.sum_congr rfl fun k _ => congrArg₂ (· * ·) (block_norm m c t a k) (expert_weight m c t k _)) (expert_bias m c t _)

/-- What the kernel leaves of one row, lane by lane. -/
theorem left_at (t : Fin cfg0.N) (a : Fin 512) (l : Fin 128) : (dats m 0 c).arrAt 11 cfg0.N (ix2 (row t a) l)
    = k0_pay1 (k0_pay17 (iota .tc S512x128 32 [1] iota_S512x128_d1_w32) (k0_pay10 (rows m c t) (iblk m c 7 t) (iblk m c 8 t)) (k0_pay11 (rows m c t) (iblk m c 7 t) (iblk m c 8 t)))
        (k0_pay18 (iota .tc S512x128 32 [1] iota_S512x128_d1_w32)) (k0_pay19 (iota .tc S512x128 32 [1] iota_S512x128_d1_w32) (k0_pay11 (rows m c t) (iblk m c 7 t) (iblk m c 8 t)))
        (k0_pay20 (iota .tc S512x128 32 [1] iota_S512x128_d1_w32)) (k0_pay21 (iota .tc S512x128 32 [1] iota_S512x128_d1_w32) (k0_pay11 (rows m c t) (iblk m c 7 t) (iblk m c 8 t)))
        (k0_pay22 (iota .tc S512x128 32 [1] iota_S512x128_d1_w32)) (k0_pay23 (iota .tc S512x128 32 [1] iota_S512x128_d1_w32)) (Scalar.ofBits .f32 0x00000000#32)
        (k0_pay24 (iota .tc S512x128 32 [1] iota_S512x128_d1_w32) (k0_pay10 (rows m c t) (iblk m c 7 t) (iblk m c 8 t)) (k0_pay11 (rows m c t) (iblk m c 7 t) (iblk m c 8 t))) (ix2 a l) := by
  have e := (dats m 0 c).arrAt_emb_eq_flushed 11 (fun t t' _ _ h => apart t t' h) t (flush0_11 t) (ix2 a l)
  rw [show ((cfg0.win 11).blk t).view.emb (ix2 a l) = ix2 (row t a) l from by
    funext d
    apply Fin.ext
    obtain ⟨-, -, -, -, e0, e1⟩ := idx_whole t
    match d with
    | ⟨0, _⟩ => show win0_11.index t 0 * 512 + 1 * a.val = 512 * t.val + a.val; rw [e0]; omega
    | ⟨1, _⟩ => show win0_11.index t 1 * 128 + 1 * l.val = l.val; rw [e1]; omega] at e
  refine e.trans (Eq.trans (show _ = (dats m 0 c).after 11 t (ix2 a l) from rfl) ?_)
  rw [after0_11]
  unfold out0_11 k0_pay28 k0_pay27 k0_pay26 k0_pay25
  rw [View.canon_unit_zero Cert.Own.off2]
  repeat rw [View.ld_unit_zero Cert.Own.off2]

/-- The four lanes of a row, from its logits. -/
theorem row_left (t : Fin cfg0.N) (a : Fin 512) (g : Fin 4) (hf : First (groups m c (row t a)) g) (hb : groups m c (row t a) g ≠ ⊥)
    (x y : Fin 8) (hx : First (experts m c (row t a) g) x) (hy : Next (experts m c (row t a) g) x y) (hbx : experts m c (row t a) g x ≠ ⊥) (hby : experts m c (row t a) g y ≠ ⊥) :
    (dats m 0 c).arrAt 11 cfg0.N (ix2 (row t a) (0 : Fin 128)) = FloatOps.sitofp (F := Ideal) .f32 (IntOp.subi (BitVec.ofNat 32 (8 + 8 * g.val + x.val)) 8#32)
    ∧ (dats m 0 c).arrAt 11 cfg0.N (ix2 (row t a) (1 : Fin 128)) = FloatOps.sitofp (F := Ideal) .f32 (IntOp.subi (BitVec.ofNat 32 (8 + 8 * g.val + y.val)) 8#32)
    ∧ (dats m 0 c).arrAt 11 cfg0.N (ix2 (row t a) (2 : Fin 128)) = Ideal.div (Ideal.div 1 (∑ j, Ideal.exp (groups m c (row t a) j - groups m c (row t a) g)))
        (1 + Ideal.exp (experts m c (row t a) g y - experts m c (row t a) g x))
    ∧ (dats m 0 c).arrAt 11 cfg0.N (ix2 (row t a) (3 : Fin 128)) = Ideal.div (Ideal.div 1 (∑ j, Ideal.exp (groups m c (row t a) j - groups m c (row t a) g)) * Ideal.exp (experts m c (row t a) g y - experts m c (row t a) g x))
        (1 + Ideal.exp (experts m c (row t a) g y - experts m c (row t a) g x)) := by
  have hG := groups_at m c t a
  have he := expert_lanes (rows m c t) (iblk m c 7 t) (iblk m c 8 t) a (groups m c (row t a)) hG g hf hb (experts m c (row t a) g) (experts_at m c t a g)
  have hp := group_share (rows m c t) (iblk m c 7 t) (iblk m c 8 t) a (groups m c (row t a)) hG g hf hb
  have s := stored (iota .tc S512x128 32 [1] iota_S512x128_d1_w32) lane_number (k0_pay10 (rows m c t) (iblk m c 7 t) (iblk m c 8 t)) (k0_pay11 (rows m c t) (iblk m c 7 t) (iblk m c 8 t)) a
    (8 + 8 * g.val) (by omega) (experts m c (row t a) g) he x y hx hy hbx hby
  rw [hp] at s
  exact ⟨(left_at m c t a 0).trans s.1, (left_at m c t a 1).trans s.2.1, (left_at m c t a 2).trans s.2.2.1, (left_at m c t a 3).trans s.2.2.2⟩

/-- Under the precondition every logit is a real. -/
theorem reals [Cert.Pre_finite_route.Facts] (h : Cert.Pre_RouteIdeal_finite_route m) (r : Fin 16384) :
    (∀ j, IsReal (groups m c r j)) ∧ ∀ g q, IsReal (experts m c r g q) := by
  obtain ⟨h0, h1, h2, h3, h4, h5, h6, h7, h8, h9⟩ := h c
  unfold Cert.Pre_finite_route.fn Cert.Pre_finite_route.fn_part1 at h0 h1 h2 h3 h4 h5 h6 h7 h8 h9
  have r0 : ∀ i j, IsReal (m ((c : Thread nD τ).loc main_arg0) (ix2 i j)) := fun i j => by
    have e := congrFun h0 (ix2 i j)
    pointwise at e
    exact Cert.SsdIdeal.Own.real_of_below _ e
  have r1 : ∀ i j, IsReal (m ((c : Thread nD τ).loc main_arg1) (ix2 i j)) := fun i j => by
    have e := congrFun h1 (ix2 i j)
    pointwise at e
    exact Cert.SsdIdeal.Own.real_of_below _ e
  have r2 : ∀ i j, IsReal (m ((c : Thread nD τ).loc main_arg2) (ix2 i j)) := fun i j => by
    have e := congrFun h2 (ix2 i j)
    pointwise at e
    exact Cert.SsdIdeal.Own.real_of_below _ e
  have r3 : ∀ i j, IsReal (m ((c : Thread nD τ).loc main_arg3) (ix2 i j)) := fun i j => by
    have e := congrFun h3 (ix2 i j)
    pointwise at e
    exact Cert.SsdIdeal.Own.real_of_below _ e
  have r4 : ∀ i j, IsReal (m ((c : Thread nD τ).loc main_arg4) (ix3 0 i j)) := fun i j => by
    have e := congrFun h4 (ix3 0 i j)
    pointwise at e
    exact Cert.SsdIdeal.Own.real_of_below _ e
  have r5 : ∀ j, IsReal (m ((c : Thread nD τ).loc main_arg5) (ix2 0 j)) := fun j => by
    have e := congrFun h5 (ix2 0 j)
    pointwise at e
    exact Cert.SsdIdeal.Own.real_of_below _ e
  have r6 : ∀ i j, IsReal (m ((c : Thread nD τ).loc main_arg6) (ix3 0 i j)) := fun i j => by
    have e := congrFun h6 (ix3 0 i j)
    pointwise at e
    exact Cert.SsdIdeal.Own.real_of_below _ e
  have r7 : ∀ j, IsReal (m ((c : Thread nD τ).loc main_arg7) (ix2 0 j)) := fun j => by
    have e := congrFun h7 (ix2 0 j)
    pointwise at e
    exact Cert.SsdIdeal.Own.real_of_below _ e
  have r8 : ∀ i j, IsReal (m ((c : Thread nD τ).loc main_arg8) (ix3 0 i j)) := fun i j => by
    have e := congrFun h8 (ix3 0 i j)
    pointwise at e
    exact Cert.SsdIdeal.Own.real_of_below _ e
  have r9 : ∀ j, IsReal (m ((c : Thread nD τ).loc main_arg9) (ix2 0 j)) := fun j => by
    have e := congrFun h9 (ix2 0 j)
    pointwise at e
    exact Cert.SsdIdeal.Own.real_of_below _ e
  have hr : ∀ q, IsReal (rowOf m c r q) := fun q => norm_real (fun k => (r3 r k).add (IsReal.sum fun i =>
    (((r0 r _).mul (r1 r i)).add ((r0 r _).mul (r2 r i))).mul (r4 i k))) r5 q
  exact ⟨fun j => (IsReal.sum fun k => (hr k).mul (r6 k j)).add (r7 j), fun g q => (IsReal.sum fun k => (hr k).mul (r8 k _)).add (r9 _)⟩

/-- The exponential of a real from itself. -/
theorem exp_self {x : EReal} (h : IsReal x) : Ideal.exp (x - x) = 1 := by
  obtain ⟨s, rfl⟩ := h
  rw [← EReal.coe_sub, sub_self]
  show ((Real.exp 0 : ℝ) : EReal) = 1
  rw [Real.exp_zero, EReal.coe_one]

/-- One row: the kernel leaves the reference's experts and weights. -/
theorem agree [Cert.Pre_finite_route.Facts] (h : Cert.Pre_RouteIdeal_finite_route m) (V : Valuation Cert.RouteRefIdeal.τ Cert.RouteRefIdeal.sig (Elt Ideal)) (r : Fin 16384)
    (hg : Cert.RouteRefIdeal.Own.groups V r = groups m c r) (he : ∀ g, Cert.RouteRefIdeal.Own.experts V r g = experts m c r g) :
    (∀ q : Fin 2, Ideal.fptosi 32 ((dats m 0 c).arrAt 11 cfg0.N (ix2 r (⟨q.val, by omega⟩ : Fin 128)))
      = BitVec.ofNat 32 (8 * (Cert.RouteRefIdeal.Own.group V r).val + (Cert.RouteRefIdeal.Own.expert V r q).val))
    ∧ ∀ q : Fin 2, (dats m 0 c).arrAt 11 cfg0.N (ix2 r (⟨2 + q.val, by omega⟩ : Fin 128))
      = Ideal.div (Ideal.exp (Cert.RouteRefIdeal.Own.experts V r (Cert.RouteRefIdeal.Own.group V r) (Cert.RouteRefIdeal.Own.expert V r q) - Cert.RouteRefIdeal.Own.experts V r (Cert.RouteRefIdeal.Own.group V r) (Cert.RouteRefIdeal.Own.expert V r 0)))
          (Ideal.exp (Cert.RouteRefIdeal.Own.experts V r (Cert.RouteRefIdeal.Own.group V r) (Cert.RouteRefIdeal.Own.expert V r 0) - Cert.RouteRefIdeal.Own.experts V r (Cert.RouteRefIdeal.Own.group V r) (Cert.RouteRefIdeal.Own.expert V r 0))
            + Ideal.exp (Cert.RouteRefIdeal.Own.experts V r (Cert.RouteRefIdeal.Own.group V r) (Cert.RouteRefIdeal.Own.expert V r 1) - Cert.RouteRefIdeal.Own.experts V r (Cert.RouteRefIdeal.Own.group V r) (Cert.RouteRefIdeal.Own.expert V r 0)))
        * Ideal.div (Ideal.exp (Cert.RouteRefIdeal.Own.groups V r (Cert.RouteRefIdeal.Own.group V r) - Cert.RouteRefIdeal.Own.groups V r (Cert.RouteRefIdeal.Own.group V r)))
          (∑ j : Fin 4, Ideal.exp (Cert.RouteRefIdeal.Own.groups V r j - Cert.RouteRefIdeal.Own.groups V r (Cert.RouteRefIdeal.Own.group V r))) := by
  have f1 := Cert.RouteRefIdeal.Own.group_first V r
  have f2 := Cert.RouteRefIdeal.Own.expert_first V r
  have f3 := Cert.RouteRefIdeal.Own.expert_next V r
  generalize Cert.RouteRefIdeal.Own.expert V r = x at f2 f3 ⊢
  generalize Cert.RouteRefIdeal.Own.group V r = g at f1 f2 f3 ⊢
  simp only [hg, he] at f1 f2 f3 ⊢
  obtain ⟨t, a, rfl⟩ := tile_of r
  obtain ⟨hG, hE⟩ := reals m c h (row t a)
  obtain ⟨l0, l1, l2, l3⟩ := row_left m c t a g f1 (hG g).ne_bot (x 0) (x 1) f2 f3 (hE g _).ne_bot (hE g _).ne_bot
  obtain ⟨w0, w1⟩ := weights (share_real hG g) (hE g (x 0)) (hE g (x 1))
  rw [exp_self (hG g)]
  have nb : ∀ y : Fin 8, 8 * g.val + y.val < 32 := fun y => by omega
  refine ⟨fun q => ?_, fun q => ?_⟩
  · match q with
    | ⟨0, _⟩ => exact (congrArg (Ideal.fptosi 32) (l0.trans (congrArg (fun n => FloatOps.sitofp (F := Ideal) .f32 (IntOp.subi (BitVec.ofNat 32 n) 8#32)) (Nat.add_assoc 8 (8 * g.val) (x 0).val)))).trans (number (8 * g.val + (x 0).val) (nb (x 0)))
    | ⟨1, _⟩ => exact (congrArg (Ideal.fptosi 32) (l1.trans (congrArg (fun n => FloatOps.sitofp (F := Ideal) .f32 (IntOp.subi (BitVec.ofNat 32 n) 8#32)) (Nat.add_assoc 8 (8 * g.val) (x 1).val)))).trans (number (8 * g.val + (x 1).val) (nb (x 1)))
  · match q with
    | ⟨0, _⟩ => exact l2.trans w0
    | ⟨1, _⟩ => exact l3.trans w1
end

open Idealize.SL.Sem in
/-- Kernel and reference choose the same experts with the same weights. -/
theorem algebraic [hf : Cert.Pre_finite_route.Facts] : Cert.algebraic_RouteIdeal_RouteRefIdeal_pre_finite_route := by
  intro m ρ m' ρ' hpre hagree
  refine ⟨_, _, run (F := Ideal) m ρ, ?_⟩
  refine (θ_run Cert.RouteRefIdeal.defs _ _).mono (fun _ h c => ?_) (Cert.RouteRefIdeal.Value.run (F := Ideal) m' ρ')
  obtain ⟨e0, e1, e2, e3, e4, e5, e6, e7, e8, e9⟩ := hagree c
  have hrow : ∀ r, Cert.RouteRefIdeal.Own.rowOf (StableHlo.launchContents m' c) r = rowOf m c r := fun r => by
    show rowAt (m' ((c.tc : Thread Cert.RouteRefIdeal.nD Cert.RouteRefIdeal.τ).loc Cert.RouteRefIdeal.main_arg0)) (m' ((c.tc : Thread Cert.RouteRefIdeal.nD Cert.RouteRefIdeal.τ).loc Cert.RouteRefIdeal.main_arg1)) (m' ((c.tc : Thread Cert.RouteRefIdeal.nD Cert.RouteRefIdeal.τ).loc Cert.RouteRefIdeal.main_arg2)) (m' ((c.tc : Thread Cert.RouteRefIdeal.nD Cert.RouteRefIdeal.τ).loc Cert.RouteRefIdeal.main_arg3)) (m' ((c.tc : Thread Cert.RouteRefIdeal.nD Cert.RouteRefIdeal.τ).loc Cert.RouteRefIdeal.main_arg4)) (m' ((c.tc : Thread Cert.RouteRefIdeal.nD Cert.RouteRefIdeal.τ).loc Cert.RouteRefIdeal.main_arg5)) r = _
    rw [e0, e1, e2, e3, e4, e5]
  have hgroups : ∀ r, Cert.RouteRefIdeal.Own.groups (StableHlo.launchContents m' c) r = groups m c r := fun r => by
    show logit (Cert.RouteRefIdeal.Own.rowOf (StableHlo.launchContents m' c) r) (m' ((c.tc : Thread Cert.RouteRefIdeal.nD Cert.RouteRefIdeal.τ).loc Cert.RouteRefIdeal.main_arg6)) (m' ((c.tc : Thread Cert.RouteRefIdeal.nD Cert.RouteRefIdeal.τ).loc Cert.RouteRefIdeal.main_arg7)) = _
    rw [hrow, e6, e7]
  have hexperts : ∀ r g, Cert.RouteRefIdeal.Own.experts (StableHlo.launchContents m' c) r g = experts m c r g := fun r g => by
    funext q
    show logit (Cert.RouteRefIdeal.Own.rowOf (StableHlo.launchContents m' c) r) (m' ((c.tc : Thread Cert.RouteRefIdeal.nD Cert.RouteRefIdeal.τ).loc Cert.RouteRefIdeal.main_arg8)) (m' ((c.tc : Thread Cert.RouteRefIdeal.nD Cert.RouteRefIdeal.τ).loc Cert.RouteRefIdeal.main_arg9)) _ = _
    rw [hrow, e8, e9]
  refine ⟨(h c).1.trans ?_, (h c).2.1.trans ?_, (h c).2.2⟩
  · funext j
    rw [eq_ix2 (n0 := 16384) (n1 := 2) j]
    exact (Cert.RouteRefIdeal.Own.ids _ (j 0) (j 1)).trans
      (((cut_ids _ (j 0) (j 1)).trans ((agree m c hpre _ (j 0) (hgroups _) (hexperts _)).1 (j 1))).symm)
  · funext j
    rw [eq_ix2 (n0 := 16384) (n1 := 2) j]
    exact (Cert.RouteRefIdeal.Own.shares _ (j 0) (j 1)).trans
      (((cut_weights _ (j 0) (j 1)).trans ((agree m c hpre _ (j 0) (hgroups _) (hexperts _)).2 (j 1))).symm)
end Cert.RouteIdeal.Own
-- ==== Proof.lean ====
/- The claims of this certificate, put together: the frames, and for each call the equality of the kernel's results with
   the reference's. -/
module

public import proofs.«01_k».proof.Defs
public import proofs.«01_k».proof.Proof.Gen.Conv.Frame
public import proofs.«01_k».proof.Proof.Gen.ConvIdeal.Value
public import proofs.«01_k».proof.Proof.ConvValue
public import proofs.«01_k».proof.Proof.Gen.ConvRefIdeal.Run
public import proofs.«01_k».proof.Proof.Gen.Gates.Frame
public import proofs.«01_k».proof.Proof.Gen.GatesIdeal.Value
public import proofs.«01_k».proof.Proof.GatesValue
public import proofs.«01_k».proof.Proof.Gen.GatesRefIdeal.Run
public import proofs.«01_k».proof.Proof.Gen.Zs.Frame
public import proofs.«01_k».proof.Proof.Gen.ZsIdeal.Value
public import proofs.«01_k».proof.Proof.ZsValue
public import proofs.«01_k».proof.Proof.Gen.ZsRefIdeal.Run
public import proofs.«01_k».proof.Proof.Gen.Gated.Frame
public import proofs.«01_k».proof.Proof.Gen.GatedIdeal.Value
public import proofs.«01_k».proof.Proof.GatedValue
public import proofs.«01_k».proof.Proof.Gen.GatedRefIdeal.Run
public import proofs.«01_k».proof.Proof.Gen.Glu.Frame
public import proofs.«01_k».proof.Proof.Gen.GluIdeal.Value
public import proofs.«01_k».proof.Proof.GluValue
public import proofs.«01_k».proof.Proof.Gen.GluRefIdeal.Run
public import proofs.«01_k».proof.Proof.Gen.Ssd.Frame
public import proofs.«01_k».proof.Proof.Gen.SsdIdeal.Value
public import proofs.«01_k».proof.Proof.SsdValue
public import proofs.«01_k».proof.Proof.Gen.Pre_finite
public import proofs.«01_k».proof.Proof.Gen.SsdRefIdeal.Run
public import proofs.«01_k».proof.Proof.Gen.U.Frame
public import proofs.«01_k».proof.Proof.Gen.UIdeal.Frame
public import proofs.«01_k».proof.Proof.UValue
public import proofs.«01_k».proof.Proof.Gen.URefIdeal.Run
public import proofs.«01_k».proof.Proof.Gen.Merge.Frame
public import proofs.«01_k».proof.Proof.Gen.MergeIdeal.Value
public import proofs.«01_k».proof.Proof.MergeValue
public import proofs.«01_k».proof.Proof.Gen.MergeRefIdeal.Run
public import proofs.«01_k».proof.Proof.Gen.Dt.Frame
public import proofs.«01_k».proof.Proof.Gen.DtIdeal.Frame
public import proofs.«01_k».proof.Proof.DtValue
public import proofs.«01_k».proof.Proof.Gen.DtRefIdeal.Run
public import proofs.«01_k».proof.Proof.Gen.Route.Frame
public import proofs.«01_k».proof.Proof.Gen.RouteIdeal.Frame
public import proofs.«01_k».proof.Proof.RouteValue
public import proofs.«01_k».proof.Proof.Gen.Pre_finite_route
public import proofs.«01_k».proof.Proof.Gen.RouteRefIdeal.Run
public import Idealize.ShloMosaic.Adequacy
public import Idealize.ShloMosaic.Init
public import Idealize.ShloMosaic.Lib.Quiescent

@[expose] public section

namespace Cert.Proof
open Idealize.ShloMosaic Idealize.SL.Sem

/-- The reference of `Conv` ends with its arguments unchanged and no counter raised. -/
theorem quiescent_ConvRefIdeal : Cert.quiescent_ConvRefIdeal :=
  fun m ρ _ => (θ_run Cert.ConvRefIdeal.defs _ _).mono (fun r h => ⟨fun c => (h c).2, sem_eq_zero_of_no_sems (by decide) r.2⟩) (Cert.ConvRefIdeal.Value.run (F := Ideal) m ρ)

/-- The reference of `Gates` ends with its arguments unchanged and no counter raised. -/
theorem quiescent_GatesRefIdeal : Cert.quiescent_GatesRefIdeal :=
  fun m ρ _ => (θ_run Cert.GatesRefIdeal.defs _ _).mono (fun r h => ⟨fun c => (h c).2, sem_eq_zero_of_no_sems (by decide) r.2⟩) (Cert.GatesRefIdeal.Value.run (F := Ideal) m ρ)

/-- The reference of `Zs` ends with its arguments unchanged and no counter raised. -/
theorem quiescent_ZsRefIdeal : Cert.quiescent_ZsRefIdeal :=
  fun m ρ _ => (θ_run Cert.ZsRefIdeal.defs _ _).mono (fun r h => ⟨fun c => (h c).2, sem_eq_zero_of_no_sems (by decide) r.2⟩) (Cert.ZsRefIdeal.Value.run (F := Ideal) m ρ)

/-- The reference of `Gated` ends with its arguments unchanged and no counter raised. -/
theorem quiescent_GatedRefIdeal : Cert.quiescent_GatedRefIdeal :=
  fun m ρ _ => (θ_run Cert.GatedRefIdeal.defs _ _).mono (fun r h => ⟨fun c => (h c).2, sem_eq_zero_of_no_sems (by decide) r.2⟩) (Cert.GatedRefIdeal.Value.run (F := Ideal) m ρ)

/-- The reference of `Glu` ends with its arguments unchanged and no counter raised. -/
theorem quiescent_GluRefIdeal : Cert.quiescent_GluRefIdeal :=
  fun m ρ _ => (θ_run Cert.GluRefIdeal.defs _ _).mono (fun r h => ⟨fun c => (h c).2, sem_eq_zero_of_no_sems (by decide) r.2⟩) (Cert.GluRefIdeal.Value.run (F := Ideal) m ρ)

/-- The reference of `Ssd` ends with its arguments unchanged and no counter raised. -/
theorem quiescent_SsdRefIdeal : Cert.quiescent_SsdRefIdeal :=
  fun m ρ _ => (θ_run Cert.SsdRefIdeal.defs _ _).mono (fun r h => ⟨fun c => (h c).2, sem_eq_zero_of_no_sems (by decide) r.2⟩) (Cert.SsdRefIdeal.Value.run (F := Ideal) m ρ)

/-- The reference of `U` ends with its arguments unchanged and no counter raised. -/
theorem quiescent_URefIdeal : Cert.quiescent_URefIdeal :=
  fun m ρ _ => (θ_run Cert.URefIdeal.defs _ _).mono (fun r h => ⟨fun c => (h c).2, sem_eq_zero_of_no_sems (by decide) r.2⟩) (Cert.URefIdeal.Value.run (F := Ideal) m ρ)

/-- The reference of `Merge` ends with its arguments unchanged and no counter raised. -/
theorem quiescent_MergeRefIdeal : Cert.quiescent_MergeRefIdeal :=
  fun m ρ _ => (θ_run Cert.MergeRefIdeal.defs _ _).mono (fun r h => ⟨fun c => (h c).2.2, sem_eq_zero_of_no_sems (by decide) r.2⟩) (Cert.MergeRefIdeal.Value.run (F := Ideal) m ρ)

/-- The reference of `Dt` ends with its arguments unchanged and no counter raised. -/
theorem quiescent_DtRefIdeal : Cert.quiescent_DtRefIdeal :=
  fun m ρ _ => (θ_run Cert.DtRefIdeal.defs _ _).mono (fun r h => ⟨fun c => (h c).2.2.2, sem_eq_zero_of_no_sems (by decide) r.2⟩) (Cert.DtRefIdeal.Value.run (F := Ideal) m ρ)

/-- The reference of `Route` ends with its arguments unchanged and no counter raised. -/
theorem quiescent_RouteRefIdeal : Cert.quiescent_RouteRefIdeal :=
  fun m ρ _ => (θ_run Cert.RouteRefIdeal.defs _ _).mono (fun r h => ⟨fun c => (h c).2.2, sem_eq_zero_of_no_sems (by decide) r.2⟩) (Cert.RouteRefIdeal.Value.run (F := Ideal) m ρ)

/-- Everything claimed. -/
theorem claim : Cert.Claim :=
  ⟨Cert.Conv.Gen.facts,
    Cert.ConvIdeal.Gen.facts,
    Cert.ConvRefIdeal.Gen.facts,
    Cert.Gates.Gen.facts,
    Cert.GatesIdeal.Gen.facts,
    Cert.GatesRefIdeal.Gen.facts,
    Cert.Zs.Gen.facts,
    Cert.ZsIdeal.Gen.facts,
    Cert.ZsRefIdeal.Gen.facts,
    Cert.Gated.Gen.facts,
    Cert.GatedIdeal.Gen.facts,
    Cert.GatedRefIdeal.Gen.facts,
    Cert.Glu.Gen.facts,
    Cert.GluIdeal.Gen.facts,
    Cert.GluRefIdeal.Gen.facts,
    Cert.Ssd.Gen.facts,
    Cert.SsdIdeal.Gen.facts,
    Cert.SsdRefIdeal.Gen.facts,
    Cert.U.Gen.facts,
    Cert.UIdeal.Gen.facts,
    Cert.URefIdeal.Gen.facts,
    Cert.Merge.Gen.facts,
    Cert.MergeIdeal.Gen.facts,
    Cert.MergeRefIdeal.Gen.facts,
    Cert.Dt.Gen.facts,
    Cert.DtIdeal.Gen.facts,
    Cert.DtRefIdeal.Gen.facts,
    Cert.Route.Gen.facts,
    Cert.RouteIdeal.Gen.facts,
    Cert.RouteRefIdeal.Gen.facts,
    Cert.Pre_finite.Gen.facts,
    Cert.Pre_finite_route.Gen.facts,
    fun m ρ _ => Cert.Conv.Gen.frame m ρ,
    fun m ρ _ => Cert.ConvIdeal.Gen.frame m ρ,
    quiescent_ConvRefIdeal,
    fun m ρ _ => Cert.Gates.Gen.frame m ρ,
    fun m ρ _ => Cert.GatesIdeal.Gen.frame m ρ,
    quiescent_GatesRefIdeal,
    fun m ρ _ => Cert.Zs.Gen.frame m ρ,
    fun m ρ _ => Cert.ZsIdeal.Gen.frame m ρ,
    quiescent_ZsRefIdeal,
    fun m ρ _ => Cert.Gated.Gen.frame m ρ,
    fun m ρ _ => Cert.GatedIdeal.Gen.frame m ρ,
    quiescent_GatedRefIdeal,
    fun m ρ _ => Cert.Glu.Gen.frame m ρ,
    fun m ρ _ => Cert.GluIdeal.Gen.frame m ρ,
    quiescent_GluRefIdeal,
    fun m ρ _ => Cert.Ssd.Gen.frame m ρ,
    fun m ρ _ => Cert.SsdIdeal.Gen.frame m ρ,
    fun m ρ _ => Cert.SsdIdeal.Gen.frame m ρ,
    quiescent_SsdRefIdeal,
    fun m ρ _ => quiescent_SsdRefIdeal m ρ trivial,
    fun m ρ _ => Cert.U.Gen.frame m ρ,
    fun m ρ _ => Cert.UIdeal.Gen.frame m ρ,
    quiescent_URefIdeal,
    fun m ρ _ => Cert.Merge.Gen.frame m ρ,
    fun m ρ _ => Cert.MergeIdeal.Gen.frame m ρ,
    quiescent_MergeRefIdeal,
    fun m ρ _ => Cert.Dt.Gen.frame m ρ,
    fun m ρ _ => Cert.DtIdeal.Gen.frame m ρ,
    quiescent_DtRefIdeal,
    fun m ρ _ => Cert.Route.Gen.frame m ρ,
    fun m ρ _ => Cert.RouteIdeal.Gen.frame m ρ,
    fun m ρ _ => Cert.RouteIdeal.Gen.frame m ρ,
    quiescent_RouteRefIdeal,
    fun m ρ _ => quiescent_RouteRefIdeal m ρ trivial,
    (trivial : Cert.preserves_Conv_ConvIdeal),
    Cert.ConvIdeal.Own.algebraic,
    (trivial : Cert.preserves_Gates_GatesIdeal),
    Cert.GatesIdeal.Own.algebraic,
    (trivial : Cert.preserves_Zs_ZsIdeal),
    Cert.ZsIdeal.Own.algebraic,
    (trivial : Cert.preserves_Gated_GatedIdeal),
    Cert.GatedIdeal.Own.algebraic,
    (trivial : Cert.preserves_Glu_GluIdeal),
    Cert.GluIdeal.Own.algebraic,
    IdealRules.named_const.statement Cert.SsdIdeal.κ "mask" .f32 0xF149F2CA#32 ⊥ rfl,
    Cert.SsdIdeal.Own.algebraic,
    (trivial : Cert.preserves_U_UIdeal),
    Cert.UIdeal.Own.algebraic,
    (trivial : Cert.preserves_Merge_MergeIdeal),
    Cert.MergeIdeal.Own.algebraic,
    (trivial : Cert.preserves_Dt_DtIdeal),
    Cert.DtIdeal.Own.algebraic,
    (trivial : Cert.preserves_Route_RouteIdeal),
    Cert.RouteIdeal.Own.algebraic⟩

end Cert.Proof
